-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_scores [hPre_finite_scores : Cert.Pre_finite_scores.Facts] (m : (ℓ : Loc Cert.AttnIdeal.nD Cert.AttnIdeal.τ Cert.AttnIdeal.sig) → Buf (Elt Ideal) ℓ) : Prop :=
  ∀ c : Dev Cert.AttnIdeal.nD,
    (Cert.Pre_finite_scores.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_scores [hPre_finite_scores : Cert.Pre_finite_scores.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_scores.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjIdeal_finite_projection [hPre_finite_projection : Cert.Pre_finite_projection.Facts] (m : (ℓ : Loc Cert.InProjIdeal.nD Cert.InProjIdeal.τ Cert.InProjIdeal.sig) → Buf (Elt Ideal) ℓ) : Prop :=
  ∀ c : Dev Cert.InProjIdeal.nD,
    (Cert.Pre_finite_projection.fn (F := Ideal) (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2))) = (fun _ => 1#1)

def Pre_InProjRefIdeal (m : (ℓ : Loc Cert.InProjRefIdeal.nD Cert.InProjRefIdeal.τ Cert.InProjRefIdeal.sig) → Buf (Elt Ideal) ℓ) : Prop :=
  True

def Pre_InProjRefIdeal_finite_projection [hPre_finite_projection : Cert.Pre_finite_projection.Facts] (m : (ℓ : Loc Cert.InProjRefIdeal.nD Cert.InProjRefIdeal.τ Cert.InProjRefIdeal.sig) → Buf (Elt Ideal) ℓ) : Prop :=
  ∀ c : Dev Cert.InProjRefIdeal.nD,
    (Cert.Pre_finite_projection.fn (F := Ideal) (m ((c.tc : Thread Cert.InProjRefIdeal.nD Cert.InProjRefIdeal.τ).loc Cert.InProjRefIdeal.main_arg0)) (m ((c.tc : Thread Cert.InProjRefIdeal.nD Cert.InProjRefIdeal.τ).loc Cert.InProjRefIdeal.main_arg1)) (m ((c.tc : Thread Cert.InProjRefIdeal.nD Cert.InProjRefIdeal.τ).loc Cert.InProjRefIdeal.main_arg2))) = (fun _ => 1#1)

def Pre_MixerOut (m : (ℓ : Loc Cert.MixerOut.nD Cert.MixerOut.τ Cert.MixerOut.sig) → Buf (Elt Bits) ℓ) : Prop :=
  True

def Pre_MixerOutIdeal (m : (ℓ : Loc Cert.MixerOutIdeal.nD Cert.MixerOutIdeal.τ Cert.MixerOutIdeal.sig) → Buf (Elt Ideal) ℓ) : Prop :=
  True

def Pre_MixerOutIdeal_finite_scan [hPre_finite_scan : Cert.Pre_finite_scan.Facts] (m : (ℓ : Loc Cert.MixerOutIdeal.nD Cert.MixerOutIdeal.τ Cert.MixerOutIdeal.sig) → Buf (Elt Ideal) ℓ) : Prop :=
  ∀ c : Dev Cert.MixerOutIdeal.nD,
    (Cert.Pre_finite_scan.fn (F := Ideal) (m ((c.tc : Thread Cert.MixerOutIdeal.nD Cert.MixerOutIdeal.τ).loc Cert.MixerOutIdeal.main_arg0)) (m ((c.tc : Thread Cert.MixerOutIdeal.nD Cert.MixerOutIdeal.τ).loc Cert.MixerOutIdeal.main_arg1)) (m ((c.tc : Thread Cert.MixerOutIdeal.nD Cert.MixerOutIdeal.τ).loc Cert.MixerOutIdeal.main_arg2)) (m ((c.tc : Thread Cert.MixerOutIdeal.nD Cert.MixerOutIdeal.τ).loc Cert.MixerOutIdeal.main_arg3)) (m ((c.tc : Thread Cert.MixerOutIdeal.nD Cert.MixerOutIdeal.τ).loc Cert.MixerOutIdeal.main_arg4)) (m ((c.tc : Thread Cert.MixerOutIdeal.nD Cert.MixerOutIdeal.τ).loc Cert.MixerOutIdeal.main_arg5)) (m ((c.tc : Thread Cert.MixerOutIdeal.nD Cert.MixerOutIdeal.τ).loc Cert.MixerOutIdeal.main_arg6)) (m ((c.tc : Thread Cert.MixerOutIdeal.nD Cert.MixerOutIdeal.τ).loc Cert.MixerOutIdeal.main_arg7)) (m ((c.tc : Thread Cert.MixerOutIdeal.nD Cert.MixerOutIdeal.τ).loc Cert.MixerOutIdeal.main_arg8)) (m ((c.tc : Thread Cert.MixerOutIdeal.nD Cert.MixerOutIdeal.τ).loc Cert.MixerOutIdeal.main_arg9)) (m ((c.tc : Thread Cert.MixerOutIdeal.nD Cert.MixerOutIdeal.τ).loc Cert.MixerOutIdeal.main_arg10))) = (fun _ => 1#1)

def Pre_MixerOutRefIdeal (m : (ℓ : Loc Cert.MixerOutRefIdeal.nD Cert.MixerOutRefIdeal.τ Cert.MixerOutRefIdeal.sig) → Buf (Elt Ideal) ℓ) : Prop :=
  True

def Pre_MixerOutRefIdeal_finite_scan [hPre_finite_scan : Cert.Pre_finite_scan.Facts] (m : (ℓ : Loc Cert.MixerOutRefIdeal.nD Cert.MixerOutRefIdeal.τ Cert.MixerOutRefIdeal.sig) → Buf (Elt Ideal) ℓ) : Prop :=
  ∀ c : Dev Cert.MixerOutRefIdeal.nD,
    (Cert.Pre_finite_scan.fn (F := Ideal) (m ((c.tc : Thread Cert.MixerOutRefIdeal.nD Cert.MixerOutRefIdeal.τ).loc Cert.MixerOutRefIdeal.main_arg0)) (m ((c.tc : Thread Cert.MixerOutRefIdeal.nD Cert.MixerOutRefIdeal.τ).loc Cert.MixerOutRefIdeal.main_arg1)) (m ((c.tc : Thread Cert.MixerOutRefIdeal.nD Cert.MixerOutRefIdeal.τ).loc Cert.MixerOutRefIdeal.main_arg2)) (m ((c.tc : Thread Cert.MixerOutRefIdeal.nD Cert.MixerOutRefIdeal.τ).loc Cert.MixerOutRefIdeal.main_arg3)) (m ((c.tc : Thread Cert.MixerOutRefIdeal.nD Cert.MixerOutRefIdeal.τ).loc Cert.MixerOutRefIdeal.main_arg4)) (m ((c.tc : Thread Cert.MixerOutRefIdeal.nD Cert.MixerOutRefIdeal.τ).loc Cert.MixerOutRefIdeal.main_arg5)) (m ((c.tc : Thread Cert.MixerOutRefIdeal.nD Cert.MixerOutRefIdeal.τ).loc Cert.MixerOutRefIdeal.main_arg6)) (m ((c.tc : Thread Cert.MixerOutRefIdeal.nD Cert.MixerOutRefIdeal.τ).loc Cert.MixerOutRefIdeal.main_arg7)) (m ((c.tc : Thread Cert.MixerOutRefIdeal.nD Cert.MixerOutRefIdeal.τ).loc Cert.MixerOutRefIdeal.main_arg8)) (m ((c.tc : Thread Cert.MixerOutRefIdeal.nD Cert.MixerOutRefIdeal.τ).loc Cert.MixerOutRefIdeal.main_arg9)) (m ((c.tc : Thread Cert.MixerOutRefIdeal.nD Cert.MixerOutRefIdeal.τ).loc Cert.MixerOutRefIdeal.main_arg10))) = (fun _ => 1#1)

def Pre_MlaPrep (m : (ℓ : Loc Cert.MlaPrep.nD Cert.MlaPrep.τ Cert.MlaPrep.sig) → Buf (Elt Bits) ℓ) : Prop :=
  True

def Pre_MlaPrepIdeal (m : (ℓ : Loc Cert.MlaPrepIdeal.nD Cert.MlaPrepIdeal.τ Cert.MlaPrepIdeal.sig) → Buf (Elt Ideal) ℓ) : Prop :=
  True

def Pre_MlaPrepIdeal_turned_key [hPre_turned_key : Cert.Pre_turned_key.Facts] (m : (ℓ : Loc Cert.MlaPrepIdeal.nD Cert.MlaPrepIdeal.τ Cert.MlaPrepIdeal.sig) → Buf (Elt Ideal) ℓ) : Prop :=
  ∀ c : Dev Cert.MlaPrepIdeal.nD,
    (Cert.Pre_turned_key.fn (F := Ideal) (m ((c.tc : Thread Cert.MlaPrepIdeal.nD Cert.MlaPrepIdeal.τ).loc Cert.MlaPrepIdeal.main_arg0)) (m ((c.tc : Thread Cert.MlaPrepIdeal.nD Cert.MlaPrepIdeal.τ).loc Cert.MlaPrepIdeal.main_arg1)) (m ((c.tc : Thread Cert.MlaPrepIdeal.nD Cert.MlaPrepIdeal.τ).loc Cert.MlaPrepIdeal.main_arg2)) (m ((c.tc : Thread Cert.MlaPrepIdeal.nD Cert.MlaPrepIdeal.τ).loc Cert.MlaPrepIdeal.main_arg3)) (m ((c.tc : Thread Cert.MlaPrepIdeal.nD Cert.MlaPrepIdeal.τ).loc Cert.MlaPrepIdeal.main_arg4)) (m ((c.tc : Thread Cert.MlaPrepIdeal.nD Cert.MlaPrepIdeal.τ).loc Cert.MlaPrepIdeal.main_arg5)) (m ((c.tc : Thread Cert.MlaPrepIdeal.nD Cert.MlaPrepIdeal.τ).loc Cert.MlaPrepIdeal.main_arg6)) (m ((c.tc : Thread Cert.MlaPrepIdeal.nD Cert.MlaPrepIdeal.τ).loc Cert.MlaPrepIdeal.main_arg7)) (m ((c.tc : Thread Cert.MlaPrepIdeal.nD Cert.MlaPrepIdeal.τ).loc Cert.MlaPrepIdeal.main_arg8))) = (fun _ => 1#1)

def Pre_MlaPrepRefIdeal (m : (ℓ : Loc Cert.MlaPrepRefIdeal.nD Cert.MlaPrepRefIdeal.τ Cert.MlaPrepRefIdeal.sig) → Buf (Elt Ideal) ℓ) : Prop :=
  True

def Pre_MlaPrepRefIdeal_turned_key [hPre_turned_key : Cert.Pre_turned_key.Facts] (m : (ℓ : Loc Cert.MlaPrepRefIdeal.nD Cert.MlaPrepRefIdeal.τ Cert.MlaPrepRefIdeal.sig) → Buf (Elt Ideal) ℓ) : Prop :=
  ∀ c : Dev Cert.MlaPrepRefIdeal.nD,
    (Cert.Pre_turned_key.fn (F := Ideal) (m ((c.tc : Thread Cert.MlaPrepRefIdeal.nD Cert.MlaPrepRefIdeal.τ).loc Cert.MlaPrepRefIdeal.main_arg0)) (m ((c.tc : Thread Cert.MlaPrepRefIdeal.nD Cert.MlaPrepRefIdeal.τ).loc Cert.MlaPrepRefIdeal.main_arg1)) (m ((c.tc : Thread Cert.MlaPrepRefIdeal.nD Cert.MlaPrepRefIdeal.τ).loc Cert.MlaPrepRefIdeal.main_arg2)) (m ((c.tc : Thread Cert.MlaPrepRefIdeal.nD Cert.MlaPrepRefIdeal.τ).loc Cert.MlaPrepRefIdeal.main_arg3)) (m ((c.tc : Thread Cert.MlaPrepRefIdeal.nD Cert.MlaPrepRefIdeal.τ).loc Cert.MlaPrepRefIdeal.main_arg4)) (m ((c.tc : Thread Cert.MlaPrepRefIdeal.nD Cert.MlaPrepRefIdeal.τ).loc Cert.MlaPrepRefIdeal.main_arg5)) (m ((c.tc : Thread Cert.MlaPrepRefIdeal.nD Cert.MlaPrepRefIdeal.τ).loc Cert.MlaPrepRefIdeal.main_arg6)) (m ((c.tc : Thread Cert.MlaPrepRefIdeal.nD Cert.MlaPrepRefIdeal.τ).loc Cert.MlaPrepRefIdeal.main_arg7)) (m ((c.tc : Thread Cert.MlaPrepRefIdeal.nD Cert.MlaPrepRefIdeal.τ).loc Cert.MlaPrepRefIdeal.main_arg8))) = (fun _ => 1#1)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnIdeal_pre_finite_scores [hAttnIdeal : Cert.AttnIdeal.Facts] [hPre_finite_scores : Cert.Pre_finite_scores.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_scores m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_AttnRefIdeal_pre_finite_scores [hAttnRefIdeal : Cert.AttnRefIdeal.Facts] [hPre_finite_scores : Cert.Pre_finite_scores.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_scores m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjIdeal_pre_finite_projection [hInProjIdeal : Cert.InProjIdeal.Facts] [hPre_finite_projection : Cert.Pre_finite_projection.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal_finite_projection m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2))
      ∧ r.2.sem = fun _ => 0)

def quiescent_InProjRefIdeal_pre_finite_projection [hInProjRefIdeal : Cert.InProjRefIdeal.Facts] [hPre_finite_projection : Cert.Pre_finite_projection.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal_finite_projection m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2))
      ∧ r.2.sem = fun _ => 0)

def quiescent_MixerOut [hMixerOut : Cert.MixerOut.Facts] : Prop :=
  ∀ (m : (ℓ : Loc Cert.MixerOut.nD Cert.MixerOut.τ Cert.MixerOut.sig) → Buf (Elt Bits) ℓ) (g : Dev Cert.MixerOut.nD → PrngReg), Pre_MixerOut m →
    θ_run (Cert.MixerOut.defs (F := Bits)) (onTc (τ := Cert.MixerOut.τ) (Cert.MixerOut.main (F := Bits))) ⟨m, fun _ => 0, g⟩ (fun r => (∀ c : Dev Cert.MixerOut.nD,
      r.2.mem ((c.tc : Thread Cert.MixerOut.nD Cert.MixerOut.τ).loc Cert.MixerOut.main_arg0) = m ((c.tc : Thread Cert.MixerOut.nD Cert.MixerOut.τ).loc Cert.MixerOut.main_arg0)
      ∧ r.2.mem ((c.tc : Thread Cert.MixerOut.nD Cert.MixerOut.τ).loc Cert.MixerOut.main_arg1) = m ((c.tc : Thread Cert.MixerOut.nD Cert.MixerOut.τ).loc Cert.MixerOut.main_arg1)
      ∧ r.2.mem ((c.tc : Thread Cert.MixerOut.nD Cert.MixerOut.τ).loc Cert.MixerOut.main_arg2) = m ((c.tc : Thread Cert.MixerOut.nD Cert.MixerOut.τ).loc Cert.MixerOut.main_arg2)
      ∧ r.2.mem ((c.tc : Thread Cert.MixerOut.nD Cert.MixerOut.τ).loc Cert.MixerOut.main_arg3) = m ((c.tc : Thread Cert.MixerOut.nD Cert.MixerOut.τ).loc Cert.MixerOut.main_arg3)
      ∧ r.2.mem ((c.tc : Thread Cert.MixerOut.nD Cert.MixerOut.τ).loc Cert.MixerOut.main_arg4) = m ((c.tc : Thread Cert.MixerOut.nD Cert.MixerOut.τ).loc Cert.MixerOut.main_arg4)
      ∧ r.2.mem ((c.tc : Thread Cert.MixerOut.nD Cert.MixerOut.τ).loc Cert.MixerOut.main_arg5) = m ((c.tc : Thread Cert.MixerOut.nD Cert.MixerOut.τ).loc Cert.MixerOut.main_arg5)
      ∧ r.2.mem ((c.tc : Thread Cert.MixerOut.nD Cert.MixerOut.τ).loc Cert.MixerOut.main_arg6) = m ((c.tc : Thread Cert.MixerOut.nD Cert.MixerOut.τ).loc Cert.MixerOut.main_arg6)
      ∧ r.2.mem ((c.tc : Thread Cert.MixerOut.nD Cert.MixerOut.τ).loc Cert.MixerOut.main_arg7) = m ((c.tc : Thread Cert.MixerOut.nD Cert.MixerOut.τ).loc Cert.MixerOut.main_arg7)
      ∧ r.2.mem ((c.tc : Thread Cert.MixerOut.nD Cert.MixerOut.τ).loc Cert.MixerOut.main_arg8) = m ((c.tc : Thread Cert.MixerOut.nD Cert.MixerOut.τ).loc Cert.MixerOut.main_arg8)
      ∧ r.2.mem ((c.tc : Thread Cert.MixerOut.nD Cert.MixerOut.τ).loc Cert.MixerOut.main_arg9) = m ((c.tc : Thread Cert.MixerOut.nD Cert.MixerOut.τ).loc Cert.MixerOut.main_arg9)
      ∧ r.2.mem ((c.tc : Thread Cert.MixerOut.nD Cert.MixerOut.τ).loc Cert.MixerOut.main_arg10) = m ((c.tc : Thread Cert.MixerOut.nD Cert.MixerOut.τ).loc Cert.MixerOut.main_arg10))
      ∧ r.2.sem = fun _ => 0)

def quiescent_MixerOutIdeal [hMixerOutIdeal : Cert.MixerOutIdeal.Facts] : Prop :=
  ∀ (m : (ℓ : Loc Cert.MixerOutIdeal.nD Cert.MixerOutIdeal.τ Cert.MixerOutIdeal.sig) → Buf (Elt Ideal) ℓ) (g : Dev Cert.MixerOutIdeal.nD → PrngReg), Pre_MixerOutIdeal m →
    θ_run (Cert.MixerOutIdeal.defs (F := Ideal)) (onTc (τ := Cert.MixerOutIdeal.τ) (Cert.MixerOutIdeal.main (F := Ideal))) ⟨m, fun _ => 0, g⟩ (fun r => (∀ c : Dev Cert.MixerOutIdeal.nD,
      r.2.mem ((c.tc : Thread Cert.MixerOutIdeal.nD Cert.MixerOutIdeal.τ).loc Cert.MixerOutIdeal.main_arg0) = m ((c.tc : Thread Cert.MixerOutIdeal.nD Cert.MixerOutIdeal.τ).loc Cert.MixerOutIdeal.main_arg0)
      ∧ r.2.mem ((c.tc : Thread Cert.MixerOutIdeal.nD Cert.MixerOutIdeal.τ).loc Cert.MixerOutIdeal.main_arg1) = m ((c.tc : Thread Cert.MixerOutIdeal.nD Cert.MixerOutIdeal.τ).loc Cert.MixerOutIdeal.main_arg1)
      ∧ r.2.mem ((c.tc : Thread Cert.MixerOutIdeal.nD Cert.MixerOutIdeal.τ).loc Cert.MixerOutIdeal.main_arg2) = m ((c.tc : Thread Cert.MixerOutIdeal.nD Cert.MixerOutIdeal.τ).loc Cert.MixerOutIdeal.main_arg2)
      ∧ r.2.mem ((c.tc : Thread Cert.MixerOutIdeal.nD Cert.MixerOutIdeal.τ).loc Cert.MixerOutIdeal.main_arg3) = m ((c.tc : Thread Cert.MixerOutIdeal.nD Cert.MixerOutIdeal.τ).loc Cert.MixerOutIdeal.main_arg3)
      ∧ r.2.mem ((c.tc : Thread Cert.MixerOutIdeal.nD Cert.MixerOutIdeal.τ).loc Cert.MixerOutIdeal.main_arg4) = m ((c.tc : Thread Cert.MixerOutIdeal.nD Cert.MixerOutIdeal.τ).loc Cert.MixerOutIdeal.main_arg4)
      ∧ r.2.mem ((c.tc : Thread Cert.MixerOutIdeal.nD Cert.MixerOutIdeal.τ).loc Cert.MixerOutIdeal.main_arg5) = m ((c.tc : Thread Cert.MixerOutIdeal.nD Cert.MixerOutIdeal.τ).loc Cert.MixerOutIdeal.main_arg5)
      ∧ r.2.mem ((c.tc : Thread Cert.MixerOutIdeal.nD Cert.MixerOutIdeal.τ).loc Cert.MixerOutIdeal.main_arg6) = m ((c.tc : Thread Cert.MixerOutIdeal.nD Cert.MixerOutIdeal.τ).loc Cert.MixerOutIdeal.main_arg6)
      ∧ r.2.mem ((c.tc : Thread Cert.MixerOutIdeal.nD Cert.MixerOutIdeal.τ).loc Cert.MixerOutIdeal.main_arg7) = m ((c.tc : Thread Cert.MixerOutIdeal.nD Cert.MixerOutIdeal.τ).loc Cert.MixerOutIdeal.main_arg7)
      ∧ r.2.mem ((c.tc : Thread Cert.MixerOutIdeal.nD Cert.MixerOutIdeal.τ).loc Cert.MixerOutIdeal.main_arg8) = m ((c.tc : Thread Cert.MixerOutIdeal.nD Cert.MixerOutIdeal.τ).loc Cert.MixerOutIdeal.main_arg8)
      ∧ r.2.mem ((c.tc : Thread Cert.MixerOutIdeal.nD Cert.MixerOutIdeal.τ).loc Cert.MixerOutIdeal.main_arg9) = m ((c.tc : Thread Cert.MixerOutIdeal.nD Cert.MixerOutIdeal.τ).loc Cert.MixerOutIdeal.main_arg9)
      ∧ r.2.mem ((c.tc : Thread Cert.MixerOutIdeal.nD Cert.MixerOutIdeal.τ).loc Cert.MixerOutIdeal.main_arg10) = m ((c.tc : Thread Cert.MixerOutIdeal.nD Cert.MixerOutIdeal.τ).loc Cert.MixerOutIdeal.main_arg10))
      ∧ r.2.sem = fun _ => 0)

def quiescent_MixerOutIdeal_pre_finite_scan [hMixerOutIdeal : Cert.MixerOutIdeal.Facts] [hPre_finite_scan : Cert.Pre_finite_scan.Facts] : Prop :=
  ∀ (m : (ℓ : Loc Cert.MixerOutIdeal.nD Cert.MixerOutIdeal.τ Cert.MixerOutIdeal.sig) → Buf (Elt Ideal) ℓ) (g : Dev Cert.MixerOutIdeal.nD → PrngReg), Pre_MixerOutIdeal_finite_scan m →
    θ_run (Cert.MixerOutIdeal.defs (F := Ideal)) (onTc (τ := Cert.MixerOutIdeal.τ) (Cert.MixerOutIdeal.main (F := Ideal))) ⟨m, fun _ => 0, g⟩ (fun r => (∀ c : Dev Cert.MixerOutIdeal.nD,
      r.2.mem ((c.tc : Thread Cert.MixerOutIdeal.nD Cert.MixerOutIdeal.τ).loc Cert.MixerOutIdeal.main_arg0) = m ((c.tc : Thread Cert.MixerOutIdeal.nD Cert.MixerOutIdeal.τ).loc Cert.MixerOutIdeal.main_arg0)
      ∧ r.2.mem ((c.tc : Thread Cert.MixerOutIdeal.nD Cert.MixerOutIdeal.τ).loc Cert.MixerOutIdeal.main_arg1) = m ((c.tc : Thread Cert.MixerOutIdeal.nD Cert.MixerOutIdeal.τ).loc Cert.MixerOutIdeal.main_arg1)
      ∧ r.2.mem ((c.tc : Thread Cert.MixerOutIdeal.nD Cert.MixerOutIdeal.τ).loc Cert.MixerOutIdeal.main_arg2) = m ((c.tc : Thread Cert.MixerOutIdeal.nD Cert.MixerOutIdeal.τ).loc Cert.MixerOutIdeal.main_arg2)
      ∧ r.2.mem ((c.tc : Thread Cert.MixerOutIdeal.nD Cert.MixerOutIdeal.τ).loc Cert.MixerOutIdeal.main_arg3) = m ((c.tc : Thread Cert.MixerOutIdeal.nD Cert.MixerOutIdeal.τ).loc Cert.MixerOutIdeal.main_arg3)
      ∧ r.2.mem ((c.tc : Thread Cert.MixerOutIdeal.nD Cert.MixerOutIdeal.τ).loc Cert.MixerOutIdeal.main_arg4) = m ((c.tc : Thread Cert.MixerOutIdeal.nD Cert.MixerOutIdeal.τ).loc Cert.MixerOutIdeal.main_arg4)
      ∧ r.2.mem ((c.tc : Thread Cert.MixerOutIdeal.nD Cert.MixerOutIdeal.τ).loc Cert.MixerOutIdeal.main_arg5) = m ((c.tc : Thread Cert.MixerOutIdeal.nD Cert.MixerOutIdeal.τ).loc Cert.MixerOutIdeal.main_arg5)
      ∧ r.2.mem ((c.tc : Thread Cert.MixerOutIdeal.nD Cert.MixerOutIdeal.τ).loc Cert.MixerOutIdeal.main_arg6) = m ((c.tc : Thread Cert.MixerOutIdeal.nD Cert.MixerOutIdeal.τ).loc Cert.MixerOutIdeal.main_arg6)
      ∧ r.2.mem ((c.tc : Thread Cert.MixerOutIdeal.nD Cert.MixerOutIdeal.τ).loc Cert.MixerOutIdeal.main_arg7) = m ((c.tc : Thread Cert.MixerOutIdeal.nD Cert.MixerOutIdeal.τ).loc Cert.MixerOutIdeal.main_arg7)
      ∧ r.2.mem ((c.tc : Thread Cert.MixerOutIdeal.nD Cert.MixerOutIdeal.τ).loc Cert.MixerOutIdeal.main_arg8) = m ((c.tc : Thread Cert.MixerOutIdeal.nD Cert.MixerOutIdeal.τ).loc Cert.MixerOutIdeal.main_arg8)
      ∧ r.2.mem ((c.tc : Thread Cert.MixerOutIdeal.nD Cert.MixerOutIdeal.τ).loc Cert.MixerOutIdeal.main_arg9) = m ((c.tc : Thread Cert.MixerOutIdeal.nD Cert.MixerOutIdeal.τ).loc Cert.MixerOutIdeal.main_arg9)
      ∧ r.2.mem ((c.tc : Thread Cert.MixerOutIdeal.nD Cert.MixerOutIdeal.τ).loc Cert.MixerOutIdeal.main_arg10) = m ((c.tc : Thread Cert.MixerOutIdeal.nD Cert.MixerOutIdeal.τ).loc Cert.MixerOutIdeal.main_arg10))
      ∧ r.2.sem = fun _ => 0)

def quiescent_MixerOutRefIdeal [hMixerOutRefIdeal : Cert.MixerOutRefIdeal.Facts] : Prop :=
  ∀ (m : (ℓ : Loc Cert.MixerOutRefIdeal.nD Cert.MixerOutRefIdeal.τ Cert.MixerOutRefIdeal.sig) → Buf (Elt Ideal) ℓ) (g : Dev Cert.MixerOutRefIdeal.nD → PrngReg), Pre_MixerOutRefIdeal m →
    θ_run (Cert.MixerOutRefIdeal.defs (F := Ideal)) (onTc (τ := Cert.MixerOutRefIdeal.τ) (Cert.MixerOutRefIdeal.main (F := Ideal))) ⟨m, fun _ => 0, g⟩ (fun r => (∀ c : Dev Cert.MixerOutRefIdeal.nD,
      r.2.mem ((c.tc : Thread Cert.MixerOutRefIdeal.nD Cert.MixerOutRefIdeal.τ).loc Cert.MixerOutRefIdeal.main_arg0) = m ((c.tc : Thread Cert.MixerOutRefIdeal.nD Cert.MixerOutRefIdeal.τ).loc Cert.MixerOutRefIdeal.main_arg0)
      ∧ r.2.mem ((c.tc : Thread Cert.MixerOutRefIdeal.nD Cert.MixerOutRefIdeal.τ).loc Cert.MixerOutRefIdeal.main_arg1) = m ((c.tc : Thread Cert.MixerOutRefIdeal.nD Cert.MixerOutRefIdeal.τ).loc Cert.MixerOutRefIdeal.main_arg1)
      ∧ r.2.mem ((c.tc : Thread Cert.MixerOutRefIdeal.nD Cert.MixerOutRefIdeal.τ).loc Cert.MixerOutRefIdeal.main_arg2) = m ((c.tc : Thread Cert.MixerOutRefIdeal.nD Cert.MixerOutRefIdeal.τ).loc Cert.MixerOutRefIdeal.main_arg2)
      ∧ r.2.mem ((c.tc : Thread Cert.MixerOutRefIdeal.nD Cert.MixerOutRefIdeal.τ).loc Cert.MixerOutRefIdeal.main_arg3) = m ((c.tc : Thread Cert.MixerOutRefIdeal.nD Cert.MixerOutRefIdeal.τ).loc Cert.MixerOutRefIdeal.main_arg3)
      ∧ r.2.mem ((c.tc : Thread Cert.MixerOutRefIdeal.nD Cert.MixerOutRefIdeal.τ).loc Cert.MixerOutRefIdeal.main_arg4) = m ((c.tc : Thread Cert.MixerOutRefIdeal.nD Cert.MixerOutRefIdeal.τ).loc Cert.MixerOutRefIdeal.main_arg4)
      ∧ r.2.mem ((c.tc : Thread Cert.MixerOutRefIdeal.nD Cert.MixerOutRefIdeal.τ).loc Cert.MixerOutRefIdeal.main_arg5) = m ((c.tc : Thread Cert.MixerOutRefIdeal.nD Cert.MixerOutRefIdeal.τ).loc Cert.MixerOutRefIdeal.main_arg5)
      ∧ r.2.mem ((c.tc : Thread Cert.MixerOutRefIdeal.nD Cert.MixerOutRefIdeal.τ).loc Cert.MixerOutRefIdeal.main_arg6) = m ((c.tc : Thread Cert.MixerOutRefIdeal.nD Cert.MixerOutRefIdeal.τ).loc Cert.MixerOutRefIdeal.main_arg6)
      ∧ r.2.mem ((c.tc : Thread Cert.MixerOutRefIdeal.nD Cert.MixerOutRefIdeal.τ).loc Cert.MixerOutRefIdeal.main_arg7) = m ((c.tc : Thread Cert.MixerOutRefIdeal.nD Cert.MixerOutRefIdeal.τ).loc Cert.MixerOutRefIdeal.main_arg7)
      ∧ r.2.mem ((c.tc : Thread Cert.MixerOutRefIdeal.nD Cert.MixerOutRefIdeal.τ).loc Cert.MixerOutRefIdeal.main_arg8) = m ((c.tc : Thread Cert.MixerOutRefIdeal.nD Cert.MixerOutRefIdeal.τ).loc Cert.MixerOutRefIdeal.main_arg8)
      ∧ r.2.mem ((c.tc : Thread Cert.MixerOutRefIdeal.nD Cert.MixerOutRefIdeal.τ).loc Cert.MixerOutRefIdeal.main_arg9) = m ((c.tc : Thread Cert.MixerOutRefIdeal.nD Cert.MixerOutRefIdeal.τ).loc Cert.MixerOutRefIdeal.main_arg9)
      ∧ r.2.mem ((c.tc : Thread Cert.MixerOutRefIdeal.nD Cert.MixerOutRefIdeal.τ).loc Cert.MixerOutRefIdeal.main_arg10) = m ((c.tc : Thread Cert.MixerOutRefIdeal.nD Cert.MixerOutRefIdeal.τ).loc Cert.MixerOutRefIdeal.main_arg10))
      ∧ r.2.sem = fun _ => 0)

def quiescent_MixerOutRefIdeal_pre_finite_scan [hMixerOutRefIdeal : Cert.MixerOutRefIdeal.Facts] [hPre_finite_scan : Cert.Pre_finite_scan.Facts] : Prop :=
  ∀ (m : (ℓ : Loc Cert.MixerOutRefIdeal.nD Cert.MixerOutRefIdeal.τ Cert.MixerOutRefIdeal.sig) → Buf (Elt Ideal) ℓ) (g : Dev Cert.MixerOutRefIdeal.nD → PrngReg), Pre_MixerOutRefIdeal_finite_scan m →
    θ_run (Cert.MixerOutRefIdeal.defs (F := Ideal)) (onTc (τ := Cert.MixerOutRefIdeal.τ) (Cert.MixerOutRefIdeal.main (F := Ideal))) ⟨m, fun _ => 0, g⟩ (fun r => (∀ c : Dev Cert.MixerOutRefIdeal.nD,
      r.2.mem ((c.tc : Thread Cert.MixerOutRefIdeal.nD Cert.MixerOutRefIdeal.τ).loc Cert.MixerOutRefIdeal.main_arg0) = m ((c.tc : Thread Cert.MixerOutRefIdeal.nD Cert.MixerOutRefIdeal.τ).loc Cert.MixerOutRefIdeal.main_arg0)
      ∧ r.2.mem ((c.tc : Thread Cert.MixerOutRefIdeal.nD Cert.MixerOutRefIdeal.τ).loc Cert.MixerOutRefIdeal.main_arg1) = m ((c.tc : Thread Cert.MixerOutRefIdeal.nD Cert.MixerOutRefIdeal.τ).loc Cert.MixerOutRefIdeal.main_arg1)
      ∧ r.2.mem ((c.tc : Thread Cert.MixerOutRefIdeal.nD Cert.MixerOutRefIdeal.τ).loc Cert.MixerOutRefIdeal.main_arg2) = m ((c.tc : Thread Cert.MixerOutRefIdeal.nD Cert.MixerOutRefIdeal.τ).loc Cert.MixerOutRefIdeal.main_arg2)
      ∧ r.2.mem ((c.tc : Thread Cert.MixerOutRefIdeal.nD Cert.MixerOutRefIdeal.τ).loc Cert.MixerOutRefIdeal.main_arg3) = m ((c.tc : Thread Cert.MixerOutRefIdeal.nD Cert.MixerOutRefIdeal.τ).loc Cert.MixerOutRefIdeal.main_arg3)
      ∧ r.2.mem ((c.tc : Thread Cert.MixerOutRefIdeal.nD Cert.MixerOutRefIdeal.τ).loc Cert.MixerOutRefIdeal.main_arg4) = m ((c.tc : Thread Cert.MixerOutRefIdeal.nD Cert.MixerOutRefIdeal.τ).loc Cert.MixerOutRefIdeal.main_arg4)
      ∧ r.2.mem ((c.tc : Thread Cert.MixerOutRefIdeal.nD Cert.MixerOutRefIdeal.τ).loc Cert.MixerOutRefIdeal.main_arg5) = m ((c.tc : Thread Cert.MixerOutRefIdeal.nD Cert.MixerOutRefIdeal.τ).loc Cert.MixerOutRefIdeal.main_arg5)
      ∧ r.2.mem ((c.tc : Thread Cert.MixerOutRefIdeal.nD Cert.MixerOutRefIdeal.τ).loc Cert.MixerOutRefIdeal.main_arg6) = m ((c.tc : Thread Cert.MixerOutRefIdeal.nD Cert.MixerOutRefIdeal.τ).loc Cert.MixerOutRefIdeal.main_arg6)
      ∧ r.2.mem ((c.tc : Thread Cert.MixerOutRefIdeal.nD Cert.MixerOutRefIdeal.τ).loc Cert.MixerOutRefIdeal.main_arg7) = m ((c.tc : Thread Cert.MixerOutRefIdeal.nD Cert.MixerOutRefIdeal.τ).loc Cert.MixerOutRefIdeal.main_arg7)
      ∧ r.2.mem ((c.tc : Thread Cert.MixerOutRefIdeal.nD Cert.MixerOutRefIdeal.τ).loc Cert.MixerOutRefIdeal.main_arg8) = m ((c.tc : Thread Cert.MixerOutRefIdeal.nD Cert.MixerOutRefIdeal.τ).loc Cert.MixerOutRefIdeal.main_arg8)
      ∧ r.2.mem ((c.tc : Thread Cert.MixerOutRefIdeal.nD Cert.MixerOutRefIdeal.τ).loc Cert.MixerOutRefIdeal.main_arg9) = m ((c.tc : Thread Cert.MixerOutRefIdeal.nD Cert.MixerOutRefIdeal.τ).loc Cert.MixerOutRefIdeal.main_arg9)
      ∧ r.2.mem ((c.tc : Thread Cert.MixerOutRefIdeal.nD Cert.MixerOutRefIdeal.τ).loc Cert.MixerOutRefIdeal.main_arg10) = m ((c.tc : Thread Cert.MixerOutRefIdeal.nD Cert.MixerOutRefIdeal.τ).loc Cert.MixerOutRefIdeal.main_arg10))
      ∧ r.2.sem = fun _ => 0)

def quiescent_MlaPrep [hMlaPrep : Cert.MlaPrep.Facts] : Prop :=
  ∀ (m : (ℓ : Loc Cert.MlaPrep.nD Cert.MlaPrep.τ Cert.MlaPrep.sig) → Buf (Elt Bits) ℓ) (g : Dev Cert.MlaPrep.nD → PrngReg), Pre_MlaPrep m →
    θ_run (Cert.MlaPrep.defs (F := Bits)) (onTc (τ := Cert.MlaPrep.τ) (Cert.MlaPrep.main (F := Bits))) ⟨m, fun _ => 0, g⟩ (fun r => (∀ c : Dev Cert.MlaPrep.nD,
      r.2.mem ((c.tc : Thread Cert.MlaPrep.nD Cert.MlaPrep.τ).loc Cert.MlaPrep.main_arg0) = m ((c.tc : Thread Cert.MlaPrep.nD Cert.MlaPrep.τ).loc Cert.MlaPrep.main_arg0)
      ∧ r.2.mem ((c.tc : Thread Cert.MlaPrep.nD Cert.MlaPrep.τ).loc Cert.MlaPrep.main_arg1) = m ((c.tc : Thread Cert.MlaPrep.nD Cert.MlaPrep.τ).loc Cert.MlaPrep.main_arg1)
      ∧ r.2.mem ((c.tc : Thread Cert.MlaPrep.nD Cert.MlaPrep.τ).loc Cert.MlaPrep.main_arg2) = m ((c.tc : Thread Cert.MlaPrep.nD Cert.MlaPrep.τ).loc Cert.MlaPrep.main_arg2)
      ∧ r.2.mem ((c.tc : Thread Cert.MlaPrep.nD Cert.MlaPrep.τ).loc Cert.MlaPrep.main_arg3) = m ((c.tc : Thread Cert.MlaPrep.nD Cert.MlaPrep.τ).loc Cert.MlaPrep.main_arg3)
      ∧ r.2.mem ((c.tc : Thread Cert.MlaPrep.nD Cert.MlaPrep.τ).loc Cert.MlaPrep.main_arg4) = m ((c.tc : Thread Cert.MlaPrep.nD Cert.MlaPrep.τ).loc Cert.MlaPrep.main_arg4)
      ∧ r.2.mem ((c.tc : Thread Cert.MlaPrep.nD Cert.MlaPrep.τ).loc Cert.MlaPrep.main_arg5) = m ((c.tc : Thread Cert.MlaPrep.nD Cert.MlaPrep.τ).loc Cert.MlaPrep.main_arg5)
      ∧ r.2.mem ((c.tc : Thread Cert.MlaPrep.nD Cert.MlaPrep.τ).loc Cert.MlaPrep.main_arg6) = m ((c.tc : Thread Cert.MlaPrep.nD Cert.MlaPrep.τ).loc Cert.MlaPrep.main_arg6)
      ∧ r.2.mem ((c.tc : Thread Cert.MlaPrep.nD Cert.MlaPrep.τ).loc Cert.MlaPrep.main_arg7) = m ((c.tc : Thread Cert.MlaPrep.nD Cert.MlaPrep.τ).loc Cert.MlaPrep.main_arg7)
      ∧ r.2.mem ((c.tc : Thread Cert.MlaPrep.nD Cert.MlaPrep.τ).loc Cert.MlaPrep.main_arg8) = m ((c.tc : Thread Cert.MlaPrep.nD Cert.MlaPrep.τ).loc Cert.MlaPrep.main_arg8))
      ∧ r.2.sem = fun _ => 0)

def quiescent_MlaPrepIdeal [hMlaPrepIdeal : Cert.MlaPrepIdeal.Facts] : Prop :=
  ∀ (m : (ℓ : Loc Cert.MlaPrepIdeal.nD Cert.MlaPrepIdeal.τ Cert.MlaPrepIdeal.sig) → Buf (Elt Ideal) ℓ) (g : Dev Cert.MlaPrepIdeal.nD → PrngReg), Pre_MlaPrepIdeal m →
    θ_run (Cert.MlaPrepIdeal.defs (F := Ideal)) (onTc (τ := Cert.MlaPrepIdeal.τ) (Cert.MlaPrepIdeal.main (F := Ideal))) ⟨m, fun _ => 0, g⟩ (fun r => (∀ c : Dev Cert.MlaPrepIdeal.nD,
      r.2.mem ((c.tc : Thread Cert.MlaPrepIdeal.nD Cert.MlaPrepIdeal.τ).loc Cert.MlaPrepIdeal.main_arg0) = m ((c.tc : Thread Cert.MlaPrepIdeal.nD Cert.MlaPrepIdeal.τ).loc Cert.MlaPrepIdeal.main_arg0)
      ∧ r.2.mem ((c.tc : Thread Cert.MlaPrepIdeal.nD Cert.MlaPrepIdeal.τ).loc Cert.MlaPrepIdeal.main_arg1) = m ((c.tc : Thread Cert.MlaPrepIdeal.nD Cert.MlaPrepIdeal.τ).loc Cert.MlaPrepIdeal.main_arg1)
      ∧ r.2.mem ((c.tc : Thread Cert.MlaPrepIdeal.nD Cert.MlaPrepIdeal.τ).loc Cert.MlaPrepIdeal.main_arg2) = m ((c.tc : Thread Cert.MlaPrepIdeal.nD Cert.MlaPrepIdeal.τ).loc Cert.MlaPrepIdeal.main_arg2)
      ∧ r.2.mem ((c.tc : Thread Cert.MlaPrepIdeal.nD Cert.MlaPrepIdeal.τ).loc Cert.MlaPrepIdeal.main_arg3) = m ((c.tc : Thread Cert.MlaPrepIdeal.nD Cert.MlaPrepIdeal.τ).loc Cert.MlaPrepIdeal.main_arg3)
      ∧ r.2.mem ((c.tc : Thread Cert.MlaPrepIdeal.nD Cert.MlaPrepIdeal.τ).loc Cert.MlaPrepIdeal.main_arg4) = m ((c.tc : Thread Cert.MlaPrepIdeal.nD Cert.MlaPrepIdeal.τ).loc Cert.MlaPrepIdeal.main_arg4)
      ∧ r.2.mem ((c.tc : Thread Cert.MlaPrepIdeal.nD Cert.MlaPrepIdeal.τ).loc Cert.MlaPrepIdeal.main_arg5) = m ((c.tc : Thread Cert.MlaPrepIdeal.nD Cert.MlaPrepIdeal.τ).loc Cert.MlaPrepIdeal.main_arg5)
      ∧ r.2.mem ((c.tc : Thread Cert.MlaPrepIdeal.nD Cert.MlaPrepIdeal.τ).loc Cert.MlaPrepIdeal.main_arg6) = m ((c.tc : Thread Cert.MlaPrepIdeal.nD Cert.MlaPrepIdeal.τ).loc Cert.MlaPrepIdeal.main_arg6)
      ∧ r.2.mem ((c.tc : Thread Cert.MlaPrepIdeal.nD Cert.MlaPrepIdeal.τ).loc Cert.MlaPrepIdeal.main_arg7) = m ((c.tc : Thread Cert.MlaPrepIdeal.nD Cert.MlaPrepIdeal.τ).loc Cert.MlaPrepIdeal.main_arg7)
      ∧ r.2.mem ((c.tc : Thread Cert.MlaPrepIdeal.nD Cert.MlaPrepIdeal.τ).loc Cert.MlaPrepIdeal.main_arg8) = m ((c.tc : Thread Cert.MlaPrepIdeal.nD Cert.MlaPrepIdeal.τ).loc Cert.MlaPrepIdeal.main_arg8))
      ∧ r.2.sem = fun _ => 0)

def quiescent_MlaPrepIdeal_pre_turned_key [hMlaPrepIdeal : Cert.MlaPrepIdeal.Facts] [hPre_turned_key : Cert.Pre_turned_key.Facts] : Prop :=
  ∀ (m : (ℓ : Loc Cert.MlaPrepIdeal.nD Cert.MlaPrepIdeal.τ Cert.MlaPrepIdeal.sig) → Buf (Elt Ideal) ℓ) (g : Dev Cert.MlaPrepIdeal.nD → PrngReg), Pre_MlaPrepIdeal_turned_key m →
    θ_run (Cert.MlaPrepIdeal.defs (F := Ideal)) (onTc (τ := Cert.MlaPrepIdeal.τ) (Cert.MlaPrepIdeal.main (F := Ideal))) ⟨m, fun _ => 0, g⟩ (fun r => (∀ c : Dev Cert.MlaPrepIdeal.nD,
      r.2.mem ((c.tc : Thread Cert.MlaPrepIdeal.nD Cert.MlaPrepIdeal.τ).loc Cert.MlaPrepIdeal.main_arg0) = m ((c.tc : Thread Cert.MlaPrepIdeal.nD Cert.MlaPrepIdeal.τ).loc Cert.MlaPrepIdeal.main_arg0)
      ∧ r.2.mem ((c.tc : Thread Cert.MlaPrepIdeal.nD Cert.MlaPrepIdeal.τ).loc Cert.MlaPrepIdeal.main_arg1) = m ((c.tc : Thread Cert.MlaPrepIdeal.nD Cert.MlaPrepIdeal.τ).loc Cert.MlaPrepIdeal.main_arg1)
      ∧ r.2.mem ((c.tc : Thread Cert.MlaPrepIdeal.nD Cert.MlaPrepIdeal.τ).loc Cert.MlaPrepIdeal.main_arg2) = m ((c.tc : Thread Cert.MlaPrepIdeal.nD Cert.MlaPrepIdeal.τ).loc Cert.MlaPrepIdeal.main_arg2)
      ∧ r.2.mem ((c.tc : Thread Cert.MlaPrepIdeal.nD Cert.MlaPrepIdeal.τ).loc Cert.MlaPrepIdeal.main_arg3) = m ((c.tc : Thread Cert.MlaPrepIdeal.nD Cert.MlaPrepIdeal.τ).loc Cert.MlaPrepIdeal.main_arg3)
      ∧ r.2.mem ((c.tc : Thread Cert.MlaPrepIdeal.nD Cert.MlaPrepIdeal.τ).loc Cert.MlaPrepIdeal.main_arg4) = m ((c.tc : Thread Cert.MlaPrepIdeal.nD Cert.MlaPrepIdeal.τ).loc Cert.MlaPrepIdeal.main_arg4)
      ∧ r.2.mem ((c.tc : Thread Cert.MlaPrepIdeal.nD Cert.MlaPrepIdeal.τ).loc Cert.MlaPrepIdeal.main_arg5) = m ((c.tc : Thread Cert.MlaPrepIdeal.nD Cert.MlaPrepIdeal.τ).loc Cert.MlaPrepIdeal.main_arg5)
      ∧ r.2.mem ((c.tc : Thread Cert.MlaPrepIdeal.nD Cert.MlaPrepIdeal.τ).loc Cert.MlaPrepIdeal.main_arg6) = m ((c.tc : Thread Cert.MlaPrepIdeal.nD Cert.MlaPrepIdeal.τ).loc Cert.MlaPrepIdeal.main_arg6)
      ∧ r.2.mem ((c.tc : Thread Cert.MlaPrepIdeal.nD Cert.MlaPrepIdeal.τ).loc Cert.MlaPrepIdeal.main_arg7) = m ((c.tc : Thread Cert.MlaPrepIdeal.nD Cert.MlaPrepIdeal.τ).loc Cert.MlaPrepIdeal.main_arg7)
      ∧ r.2.mem ((c.tc : Thread Cert.MlaPrepIdeal.nD Cert.MlaPrepIdeal.τ).loc Cert.MlaPrepIdeal.main_arg8) = m ((c.tc : Thread Cert.MlaPrepIdeal.nD Cert.MlaPrepIdeal.τ).loc Cert.MlaPrepIdeal.main_arg8))
      ∧ r.2.sem = fun _ => 0)

def quiescent_MlaPrepRefIdeal [hMlaPrepRefIdeal : Cert.MlaPrepRefIdeal.Facts] : Prop :=
  ∀ (m : (ℓ : Loc Cert.MlaPrepRefIdeal.nD Cert.MlaPrepRefIdeal.τ Cert.MlaPrepRefIdeal.sig) → Buf (Elt Ideal) ℓ) (g : Dev Cert.MlaPrepRefIdeal.nD → PrngReg), Pre_MlaPrepRefIdeal m →
    θ_run (Cert.MlaPrepRefIdeal.defs (F := Ideal)) (onTc (τ := Cert.MlaPrepRefIdeal.τ) (Cert.MlaPrepRefIdeal.main (F := Ideal))) ⟨m, fun _ => 0, g⟩ (fun r => (∀ c : Dev Cert.MlaPrepRefIdeal.nD,
      r.2.mem ((c.tc : Thread Cert.MlaPrepRefIdeal.nD Cert.MlaPrepRefIdeal.τ).loc Cert.MlaPrepRefIdeal.main_arg0) = m ((c.tc : Thread Cert.MlaPrepRefIdeal.nD Cert.MlaPrepRefIdeal.τ).loc Cert.MlaPrepRefIdeal.main_arg0)
      ∧ r.2.mem ((c.tc : Thread Cert.MlaPrepRefIdeal.nD Cert.MlaPrepRefIdeal.τ).loc Cert.MlaPrepRefIdeal.main_arg1) = m ((c.tc : Thread Cert.MlaPrepRefIdeal.nD Cert.MlaPrepRefIdeal.τ).loc Cert.MlaPrepRefIdeal.main_arg1)
      ∧ r.2.mem ((c.tc : Thread Cert.MlaPrepRefIdeal.nD Cert.MlaPrepRefIdeal.τ).loc Cert.MlaPrepRefIdeal.main_arg2) = m ((c.tc : Thread Cert.MlaPrepRefIdeal.nD Cert.MlaPrepRefIdeal.τ).loc Cert.MlaPrepRefIdeal.main_arg2)
      ∧ r.2.mem ((c.tc : Thread Cert.MlaPrepRefIdeal.nD Cert.MlaPrepRefIdeal.τ).loc Cert.MlaPrepRefIdeal.main_arg3) = m ((c.tc : Thread Cert.MlaPrepRefIdeal.nD Cert.MlaPrepRefIdeal.τ).loc Cert.MlaPrepRefIdeal.main_arg3)
      ∧ r.2.mem ((c.tc : Thread Cert.MlaPrepRefIdeal.nD Cert.MlaPrepRefIdeal.τ).loc Cert.MlaPrepRefIdeal.main_arg4) = m ((c.tc : Thread Cert.MlaPrepRefIdeal.nD Cert.MlaPrepRefIdeal.τ).loc Cert.MlaPrepRefIdeal.main_arg4)
      ∧ r.2.mem ((c.tc : Thread Cert.MlaPrepRefIdeal.nD Cert.MlaPrepRefIdeal.τ).loc Cert.MlaPrepRefIdeal.main_arg5) = m ((c.tc : Thread Cert.MlaPrepRefIdeal.nD Cert.MlaPrepRefIdeal.τ).loc Cert.MlaPrepRefIdeal.main_arg5)
      ∧ r.2.mem ((c.tc : Thread Cert.MlaPrepRefIdeal.nD Cert.MlaPrepRefIdeal.τ).loc Cert.MlaPrepRefIdeal.main_arg6) = m ((c.tc : Thread Cert.MlaPrepRefIdeal.nD Cert.MlaPrepRefIdeal.τ).loc Cert.MlaPrepRefIdeal.main_arg6)
      ∧ r.2.mem ((c.tc : Thread Cert.MlaPrepRefIdeal.nD Cert.MlaPrepRefIdeal.τ).loc Cert.MlaPrepRefIdeal.main_arg7) = m ((c.tc : Thread Cert.MlaPrepRefIdeal.nD Cert.MlaPrepRefIdeal.τ).loc Cert.MlaPrepRefIdeal.main_arg7)
      ∧ r.2.mem ((c.tc : Thread Cert.MlaPrepRefIdeal.nD Cert.MlaPrepRefIdeal.τ).loc Cert.MlaPrepRefIdeal.main_arg8) = m ((c.tc : Thread Cert.MlaPrepRefIdeal.nD Cert.MlaPrepRefIdeal.τ).loc Cert.MlaPrepRefIdeal.main_arg8))
      ∧ r.2.sem = fun _ => 0)

def quiescent_MlaPrepRefIdeal_pre_turned_key [hMlaPrepRefIdeal : Cert.MlaPrepRefIdeal.Facts] [hPre_turned_key : Cert.Pre_turned_key.Facts] : Prop :=
  ∀ (m : (ℓ : Loc Cert.MlaPrepRefIdeal.nD Cert.MlaPrepRefIdeal.τ Cert.MlaPrepRefIdeal.sig) → Buf (Elt Ideal) ℓ) (g : Dev Cert.MlaPrepRefIdeal.nD → PrngReg), Pre_MlaPrepRefIdeal_turned_key m →
    θ_run (Cert.MlaPrepRefIdeal.defs (F := Ideal)) (onTc (τ := Cert.MlaPrepRefIdeal.τ) (Cert.MlaPrepRefIdeal.main (F := Ideal))) ⟨m, fun _ => 0, g⟩ (fun r => (∀ c : Dev Cert.MlaPrepRefIdeal.nD,
      r.2.mem ((c.tc : Thread Cert.MlaPrepRefIdeal.nD Cert.MlaPrepRefIdeal.τ).loc Cert.MlaPrepRefIdeal.main_arg0) = m ((c.tc : Thread Cert.MlaPrepRefIdeal.nD Cert.MlaPrepRefIdeal.τ).loc Cert.MlaPrepRefIdeal.main_arg0)
      ∧ r.2.mem ((c.tc : Thread Cert.MlaPrepRefIdeal.nD Cert.MlaPrepRefIdeal.τ).loc Cert.MlaPrepRefIdeal.main_arg1) = m ((c.tc : Thread Cert.MlaPrepRefIdeal.nD Cert.MlaPrepRefIdeal.τ).loc Cert.MlaPrepRefIdeal.main_arg1)
      ∧ r.2.mem ((c.tc : Thread Cert.MlaPrepRefIdeal.nD Cert.MlaPrepRefIdeal.τ).loc Cert.MlaPrepRefIdeal.main_arg2) = m ((c.tc : Thread Cert.MlaPrepRefIdeal.nD Cert.MlaPrepRefIdeal.τ).loc Cert.MlaPrepRefIdeal.main_arg2)
      ∧ r.2.mem ((c.tc : Thread Cert.MlaPrepRefIdeal.nD Cert.MlaPrepRefIdeal.τ).loc Cert.MlaPrepRefIdeal.main_arg3) = m ((c.tc : Thread Cert.MlaPrepRefIdeal.nD Cert.MlaPrepRefIdeal.τ).loc Cert.MlaPrepRefIdeal.main_arg3)
      ∧ r.2.mem ((c.tc : Thread Cert.MlaPrepRefIdeal.nD Cert.MlaPrepRefIdeal.τ).loc Cert.MlaPrepRefIdeal.main_arg4) = m ((c.tc : Thread Cert.MlaPrepRefIdeal.nD Cert.MlaPrepRefIdeal.τ).loc Cert.MlaPrepRefIdeal.main_arg4)
      ∧ r.2.mem ((c.tc : Thread Cert.MlaPrepRefIdeal.nD Cert.MlaPrepRefIdeal.τ).loc Cert.MlaPrepRefIdeal.main_arg5) = m ((c.tc : Thread Cert.MlaPrepRefIdeal.nD Cert.MlaPrepRefIdeal.τ).loc Cert.MlaPrepRefIdeal.main_arg5)
      ∧ r.2.mem ((c.tc : Thread Cert.MlaPrepRefIdeal.nD Cert.MlaPrepRefIdeal.τ).loc Cert.MlaPrepRefIdeal.main_arg6) = m ((c.tc : Thread Cert.MlaPrepRefIdeal.nD Cert.MlaPrepRefIdeal.τ).loc Cert.MlaPrepRefIdeal.main_arg6)
      ∧ r.2.mem ((c.tc : Thread Cert.MlaPrepRefIdeal.nD Cert.MlaPrepRefIdeal.τ).loc Cert.MlaPrepRefIdeal.main_arg7) = m ((c.tc : Thread Cert.MlaPrepRefIdeal.nD Cert.MlaPrepRefIdeal.τ).loc Cert.MlaPrepRefIdeal.main_arg7)
      ∧ r.2.mem ((c.tc : Thread Cert.MlaPrepRefIdeal.nD Cert.MlaPrepRefIdeal.τ).loc Cert.MlaPrepRefIdeal.main_arg8) = m ((c.tc : Thread Cert.MlaPrepRefIdeal.nD Cert.MlaPrepRefIdeal.τ).loc Cert.MlaPrepRefIdeal.main_arg8))
      ∧ r.2.sem = fun _ => 0)

def preserves_Attn_AttnIdeal : Prop :=
  True

def algebraic_AttnIdeal_AttnRefIdeal_pre_finite_scores [hAttnIdeal : Cert.AttnIdeal.Facts] [hAttnRefIdeal : Cert.AttnRefIdeal.Facts] [hPre_finite_scores : Cert.Pre_finite_scores.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_scores m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)) →
    ∃ (v0 : (c : Dev Cert.AttnIdeal.nD) → Buf (Elt Ideal) ((c.tc : Thread Cert.AttnIdeal.nD Cert.AttnIdeal.τ).loc Cert.AttnIdeal.main_v0)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v0) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v40) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)
      ∧ m' ((c.tc : Thread Cert.FfnRefIdeal.nD Cert.FfnRefIdeal.τ).loc Cert.FfnRefIdeal.main_arg7) = m ((c.tc : Thread Cert.FfnIdeal.nD Cert.FfnIdeal.τ).loc Cert.FfnIdeal.main_arg7)) →
    ∃ (v0 : (c : Dev Cert.FfnIdeal.nD) → Buf (Elt Ideal) ((c.tc : Thread Cert.FfnIdeal.nD Cert.FfnIdeal.τ).loc Cert.FfnIdeal.main_v22)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v22) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v139) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6)
          ∧ r.2.mem ((c.tc : Thread Cert.FfnRefIdeal.nD Cert.FfnRefIdeal.τ).loc Cert.FfnRefIdeal.main_arg7) = m' ((c.tc : Thread Cert.FfnRefIdeal.nD Cert.FfnRefIdeal.τ).loc Cert.FfnRefIdeal.main_arg7))

def preserves_InProj_InProjIdeal : Prop :=
  True

def algebraic_InProjIdeal_InProjRefIdeal_pre_finite_projection [hInProjIdeal : Cert.InProjIdeal.Facts] [hInProjRefIdeal : Cert.InProjRefIdeal.Facts] [hPre_finite_projection : Cert.Pre_finite_projection.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal_finite_projection m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v16_0)) (v1 : (c : Dev Cert.InProjIdeal.nD) → Buf (Elt Ideal) ((c.tc : Thread Cert.InProjIdeal.nD Cert.InProjIdeal.τ).loc Cert.InProjIdeal.main_v16_1)) (v2 : (c : Dev Cert.InProjIdeal.nD) → Buf (Elt Ideal) ((c.tc : Thread Cert.InProjIdeal.nD Cert.InProjIdeal.τ).loc Cert.InProjIdeal.main_v16_2)) (v3 : (c : Dev Cert.InProjIdeal.nD) → Buf (Elt Ideal) ((c.tc : Thread Cert.InProjIdeal.nD Cert.InProjIdeal.τ).loc Cert.InProjIdeal.main_v16_3)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v16_0) = v0 c
          ∧ r.2.mem ((c.tc : Thread Cert.InProjIdeal.nD Cert.InProjIdeal.τ).loc Cert.InProjIdeal.main_v16_1) = v1 c
          ∧ r.2.mem ((c.tc : Thread Cert.InProjIdeal.nD Cert.InProjIdeal.τ).loc Cert.InProjIdeal.main_v16_2) = v2 c
          ∧ r.2.mem ((c.tc : Thread Cert.InProjIdeal.nD Cert.InProjIdeal.τ).loc Cert.InProjIdeal.main_v16_3) = v3 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v26) = v0 c
          ∧ r.2.mem ((c.tc : Thread Cert.InProjRefIdeal.nD Cert.InProjRefIdeal.τ).loc Cert.InProjRefIdeal.main_v27) = v1 c
          ∧ r.2.mem ((c.tc : Thread Cert.InProjRefIdeal.nD Cert.InProjRefIdeal.τ).loc Cert.InProjRefIdeal.main_v28) = v2 c
          ∧ r.2.mem ((c.tc : Thread Cert.InProjRefIdeal.nD Cert.InProjRefIdeal.τ).loc Cert.InProjRefIdeal.main_v39) = v3 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2))

def preserves_MixerOut_MixerOutIdeal : Prop :=
  True

def algebraic_MixerOutIdeal_MixerOutRefIdeal_pre_finite_scan [hMixerOutIdeal : Cert.MixerOutIdeal.Facts] [hMixerOutRefIdeal : Cert.MixerOutRefIdeal.Facts] [hPre_finite_scan : Cert.Pre_finite_scan.Facts] : Prop :=
  ∀ (m : (ℓ : Loc Cert.MixerOutIdeal.nD Cert.MixerOutIdeal.τ Cert.MixerOutIdeal.sig) → Buf (Elt Ideal) ℓ) (g : Dev Cert.MixerOutIdeal.nD → PrngReg)
    (m' : (ℓ : Loc Cert.MixerOutRefIdeal.nD Cert.MixerOutRefIdeal.τ Cert.MixerOutRefIdeal.sig) → Buf (Elt Ideal) ℓ) (g' : Dev Cert.MixerOutRefIdeal.nD → PrngReg), Pre_MixerOutIdeal_finite_scan m →
    (∀ c : Dev Cert.MixerOutIdeal.nD,
      m' ((c.tc : Thread Cert.MixerOutRefIdeal.nD Cert.MixerOutRefIdeal.τ).loc Cert.MixerOutRefIdeal.main_arg0) = m ((c.tc : Thread Cert.MixerOutIdeal.nD Cert.MixerOutIdeal.τ).loc Cert.MixerOutIdeal.main_arg0)
      ∧ m' ((c.tc : Thread Cert.MixerOutRefIdeal.nD Cert.MixerOutRefIdeal.τ).loc Cert.MixerOutRefIdeal.main_arg1) = m ((c.tc : Thread Cert.MixerOutIdeal.nD Cert.MixerOutIdeal.τ).loc Cert.MixerOutIdeal.main_arg1)
      ∧ m' ((c.tc : Thread Cert.MixerOutRefIdeal.nD Cert.MixerOutRefIdeal.τ).loc Cert.MixerOutRefIdeal.main_arg2) = m ((c.tc : Thread Cert.MixerOutIdeal.nD Cert.MixerOutIdeal.τ).loc Cert.MixerOutIdeal.main_arg2)
      ∧ m' ((c.tc : Thread Cert.MixerOutRefIdeal.nD Cert.MixerOutRefIdeal.τ).loc Cert.MixerOutRefIdeal.main_arg3) = m ((c.tc : Thread Cert.MixerOutIdeal.nD Cert.MixerOutIdeal.τ).loc Cert.MixerOutIdeal.main_arg3)
      ∧ m' ((c.tc : Thread Cert.MixerOutRefIdeal.nD Cert.MixerOutRefIdeal.τ).loc Cert.MixerOutRefIdeal.main_arg4) = m ((c.tc : Thread Cert.MixerOutIdeal.nD Cert.MixerOutIdeal.τ).loc Cert.MixerOutIdeal.main_arg4)
      ∧ m' ((c.tc : Thread Cert.MixerOutRefIdeal.nD Cert.MixerOutRefIdeal.τ).loc Cert.MixerOutRefIdeal.main_arg5) = m ((c.tc : Thread Cert.MixerOutIdeal.nD Cert.MixerOutIdeal.τ).loc Cert.MixerOutIdeal.main_arg5)
      ∧ m' ((c.tc : Thread Cert.MixerOutRefIdeal.nD Cert.MixerOutRefIdeal.τ).loc Cert.MixerOutRefIdeal.main_arg6) = m ((c.tc : Thread Cert.MixerOutIdeal.nD Cert.MixerOutIdeal.τ).loc Cert.MixerOutIdeal.main_arg6)
      ∧ m' ((c.tc : Thread Cert.MixerOutRefIdeal.nD Cert.MixerOutRefIdeal.τ).loc Cert.MixerOutRefIdeal.main_arg7) = m ((c.tc : Thread Cert.MixerOutIdeal.nD Cert.MixerOutIdeal.τ).loc Cert.MixerOutIdeal.main_arg7)
      ∧ m' ((c.tc : Thread Cert.MixerOutRefIdeal.nD Cert.MixerOutRefIdeal.τ).loc Cert.MixerOutRefIdeal.main_arg8) = m ((c.tc : Thread Cert.MixerOutIdeal.nD Cert.MixerOutIdeal.τ).loc Cert.MixerOutIdeal.main_arg8)
      ∧ m' ((c.tc : Thread Cert.MixerOutRefIdeal.nD Cert.MixerOutRefIdeal.τ).loc Cert.MixerOutRefIdeal.main_arg9) = m ((c.tc : Thread Cert.MixerOutIdeal.nD Cert.MixerOutIdeal.τ).loc Cert.MixerOutIdeal.main_arg9)
      ∧ m' ((c.tc : Thread Cert.MixerOutRefIdeal.nD Cert.MixerOutRefIdeal.τ).loc Cert.MixerOutRefIdeal.main_arg10) = m ((c.tc : Thread Cert.MixerOutIdeal.nD Cert.MixerOutIdeal.τ).loc Cert.MixerOutIdeal.main_arg10)) →
    ∃ (v0 : (c : Dev Cert.MixerOutIdeal.nD) → Buf (Elt Ideal) ((c.tc : Thread Cert.MixerOutIdeal.nD Cert.MixerOutIdeal.τ).loc Cert.MixerOutIdeal.main_v26)),
      θ_run (Cert.MixerOutIdeal.defs (F := Ideal)) (onTc (τ := Cert.MixerOutIdeal.τ) (Cert.MixerOutIdeal.main (F := Ideal))) ⟨m, fun _ => 0, g⟩ (fun r => ∀ c : Dev Cert.MixerOutIdeal.nD,
          r.2.mem ((c.tc : Thread Cert.MixerOutIdeal.nD Cert.MixerOutIdeal.τ).loc Cert.MixerOutIdeal.main_v26) = v0 c
          ∧ r.2.mem ((c.tc : Thread Cert.MixerOutIdeal.nD Cert.MixerOutIdeal.τ).loc Cert.MixerOutIdeal.main_arg0) = m ((c.tc : Thread Cert.MixerOutIdeal.nD Cert.MixerOutIdeal.τ).loc Cert.MixerOutIdeal.main_arg0)
          ∧ r.2.mem ((c.tc : Thread Cert.MixerOutIdeal.nD Cert.MixerOutIdeal.τ).loc Cert.MixerOutIdeal.main_arg1) = m ((c.tc : Thread Cert.MixerOutIdeal.nD Cert.MixerOutIdeal.τ).loc Cert.MixerOutIdeal.main_arg1)
          ∧ r.2.mem ((c.tc : Thread Cert.MixerOutIdeal.nD Cert.MixerOutIdeal.τ).loc Cert.MixerOutIdeal.main_arg2) = m ((c.tc : Thread Cert.MixerOutIdeal.nD Cert.MixerOutIdeal.τ).loc Cert.MixerOutIdeal.main_arg2)
          ∧ r.2.mem ((c.tc : Thread Cert.MixerOutIdeal.nD Cert.MixerOutIdeal.τ).loc Cert.MixerOutIdeal.main_arg3) = m ((c.tc : Thread Cert.MixerOutIdeal.nD Cert.MixerOutIdeal.τ).loc Cert.MixerOutIdeal.main_arg3)
          ∧ r.2.mem ((c.tc : Thread Cert.MixerOutIdeal.nD Cert.MixerOutIdeal.τ).loc Cert.MixerOutIdeal.main_arg4) = m ((c.tc : Thread Cert.MixerOutIdeal.nD Cert.MixerOutIdeal.τ).loc Cert.MixerOutIdeal.main_arg4)
          ∧ r.2.mem ((c.tc : Thread Cert.MixerOutIdeal.nD Cert.MixerOutIdeal.τ).loc Cert.MixerOutIdeal.main_arg5) = m ((c.tc : Thread Cert.MixerOutIdeal.nD Cert.MixerOutIdeal.τ).loc Cert.MixerOutIdeal.main_arg5)
          ∧ r.2.mem ((c.tc : Thread Cert.MixerOutIdeal.nD Cert.MixerOutIdeal.τ).loc Cert.MixerOutIdeal.main_arg6) = m ((c.tc : Thread Cert.MixerOutIdeal.nD Cert.MixerOutIdeal.τ).loc Cert.MixerOutIdeal.main_arg6)
          ∧ r.2.mem ((c.tc : Thread Cert.MixerOutIdeal.nD Cert.MixerOutIdeal.τ).loc Cert.MixerOutIdeal.main_arg7) = m ((c.tc : Thread Cert.MixerOutIdeal.nD Cert.MixerOutIdeal.τ).loc Cert.MixerOutIdeal.main_arg7)
          ∧ r.2.mem ((c.tc : Thread Cert.MixerOutIdeal.nD Cert.MixerOutIdeal.τ).loc Cert.MixerOutIdeal.main_arg8) = m ((c.tc : Thread Cert.MixerOutIdeal.nD Cert.MixerOutIdeal.τ).loc Cert.MixerOutIdeal.main_arg8)
          ∧ r.2.mem ((c.tc : Thread Cert.MixerOutIdeal.nD Cert.MixerOutIdeal.τ).loc Cert.MixerOutIdeal.main_arg9) = m ((c.tc : Thread Cert.MixerOutIdeal.nD Cert.MixerOutIdeal.τ).loc Cert.MixerOutIdeal.main_arg9)
          ∧ r.2.mem ((c.tc : Thread Cert.MixerOutIdeal.nD Cert.MixerOutIdeal.τ).loc Cert.MixerOutIdeal.main_arg10) = m ((c.tc : Thread Cert.MixerOutIdeal.nD Cert.MixerOutIdeal.τ).loc Cert.MixerOutIdeal.main_arg10))
      ∧ θ_run (Cert.MixerOutRefIdeal.defs (F := Ideal)) (onTc (τ := Cert.MixerOutRefIdeal.τ) (Cert.MixerOutRefIdeal.main (F := Ideal))) ⟨m', fun _ => 0, g'⟩ (fun r => ∀ c : Dev Cert.MixerOutRefIdeal.nD,
          r.2.mem ((c.tc : Thread Cert.MixerOutRefIdeal.nD Cert.MixerOutRefIdeal.τ).loc Cert.MixerOutRefIdeal.main_v104) = v0 c
          ∧ r.2.mem ((c.tc : Thread Cert.MixerOutRefIdeal.nD Cert.MixerOutRefIdeal.τ).loc Cert.MixerOutRefIdeal.main_arg0) = m' ((c.tc : Thread Cert.MixerOutRefIdeal.nD Cert.MixerOutRefIdeal.τ).loc Cert.MixerOutRefIdeal.main_arg0)
          ∧ r.2.mem ((c.tc : Thread Cert.MixerOutRefIdeal.nD Cert.MixerOutRefIdeal.τ).loc Cert.MixerOutRefIdeal.main_arg1) = m' ((c.tc : Thread Cert.MixerOutRefIdeal.nD Cert.MixerOutRefIdeal.τ).loc Cert.MixerOutRefIdeal.main_arg1)
          ∧ r.2.mem ((c.tc : Thread Cert.MixerOutRefIdeal.nD Cert.MixerOutRefIdeal.τ).loc Cert.MixerOutRefIdeal.main_arg2) = m' ((c.tc : Thread Cert.MixerOutRefIdeal.nD Cert.MixerOutRefIdeal.τ).loc Cert.MixerOutRefIdeal.main_arg2)
          ∧ r.2.mem ((c.tc : Thread Cert.MixerOutRefIdeal.nD Cert.MixerOutRefIdeal.τ).loc Cert.MixerOutRefIdeal.main_arg3) = m' ((c.tc : Thread Cert.MixerOutRefIdeal.nD Cert.MixerOutRefIdeal.τ).loc Cert.MixerOutRefIdeal.main_arg3)
          ∧ r.2.mem ((c.tc : Thread Cert.MixerOutRefIdeal.nD Cert.MixerOutRefIdeal.τ).loc Cert.MixerOutRefIdeal.main_arg4) = m' ((c.tc : Thread Cert.MixerOutRefIdeal.nD Cert.MixerOutRefIdeal.τ).loc Cert.MixerOutRefIdeal.main_arg4)
          ∧ r.2.mem ((c.tc : Thread Cert.MixerOutRefIdeal.nD Cert.MixerOutRefIdeal.τ).loc Cert.MixerOutRefIdeal.main_arg5) = m' ((c.tc : Thread Cert.MixerOutRefIdeal.nD Cert.MixerOutRefIdeal.τ).loc Cert.MixerOutRefIdeal.main_arg5)
          ∧ r.2.mem ((c.tc : Thread Cert.MixerOutRefIdeal.nD Cert.MixerOutRefIdeal.τ).loc Cert.MixerOutRefIdeal.main_arg6) = m' ((c.tc : Thread Cert.MixerOutRefIdeal.nD Cert.MixerOutRefIdeal.τ).loc Cert.MixerOutRefIdeal.main_arg6)
          ∧ r.2.mem ((c.tc : Thread Cert.MixerOutRefIdeal.nD Cert.MixerOutRefIdeal.τ).loc Cert.MixerOutRefIdeal.main_arg7) = m' ((c.tc : Thread Cert.MixerOutRefIdeal.nD Cert.MixerOutRefIdeal.τ).loc Cert.MixerOutRefIdeal.main_arg7)
          ∧ r.2.mem ((c.tc : Thread Cert.MixerOutRefIdeal.nD Cert.MixerOutRefIdeal.τ).loc Cert.MixerOutRefIdeal.main_arg8) = m' ((c.tc : Thread Cert.MixerOutRefIdeal.nD Cert.MixerOutRefIdeal.τ).loc Cert.MixerOutRefIdeal.main_arg8)
          ∧ r.2.mem ((c.tc : Thread Cert.MixerOutRefIdeal.nD Cert.MixerOutRefIdeal.τ).loc Cert.MixerOutRefIdeal.main_arg9) = m' ((c.tc : Thread Cert.MixerOutRefIdeal.nD Cert.MixerOutRefIdeal.τ).loc Cert.MixerOutRefIdeal.main_arg9)
          ∧ r.2.mem ((c.tc : Thread Cert.MixerOutRefIdeal.nD Cert.MixerOutRefIdeal.τ).loc Cert.MixerOutRefIdeal.main_arg10) = m' ((c.tc : Thread Cert.MixerOutRefIdeal.nD Cert.MixerOutRefIdeal.τ).loc Cert.MixerOutRefIdeal.main_arg10))

def preserves_MlaPrep_MlaPrepIdeal : Prop :=
  True

def algebraic_MlaPrepIdeal_MlaPrepRefIdeal_pre_turned_key [hMlaPrepIdeal : Cert.MlaPrepIdeal.Facts] [hMlaPrepRefIdeal : Cert.MlaPrepRefIdeal.Facts] [hPre_turned_key : Cert.Pre_turned_key.Facts] : Prop :=
  ∀ (m : (ℓ : Loc Cert.MlaPrepIdeal.nD Cert.MlaPrepIdeal.τ Cert.MlaPrepIdeal.sig) → Buf (Elt Ideal) ℓ) (g : Dev Cert.MlaPrepIdeal.nD → PrngReg)
    (m' : (ℓ : Loc Cert.MlaPrepRefIdeal.nD Cert.MlaPrepRefIdeal.τ Cert.MlaPrepRefIdeal.sig) → Buf (Elt Ideal) ℓ) (g' : Dev Cert.MlaPrepRefIdeal.nD → PrngReg), Pre_MlaPrepIdeal_turned_key m →
    (∀ c : Dev Cert.MlaPrepIdeal.nD,
      m' ((c.tc : Thread Cert.MlaPrepRefIdeal.nD Cert.MlaPrepRefIdeal.τ).loc Cert.MlaPrepRefIdeal.main_arg0) = m ((c.tc : Thread Cert.MlaPrepIdeal.nD Cert.MlaPrepIdeal.τ).loc Cert.MlaPrepIdeal.main_arg0)
      ∧ m' ((c.tc : Thread Cert.MlaPrepRefIdeal.nD Cert.MlaPrepRefIdeal.τ).loc Cert.MlaPrepRefIdeal.main_arg1) = m ((c.tc : Thread Cert.MlaPrepIdeal.nD Cert.MlaPrepIdeal.τ).loc Cert.MlaPrepIdeal.main_arg1)
      ∧ m' ((c.tc : Thread Cert.MlaPrepRefIdeal.nD Cert.MlaPrepRefIdeal.τ).loc Cert.MlaPrepRefIdeal.main_arg2) = m ((c.tc : Thread Cert.MlaPrepIdeal.nD Cert.MlaPrepIdeal.τ).loc Cert.MlaPrepIdeal.main_arg2)
      ∧ m' ((c.tc : Thread Cert.MlaPrepRefIdeal.nD Cert.MlaPrepRefIdeal.τ).loc Cert.MlaPrepRefIdeal.main_arg3) = m ((c.tc : Thread Cert.MlaPrepIdeal.nD Cert.MlaPrepIdeal.τ).loc Cert.MlaPrepIdeal.main_arg3)
      ∧ m' ((c.tc : Thread Cert.MlaPrepRefIdeal.nD Cert.MlaPrepRefIdeal.τ).loc Cert.MlaPrepRefIdeal.main_arg4) = m ((c.tc : Thread Cert.MlaPrepIdeal.nD Cert.MlaPrepIdeal.τ).loc Cert.MlaPrepIdeal.main_arg4)
      ∧ m' ((c.tc : Thread Cert.MlaPrepRefIdeal.nD Cert.MlaPrepRefIdeal.τ).loc Cert.MlaPrepRefIdeal.main_arg5) = m ((c.tc : Thread Cert.MlaPrepIdeal.nD Cert.MlaPrepIdeal.τ).loc Cert.MlaPrepIdeal.main_arg5)
      ∧ m' ((c.tc : Thread Cert.MlaPrepRefIdeal.nD Cert.MlaPrepRefIdeal.τ).loc Cert.MlaPrepRefIdeal.main_arg6) = m ((c.tc : Thread Cert.MlaPrepIdeal.nD Cert.MlaPrepIdeal.τ).loc Cert.MlaPrepIdeal.main_arg6)
      ∧ m' ((c.tc : Thread Cert.MlaPrepRefIdeal.nD Cert.MlaPrepRefIdeal.τ).loc Cert.MlaPrepRefIdeal.main_arg7) = m ((c.tc : Thread Cert.MlaPrepIdeal.nD Cert.MlaPrepIdeal.τ).loc Cert.MlaPrepIdeal.main_arg7)
      ∧ m' ((c.tc : Thread Cert.MlaPrepRefIdeal.nD Cert.MlaPrepRefIdeal.τ).loc Cert.MlaPrepRefIdeal.main_arg8) = m ((c.tc : Thread Cert.MlaPrepIdeal.nD Cert.MlaPrepIdeal.τ).loc Cert.MlaPrepIdeal.main_arg8)) →
    ∃ (v0 : (c : Dev Cert.MlaPrepIdeal.nD) → Buf (Elt Ideal) ((c.tc : Thread Cert.MlaPrepIdeal.nD Cert.MlaPrepIdeal.τ).loc Cert.MlaPrepIdeal.main_v53_0)) (v1 : (c : Dev Cert.MlaPrepIdeal.nD) → Buf (Elt Ideal) ((c.tc : Thread Cert.MlaPrepIdeal.nD Cert.MlaPrepIdeal.τ).loc Cert.MlaPrepIdeal.main_v53_1)) (v2 : (c : Dev Cert.MlaPrepIdeal.nD) → Buf (Elt Ideal) ((c.tc : Thread Cert.MlaPrepIdeal.nD Cert.MlaPrepIdeal.τ).loc Cert.MlaPrepIdeal.main_v53_2)),
      θ_run (Cert.MlaPrepIdeal.defs (F := Ideal)) (onTc (τ := Cert.MlaPrepIdeal.τ) (Cert.MlaPrepIdeal.main (F := Ideal))) ⟨m, fun _ => 0, g⟩ (fun r => ∀ c : Dev Cert.MlaPrepIdeal.nD,
          r.2.mem ((c.tc : Thread Cert.MlaPrepIdeal.nD Cert.MlaPrepIdeal.τ).loc Cert.MlaPrepIdeal.main_v53_0) = v0 c
          ∧ r.2.mem ((c.tc : Thread Cert.MlaPrepIdeal.nD Cert.MlaPrepIdeal.τ).loc Cert.MlaPrepIdeal.main_v53_1) = v1 c
          ∧ r.2.mem ((c.tc : Thread Cert.MlaPrepIdeal.nD Cert.MlaPrepIdeal.τ).loc Cert.MlaPrepIdeal.main_v53_2) = v2 c
          ∧ r.2.mem ((c.tc : Thread Cert.MlaPrepIdeal.nD Cert.MlaPrepIdeal.τ).loc Cert.MlaPrepIdeal.main_arg0) = m ((c.tc : Thread Cert.MlaPrepIdeal.nD Cert.MlaPrepIdeal.τ).loc Cert.MlaPrepIdeal.main_arg0)
          ∧ r.2.mem ((c.tc : Thread Cert.MlaPrepIdeal.nD Cert.MlaPrepIdeal.τ).loc Cert.MlaPrepIdeal.main_arg1) = m ((c.tc : Thread Cert.MlaPrepIdeal.nD Cert.MlaPrepIdeal.τ).loc Cert.MlaPrepIdeal.main_arg1)
          ∧ r.2.mem ((c.tc : Thread Cert.MlaPrepIdeal.nD Cert.MlaPrepIdeal.τ).loc Cert.MlaPrepIdeal.main_arg2) = m ((c.tc : Thread Cert.MlaPrepIdeal.nD Cert.MlaPrepIdeal.τ).loc Cert.MlaPrepIdeal.main_arg2)
          ∧ r.2.mem ((c.tc : Thread Cert.MlaPrepIdeal.nD Cert.MlaPrepIdeal.τ).loc Cert.MlaPrepIdeal.main_arg3) = m ((c.tc : Thread Cert.MlaPrepIdeal.nD Cert.MlaPrepIdeal.τ).loc Cert.MlaPrepIdeal.main_arg3)
          ∧ r.2.mem ((c.tc : Thread Cert.MlaPrepIdeal.nD Cert.MlaPrepIdeal.τ).loc Cert.MlaPrepIdeal.main_arg4) = m ((c.tc : Thread Cert.MlaPrepIdeal.nD Cert.MlaPrepIdeal.τ).loc Cert.MlaPrepIdeal.main_arg4)
          ∧ r.2.mem ((c.tc : Thread Cert.MlaPrepIdeal.nD Cert.MlaPrepIdeal.τ).loc Cert.MlaPrepIdeal.main_arg5) = m ((c.tc : Thread Cert.MlaPrepIdeal.nD Cert.MlaPrepIdeal.τ).loc Cert.MlaPrepIdeal.main_arg5)
          ∧ r.2.mem ((c.tc : Thread Cert.MlaPrepIdeal.nD Cert.MlaPrepIdeal.τ).loc Cert.MlaPrepIdeal.main_arg6) = m ((c.tc : Thread Cert.MlaPrepIdeal.nD Cert.MlaPrepIdeal.τ).loc Cert.MlaPrepIdeal.main_arg6)
          ∧ r.2.mem ((c.tc : Thread Cert.MlaPrepIdeal.nD Cert.MlaPrepIdeal.τ).loc Cert.MlaPrepIdeal.main_arg7) = m ((c.tc : Thread Cert.MlaPrepIdeal.nD Cert.MlaPrepIdeal.τ).loc Cert.MlaPrepIdeal.main_arg7)
          ∧ r.2.mem ((c.tc : Thread Cert.MlaPrepIdeal.nD Cert.MlaPrepIdeal.τ).loc Cert.MlaPrepIdeal.main_arg8) = m ((c.tc : Thread Cert.MlaPrepIdeal.nD Cert.MlaPrepIdeal.τ).loc Cert.MlaPrepIdeal.main_arg8))
      ∧ θ_run (Cert.MlaPrepRefIdeal.defs (F := Ideal)) (onTc (τ := Cert.MlaPrepRefIdeal.τ) (Cert.MlaPrepRefIdeal.main (F := Ideal))) ⟨m', fun _ => 0, g'⟩ (fun r => ∀ c : Dev Cert.MlaPrepRefIdeal.nD,
          r.2.mem ((c.tc : Thread Cert.MlaPrepRefIdeal.nD Cert.MlaPrepRefIdeal.τ).loc Cert.MlaPrepRefIdeal.main_v91) = v0 c
          ∧ r.2.mem ((c.tc : Thread Cert.MlaPrepRefIdeal.nD Cert.MlaPrepRefIdeal.τ).loc Cert.MlaPrepRefIdeal.main_v94) = v1 c
          ∧ r.2.mem ((c.tc : Thread Cert.MlaPrepRefIdeal.nD Cert.MlaPrepRefIdeal.τ).loc Cert.MlaPrepRefIdeal.main_v97) = v2 c
          ∧ r.2.mem ((c.tc : Thread Cert.MlaPrepRefIdeal.nD Cert.MlaPrepRefIdeal.τ).loc Cert.MlaPrepRefIdeal.main_arg0) = m' ((c.tc : Thread Cert.MlaPrepRefIdeal.nD Cert.MlaPrepRefIdeal.τ).loc Cert.MlaPrepRefIdeal.main_arg0)
          ∧ r.2.mem ((c.tc : Thread Cert.MlaPrepRefIdeal.nD Cert.MlaPrepRefIdeal.τ).loc Cert.MlaPrepRefIdeal.main_arg1) = m' ((c.tc : Thread Cert.MlaPrepRefIdeal.nD Cert.MlaPrepRefIdeal.τ).loc Cert.MlaPrepRefIdeal.main_arg1)
          ∧ r.2.mem ((c.tc : Thread Cert.MlaPrepRefIdeal.nD Cert.MlaPrepRefIdeal.τ).loc Cert.MlaPrepRefIdeal.main_arg2) = m' ((c.tc : Thread Cert.MlaPrepRefIdeal.nD Cert.MlaPrepRefIdeal.τ).loc Cert.MlaPrepRefIdeal.main_arg2)
          ∧ r.2.mem ((c.tc : Thread Cert.MlaPrepRefIdeal.nD Cert.MlaPrepRefIdeal.τ).loc Cert.MlaPrepRefIdeal.main_arg3) = m' ((c.tc : Thread Cert.MlaPrepRefIdeal.nD Cert.MlaPrepRefIdeal.τ).loc Cert.MlaPrepRefIdeal.main_arg3)
          ∧ r.2.mem ((c.tc : Thread Cert.MlaPrepRefIdeal.nD Cert.MlaPrepRefIdeal.τ).loc Cert.MlaPrepRefIdeal.main_arg4) = m' ((c.tc : Thread Cert.MlaPrepRefIdeal.nD Cert.MlaPrepRefIdeal.τ).loc Cert.MlaPrepRefIdeal.main_arg4)
          ∧ r.2.mem ((c.tc : Thread Cert.MlaPrepRefIdeal.nD Cert.MlaPrepRefIdeal.τ).loc Cert.MlaPrepRefIdeal.main_arg5) = m' ((c.tc : Thread Cert.MlaPrepRefIdeal.nD Cert.MlaPrepRefIdeal.τ).loc Cert.MlaPrepRefIdeal.main_arg5)
          ∧ r.2.mem ((c.tc : Thread Cert.MlaPrepRefIdeal.nD Cert.MlaPrepRefIdeal.τ).loc Cert.MlaPrepRefIdeal.main_arg6) = m' ((c.tc : Thread Cert.MlaPrepRefIdeal.nD Cert.MlaPrepRefIdeal.τ).loc Cert.MlaPrepRefIdeal.main_arg6)
          ∧ r.2.mem ((c.tc : Thread Cert.MlaPrepRefIdeal.nD Cert.MlaPrepRefIdeal.τ).loc Cert.MlaPrepRefIdeal.main_arg7) = m' ((c.tc : Thread Cert.MlaPrepRefIdeal.nD Cert.MlaPrepRefIdeal.τ).loc Cert.MlaPrepRefIdeal.main_arg7)
          ∧ r.2.mem ((c.tc : Thread Cert.MlaPrepRefIdeal.nD Cert.MlaPrepRefIdeal.τ).loc Cert.MlaPrepRefIdeal.main_arg8) = m' ((c.tc : Thread Cert.MlaPrepRefIdeal.nD Cert.MlaPrepRefIdeal.τ).loc Cert.MlaPrepRefIdeal.main_arg8))

def Claim : Prop :=
  ∃ (hAttn : Cert.Attn.Facts) (hAttnIdeal : Cert.AttnIdeal.Facts) (hAttnRefIdeal : Cert.AttnRefIdeal.Facts) (hFfn : Cert.Ffn.Facts) (hFfnIdeal : Cert.FfnIdeal.Facts) (hFfnRefIdeal : Cert.FfnRefIdeal.Facts) (hInProj : Cert.InProj.Facts) (hInProjIdeal : Cert.InProjIdeal.Facts) (hInProjRefIdeal : Cert.InProjRefIdeal.Facts) (hMixerOut : Cert.MixerOut.Facts) (hMixerOutIdeal : Cert.MixerOutIdeal.Facts) (hMixerOutRefIdeal : Cert.MixerOutRefIdeal.Facts) (hMlaPrep : Cert.MlaPrep.Facts) (hMlaPrepIdeal : Cert.MlaPrepIdeal.Facts) (hMlaPrepRefIdeal : Cert.MlaPrepRefIdeal.Facts) (hPre_finite_scores : Cert.Pre_finite_scores.Facts) (hPre_finite_projection : Cert.Pre_finite_projection.Facts) (hPre_finite_scan : Cert.Pre_finite_scan.Facts) (hPre_turned_key : Cert.Pre_turned_key.Facts),
    quiescent_Attn (hAttn := hAttn)
    ∧ quiescent_AttnIdeal (hAttnIdeal := hAttnIdeal)
    ∧ quiescent_AttnIdeal_pre_finite_scores (hAttnIdeal := hAttnIdeal) (hPre_finite_scores := hPre_finite_scores)
    ∧ quiescent_AttnRefIdeal (hAttnRefIdeal := hAttnRefIdeal)
    ∧ quiescent_AttnRefIdeal_pre_finite_scores (hAttnRefIdeal := hAttnRefIdeal) (hPre_finite_scores := hPre_finite_scores)
    ∧ quiescent_Ffn (hFfn := hFfn)
    ∧ quiescent_FfnIdeal (hFfnIdeal := hFfnIdeal)
    ∧ quiescent_FfnRefIdeal (hFfnRefIdeal := hFfnRefIdeal)
    ∧ quiescent_InProj (hInProj := hInProj)
    ∧ quiescent_InProjIdeal (hInProjIdeal := hInProjIdeal)
    ∧ quiescent_InProjIdeal_pre_finite_projection (hInProjIdeal := hInProjIdeal) (hPre_finite_projection := hPre_finite_projection)
    ∧ quiescent_InProjRefIdeal (hInProjRefIdeal := hInProjRefIdeal)
    ∧ quiescent_InProjRefIdeal_pre_finite_projection (hInProjRefIdeal := hInProjRefIdeal) (hPre_finite_projection := hPre_finite_projection)
    ∧ quiescent_MixerOut (hMixerOut := hMixerOut)
    ∧ quiescent_MixerOutIdeal (hMixerOutIdeal := hMixerOutIdeal)
    ∧ quiescent_MixerOutIdeal_pre_finite_scan (hMixerOutIdeal := hMixerOutIdeal) (hPre_finite_scan := hPre_finite_scan)
    ∧ quiescent_MixerOutRefIdeal (hMixerOutRefIdeal := hMixerOutRefIdeal)
    ∧ quiescent_MixerOutRefIdeal_pre_finite_scan (hMixerOutRefIdeal := hMixerOutRefIdeal) (hPre_finite_scan := hPre_finite_scan)
    ∧ quiescent_MlaPrep (hMlaPrep := hMlaPrep)
    ∧ quiescent_MlaPrepIdeal (hMlaPrepIdeal := hMlaPrepIdeal)
    ∧ quiescent_MlaPrepIdeal_pre_turned_key (hMlaPrepIdeal := hMlaPrepIdeal) (hPre_turned_key := hPre_turned_key)
    ∧ quiescent_MlaPrepRefIdeal (hMlaPrepRefIdeal := hMlaPrepRefIdeal)
    ∧ quiescent_MlaPrepRefIdeal_pre_turned_key (hMlaPrepRefIdeal := hMlaPrepRefIdeal) (hPre_turned_key := hPre_turned_key)
    ∧ preserves_Attn_AttnIdeal
    ∧ algebraic_AttnIdeal_AttnRefIdeal_pre_finite_scores (hAttnIdeal := hAttnIdeal) (hAttnRefIdeal := hAttnRefIdeal) (hPre_finite_scores := hPre_finite_scores)
    ∧ preserves_Ffn_FfnIdeal
    ∧ algebraic_FfnIdeal_FfnRefIdeal (hFfnIdeal := hFfnIdeal) (hFfnRefIdeal := hFfnRefIdeal)
    ∧ preserves_InProj_InProjIdeal
    ∧ algebraic_InProjIdeal_InProjRefIdeal_pre_finite_projection (hInProjIdeal := hInProjIdeal) (hInProjRefIdeal := hInProjRefIdeal) (hPre_finite_projection := hPre_finite_projection)
    ∧ preserves_MixerOut_MixerOutIdeal
    ∧ algebraic_MixerOutIdeal_MixerOutRefIdeal_pre_finite_scan (hMixerOutIdeal := hMixerOutIdeal) (hMixerOutRefIdeal := hMixerOutRefIdeal) (hPre_finite_scan := hPre_finite_scan)
    ∧ preserves_MlaPrep_MlaPrepIdeal
    ∧ algebraic_MlaPrepIdeal_MlaPrepRefIdeal_pre_turned_key (hMlaPrepIdeal := hMlaPrepIdeal) (hMlaPrepRefIdeal := hMlaPrepRefIdeal) (hPre_turned_key := hPre_turned_key)
-- ==== Pre_finite_projection.lean ====
abbrev S8x4352x1024 : Shape := ⟨3, ![8, 4352, 1024]⟩
abbrev S16x8x1024 : Shape := ⟨3, ![16, 8, 1024]⟩
abbrev S1024x2592 : Shape := ⟨2, ![1024, 2592]⟩
abbrev S_ : Shape := ⟨0, ![]⟩
abbrev S1024x32 : Shape := ⟨2, ![1024, 32]⟩

class Facts : Prop where
  bcast_S_S8x4352x1024 : S_.BroadcastsInDim S8x4352x1024 (![] : Fin 0 → Fin S8x4352x1024.rank)
  reducesTo_S8x4352x1024_S_d0_1_2 : S8x4352x1024.ReducesTo [0, 1, 2] S_
  h_S_ : 0 < S_.numel
  bcast_S_S16x8x1024 : S_.BroadcastsInDim S16x8x1024 (![] : Fin 0 → Fin S16x8x1024.rank)
  reducesTo_S16x8x1024_S_d0_1_2 : S16x8x1024.ReducesTo [0, 1, 2] S_
  slices_S1024x2592_S1024x32_0_2560 : S1024x2592.Slices ![0, 2560] S1024x32
  bcast_S_S1024x32 : S_.BroadcastsInDim S1024x32 (![] : Fin 0 → Fin S1024x32.rank)
  reducesTo_S1024x32_S_d0_1 : S1024x32.ReducesTo [0, 1] S_

variable [Facts]

def fn {F : FTy → Type} [FloatOps F] (main_arg0 : FVec F S8x4352x1024 .f32) (main_arg1 : FVec F S16x8x1024 .f32) (main_arg2 : FVec F S1024x2592 .f32) : IVec S_ 1 :=
  let main_v0 : FVec F S8x4352x1024 .f32 := Host.absf main_arg0
  let main_cst : FVec F S_ .f32 := constant S_ .f32 0x7F800000#32
  let main_v1 : FVec F S8x4352x1024 .f32 := broadcastInDim S8x4352x1024 ![] bcast_S_S8x4352x1024 main_cst
  let main_v2 : IVec S8x4352x1024 1 := cmpf .olt main_v0 main_v1
  let main_c : IVec S_ 1 := constantI S_ 1 1#1
  let main_v3 : IVec S_ 1 := (fun x v => Host.reduce IntOp.andi x v reducesTo_S8x4352x1024_S_d0_1_2 h_S_) main_v2 main_c
  let main_v4 : FVec F S16x8x1024 .f32 := Host.absf main_arg1
  let main_cst_0 : FVec F S_ .f32 := constant S_ .f32 0x7F800000#32
  let main_v5 : FVec F S16x8x1024 .f32 := broadcastInDim S16x8x1024 ![] bcast_S_S16x8x1024 main_cst_0
  let main_v6 : IVec S16x8x1024 1 := cmpf .olt main_v4 main_v5
  let main_c_1 : IVec S_ 1 := constantI S_ 1 1#1
  let main_v7 : IVec S_ 1 := (fun x v => Host.reduce IntOp.andi x v reducesTo_S16x8x1024_S_d0_1_2 h_S_) main_v6 main_c_1
  let main_v8 : IVec S_ 1 := andi main_v3 main_v7
  let main_v9 : FVec F S1024x32 .f32 := (extractStridedSlice S1024x32 ![0, 2560] · slices_S1024x2592_S1024x32_0_2560) main_arg2
  let main_v10 : FVec F S1024x32 .f32 := Host.absf main_v9
  let main_cst_2 : FVec F S_ .f32 := constant S_ .f32 0x7F800000#32
  let main_v11 : FVec F S1024x32 .f32 := broadcastInDim S1024x32 ![] bcast_S_S1024x32 main_cst_2
  let main_v12 : IVec S1024x32 1 := cmpf .olt main_v10 main_v11
  let main_c_3 : IVec S_ 1 := constantI S_ 1 1#1
  let main_v13 : IVec S_ 1 := (fun x v => Host.reduce IntOp.andi x v reducesTo_S1024x32_S_d0_1 h_S_) main_v12 main_c_3
  let main_v14 : IVec S_ 1 := andi main_v8 main_v13
  main_v14
-- ==== Pre_finite_scan.lean ====
abbrev S2x8x4352x512 : Shape := ⟨4, ![2, 8, 4352, 512]⟩
abbrev S8x4352x512 : Shape := ⟨3, ![8, 4352, 512]⟩
abbrev S8x4352x1024 : Shape := ⟨3, ![8, 4352, 1024]⟩
abbrev S16x8x1024 : Shape := ⟨3, ![16, 8, 1024]⟩
abbrev S512 : Shape := ⟨1, ![512]⟩
abbrev S1024x1024 : Shape := ⟨2, ![1024, 1024]⟩
abbrev S1024 : Shape := ⟨1, ![1024]⟩
abbrev S_ : Shape := ⟨0, ![]⟩

class Facts : Prop where
  bcast_S_S2x8x4352x512 : S_.BroadcastsInDim S2x8x4352x512 (![] : Fin 0 → Fin S2x8x4352x512.rank)
  reducesTo_S2x8x4352x512_S_d0_1_2_3 : S2x8x4352x512.ReducesTo [0, 1, 2, 3] S_
  h_S_ : 0 < S_.numel

variable [Facts]

def fn {F : FTy → Type} [FloatOps F] (main_arg0 : FVec F S2x8x4352x512 .f32) (main_arg1 : FVec F S8x4352x512 .f32) (main_arg2 : FVec F S8x4352x512 .f32) (main_arg3 : FVec F S8x4352x1024 .bf16) (main_arg4 : FVec F S8x4352x1024 .f32) (main_arg5 : FVec F S16x8x1024 .f32) (main_arg6 : FVec F S512 .f32) (main_arg7 : FVec F S512 .f32) (main_arg8 : FVec F S1024x1024 .f32) (main_arg9 : FVec F S1024 .f32) (main_arg10 : FVec F S1024 .f32) : IVec S_ 1 :=
  let main_v0 : FVec F S2x8x4352x512 .f32 := Host.absf main_arg0
  let main_cst : FVec F S_ .f32 := constant S_ .f32 0x7F800000#32
  let main_v1 : FVec F S2x8x4352x512 .f32 := broadcastInDim S2x8x4352x512 ![] bcast_S_S2x8x4352x512 main_cst
  let main_v2 : IVec S2x8x4352x512 1 := cmpf .olt main_v0 main_v1
  let main_c : IVec S_ 1 := constantI S_ 1 1#1
  let main_v3 : IVec S_ 1 := (fun x v => Host.reduce IntOp.andi x v reducesTo_S2x8x4352x512_S_d0_1_2_3 h_S_) main_v2 main_c
  main_v3
-- ==== Pre_finite_scores.lean ====
abbrev S8x4352x1024 : Shape := ⟨3, ![8, 4352, 1024]⟩
abbrev S_ : Shape := ⟨0, ![]⟩

class Facts : Prop where
  bitsLt_bf16_f32 : FTy.bits .bf16 < FTy.bits .f32
  bcast_S_S8x4352x1024 : S_.BroadcastsInDim S8x4352x1024 (![] : Fin 0 → Fin S8x4352x1024.rank)
  reducesTo_S8x4352x1024_S_d0_1_2 : S8x4352x1024.ReducesTo [0, 1, 2] S_
  h_S_ : 0 < S_.numel

variable [Facts]

def fn {F : FTy → Type} [FloatOps F] (main_arg0 : FVec F S8x4352x1024 .bf16) (main_arg1 : FVec F S8x4352x1024 .bf16) (main_arg2 : FVec F S8x4352x1024 .bf16) : IVec S_ 1 :=
  let main_v0 : FVec F S8x4352x1024 .f32 := (extf .f32 · bitsLt_bf16_f32) main_arg0
  let main_v1 : FVec F S8x4352x1024 .f32 := Host.absf main_v0
  let main_cst : FVec F S_ .f32 := constant S_ .f32 0x7F800000#32
  let main_v2 : FVec F S8x4352x1024 .f32 := broadcastInDim S8x4352x1024 ![] bcast_S_S8x4352x1024 main_cst
  let main_v3 : IVec S8x4352x1024 1 := cmpf .olt main_v1 main_v2
  let main_c : IVec S_ 1 := constantI S_ 1 1#1
  let main_v4 : IVec S_ 1 := (fun x v => Host.reduce IntOp.andi x v reducesTo_S8x4352x1024_S_d0_1_2 h_S_) main_v3 main_c
  let main_v5 : FVec F S8x4352x1024 .f32 := (extf .f32 · bitsLt_bf16_f32) main_arg1
  let main_v6 : FVec F S8x4352x1024 .f32 := Host.absf main_v5
  let main_cst_0 : FVec F S_ .f32 := constant S_ .f32 0x7F800000#32
  let main_v7 : FVec F S8x4352x1024 .f32 := broadcastInDim S8x4352x1024 ![] bcast_S_S8x4352x1024 main_cst_0
  let main_v8 : IVec S8x4352x1024 1 := cmpf .olt main_v6 main_v7
  let main_c_1 : IVec S_ 1 := constantI S_ 1 1#1
  let main_v9 : IVec S_ 1 := (fun x v => Host.reduce IntOp.andi x v reducesTo_S8x4352x1024_S_d0_1_2 h_S_) main_v8 main_c_1
  let main_v10 : IVec S_ 1 := andi main_v4 main_v9
  main_v10
-- ==== Pre_turned_key.lean ====
abbrev S8x4352x384 : Shape := ⟨3, ![8, 4352, 384]⟩
abbrev S8x4352x256 : Shape := ⟨3, ![8, 4352, 256]⟩
abbrev S384 : Shape := ⟨1, ![384]⟩
abbrev S384x768 : Shape := ⟨2, ![384, 768]⟩
abbrev S256 : Shape := ⟨1, ![256]⟩
abbrev S256x1024 : Shape := ⟨2, ![256, 1024]⟩
abbrev S4096x16 : Shape := ⟨2, ![4096, 16]⟩
abbrev S8x4352x32 : Shape := ⟨3, ![8, 4352, 32]⟩
abbrev S8x4352x16 : Shape := ⟨3, ![8, 4352, 16]⟩
abbrev S8x4352x16x1 : Shape := ⟨4, ![8, 4352, 16, 1]⟩
abbrev S8x4352x16x2 : Shape := ⟨4, ![8, 4352, 16, 2]⟩
abbrev S_ : Shape := ⟨0, ![]⟩
abbrev S384x8x96 : Shape := ⟨3, ![384, 8, 96]⟩
abbrev S384x8x32 : Shape := ⟨3, ![384, 8, 32]⟩
abbrev S8x4352x128 : Shape := ⟨3, ![8, 4352, 128]⟩

class Facts : Prop where
  slices_S8x4352x256_S8x4352x32_0_0_64 : S8x4352x256.Slices ![0, 0, 64] S8x4352x32
  slicesBy_S8x4352x32_S8x4352x16_0s1_0s1_1s2 : S8x4352x32.SlicesBy (![0, 0, 1] : Fin 3 → Nat) ![1, 1, 2] S8x4352x16
  slicesBy_S8x4352x32_S8x4352x16_0s1_0s1_0s2 : S8x4352x32.SlicesBy (![0, 0, 0] : Fin 3 → Nat) ![1, 1, 2] S8x4352x16
  bcast_S8x4352x16_S8x4352x16x1_0_1_2 : S8x4352x16.BroadcastsInDim S8x4352x16x1 (![0, 1, 2] : Fin 3 → Fin S8x4352x16x1.rank)
  concatenates_S8x4352x16x1_S8x4352x16x1_S8x4352x16x2_d3 : Shape.Concatenates [S8x4352x16x1, S8x4352x16x1] S8x4352x16x2 3
  shapeCasts_S8x4352x16x2_S8x4352x32 : S8x4352x16x2.ShapeCasts S8x4352x32
  bcast_S_S384 : S_.BroadcastsInDim S384 (![] : Fin 0 → Fin S384.rank)
  reducesTo_S384_S_d0 : S384.ReducesTo [0] S_
  h_S_ : 0 < S_.numel
  shapeCasts_S384x768_S384x8x96 : S384x768.ShapeCasts S384x8x96
  slices_S384x8x96_S384x8x32_0_0_64 : S384x8x96.Slices ![0, 0, 64] S384x8x32
  bcast_S_S384x8x32 : S_.BroadcastsInDim S384x8x32 (![] : Fin 0 → Fin S384x8x32.rank)
  reducesTo_S384x8x32_S_d0_1_2 : S384x8x32.ReducesTo [0, 1, 2] S_
  pads_S8x4352x32_S8x4352x128_000_000_64320 : S8x4352x32.Pads (![0, 0, 64] : Fin 3 → Nat) ![0, 0, 32] ![0, 0, 0] S8x4352x128
  concatenates_S8x4352x128_S8x4352x128_S8x4352x256_d2 : Shape.Concatenates [S8x4352x128, S8x4352x128] S8x4352x256 2
  reducesTo_S8x4352x256_S_d0_1_2 : S8x4352x256.ReducesTo [0, 1, 2] S_

variable [Facts]

def fn_pad {F : FTy → Type} [FloatOps F] (arg0 : FVec F S8x4352x32 .f32) (arg1 : IVec S_ 32) : FVec F S8x4352x128 .f32 :=
  let v0 : FVec F S_ .f32 := sitofp .f32 arg1
  let v1 : FVec F S8x4352x128 .f32 := (fun x v => pad S8x4352x128 ![0, 0, 64] ![0, 0, 32] ![0, 0, 0] x v pads_S8x4352x32_S8x4352x128_000_000_64320 h_S_) arg0 v0
  v1

def fn_part1 {F : FTy → Type} [FloatOps F] (main_arg2 : FVec F S8x4352x256 .f32) (main_v0 : FVec F S8x4352x32 .f32) (main_v7 : FVec F S8x4352x32 .f32) (main_v18 : IVec S_ 1) (main_c_2 : IVec S_ 32) : IVec S_ 1 :=
  let main_v19 : FVec F S8x4352x128 .f32 := fn_pad (F := F) main_v0 main_c_2
  let main_c_3 : IVec S_ 32 := constantI S_ 32 0#32
  let main_v20 : FVec F S8x4352x128 .f32 := fn_pad (F := F) main_v7 main_c_3
  let main_v21 : FVec F S8x4352x256 .f32 := (fun a b => concatenate S8x4352x256 2 [⟨S8x4352x128, a⟩, ⟨S8x4352x128, b⟩] concatenates_S8x4352x128_S8x4352x128_S8x4352x256_d2) main_v19 main_v20
  let main_v22 : IVec S8x4352x256 1 := cmpf .oeq main_arg2 main_v21
  let main_c_4 : IVec S_ 1 := constantI S_ 1 1#1
  let main_v23 : IVec S_ 1 := (fun x v => Host.reduce IntOp.andi x v reducesTo_S8x4352x256_S_d0_1_2 h_S_) main_v22 main_c_4
  let main_v24 : IVec S_ 1 := andi main_v18 main_v23
  main_v24

def fn {F : FTy → Type} [FloatOps F] (main_arg0 : FVec F S8x4352x384 .f32) (main_arg1 : FVec F S8x4352x256 .f32) (main_arg2 : FVec F S8x4352x256 .f32) (main_arg3 : FVec F S384 .f32) (main_arg4 : FVec F S384x768 .f32) (main_arg5 : FVec F S256 .f32) (main_arg6 : FVec F S256x1024 .f32) (main_arg7 : FVec F S4096x16 .f32) (main_arg8 : FVec F S4096x16 .f32) : IVec S_ 1 :=
  let main_v0 : FVec F S8x4352x32 .f32 := (extractStridedSlice S8x4352x32 ![0, 0, 64] · slices_S8x4352x256_S8x4352x32_0_0_64) main_arg2
  let main_v1 : FVec F S8x4352x16 .f32 := (Host.slice S8x4352x16 ![0, 0, 1] ![1, 1, 2] · slicesBy_S8x4352x32_S8x4352x16_0s1_0s1_1s2) main_v0
  let main_v2 : FVec F S8x4352x16 .f32 := Host.negf main_v1
  let main_v3 : FVec F S8x4352x16 .f32 := (Host.slice S8x4352x16 ![0, 0, 0] ![1, 1, 2] · slicesBy_S8x4352x32_S8x4352x16_0s1_0s1_0s2) main_v0
  let main_v4 : FVec F S8x4352x16x1 .f32 := broadcastInDim S8x4352x16x1 ![0, 1, 2] bcast_S8x4352x16_S8x4352x16x1_0_1_2 main_v2
  let main_v5 : FVec F S8x4352x16x1 .f32 := broadcastInDim S8x4352x16x1 ![0, 1, 2] bcast_S8x4352x16_S8x4352x16x1_0_1_2 main_v3
  let main_v6 : FVec F S8x4352x16x2 .f32 := (fun a b => concatenate S8x4352x16x2 3 [⟨S8x4352x16x1, a⟩, ⟨S8x4352x16x1, b⟩] concatenates_S8x4352x16x1_S8x4352x16x1_S8x4352x16x2_d3) main_v4 main_v5
  let main_v7 : FVec F S8x4352x32 .f32 := shapeCast S8x4352x32 main_v6 shapeCasts_S8x4352x16x2_S8x4352x32
  let main_v8 : FVec F S384 .f32 := Host.absf main_arg3
  let main_cst : FVec F S_ .f32 := constant S_ .f32 0x7F800000#32
  let main_v9 : FVec F S384 .f32 := broadcastInDim S384 ![] bcast_S_S384 main_cst
  let main_v10 : IVec S384 1 := cmpf .olt main_v8 main_v9
  let main_c : IVec S_ 1 := constantI S_ 1 1#1
  let main_v11 : IVec S_ 1 := (fun x v => Host.reduce IntOp.andi x v reducesTo_S384_S_d0 h_S_) main_v10 main_c
  let main_v12 : FVec F S384x8x96 .f32 := shapeCast S384x8x96 main_arg4 shapeCasts_S384x768_S384x8x96
  let main_v13 : FVec F S384x8x32 .f32 := (extractStridedSlice S384x8x32 ![0, 0, 64] · slices_S384x8x96_S384x8x32_0_0_64) main_v12
  let main_v14 : FVec F S384x8x32 .f32 := Host.absf main_v13
  let main_cst_0 : FVec F S_ .f32 := constant S_ .f32 0x7F800000#32
  let main_v15 : FVec F S384x8x32 .f32 := broadcastInDim S384x8x32 ![] bcast_S_S384x8x32 main_cst_0
  let main_v16 : IVec S384x8x32 1 := cmpf .olt main_v14 main_v15
  let main_c_1 : IVec S_ 1 := constantI S_ 1 1#1
  let main_v17 : IVec S_ 1 := (fun x v => Host.reduce IntOp.andi x v reducesTo_S384x8x32_S_d0_1_2 h_S_) main_v16 main_c_1
  let main_v18 : IVec S_ 1 := andi main_v11 main_v17
  let main_c_2 : IVec S_ 32 := constantI S_ 32 0#32
  fn_part1 (F := F) main_arg2 main_v0 main_v7 main_v18 main_c_2
-- ==== Attn.lean ====
abbrev S8x4352x1024 : Shape := ⟨3, ![8, 4352, 1024]⟩
abbrev S1x256x128 : Shape := ⟨3, ![1, 256, 128]⟩
abbrev S1x4352x128 : Shape := ⟨3, ![1, 4352, 128]⟩
abbrev S256x128 : Shape := ⟨2, ![256, 128]⟩
abbrev S256x256 : Shape := ⟨2, ![256, 256]⟩
abbrev S256 : Shape := ⟨1, ![256]⟩
abbrev S256x1 : Shape := ⟨2, ![256, 1]⟩
abbrev S4352x128 : Shape := ⟨2, ![4352, 128]⟩
abbrev S256x4352 : Shape := ⟨2, ![256, 4352]⟩

abbrev nBuf : Space → Nat
  | .hbm => 4
  | .vmem => 8
  | .smem => 0
  | _ => 0

abbrev bufTy : (tb : Table) → Fin (tcTables nBuf tb) → BufTy
  | .hbm, ⟨0, _⟩ => ⟨S8x4352x1024, .bf16⟩
  | .hbm, ⟨1, _⟩ => ⟨S8x4352x1024, .bf16⟩
  | .hbm, ⟨2, _⟩ => ⟨S8x4352x1024, .bf16⟩
  | .hbm, ⟨3, _⟩ => ⟨S8x4352x1024, .bf16⟩
  | .local _ .vmem, ⟨0, _⟩ => ⟨S1x256x128, .bf16⟩
  | .local _ .vmem, ⟨1, _⟩ => ⟨S1x256x128, .bf16⟩
  | .local _ .vmem, ⟨2, _⟩ => ⟨S1x4352x128, .bf16⟩
  | .local _ .vmem, ⟨3, _⟩ => ⟨S1x4352x128, .bf16⟩
  | .local _ .vmem, ⟨4, _⟩ => ⟨S1x4352x128, .bf16⟩
  | .local _ .vmem, ⟨5, _⟩ => ⟨S1x4352x128, .bf16⟩
  | .local _ .vmem, ⟨6, _⟩ => ⟨S1x256x128, .bf16⟩
  | .local _ .vmem, ⟨7, _⟩ => ⟨S1x256x128, .bf16⟩
  | _, _ => ⟨S8x4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 8, 17], ![false, false, false]⟩

def k0_cond1 (i : grid0.Coords) : BitVec 1 :=
  let arg2 : BitVec 32 := BitVec.ofNat 32 (i 2).val
  let c1_i32 : BitVec 32 := 1#32
  let v0 : BitVec 1 := Scalar.cmpi .slt arg2 c1_i32
  let v1 : BitVec 32 := Scalar.extui v0
  let c0_i32 : BitVec 32 := 0#32
  let v2 : BitVec 1 := Scalar.cmpi .ne v1 c0_i32
  v2

def k0_cond2 (i : grid0.Coords) : BitVec 1 :=
  let arg2 : BitVec 32 := BitVec.ofNat 32 (i 2).val
  let c1_i32_0 : BitVec 32 := 1#32
  let v3 : BitVec 1 := Scalar.cmpi .sge arg2 c1_i32_0
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4352x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4352x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== AttnRefIdeal.lean ====
abbrev S8x4352x1024 : Shape := ⟨3, ![8, 4352, 1024]⟩
abbrev S8x4352x8x128 : Shape := ⟨4, ![8, 4352, 8, 128]⟩
abbrev S8x256x8x128 : Shape := ⟨4, ![8, 256, 8, 128]⟩
abbrev S8x8x256x256 : Shape := ⟨4, ![8, 8, 256, 256]⟩
abbrev S_ : Shape := ⟨0, ![]⟩
abbrev S8x8x256 : Shape := ⟨3, ![8, 8, 256]⟩
abbrev S8x8x256x1 : Shape := ⟨4, ![8, 8, 256, 1]⟩
abbrev S8x8x128x256 : Shape := ⟨4, ![8, 8, 128, 256]⟩
abbrev S8x4096x8x128 : Shape := ⟨4, ![8, 4096, 8, 128]⟩
abbrev S8x8x4096x4352 : Shape := ⟨4, ![8, 8, 4096, 4352]⟩
abbrev S8x8x4096 : Shape := ⟨3, ![8, 8, 4096]⟩
abbrev S8x8x4096x1 : Shape := ⟨4, ![8, 8, 4096, 1]⟩
abbrev S8x8x128x4096 : Shape := ⟨4, ![8, 8, 128, 4096]⟩

abbrev nBuf : Space → Nat
  | .hbm => 50
  | .vmem => 0
  | .smem => 0
  | _ => 0

abbrev bufTy : (tb : Table) → Fin (tcTables nBuf tb) → BufTy
  | .hbm, ⟨0, _⟩ => ⟨S8x4352x1024, .bf16⟩
  | .hbm, ⟨1, _⟩ => ⟨S8x4352x1024, .bf16⟩
  | .hbm, ⟨2, _⟩ => ⟨S8x4352x1024, .bf16⟩
  | .hbm, ⟨3, _⟩ => ⟨S8x4352x1024, .f32⟩
  | .hbm, ⟨4, _⟩ => ⟨S8x4352x8x128, .f32⟩
  | .hbm, ⟨5, _⟩ => ⟨S8x4352x1024, .f32⟩
  | .hbm, ⟨6, _⟩ => ⟨S8x4352x8x128, .f32⟩
  | .hbm, ⟨7, _⟩ => ⟨S8x4352x1024, .f32⟩
  | .hbm, ⟨8, _⟩ => ⟨S8x4352x8x128, .f32⟩
  | .hbm, ⟨9, _⟩ => ⟨S8x256x8x128, .f32⟩
  | .hbm, ⟨10, _⟩ => ⟨S8x256x8x128, .f32⟩
  | .hbm, ⟨11, _⟩ => ⟨S8x256x8x128, .f32⟩
  | .hbm, ⟨12, _⟩ => ⟨S8x8x256x256, .f32⟩
  | .hbm, ⟨13, _⟩ => ⟨S_, .f32⟩
  | .hbm, ⟨14, _⟩ => ⟨S8x8x256, .f32⟩
  | .hbm, ⟨15, _⟩ => ⟨S_, .f32⟩
  | .hbm, ⟨16, _⟩ => ⟨S8x8x256, .f32⟩
  | .hbm, ⟨17, _⟩ => ⟨S8x8x256, .f32⟩
  | .hbm, ⟨18, _⟩ => ⟨S8x8x256x1, .f32⟩
  | .hbm, ⟨19, _⟩ => ⟨S8x8x256x256, .f32⟩
  | .hbm, ⟨20, _⟩ => ⟨S8x8x256x256, .f32⟩
  | .hbm, ⟨21, _⟩ => ⟨S8x8x256x256, .f32⟩
  | .hbm, ⟨22, _⟩ => ⟨S_, .f32⟩
  | .hbm, ⟨23, _⟩ => ⟨S8x8x256, .f32⟩
  | .hbm, ⟨24, _⟩ => ⟨S8x8x256x1, .f32⟩
  | .hbm, ⟨25, _⟩ => ⟨S8x8x256x256, .f32⟩
  | .hbm, ⟨26, _⟩ => ⟨S8x8x256x256, .f32⟩
  | .hbm, ⟨27, _⟩ => ⟨S8x8x128x256, .f32⟩
  | .hbm, ⟨28, _⟩ => ⟨S8x256x8x128, .f32⟩
  | .hbm, ⟨29, _⟩ => ⟨S8x4096x8x128, .f32⟩
  | .hbm, ⟨30, _⟩ => ⟨S8x8x4096x4352, .f32⟩
  | .hbm, ⟨31, _⟩ => ⟨S_, .f32⟩
  | .hbm, ⟨32, _⟩ => ⟨S8x8x4096, .f32⟩
  | .hbm, ⟨33, _⟩ => ⟨S_, .f32⟩
  | .hbm, ⟨34, _⟩ => ⟨S8x8x4096, .f32⟩
  | .hbm, ⟨35, _⟩ => ⟨S8x8x4096, .f32⟩
  | .hbm, ⟨36, _⟩ => ⟨S8x8x4096x1, .f32⟩
  | .hbm, ⟨37, _⟩ => ⟨S8x8x4096x4352, .f32⟩
  | .hbm, ⟨38, _⟩ => ⟨S8x8x4096x4352, .f32⟩
  | .hbm, ⟨39, _⟩ => ⟨S8x8x4096x4352, .f32⟩
  | .hbm, ⟨40, _⟩ => ⟨S_, .f32⟩
  | .hbm, ⟨41, _⟩ => ⟨S8x8x4096, .f32⟩
  | .hbm, ⟨42, _⟩ => ⟨S8x8x4096x1, .f32⟩
  | .hbm, ⟨43, _⟩ => ⟨S8x8x4096x4352, .f32⟩
  | .hbm, ⟨44, _⟩ => ⟨S8x8x4096x4352, .f32⟩
  | .hbm, ⟨45, _⟩ => ⟨S8x8x128x4096, .f32⟩
  | .hbm, ⟨46, _⟩ => ⟨S8x4096x8x128, .f32⟩
  | .hbm, ⟨47, _⟩ => ⟨S8x4352x8x128, .f32⟩
  | .hbm, ⟨48, _⟩ => ⟨S8x4352x1024, .f32⟩
  | .hbm, ⟨49, _⟩ => ⟨S8x4352x1024, .bf16⟩
  | _, _ => ⟨S8x4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_1 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_2 : Ref sig .tc := ⟨.hbm, 31, rfl⟩
abbrev main_v25 : Ref sig .tc := ⟨.hbm, 32, rfl⟩
abbrev main_cst_3 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_cst_4 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩

abbrev nD : Nat := 1
abbrev τ : Topo := Topo.v7x

variable {F : FTy → Type} [FloatOps F]
-- ==== Ffn.lean ====
abbrev S8x4352x1024 : Shape := ⟨3, ![8, 4352, 1024]⟩
abbrev S16x8x1024 : Shape := ⟨3, ![16, 8, 1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1024 : Shape := ⟨1, ![1024]⟩
abbrev S1x5632 : Shape := ⟨2, ![1, 5632]⟩
abbrev S_ : Shape := ⟨0, ![]⟩
abbrev S8x5632 : Shape := ⟨2, ![8, 5632]⟩
abbrev S1 : Shape := ⟨1, ![1]⟩
abbrev S8x1024 : Shape := ⟨2, ![8, 1024]⟩
abbrev S1x256x1024 : Shape := ⟨3, ![1, 256, 1024]⟩
abbrev S1x8x1024 : Shape := ⟨3, ![1, 8, 1024]⟩
abbrev S1024x1408 : Shape := ⟨2, ![1024, 1408]⟩
abbrev S8x1408 : Shape := ⟨2, ![8, 1408]⟩
abbrev S1408x1024 : Shape := ⟨2, ![1408, 1024]⟩
abbrev S272x1024 : Shape := ⟨2, ![272, 1024]⟩
abbrev S256x1024 : Shape := ⟨2, ![256, 1024]⟩
abbrev S1x1024 : Shape := ⟨2, ![1, 1024]⟩
abbrev S272x1408 : Shape := ⟨2, ![272, 1408]⟩
abbrev S256x1408 : Shape := ⟨2, ![256, 1408]⟩
abbrev S1x1408 : Shape := ⟨2, ![1, 1408]⟩
abbrev S256 : Shape := ⟨1, ![256]⟩
abbrev S256x1 : Shape := ⟨2, ![256, 1]⟩

abbrev nBuf : Space → Nat
  | .hbm => 39
  | .vmem => 23
  | .smem => 0
  | _ => 0

abbrev bufTy : (tb : Table) → Fin (tcTables nBuf tb) → BufTy
  | .hbm, ⟨0, _⟩ => ⟨S8x4352x1024, .f32⟩
  | .hbm, ⟨1, _⟩ => ⟨S16x8x1024, .f32⟩
  | .hbm, ⟨2, _⟩ => ⟨S1024x5632, .f32⟩
  | .hbm, ⟨3, _⟩ => ⟨S3x5632, .f32⟩
  | .hbm, ⟨4, _⟩ => ⟨S5632, .f32⟩
  | .hbm, ⟨5, _⟩ => ⟨S2816x1024, .f32⟩
  | .hbm, ⟨6, _⟩ => ⟨S1024, .f32⟩
  | .hbm, ⟨7, _⟩ => ⟨S1024, .f32⟩
  | .hbm, ⟨8, _⟩ => ⟨S1024x5632, .bf16⟩
  | .hbm, ⟨9, _⟩ => ⟨S1x5632, .f32⟩
  | .hbm, ⟨10, _⟩ => ⟨S5632, .f32⟩
  | .hbm, ⟨11, _⟩ => ⟨S1x5632, .f32⟩
  | .hbm, ⟨12, _⟩ => ⟨S5632, .f32⟩
  | .hbm, ⟨13, _⟩ => ⟨S1x5632, .f32⟩
  | .hbm, ⟨14, _⟩ => ⟨S5632, .f32⟩
  | .hbm, ⟨15, _⟩ => ⟨S_, .f32⟩
  | .hbm, ⟨16, _⟩ => ⟨S8x5632, .f32⟩
  | .hbm, ⟨17, _⟩ => ⟨S_, .i32⟩
  | .hbm, ⟨18, _⟩ => ⟨S1, .i32⟩
  | .hbm, ⟨19, _⟩ => ⟨S8x5632, .f32⟩
  | .hbm, ⟨20, _⟩ => ⟨S_, .i32⟩
  | .hbm, ⟨21, _⟩ => ⟨S1, .i32⟩
  | .hbm, ⟨22, _⟩ => ⟨S8x5632, .f32⟩
  | .hbm, ⟨23, _⟩ => ⟨S_, .i32⟩
  | .hbm, ⟨24, _⟩ => ⟨S1, .i32⟩
  | .hbm, ⟨25, _⟩ => ⟨S8x5632, .f32⟩
  | .hbm, ⟨26, _⟩ => ⟨S_, .i32⟩
  | .hbm, ⟨27, _⟩ => ⟨S1, .i32⟩
  | .hbm, ⟨28, _⟩ => ⟨S8x5632, .f32⟩
  | .hbm, ⟨29, _⟩ => ⟨S2816x1024, .bf16⟩
  | .hbm, ⟨30, _⟩ => ⟨S_, .f32⟩
  | .hbm, ⟨31, _⟩ => ⟨S8x1024, .f32⟩
  | .hbm, ⟨32, _⟩ => ⟨S_, .i32⟩
  | .hbm, ⟨33, _⟩ => ⟨S1, .i32⟩
  | .hbm, ⟨34, _⟩ => ⟨S8x1024, .f32⟩
  | .hbm, ⟨35, _⟩ => ⟨S_, .i32⟩
  | .hbm, ⟨36, _⟩ => ⟨S1, .i32⟩
  | .hbm, ⟨37, _⟩ => ⟨S8x1024, .f32⟩
  | .hbm, ⟨38, _⟩ => ⟨S8x4352x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x8x1024, .f32⟩
  | .local _ .vmem, ⟨5, _⟩ => ⟨S1x8x1024, .f32⟩
  | .local _ .vmem, ⟨6, _⟩ => ⟨S1x8x1024, .f32⟩
  | .local _ .vmem, ⟨7, _⟩ => ⟨S1x8x1024, .f32⟩
  | .local _ .vmem, ⟨8, _⟩ => ⟨S1024x1408, .bf16⟩
  | .local _ .vmem, ⟨9, _⟩ => ⟨S1024x1408, .bf16⟩
  | .local _ .vmem, ⟨10, _⟩ => ⟨S1024x1408, .bf16⟩
  | .local _ .vmem, ⟨11, _⟩ => ⟨S1024x1408, .bf16⟩
  | .local _ .vmem, ⟨12, _⟩ => ⟨S8x1408, .f32⟩
  | .local _ .vmem, ⟨13, _⟩ => ⟨S8x1408, .f32⟩
  | .local _ .vmem, ⟨14, _⟩ => ⟨S8x1408, .f32⟩
  | .local _ .vmem, ⟨15, _⟩ => ⟨S8x1408, .f32⟩
  | .local _ .vmem, ⟨16, _⟩ => ⟨S1408x1024, .bf16⟩
  | .local _ .vmem, ⟨17, _⟩ => ⟨S1408x1024, .bf16⟩
  | .local _ .vmem, ⟨18, _⟩ => ⟨S8x1024, .f32⟩
  | .local _ .vmem, ⟨19, _⟩ => ⟨S1x256x1024, .f32⟩
  | .local _ .vmem, ⟨20, _⟩ => ⟨S1x256x1024, .f32⟩
  | .local _ .vmem, ⟨21, _⟩ => ⟨S272x1024, .bf16⟩
  | .local _ .vmem, ⟨22, _⟩ => ⟨S256x1024, .f32⟩
  | _, _ => ⟨S8x4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_c : Ref sig .tc := ⟨.hbm, 17, rfl⟩
abbrev main_v8 : Ref sig .tc := ⟨.hbm, 18, rfl⟩
abbrev main_v9 : Ref sig .tc := ⟨.hbm, 19, rfl⟩
abbrev main_c_0 : Ref sig .tc := ⟨.hbm, 20, rfl⟩
abbrev main_v10 : Ref sig .tc := ⟨.hbm, 21, rfl⟩
abbrev main_v11 : Ref sig .tc := ⟨.hbm, 22, rfl⟩
abbrev main_c_1 : Ref sig .tc := ⟨.hbm, 23, rfl⟩
abbrev main_v12 : Ref sig .tc := ⟨.hbm, 24, rfl⟩
abbrev main_v13 : Ref sig .tc := ⟨.hbm, 25, rfl⟩
abbrev main_c_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_3 : Ref sig .tc := ⟨.hbm, 30, rfl⟩
abbrev main_v17 : Ref sig .tc := ⟨.hbm, 31, rfl⟩
abbrev main_c_4 : Ref sig .tc := ⟨.hbm, 32, rfl⟩
abbrev main_v18 : Ref sig .tc := ⟨.hbm, 33, rfl⟩
abbrev main_v19 : Ref sig .tc := ⟨.hbm, 34, rfl⟩
abbrev main_c_5 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg10_1 : Ref sig .tc := ⟨.vmem, 20, rfl⟩
abbrev cc0_scratch0 : Ref sig .tc := ⟨.vmem, 21, rfl⟩
abbrev cc0_scratch1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨3, ![8, 17, 2], ![false, false, false]⟩

def k0_cond2 (i : grid0.Coords) : BitVec 1 :=
  let arg2 : BitVec 32 := BitVec.ofNat 32 (i 2).val
  let c1_i32_26 : BitVec 32 := 1#32
  let v72 : BitVec 1 := Scalar.cmpi .eq arg2 c1_i32_26
  let v73 : BitVec 32 := Scalar.extui v72
  let c0_i32_27 : BitVec 32 := 0#32
  let v74 : BitVec 1 := Scalar.cmpi .ne v73 c0_i32_27
  v74

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg1 c1_i32
  let c32_i32 : BitVec 32 := 32#32
  let v1 : BitVec 32 := Scalar.muli v0 c32_i32
  let c543_i32 : BitVec 32 := 543#32
  let v2 : BitVec 32 := Scalar.minsi v1 c543_i32
  let c0_i32 : BitVec 32 := 0#32
  let c0_i32_0 : BitVec 32 := 0#32
  ![arg0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg0
  let c1_i32 : BitVec 32 := 1#32
  let v1 : BitVec 1 := Scalar.cmpi .sge arg1 c1_i32
  let v2 : BitVec 32 := Scalar.extui v1
  let v3 : BitVec 32 := Scalar.addi v0 v2
  let c0_i32 : BitVec 32 := 0#32
  let c0_i32_0 : BitVec 32 := 0#32
  let c0_i32_1 : BitVec 32 := 0#32
  ![v3.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg2
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg2
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1024x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S8x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true]

abbrev stage0_7 : Fin 2 → Memref sig .tc .vmem S8x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, false, true]

abbrev stage0_8 : Fin 2 → Memref sig .tc .vmem S1408x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, false, true]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false]

abbrev stage0_10 : Fin 2 → Memref sig .tc .vmem S1x256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]
-- ==== FfnRefIdeal.lean ====
abbrev S8x4352x1024 : Shape := ⟨3, ![8, 4352, 1024]⟩
abbrev S16x8x1024 : Shape := ⟨3, ![16, 8, 1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1024 : Shape := ⟨1, ![1024]⟩
abbrev S8x2x8x1024 : Shape := ⟨4, ![8, 2, 8, 1024]⟩
abbrev S8x256x1024 : Shape := ⟨3, ![8, 256, 1024]⟩
abbrev S8x1x8x1024 : Shape := ⟨4, ![8, 1, 8, 1024]⟩
abbrev S8x8x1024 : Shape := ⟨3, ![8, 8, 1024]⟩
abbrev S8x1x1024 : Shape := ⟨3, ![8, 1, 1024]⟩
abbrev S_ : Shape := ⟨0, ![]⟩
abbrev S8x256x5632 : Shape := ⟨3, ![8, 256, 5632]⟩
abbrev S8x258x5632 : Shape := ⟨3, ![8, 258, 5632]⟩
abbrev S1x5632 : Shape := ⟨2, ![1, 5632]⟩
abbrev S1x1x5632 : Shape := ⟨3, ![1, 1, 5632]⟩
abbrev S8x256x2816 : Shape := ⟨3, ![8, 256, 2816]⟩
abbrev S8x256 : Shape := ⟨2, ![8, 256]⟩
abbrev S8x256x1 : Shape := ⟨3, ![8, 256, 1]⟩
abbrev S1x1x1024 : Shape := ⟨3, ![1, 1, 1024]⟩
abbrev S8x4096x1024 : Shape := ⟨3, ![8, 4096, 1024]⟩
abbrev S8x4096x5632 : Shape := ⟨3, ![8, 4096, 5632]⟩
abbrev S8x4098x5632 : Shape := ⟨3, ![8, 4098, 5632]⟩
abbrev S8x4096x2816 : Shape := ⟨3, ![8, 4096, 2816]⟩
abbrev S8x4096 : Shape := ⟨2, ![8, 4096]⟩
abbrev S8x4096x1 : Shape := ⟨3, ![8, 4096, 1]⟩

abbrev nBuf : Space → Nat
  | .hbm => 182
  | .vmem => 0
  | .smem => 0
  | _ => 0

abbrev hbmTy0_0 (i : Nat) : BufTy := match i % 128 with
  | 0 => ⟨S8x4352x1024, .f32⟩
  | 1 => ⟨S16x8x1024, .f32⟩
  | 2 => ⟨S1024x5632, .f32⟩
  | 3 => ⟨S3x5632, .f32⟩
  | 4 => ⟨S5632, .f32⟩
  | 5 => ⟨S2816x1024, .f32⟩
  | 6 => ⟨S1024, .f32⟩
  | 7 => ⟨S1024, .f32⟩
  | 8 => ⟨S8x2x8x1024, .f32⟩
  | 9 => ⟨S8x256x1024, .f32⟩
  | 10 => ⟨S8x1x8x1024, .f32⟩
  | 11 => ⟨S8x8x1024, .f32⟩
  | 12 => ⟨S8x1x1024, .f32⟩
  | 13 => ⟨S8x1x1024, .f32⟩
  | 14 => ⟨S8x1x1024, .f32⟩
  | 15 => ⟨S_, .f32⟩
  | 16 => ⟨S8x1x1024, .f32⟩
  | 17 => ⟨S8x1x1024, .f32⟩
  | 18 => ⟨S8x256x1024, .f32⟩
  | 19 => ⟨S8x256x1024, .f32⟩
  | 20 => ⟨S8x256x1024, .f32⟩
  | 21 => ⟨S8x256x1024, .f32⟩
  | 22 => ⟨S8x256x5632, .f32⟩
  | 23 => ⟨S_, .i32⟩
  | 24 => ⟨S_, .f32⟩
  | 25 => ⟨S8x258x5632, .f32⟩
  | 26 => ⟨S8x256x5632, .f32⟩
  | 27 => ⟨S1x5632, .f32⟩
  | 28 => ⟨S5632, .f32⟩
  | 29 => ⟨S1x1x5632, .f32⟩
  | 30 => ⟨S8x256x5632, .f32⟩
  | 31 => ⟨S8x256x5632, .f32⟩
  | 32 => ⟨S8x256x5632, .f32⟩
  | 33 => ⟨S1x5632, .f32⟩
  | 34 => ⟨S5632, .f32⟩
  | 35 => ⟨S1x1x5632, .f32⟩
  | 36 => ⟨S8x256x5632, .f32⟩
  | 37 => ⟨S8x256x5632, .f32⟩
  | 38 => ⟨S8x256x5632, .f32⟩
  | 39 => ⟨S8x256x5632, .f32⟩
  | 40 => ⟨S1x5632, .f32⟩
  | 41 => ⟨S5632, .f32⟩
  | 42 => ⟨S1x1x5632, .f32⟩
  | 43 => ⟨S8x256x5632, .f32⟩
  | 44 => ⟨S8x256x5632, .f32⟩
  | 45 => ⟨S8x256x5632, .f32⟩
  | 46 => ⟨S1x1x5632, .f32⟩
  | 47 => ⟨S8x256x5632, .f32⟩
  | 48 => ⟨S8x256x5632, .f32⟩
  | 49 => ⟨S8x256x2816, .f32⟩
  | 50 => ⟨S8x256x2816, .f32⟩
  | 51 => ⟨S8x256x2816, .f32⟩
  | 52 => ⟨S8x256x2816, .f32⟩
  | 53 => ⟨S_, .f32⟩
  | 54 => ⟨S8x256x2816, .f32⟩
  | 55 => ⟨S8x256x2816, .f32⟩
  | 56 => ⟨S_, .f32⟩
  | 57 => ⟨S8x256x2816, .f32⟩
  | 58 => ⟨S8x256x2816, .f32⟩
  | 59 => ⟨S8x256x2816, .f32⟩
  | 60 => ⟨S8x256x2816, .f32⟩
  | 61 => ⟨S8x256x1024, .f32⟩
  | 62 => ⟨S_, .f32⟩
  | 63 => ⟨S8x256x1024, .f32⟩
  | 64 => ⟨S8x256x1024, .f32⟩
  | 65 => ⟨S8x256x1024, .f32⟩
  | 66 => ⟨S8x256x1024, .f32⟩
  | 67 => ⟨S8x256x1024, .f32⟩
  | 68 => ⟨S_, .f32⟩
  | 69 => ⟨S8x256, .f32⟩
  | 70 => ⟨S8x256x1, .f32⟩
  | 71 => ⟨S_, .f32⟩
  | 72 => ⟨S8x256x1, .f32⟩
  | 73 => ⟨S8x256x1, .f32⟩
  | 74 => ⟨S8x256x1024, .f32⟩
  | 75 => ⟨S8x256x1024, .f32⟩
  | 76 => ⟨S8x256x1024, .f32⟩
  | 77 => ⟨S_, .f32⟩
  | 78 => ⟨S8x256, .f32⟩
  | 79 => ⟨S8x256x1, .f32⟩
  | 80 => ⟨S_, .f32⟩
  | 81 => ⟨S8x256x1, .f32⟩
  | 82 => ⟨S8x256x1, .f32⟩
  | 83 => ⟨S_, .f32⟩
  | 84 => ⟨S8x256x1, .f32⟩
  | 85 => ⟨S8x256x1, .f32⟩
  | 86 => ⟨S8x256x1, .f32⟩
  | 87 => ⟨S8x256x1024, .f32⟩
  | 88 => ⟨S8x256x1024, .f32⟩
  | 89 => ⟨S1x1x1024, .f32⟩
  | 90 => ⟨S8x256x1024, .f32⟩
  | 91 => ⟨S8x256x1024, .f32⟩
  | 92 => ⟨S1x1x1024, .f32⟩
  | 93 => ⟨S8x256x1024, .f32⟩
  | 94 => ⟨S8x256x1024, .f32⟩
  | 95 => ⟨S8x4096x1024, .f32⟩
  | 96 => ⟨S8x1x8x1024, .f32⟩
  | 97 => ⟨S8x8x1024, .f32⟩
  | 98 => ⟨S8x1x1024, .f32⟩
  | 99 => ⟨S8x1x1024, .f32⟩
  | 100 => ⟨S8x1x1024, .f32⟩
  | 101 => ⟨S_, .f32⟩
  | 102 => ⟨S8x1x1024, .f32⟩
  | 103 => ⟨S8x1x1024, .f32⟩
  | 104 => ⟨S8x4096x1024, .f32⟩
  | 105 => ⟨S8x4096x1024, .f32⟩
  | 106 => ⟨S8x4096x1024, .f32⟩
  | 107 => ⟨S8x4096x1024, .f32⟩
  | 108 => ⟨S8x4096x5632, .f32⟩
  | 109 => ⟨S_, .i32⟩
  | 110 => ⟨S_, .f32⟩
  | 111 => ⟨S8x4098x5632, .f32⟩
  | 112 => ⟨S8x4096x5632, .f32⟩
  | 113 => ⟨S1x5632, .f32⟩
  | 114 => ⟨S5632, .f32⟩
  | 115 => ⟨S1x1x5632, .f32⟩
  | 116 => ⟨S8x4096x5632, .f32⟩
  | 117 => ⟨S8x4096x5632, .f32⟩
  | 118 => ⟨S8x4096x5632, .f32⟩
  | 119 => ⟨S1x5632, .f32⟩
  | 120 => ⟨S5632, .f32⟩
  | 121 => ⟨S1x1x5632, .f32⟩
  | 122 => ⟨S8x4096x5632, .f32⟩
  | 123 => ⟨S8x4096x5632, .f32⟩
  | 124 => ⟨S8x4096x5632, .f32⟩
  | 125 => ⟨S8x4096x5632, .f32⟩
  | 126 => ⟨S1x5632, .f32⟩
  | 127 => ⟨S5632, .f32⟩
  | _ => ⟨S8x4352x1024, .f32⟩

abbrev hbmTy0_1 (i : Nat) : BufTy := match i % 128 with
  | 0 => ⟨S1x1x5632, .f32⟩
  | 1 => ⟨S8x4096x5632, .f32⟩
  | 2 => ⟨S8x4096x5632, .f32⟩
  | 3 => ⟨S8x4096x5632, .f32⟩
  | 4 => ⟨S1x1x5632, .f32⟩
  | 5 => ⟨S8x4096x5632, .f32⟩
  | 6 => ⟨S8x4096x5632, .f32⟩
  | 7 => ⟨S8x4096x2816, .f32⟩
  | 8 => ⟨S8x4096x2816, .f32⟩
  | 9 => ⟨S8x4096x2816, .f32⟩
  | 10 => ⟨S8x4096x2816, .f32⟩
  | 11 => ⟨S_, .f32⟩
  | 12 => ⟨S8x4096x2816, .f32⟩
  | 13 => ⟨S8x4096x2816, .f32⟩
  | 14 => ⟨S_, .f32⟩
  | 15 => ⟨S8x4096x2816, .f32⟩
  | 16 => ⟨S8x4096x2816, .f32⟩
  | 17 => ⟨S8x4096x2816, .f32⟩
  | 18 => ⟨S8x4096x2816, .f32⟩
  | 19 => ⟨S8x4096x1024, .f32⟩
  | 20 => ⟨S_, .f32⟩
  | 21 => ⟨S8x4096x1024, .f32⟩
  | 22 => ⟨S8x4096x1024, .f32⟩
  | 23 => ⟨S8x4096x1024, .f32⟩
  | 24 => ⟨S8x4096x1024, .f32⟩
  | 25 => ⟨S8x4096x1024, .f32⟩
  | 26 => ⟨S_, .f32⟩
  | 27 => ⟨S8x4096, .f32⟩
  | 28 => ⟨S8x4096x1, .f32⟩
  | 29 => ⟨S_, .f32⟩
  | 30 => ⟨S8x4096x1, .f32⟩
  | 31 => ⟨S8x4096x1, .f32⟩
  | 32 => ⟨S8x4096x1024, .f32⟩
  | 33 => ⟨S8x4096x1024, .f32⟩
  | 34 => ⟨S8x4096x1024, .f32⟩
  | 35 => ⟨S_, .f32⟩
  | 36 => ⟨S8x4096, .f32⟩
  | 37 => ⟨S8x4096x1, .f32⟩
  | 38 => ⟨S_, .f32⟩
  | 39 => ⟨S8x4096x1, .f32⟩
  | 40 => ⟨S8x4096x1, .f32⟩
  | 41 => ⟨S_, .f32⟩
  | 42 => ⟨S8x4096x1, .f32⟩
  | 43 => ⟨S8x4096x1, .f32⟩
  | 44 => ⟨S8x4096x1, .f32⟩
  | 45 => ⟨S8x4096x1024, .f32⟩
  | 46 => ⟨S8x4096x1024, .f32⟩
  | 47 => ⟨S1x1x1024, .f32⟩
  | 48 => ⟨S8x4096x1024, .f32⟩
  | 49 => ⟨S8x4096x1024, .f32⟩
  | 50 => ⟨S1x1x1024, .f32⟩
  | 51 => ⟨S8x4096x1024, .f32⟩
  | 52 => ⟨S8x4096x1024, .f32⟩
  | 53 => ⟨S8x4352x1024, .f32⟩
  | _ => ⟨S8x4352x1024, .f32⟩

abbrev hbmTy (i : Nat) : BufTy := match i / 128 with
  | 0 => hbmTy0_0 i
  | 1 => hbmTy0_1 i
  | _ => ⟨S8x4352x1024, .f32⟩

abbrev bufTy : (tb : Table) → Fin (tcTables nBuf tb) → BufTy
  | .hbm, ⟨i, _⟩ => hbmTy i
  | _, _ => ⟨S8x4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c : Ref sig .tc := ⟨.hbm, 23, rfl⟩
abbrev main_call0_v0 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_call1_v0 : Ref sig .tc := ⟨.hbm, 51, rfl⟩
abbrev main_call1_v1 : Ref sig .tc := ⟨.hbm, 52, rfl⟩
abbrev main_call1_cst : Ref sig .tc := ⟨.hbm, 53, rfl⟩
abbrev main_call1_v2 : Ref sig .tc := ⟨.hbm, 54, rfl⟩
abbrev main_call1_v3 : Ref sig .tc := ⟨.hbm, 55, rfl⟩
abbrev main_call1_cst_0 : Ref sig .tc := ⟨.hbm, 56, rfl⟩
abbrev main_call1_v4 : Ref sig .tc := ⟨.hbm, 57, rfl⟩
abbrev main_call1_v5 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_0 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_1 : Ref sig .tc := ⟨.hbm, 68, rfl⟩
abbrev main_v48 : Ref sig .tc := ⟨.hbm, 69, rfl⟩
abbrev main_v49 : Ref sig .tc := ⟨.hbm, 70, rfl⟩
abbrev main_cst_2 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_3 : Ref sig .tc := ⟨.hbm, 77, rfl⟩
abbrev main_v55 : Ref sig .tc := ⟨.hbm, 78, rfl⟩
abbrev main_v56 : Ref sig .tc := ⟨.hbm, 79, rfl⟩
abbrev main_cst_4 : Ref sig .tc := ⟨.hbm, 80, rfl⟩
abbrev main_v57 : Ref sig .tc := ⟨.hbm, 81, rfl⟩
abbrev main_v58 : Ref sig .tc := ⟨.hbm, 82, rfl⟩
abbrev main_cst_5 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_cst_6 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_c_7 : Ref sig .tc := ⟨.hbm, 109, rfl⟩
abbrev main_call2_v0 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_call3_v0 : Ref sig .tc := ⟨.hbm, 137, rfl⟩
abbrev main_call3_v1 : Ref sig .tc := ⟨.hbm, 138, rfl⟩
abbrev main_call3_cst : Ref sig .tc := ⟨.hbm, 139, rfl⟩
abbrev main_call3_v2 : Ref sig .tc := ⟨.hbm, 140, rfl⟩
abbrev main_call3_v3 : Ref sig .tc := ⟨.hbm, 141, rfl⟩
abbrev main_call3_cst_0 : Ref sig .tc := ⟨.hbm, 142, rfl⟩
abbrev main_call3_v4 : Ref sig .tc := ⟨.hbm, 143, rfl⟩
abbrev main_call3_v5 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_cst_8 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_cst_9 : Ref sig .tc := ⟨.hbm, 154, rfl⟩
abbrev main_v117 : Ref sig .tc := ⟨.hbm, 155, rfl⟩
abbrev main_v118 : Ref sig .tc := ⟨.hbm, 156, rfl⟩
abbrev main_cst_10 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_cst_11 : Ref sig .tc := ⟨.hbm, 163, rfl⟩
abbrev main_v124 : Ref sig .tc := ⟨.hbm, 164, rfl⟩
abbrev main_v125 : Ref sig .tc := ⟨.hbm, 165, rfl⟩
abbrev main_cst_12 : Ref sig .tc := ⟨.hbm, 166, rfl⟩
abbrev main_v126 : Ref sig .tc := ⟨.hbm, 167, rfl⟩
abbrev main_v127 : Ref sig .tc := ⟨.hbm, 168, rfl⟩
abbrev main_cst_13 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_v137 : Ref sig .tc := ⟨.hbm, 179, rfl⟩
abbrev main_v138 : Ref sig .tc := ⟨.hbm, 180, rfl⟩
abbrev main_v139 : Ref sig .tc := ⟨.hbm, 181, rfl⟩

abbrev nD : Nat := 1
abbrev τ : Topo := Topo.v7x

variable {F : FTy → Type} [FloatOps F]
-- ==== InProj.lean ====
abbrev S8x4352x1024 : Shape := ⟨3, ![8, 4352, 1024]⟩
abbrev S16x8x1024 : Shape := ⟨3, ![16, 8, 1024]⟩
abbrev S1024x2592 : Shape := ⟨2, ![1024, 2592]⟩
abbrev S1024x32 : Shape := ⟨2, ![1024, 32]⟩
abbrev S_ : Shape := ⟨0, ![]⟩
abbrev S1024x64 : Shape := ⟨2, ![1024, 64]⟩
abbrev S1024x2560 : Shape := ⟨2, ![1024, 2560]⟩
abbrev S1024x16x2 : Shape := ⟨3, ![1024, 16, 2]⟩
abbrev S1024x16x1 : Shape := ⟨3, ![1024, 16, 1]⟩
abbrev S1024x16 : Shape := ⟨2, ![1024, 16]⟩
abbrev S1024x2816 : Shape := ⟨2, ![1024, 2816]⟩
abbrev S8x4352x1920 : Shape := ⟨3, ![8, 4352, 1920]⟩
abbrev S8x4352x384 : Shape := ⟨3, ![8, 4352, 384]⟩
abbrev S8x4352x256 : Shape := ⟨3, ![8, 4352, 256]⟩
abbrev S1x256x1024 : Shape := ⟨3, ![1, 256, 1024]⟩
abbrev S1x8x1024 : Shape := ⟨3, ![1, 8, 1024]⟩
abbrev S1x256x1920 : Shape := ⟨3, ![1, 256, 1920]⟩
abbrev S1x256x384 : Shape := ⟨3, ![1, 256, 384]⟩
abbrev S1x256x256 : Shape := ⟨3, ![1, 256, 256]⟩
abbrev S8x1024 : Shape := ⟨2, ![8, 1024]⟩
abbrev S256x1024 : Shape := ⟨2, ![256, 1024]⟩
abbrev S1x1024 : Shape := ⟨2, ![1, 1024]⟩
abbrev S1024x1920 : Shape := ⟨2, ![1024, 1920]⟩
abbrev S256x1920 : Shape := ⟨2, ![256, 1920]⟩
abbrev S1024x384 : Shape := ⟨2, ![1024, 384]⟩
abbrev S256x384 : Shape := ⟨2, ![256, 384]⟩
abbrev S1024x256 : Shape := ⟨2, ![1024, 256]⟩
abbrev S256x256 : Shape := ⟨2, ![256, 256]⟩

abbrev nBuf : Space → Nat
  | .hbm => 25
  | .vmem => 13
  | .smem => 0
  | _ => 0

abbrev bufTy : (tb : Table) → Fin (tcTables nBuf tb) → BufTy
  | .hbm, ⟨0, _⟩ => ⟨S8x4352x1024, .f32⟩
  | .hbm, ⟨1, _⟩ => ⟨S16x8x1024, .f32⟩
  | .hbm, ⟨2, _⟩ => ⟨S1024x2592, .f32⟩
  | .hbm, ⟨3, _⟩ => ⟨S1024x32, .f32⟩
  | .hbm, ⟨4, _⟩ => ⟨S_, .f32⟩
  | .hbm, ⟨5, _⟩ => ⟨S1024x64, .f32⟩
  | .hbm, ⟨6, _⟩ => ⟨S_, .f32⟩
  | .hbm, ⟨7, _⟩ => ⟨S1024x32, .f32⟩
  | .hbm, ⟨8, _⟩ => ⟨S1024x2560, .f32⟩
  | .hbm, ⟨9, _⟩ => ⟨S1024x16x2, .f32⟩
  | .hbm, ⟨10, _⟩ => ⟨S1024x16x1, .f32⟩
  | .hbm, ⟨11, _⟩ => ⟨S1024x16, .f32⟩
  | .hbm, ⟨12, _⟩ => ⟨S1024x16, .f32⟩
  | .hbm, ⟨13, _⟩ => ⟨S1024x16x1, .f32⟩
  | .hbm, ⟨14, _⟩ => ⟨S1024x16, .f32⟩
  | .hbm, ⟨15, _⟩ => ⟨S1024x16x1, .f32⟩
  | .hbm, ⟨16, _⟩ => ⟨S1024x16x1, .f32⟩
  | .hbm, ⟨17, _⟩ => ⟨S1024x16x2, .f32⟩
  | .hbm, ⟨18, _⟩ => ⟨S1024x32, .f32⟩
  | .hbm, ⟨19, _⟩ => ⟨S1024x2816, .f32⟩
  | .hbm, ⟨20, _⟩ => ⟨S1024x2816, .bf16⟩
  | .hbm, ⟨21, _⟩ => ⟨S8x4352x1920, .f32⟩
  | .hbm, ⟨22, _⟩ => ⟨S8x4352x384, .f32⟩
  | .hbm, ⟨23, _⟩ => ⟨S8x4352x256, .f32⟩
  | .hbm, ⟨24, _⟩ => ⟨S8x4352x256, .f32⟩
  | .local _ .vmem, ⟨0, _⟩ => ⟨S1x256x1024, .f32⟩
  | .local _ .vmem, ⟨1, _⟩ => ⟨S1x256x1024, .f32⟩
  | .local _ .vmem, ⟨2, _⟩ => ⟨S1x8x1024, .f32⟩
  | .local _ .vmem, ⟨3, _⟩ => ⟨S1x8x1024, .f32⟩
  | .local _ .vmem, ⟨4, _⟩ => ⟨S1024x2816, .bf16⟩
  | .local _ .vmem, ⟨5, _⟩ => ⟨S1x256x1920, .f32⟩
  | .local _ .vmem, ⟨6, _⟩ => ⟨S1x256x1920, .f32⟩
  | .local _ .vmem, ⟨7, _⟩ => ⟨S1x256x384, .f32⟩
  | .local _ .vmem, ⟨8, _⟩ => ⟨S1x256x384, .f32⟩
  | .local _ .vmem, ⟨9, _⟩ => ⟨S1x256x256, .f32⟩
  | .local _ .vmem, ⟨10, _⟩ => ⟨S1x256x256, .f32⟩
  | .local _ .vmem, ⟨11, _⟩ => ⟨S1x256x256, .f32⟩
  | .local _ .vmem, ⟨12, _⟩ => ⟨S1x256x256, .f32⟩
  | _, _ => ⟨S8x4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16_0 : Ref sig .tc := ⟨.hbm, 21, rfl⟩
abbrev main_v16_1 : Ref sig .tc := ⟨.hbm, 22, rfl⟩
abbrev main_v16_2 : Ref sig .tc := ⟨.hbm, 23, rfl⟩
abbrev main_v16_3 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![8, 17], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c1_i32 : BitVec 32 := 1#32
  let v1 : BitVec 1 := Scalar.cmpi .sge arg1 c1_i32
  let v2 : BitVec 32 := Scalar.extui v1
  let v3 : BitVec 32 := Scalar.addi v0 v2
  let c0_i32 : BitVec 32 := 0#32
  let c0_i32_0 : BitVec 32 := 0#32
  let c0_i32_1 : BitVec 32 := 0#32
  ![v3.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x256x1920 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== InProjRefIdeal.lean ====
abbrev S8x4352x1024 : Shape := ⟨3, ![8, 4352, 1024]⟩
abbrev S16x8x1024 : Shape := ⟨3, ![16, 8, 1024]⟩
abbrev S1024x2592 : Shape := ⟨2, ![1024, 2592]⟩
abbrev S8x2x8x1024 : Shape := ⟨4, ![8, 2, 8, 1024]⟩
abbrev S8x256x1024 : Shape := ⟨3, ![8, 256, 1024]⟩
abbrev S8x1x8x1024 : Shape := ⟨4, ![8, 1, 8, 1024]⟩
abbrev S8x8x1024 : Shape := ⟨3, ![8, 8, 1024]⟩
abbrev S8x1x1024 : Shape := ⟨3, ![8, 1, 1024]⟩
abbrev S_ : Shape := ⟨0, ![]⟩
abbrev S8x256x2592 : Shape := ⟨3, ![8, 256, 2592]⟩
abbrev S8x4096x1024 : Shape := ⟨3, ![8, 4096, 1024]⟩
abbrev S8x4096x2592 : Shape := ⟨3, ![8, 4096, 2592]⟩
abbrev S8x4352x2592 : Shape := ⟨3, ![8, 4352, 2592]⟩
abbrev S8x4352x1920 : Shape := ⟨3, ![8, 4352, 1920]⟩
abbrev S8x4352x384 : Shape := ⟨3, ![8, 4352, 384]⟩
abbrev S8x4352x256 : Shape := ⟨3, ![8, 4352, 256]⟩
abbrev S8x4352x32 : Shape := ⟨3, ![8, 4352, 32]⟩
abbrev S8x4352x16 : Shape := ⟨3, ![8, 4352, 16]⟩
abbrev S8x4352x16x1 : Shape := ⟨4, ![8, 4352, 16, 1]⟩
abbrev S8x4352x16x2 : Shape := ⟨4, ![8, 4352, 16, 2]⟩
abbrev S8x4352x128 : Shape := ⟨3, ![8, 4352, 128]⟩

abbrev nBuf : Space → Nat
  | .hbm => 49
  | .vmem => 0
  | .smem => 0
  | _ => 0

abbrev bufTy : (tb : Table) → Fin (tcTables nBuf tb) → BufTy
  | .hbm, ⟨0, _⟩ => ⟨S8x4352x1024, .f32⟩
  | .hbm, ⟨1, _⟩ => ⟨S16x8x1024, .f32⟩
  | .hbm, ⟨2, _⟩ => ⟨S1024x2592, .f32⟩
  | .hbm, ⟨3, _⟩ => ⟨S8x2x8x1024, .f32⟩
  | .hbm, ⟨4, _⟩ => ⟨S8x256x1024, .f32⟩
  | .hbm, ⟨5, _⟩ => ⟨S8x1x8x1024, .f32⟩
  | .hbm, ⟨6, _⟩ => ⟨S8x8x1024, .f32⟩
  | .hbm, ⟨7, _⟩ => ⟨S8x1x1024, .f32⟩
  | .hbm, ⟨8, _⟩ => ⟨S8x1x1024, .f32⟩
  | .hbm, ⟨9, _⟩ => ⟨S_, .f32⟩
  | .hbm, ⟨10, _⟩ => ⟨S8x1x1024, .f32⟩
  | .hbm, ⟨11, _⟩ => ⟨S8x1x1024, .f32⟩
  | .hbm, ⟨12, _⟩ => ⟨S8x256x1024, .f32⟩
  | .hbm, ⟨13, _⟩ => ⟨S8x256x1024, .f32⟩
  | .hbm, ⟨14, _⟩ => ⟨S8x256x1024, .f32⟩
  | .hbm, ⟨15, _⟩ => ⟨S8x256x1024, .f32⟩
  | .hbm, ⟨16, _⟩ => ⟨S8x256x2592, .f32⟩
  | .hbm, ⟨17, _⟩ => ⟨S8x4096x1024, .f32⟩
  | .hbm, ⟨18, _⟩ => ⟨S8x1x8x1024, .f32⟩
  | .hbm, ⟨19, _⟩ => ⟨S8x8x1024, .f32⟩
  | .hbm, ⟨20, _⟩ => ⟨S8x1x1024, .f32⟩
  | .hbm, ⟨21, _⟩ => ⟨S8x1x1024, .f32⟩
  | .hbm, ⟨22, _⟩ => ⟨S_, .f32⟩
  | .hbm, ⟨23, _⟩ => ⟨S8x1x1024, .f32⟩
  | .hbm, ⟨24, _⟩ => ⟨S8x1x1024, .f32⟩
  | .hbm, ⟨25, _⟩ => ⟨S8x4096x1024, .f32⟩
  | .hbm, ⟨26, _⟩ => ⟨S8x4096x1024, .f32⟩
  | .hbm, ⟨27, _⟩ => ⟨S8x4096x1024, .f32⟩
  | .hbm, ⟨28, _⟩ => ⟨S8x4096x1024, .f32⟩
  | .hbm, ⟨29, _⟩ => ⟨S8x4096x2592, .f32⟩
  | .hbm, ⟨30, _⟩ => ⟨S8x4352x2592, .f32⟩
  | .hbm, ⟨31, _⟩ => ⟨S8x4352x1920, .f32⟩
  | .hbm, ⟨32, _⟩ => ⟨S8x4352x384, .f32⟩
  | .hbm, ⟨33, _⟩ => ⟨S8x4352x256, .f32⟩
  | .hbm, ⟨34, _⟩ => ⟨S8x4352x32, .f32⟩
  | .hbm, ⟨35, _⟩ => ⟨S8x4352x16, .f32⟩
  | .hbm, ⟨36, _⟩ => ⟨S8x4352x16, .f32⟩
  | .hbm, ⟨37, _⟩ => ⟨S8x4352x16, .f32⟩
  | .hbm, ⟨38, _⟩ => ⟨S8x4352x16x1, .f32⟩
  | .hbm, ⟨39, _⟩ => ⟨S8x4352x16x1, .f32⟩
  | .hbm, ⟨40, _⟩ => ⟨S8x4352x16x2, .f32⟩
  | .hbm, ⟨41, _⟩ => ⟨S8x4352x32, .f32⟩
  | .hbm, ⟨42, _⟩ => ⟨S_, .i32⟩
  | .hbm, ⟨43, _⟩ => ⟨S_, .f32⟩
  | .hbm, ⟨44, _⟩ => ⟨S8x4352x128, .f32⟩
  | .hbm, ⟨45, _⟩ => ⟨S_, .i32⟩
  | .hbm, ⟨46, _⟩ => ⟨S_, .f32⟩
  | .hbm, ⟨47, _⟩ => ⟨S8x4352x128, .f32⟩
  | .hbm, ⟨48, _⟩ => ⟨S8x4352x256, .f32⟩
  | _, _ => ⟨S8x4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_cst_0 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_c : Ref sig .tc := ⟨.hbm, 42, rfl⟩
abbrev main_call0_v0 : Ref sig .tc := ⟨.hbm, 43, rfl⟩
abbrev main_v37 : Ref sig .tc := ⟨.hbm, 44, rfl⟩
abbrev main_c_1 : Ref sig .tc := ⟨.hbm, 45, rfl⟩
abbrev main_call1_v0 : Ref sig .tc := ⟨.hbm, 46, rfl⟩
abbrev main_v38 : Ref sig .tc := ⟨.hbm, 47, rfl⟩
abbrev main_v39 : Ref sig .tc := ⟨.hbm, 48, rfl⟩

abbrev nD : Nat := 1
abbrev τ : Topo := Topo.v7x

variable {F : FTy → Type} [FloatOps F]
-- ==== MixerOut.lean ====
abbrev S2x8x4352x512 : Shape := ⟨4, ![2, 8, 4352, 512]⟩
abbrev S8x4352x512 : Shape := ⟨3, ![8, 4352, 512]⟩
abbrev S8x4352x1024 : Shape := ⟨3, ![8, 4352, 1024]⟩
abbrev S16x8x1024 : Shape := ⟨3, ![16, 8, 1024]⟩
abbrev S512 : Shape := ⟨1, ![512]⟩
abbrev S1024x1024 : Shape := ⟨2, ![1024, 1024]⟩
abbrev S1024 : Shape := ⟨1, ![1024]⟩
abbrev S_ : Shape := ⟨0, ![]⟩
abbrev S512x1 : Shape := ⟨2, ![512, 1]⟩
abbrev S1x512 : Shape := ⟨2, ![1, 512]⟩
abbrev S512x512 : Shape := ⟨2, ![512, 512]⟩
abbrev S512x1024 : Shape := ⟨2, ![512, 1024]⟩
abbrev S8x64x1024 : Shape := ⟨3, ![8, 64, 1024]⟩
abbrev S8x128x1024 : Shape := ⟨3, ![8, 128, 1024]⟩
abbrev S8x512 : Shape := ⟨2, ![8, 512]⟩
abbrev S1 : Shape := ⟨1, ![1]⟩
abbrev S8x1024 : Shape := ⟨2, ![8, 1024]⟩
abbrev S2x1x256x512 : Shape := ⟨4, ![2, 1, 256, 512]⟩
abbrev S1x256x512 : Shape := ⟨3, ![1, 256, 512]⟩
abbrev S1x256x1024 : Shape := ⟨3, ![1, 256, 1024]⟩
abbrev S1x8x1024 : Shape := ⟨3, ![1, 8, 1024]⟩
abbrev S1x1x256x512 : Shape := ⟨4, ![1, 1, 256, 512]⟩
abbrev S256x512 : Shape := ⟨2, ![256, 512]⟩
abbrev S256x1024 : Shape := ⟨2, ![256, 1024]⟩
abbrev S1x1024 : Shape := ⟨2, ![1, 1024]⟩
abbrev S256 : Shape := ⟨1, ![256]⟩
abbrev S256x1 : Shape := ⟨2, ![256, 1]⟩

abbrev nBuf : Space → Nat
  | .hbm => 62
  | .vmem => 19
  | .smem => 0
  | _ => 0

abbrev bufTy : (tb : Table) → Fin (tcTables nBuf tb) → BufTy
  | .hbm, ⟨0, _⟩ => ⟨S2x8x4352x512, .f32⟩
  | .hbm, ⟨1, _⟩ => ⟨S8x4352x512, .f32⟩
  | .hbm, ⟨2, _⟩ => ⟨S8x4352x512, .f32⟩
  | .hbm, ⟨3, _⟩ => ⟨S8x4352x1024, .bf16⟩
  | .hbm, ⟨4, _⟩ => ⟨S8x4352x1024, .f32⟩
  | .hbm, ⟨5, _⟩ => ⟨S16x8x1024, .f32⟩
  | .hbm, ⟨6, _⟩ => ⟨S512, .f32⟩
  | .hbm, ⟨7, _⟩ => ⟨S512, .f32⟩
  | .hbm, ⟨8, _⟩ => ⟨S1024x1024, .f32⟩
  | .hbm, ⟨9, _⟩ => ⟨S1024, .f32⟩
  | .hbm, ⟨10, _⟩ => ⟨S1024, .f32⟩
  | .hbm, ⟨11, _⟩ => ⟨S512, .i32⟩
  | .hbm, ⟨12, _⟩ => ⟨S_, .i32⟩
  | .hbm, ⟨13, _⟩ => ⟨S_, .i32⟩
  | .hbm, ⟨14, _⟩ => ⟨S512, .i32⟩
  | .hbm, ⟨15, _⟩ => ⟨S512, .i32⟩
  | .hbm, ⟨16, _⟩ => ⟨S512, .i32⟩
  | .hbm, ⟨17, _⟩ => ⟨S_, .i32⟩
  | .hbm, ⟨18, _⟩ => ⟨S512, .i32⟩
  | .hbm, ⟨19, _⟩ => ⟨S512, .i1⟩
  | .hbm, ⟨20, _⟩ => ⟨S512, .i32⟩
  | .hbm, ⟨21, _⟩ => ⟨S512, .i32⟩
  | .hbm, ⟨22, _⟩ => ⟨S_, .i32⟩
  | .hbm, ⟨23, _⟩ => ⟨S512, .i32⟩
  | .hbm, ⟨24, _⟩ => ⟨S512, .i1⟩
  | .hbm, ⟨25, _⟩ => ⟨S512, .i1⟩
  | .hbm, ⟨26, _⟩ => ⟨S_, .i32⟩
  | .hbm, ⟨27, _⟩ => ⟨S512, .i32⟩
  | .hbm, ⟨28, _⟩ => ⟨S512, .i32⟩
  | .hbm, ⟨29, _⟩ => ⟨S512, .i32⟩
  | .hbm, ⟨30, _⟩ => ⟨S512x1, .i32⟩
  | .hbm, ⟨31, _⟩ => ⟨S1x512, .i32⟩
  | .hbm, ⟨32, _⟩ => ⟨S512x512, .i32⟩
  | .hbm, ⟨33, _⟩ => ⟨S512x512, .i32⟩
  | .hbm, ⟨34, _⟩ => ⟨S512x512, .i1⟩
  | .hbm, ⟨35, _⟩ => ⟨S512x512, .bf16⟩
  | .hbm, ⟨36, _⟩ => ⟨S512x1024, .f32⟩
  | .hbm, ⟨37, _⟩ => ⟨S8x64x1024, .f32⟩
  | .hbm, ⟨38, _⟩ => ⟨S_, .f32⟩
  | .hbm, ⟨39, _⟩ => ⟨S8x64x1024, .f32⟩
  | .hbm, ⟨40, _⟩ => ⟨S8x128x1024, .f32⟩
  | .hbm, ⟨41, _⟩ => ⟨S_, .f32⟩
  | .hbm, ⟨42, _⟩ => ⟨S8x512, .f32⟩
  | .hbm, ⟨43, _⟩ => ⟨S_, .i32⟩
  | .hbm, ⟨44, _⟩ => ⟨S1, .i32⟩
  | .hbm, ⟨45, _⟩ => ⟨S8x512, .f32⟩
  | .hbm, ⟨46, _⟩ => ⟨S_, .i32⟩
  | .hbm, ⟨47, _⟩ => ⟨S1, .i32⟩
  | .hbm, ⟨48, _⟩ => ⟨S8x512, .f32⟩
  | .hbm, ⟨49, _⟩ => ⟨S512x1024, .f32⟩
  | .hbm, ⟨50, _⟩ => ⟨S512x1024, .bf16⟩
  | .hbm, ⟨51, _⟩ => ⟨S1024x1024, .f32⟩
  | .hbm, ⟨52, _⟩ => ⟨S1024x1024, .bf16⟩
  | .hbm, ⟨53, _⟩ => ⟨S_, .f32⟩
  | .hbm, ⟨54, _⟩ => ⟨S8x1024, .f32⟩
  | .hbm, ⟨55, _⟩ => ⟨S_, .i32⟩
  | .hbm, ⟨56, _⟩ => ⟨S1, .i32⟩
  | .hbm, ⟨57, _⟩ => ⟨S8x1024, .f32⟩
  | .hbm, ⟨58, _⟩ => ⟨S_, .i32⟩
  | .hbm, ⟨59, _⟩ => ⟨S1, .i32⟩
  | .hbm, ⟨60, _⟩ => ⟨S8x1024, .f32⟩
  | .hbm, ⟨61, _⟩ => ⟨S8x4352x1024, .f32⟩
  | .local _ .vmem, ⟨0, _⟩ => ⟨S2x1x256x512, .f32⟩
  | .local _ .vmem, ⟨1, _⟩ => ⟨S2x1x256x512, .f32⟩
  | .local _ .vmem, ⟨2, _⟩ => ⟨S1x256x512, .f32⟩
  | .local _ .vmem, ⟨3, _⟩ => ⟨S1x256x512, .f32⟩
  | .local _ .vmem, ⟨4, _⟩ => ⟨S1x256x512, .f32⟩
  | .local _ .vmem, ⟨5, _⟩ => ⟨S1x256x512, .f32⟩
  | .local _ .vmem, ⟨6, _⟩ => ⟨S1x256x1024, .bf16⟩
  | .local _ .vmem, ⟨7, _⟩ => ⟨S1x256x1024, .bf16⟩
  | .local _ .vmem, ⟨8, _⟩ => ⟨S1x256x1024, .f32⟩
  | .local _ .vmem, ⟨9, _⟩ => ⟨S1x256x1024, .f32⟩
  | .local _ .vmem, ⟨10, _⟩ => ⟨S1x8x1024, .f32⟩
  | .local _ .vmem, ⟨11, _⟩ => ⟨S1x8x1024, .f32⟩
  | .local _ .vmem, ⟨12, _⟩ => ⟨S8x512, .f32⟩
  | .local _ .vmem, ⟨13, _⟩ => ⟨S512x512, .bf16⟩
  | .local _ .vmem, ⟨14, _⟩ => ⟨S512x1024, .bf16⟩
  | .local _ .vmem, ⟨15, _⟩ => ⟨S1024x1024, .bf16⟩
  | .local _ .vmem, ⟨16, _⟩ => ⟨S8x1024, .f32⟩
  | .local _ .vmem, ⟨17, _⟩ => ⟨S1x256x1024, .f32⟩
  | .local _ .vmem, ⟨18, _⟩ => ⟨S1x256x1024, .f32⟩
  | _, _ => ⟨S2x8x4352x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_c : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_c : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_cst : Ref sig .tc := ⟨.hbm, 38, rfl⟩
abbrev main_v10 : Ref sig .tc := ⟨.hbm, 39, rfl⟩
abbrev main_v11 : Ref sig .tc := ⟨.hbm, 40, rfl⟩
abbrev main_cst_0 : Ref sig .tc := ⟨.hbm, 41, rfl⟩
abbrev main_v12 : Ref sig .tc := ⟨.hbm, 42, rfl⟩
abbrev main_c_1 : Ref sig .tc := ⟨.hbm, 43, rfl⟩
abbrev main_v13 : Ref sig .tc := ⟨.hbm, 44, rfl⟩
abbrev main_v14 : Ref sig .tc := ⟨.hbm, 45, rfl⟩
abbrev main_c_2 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_cst_3 : Ref sig .tc := ⟨.hbm, 53, rfl⟩
abbrev main_v21 : Ref sig .tc := ⟨.hbm, 54, rfl⟩
abbrev main_c_4 : Ref sig .tc := ⟨.hbm, 55, rfl⟩
abbrev main_v22 : Ref sig .tc := ⟨.hbm, 56, rfl⟩
abbrev main_v23 : Ref sig .tc := ⟨.hbm, 57, rfl⟩
abbrev main_c_5 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨2, ![8, 17], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c1_i32 : BitVec 32 := 1#32
  let v1 : BitVec 1 := Scalar.cmpi .sge arg1 c1_i32
  let v2 : BitVec 32 := Scalar.extui v1
  let v3 : BitVec 32 := Scalar.addi v0 v2
  let c0_i32 : BitVec 32 := 0#32
  let c0_i32_0 : BitVec 32 := 0#32
  let c0_i32_1 : BitVec 32 := 0#32
  ![v3.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S2x1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S8x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S8x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== MixerOutRefIdeal.lean ====
abbrev S2x8x4352x512 : Shape := ⟨4, ![2, 8, 4352, 512]⟩
abbrev S8x4352x512 : Shape := ⟨3, ![8, 4352, 512]⟩
abbrev S8x4352x1024 : Shape := ⟨3, ![8, 4352, 1024]⟩
abbrev S16x8x1024 : Shape := ⟨3, ![16, 8, 1024]⟩
abbrev S512 : Shape := ⟨1, ![512]⟩
abbrev S1024x1024 : Shape := ⟨2, ![1024, 1024]⟩
abbrev S1024 : Shape := ⟨1, ![1024]⟩
abbrev S1x8x4352x512 : Shape := ⟨4, ![1, 8, 4352, 512]⟩
abbrev S8x4352x8x64 : Shape := ⟨4, ![8, 4352, 8, 64]⟩
abbrev S_ : Shape := ⟨0, ![]⟩
abbrev S8x4352x8 : Shape := ⟨3, ![8, 4352, 8]⟩
abbrev S8x4352x8x1 : Shape := ⟨4, ![8, 4352, 8, 1]⟩
abbrev S8x64 : Shape := ⟨2, ![8, 64]⟩
abbrev S1x1x8x64 : Shape := ⟨4, ![1, 1, 8, 64]⟩
abbrev S8x4352x8x128 : Shape := ⟨4, ![8, 4352, 8, 128]⟩
abbrev S8x2x8x1024 : Shape := ⟨4, ![8, 2, 8, 1024]⟩
abbrev S8x2x1x1024 : Shape := ⟨4, ![8, 2, 1, 1024]⟩
abbrev S8x256x1024 : Shape := ⟨3, ![8, 256, 1024]⟩
abbrev S8x1x1x1024 : Shape := ⟨4, ![8, 1, 1, 1024]⟩
abbrev S8x1x1024 : Shape := ⟨3, ![8, 1, 1024]⟩
abbrev S8x256 : Shape := ⟨2, ![8, 256]⟩
abbrev S8x256x1 : Shape := ⟨3, ![8, 256, 1]⟩
abbrev S1x1x1024 : Shape := ⟨3, ![1, 1, 1024]⟩
abbrev S8x4096x1024 : Shape := ⟨3, ![8, 4096, 1024]⟩
abbrev S8x4096 : Shape := ⟨2, ![8, 4096]⟩
abbrev S8x4096x1 : Shape := ⟨3, ![8, 4096, 1]⟩

abbrev nBuf : Space → Nat
  | .hbm => 133
  | .vmem => 0
  | .smem => 0
  | _ => 0

abbrev hbmTy0_0 (i : Nat) : BufTy := match i % 128 with
  | 0 => ⟨S2x8x4352x512, .f32⟩
  | 1 => ⟨S8x4352x512, .f32⟩
  | 2 => ⟨S8x4352x512, .f32⟩
  | 3 => ⟨S8x4352x1024, .bf16⟩
  | 4 => ⟨S8x4352x1024, .f32⟩
  | 5 => ⟨S16x8x1024, .f32⟩
  | 6 => ⟨S512, .f32⟩
  | 7 => ⟨S512, .f32⟩
  | 8 => ⟨S1024x1024, .f32⟩
  | 9 => ⟨S1024, .f32⟩
  | 10 => ⟨S1024, .f32⟩
  | 11 => ⟨S1x8x4352x512, .f32⟩
  | 12 => ⟨S8x4352x512, .f32⟩
  | 13 => ⟨S1x8x4352x512, .f32⟩
  | 14 => ⟨S8x4352x512, .f32⟩
  | 15 => ⟨S8x4352x512, .f32⟩
  | 16 => ⟨S8x4352x8x64, .f32⟩
  | 17 => ⟨S_, .f32⟩
  | 18 => ⟨S8x4352x8, .f32⟩
  | 19 => ⟨S8x4352x8x1, .f32⟩
  | 20 => ⟨S_, .f32⟩
  | 21 => ⟨S8x4352x8x1, .f32⟩
  | 22 => ⟨S8x4352x8x1, .f32⟩
  | 23 => ⟨S8x4352x8x64, .f32⟩
  | 24 => ⟨S8x4352x8x64, .f32⟩
  | 25 => ⟨S8x4352x8x64, .f32⟩
  | 26 => ⟨S_, .f32⟩
  | 27 => ⟨S8x4352x8, .f32⟩
  | 28 => ⟨S8x4352x8x1, .f32⟩
  | 29 => ⟨S_, .f32⟩
  | 30 => ⟨S8x4352x8x1, .f32⟩
  | 31 => ⟨S8x4352x8x1, .f32⟩
  | 32 => ⟨S_, .f32⟩
  | 33 => ⟨S8x4352x8x1, .f32⟩
  | 34 => ⟨S8x4352x8x1, .f32⟩
  | 35 => ⟨S8x4352x8x1, .f32⟩
  | 36 => ⟨S8x4352x8x64, .f32⟩
  | 37 => ⟨S8x4352x8x64, .f32⟩
  | 38 => ⟨S8x64, .f32⟩
  | 39 => ⟨S1x1x8x64, .f32⟩
  | 40 => ⟨S8x4352x8x64, .f32⟩
  | 41 => ⟨S8x4352x8x64, .f32⟩
  | 42 => ⟨S8x64, .f32⟩
  | 43 => ⟨S1x1x8x64, .f32⟩
  | 44 => ⟨S8x4352x8x64, .f32⟩
  | 45 => ⟨S8x4352x8x64, .f32⟩
  | 46 => ⟨S8x4352x8x64, .f32⟩
  | 47 => ⟨S8x4352x8x64, .f32⟩
  | 48 => ⟨S8x4352x512, .f32⟩
  | 49 => ⟨S8x4352x512, .f32⟩
  | 50 => ⟨S8x4352x1024, .f32⟩
  | 51 => ⟨S8x4352x8x128, .f32⟩
  | 52 => ⟨S8x4352x8x64, .f32⟩
  | 53 => ⟨S8x4352x512, .f32⟩
  | 54 => ⟨S8x4352x1024, .f32⟩
  | 55 => ⟨S8x4352x1024, .f32⟩
  | 56 => ⟨S8x2x8x1024, .f32⟩
  | 57 => ⟨S8x2x1x1024, .f32⟩
  | 58 => ⟨S8x256x1024, .f32⟩
  | 59 => ⟨S8x1x1x1024, .f32⟩
  | 60 => ⟨S8x1x1024, .f32⟩
  | 61 => ⟨S8x256x1024, .f32⟩
  | 62 => ⟨S_, .f32⟩
  | 63 => ⟨S8x256x1024, .f32⟩
  | 64 => ⟨S8x256x1024, .f32⟩
  | 65 => ⟨S8x256x1024, .f32⟩
  | 66 => ⟨S8x256x1024, .f32⟩
  | 67 => ⟨S8x256x1024, .f32⟩
  | 68 => ⟨S_, .f32⟩
  | 69 => ⟨S8x256, .f32⟩
  | 70 => ⟨S8x256x1, .f32⟩
  | 71 => ⟨S_, .f32⟩
  | 72 => ⟨S8x256x1, .f32⟩
  | 73 => ⟨S8x256x1, .f32⟩
  | 74 => ⟨S8x256x1024, .f32⟩
  | 75 => ⟨S8x256x1024, .f32⟩
  | 76 => ⟨S8x256x1024, .f32⟩
  | 77 => ⟨S_, .f32⟩
  | 78 => ⟨S8x256, .f32⟩
  | 79 => ⟨S8x256x1, .f32⟩
  | 80 => ⟨S_, .f32⟩
  | 81 => ⟨S8x256x1, .f32⟩
  | 82 => ⟨S8x256x1, .f32⟩
  | 83 => ⟨S_, .f32⟩
  | 84 => ⟨S8x256x1, .f32⟩
  | 85 => ⟨S8x256x1, .f32⟩
  | 86 => ⟨S8x256x1, .f32⟩
  | 87 => ⟨S8x256x1024, .f32⟩
  | 88 => ⟨S8x256x1024, .f32⟩
  | 89 => ⟨S1x1x1024, .f32⟩
  | 90 => ⟨S8x256x1024, .f32⟩
  | 91 => ⟨S8x256x1024, .f32⟩
  | 92 => ⟨S1x1x1024, .f32⟩
  | 93 => ⟨S8x256x1024, .f32⟩
  | 94 => ⟨S8x256x1024, .f32⟩
  | 95 => ⟨S8x4096x1024, .f32⟩
  | 96 => ⟨S8x1x1x1024, .f32⟩
  | 97 => ⟨S8x1x1024, .f32⟩
  | 98 => ⟨S8x4096x1024, .f32⟩
  | 99 => ⟨S_, .f32⟩
  | 100 => ⟨S8x4096x1024, .f32⟩
  | 101 => ⟨S8x4096x1024, .f32⟩
  | 102 => ⟨S8x4096x1024, .f32⟩
  | 103 => ⟨S8x4096x1024, .f32⟩
  | 104 => ⟨S8x4096x1024, .f32⟩
  | 105 => ⟨S_, .f32⟩
  | 106 => ⟨S8x4096, .f32⟩
  | 107 => ⟨S8x4096x1, .f32⟩
  | 108 => ⟨S_, .f32⟩
  | 109 => ⟨S8x4096x1, .f32⟩
  | 110 => ⟨S8x4096x1, .f32⟩
  | 111 => ⟨S8x4096x1024, .f32⟩
  | 112 => ⟨S8x4096x1024, .f32⟩
  | 113 => ⟨S8x4096x1024, .f32⟩
  | 114 => ⟨S_, .f32⟩
  | 115 => ⟨S8x4096, .f32⟩
  | 116 => ⟨S8x4096x1, .f32⟩
  | 117 => ⟨S_, .f32⟩
  | 118 => ⟨S8x4096x1, .f32⟩
  | 119 => ⟨S8x4096x1, .f32⟩
  | 120 => ⟨S_, .f32⟩
  | 121 => ⟨S8x4096x1, .f32⟩
  | 122 => ⟨S8x4096x1, .f32⟩
  | 123 => ⟨S8x4096x1, .f32⟩
  | 124 => ⟨S8x4096x1024, .f32⟩
  | 125 => ⟨S8x4096x1024, .f32⟩
  | 126 => ⟨S1x1x1024, .f32⟩
  | 127 => ⟨S8x4096x1024, .f32⟩
  | _ => ⟨S2x8x4352x512, .f32⟩

abbrev hbmTy0_1 (i : Nat) : BufTy := match i % 128 with
  | 0 => ⟨S8x4096x1024, .f32⟩
  | 1 => ⟨S1x1x1024, .f32⟩
  | 2 => ⟨S8x4096x1024, .f32⟩
  | 3 => ⟨S8x4096x1024, .f32⟩
  | 4 => ⟨S8x4352x1024, .f32⟩
  | _ => ⟨S2x8x4352x512, .f32⟩

abbrev hbmTy (i : Nat) : BufTy := match i / 128 with
  | 0 => hbmTy0_0 i
  | 1 => hbmTy0_1 i
  | _ => ⟨S2x8x4352x512, .f32⟩

abbrev bufTy : (tb : Table) → Fin (tcTables nBuf tb) → BufTy
  | .hbm, ⟨i, _⟩ => hbmTy i
  | _, _ => ⟨S2x8x4352x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst : Ref sig .tc := ⟨.hbm, 17, rfl⟩
abbrev main_v6 : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_1 : Ref sig .tc := ⟨.hbm, 26, rfl⟩
abbrev main_v13 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_cst_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_4 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_5 : Ref sig .tc := ⟨.hbm, 68, rfl⟩
abbrev main_v51 : Ref sig .tc := ⟨.hbm, 69, rfl⟩
abbrev main_v52 : Ref sig .tc := ⟨.hbm, 70, rfl⟩
abbrev main_cst_6 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_cst_7 : Ref sig .tc := ⟨.hbm, 77, rfl⟩
abbrev main_v58 : Ref sig .tc := ⟨.hbm, 78, rfl⟩
abbrev main_v59 : Ref sig .tc := ⟨.hbm, 79, rfl⟩
abbrev main_cst_8 : Ref sig .tc := ⟨.hbm, 80, rfl⟩
abbrev main_v60 : Ref sig .tc := ⟨.hbm, 81, rfl⟩
abbrev main_v61 : Ref sig .tc := ⟨.hbm, 82, rfl⟩
abbrev main_cst_9 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_cst_10 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_cst_11 : Ref sig .tc := ⟨.hbm, 105, rfl⟩
abbrev main_v82 : Ref sig .tc := ⟨.hbm, 106, rfl⟩
abbrev main_v83 : Ref sig .tc := ⟨.hbm, 107, rfl⟩
abbrev main_cst_12 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_cst_13 : Ref sig .tc := ⟨.hbm, 114, rfl⟩
abbrev main_v89 : Ref sig .tc := ⟨.hbm, 115, rfl⟩
abbrev main_v90 : Ref sig .tc := ⟨.hbm, 116, rfl⟩
abbrev main_cst_14 : Ref sig .tc := ⟨.hbm, 117, rfl⟩
abbrev main_v91 : Ref sig .tc := ⟨.hbm, 118, rfl⟩
abbrev main_v92 : Ref sig .tc := ⟨.hbm, 119, rfl⟩
abbrev main_cst_15 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩

abbrev nD : Nat := 1
abbrev τ : Topo := Topo.v7x

variable {F : FTy → Type} [FloatOps F]
-- ==== MlaPrep.lean ====
abbrev S8x4352x384 : Shape := ⟨3, ![8, 4352, 384]⟩
abbrev S8x4352x256 : Shape := ⟨3, ![8, 4352, 256]⟩
abbrev S384 : Shape := ⟨1, ![384]⟩
abbrev S384x768 : Shape := ⟨2, ![384, 768]⟩
abbrev S256 : Shape := ⟨1, ![256]⟩
abbrev S256x1024 : Shape := ⟨2, ![256, 1024]⟩
abbrev S4096x16 : Shape := ⟨2, ![4096, 16]⟩
abbrev S_ : Shape := ⟨0, ![]⟩
abbrev S4352x128 : Shape := ⟨2, ![4352, 128]⟩
abbrev S4096x16x2 : Shape := ⟨3, ![4096, 16, 2]⟩
abbrev S4096x32 : Shape := ⟨2, ![4096, 32]⟩
abbrev S1 : Shape := ⟨1, ![1]⟩
abbrev S2 : Shape := ⟨1, ![2]⟩
abbrev S384x8x96 : Shape := ⟨3, ![384, 8, 96]⟩
abbrev S384x8x64 : Shape := ⟨3, ![384, 8, 64]⟩
abbrev S384x8x32 : Shape := ⟨3, ![384, 8, 32]⟩
abbrev S384x8x128 : Shape := ⟨3, ![384, 8, 128]⟩
abbrev S384x1024 : Shape := ⟨2, ![384, 1024]⟩
abbrev S384x8x16x2 : Shape := ⟨4, ![384, 8, 16, 2]⟩
abbrev S384x8x16x1 : Shape := ⟨4, ![384, 8, 16, 1]⟩
abbrev S384x8x16 : Shape := ⟨3, ![384, 8, 16]⟩
abbrev S256x8x128 : Shape := ⟨3, ![256, 8, 128]⟩
abbrev S256x8x64 : Shape := ⟨3, ![256, 8, 64]⟩
abbrev S8x384 : Shape := ⟨2, ![8, 384]⟩
abbrev S8x4352x1024 : Shape := ⟨3, ![8, 4352, 1024]⟩
abbrev S1x256x384 : Shape := ⟨3, ![1, 256, 384]⟩
abbrev S1x256x256 : Shape := ⟨3, ![1, 256, 256]⟩
abbrev S256x128 : Shape := ⟨2, ![256, 128]⟩
abbrev S1x256x1024 : Shape := ⟨3, ![1, 256, 1024]⟩
abbrev S256x384 : Shape := ⟨2, ![256, 384]⟩
abbrev S1x384 : Shape := ⟨2, ![1, 384]⟩
abbrev S256x1 : Shape := ⟨2, ![256, 1]⟩
abbrev S256x256 : Shape := ⟨2, ![256, 256]⟩
abbrev S1x256 : Shape := ⟨2, ![1, 256]⟩
abbrev S1x256x128 : Shape := ⟨3, ![1, 256, 128]⟩

abbrev nBuf : Space → Nat
  | .hbm => 79
  | .vmem => 21
  | .smem => 0
  | _ => 0

abbrev bufTy : (tb : Table) → Fin (tcTables nBuf tb) → BufTy
  | .hbm, ⟨0, _⟩ => ⟨S8x4352x384, .f32⟩
  | .hbm, ⟨1, _⟩ => ⟨S8x4352x256, .f32⟩
  | .hbm, ⟨2, _⟩ => ⟨S8x4352x256, .f32⟩
  | .hbm, ⟨3, _⟩ => ⟨S384, .f32⟩
  | .hbm, ⟨4, _⟩ => ⟨S384x768, .f32⟩
  | .hbm, ⟨5, _⟩ => ⟨S256, .f32⟩
  | .hbm, ⟨6, _⟩ => ⟨S256x1024, .f32⟩
  | .hbm, ⟨7, _⟩ => ⟨S4096x16, .f32⟩
  | .hbm, ⟨8, _⟩ => ⟨S4096x16, .f32⟩
  | .hbm, ⟨9, _⟩ => ⟨S_, .f32⟩
  | .hbm, ⟨10, _⟩ => ⟨S4352x128, .f32⟩
  | .hbm, ⟨11, _⟩ => ⟨S4096x16x2, .f32⟩
  | .hbm, ⟨12, _⟩ => ⟨S4096x32, .f32⟩
  | .hbm, ⟨13, _⟩ => ⟨S_, .i32⟩
  | .hbm, ⟨14, _⟩ => ⟨S1, .i32⟩
  | .hbm, ⟨15, _⟩ => ⟨S_, .i32⟩
  | .hbm, ⟨16, _⟩ => ⟨S1, .i32⟩
  | .hbm, ⟨17, _⟩ => ⟨S2, .i32⟩
  | .hbm, ⟨18, _⟩ => ⟨S4352x128, .f32⟩
  | .hbm, ⟨19, _⟩ => ⟨S_, .f32⟩
  | .hbm, ⟨20, _⟩ => ⟨S4352x128, .f32⟩
  | .hbm, ⟨21, _⟩ => ⟨S4096x16x2, .f32⟩
  | .hbm, ⟨22, _⟩ => ⟨S4096x32, .f32⟩
  | .hbm, ⟨23, _⟩ => ⟨S_, .i32⟩
  | .hbm, ⟨24, _⟩ => ⟨S1, .i32⟩
  | .hbm, ⟨25, _⟩ => ⟨S_, .i32⟩
  | .hbm, ⟨26, _⟩ => ⟨S1, .i32⟩
  | .hbm, ⟨27, _⟩ => ⟨S2, .i32⟩
  | .hbm, ⟨28, _⟩ => ⟨S4352x128, .f32⟩
  | .hbm, ⟨29, _⟩ => ⟨S384x8x96, .f32⟩
  | .hbm, ⟨30, _⟩ => ⟨S384x8x64, .f32⟩
  | .hbm, ⟨31, _⟩ => ⟨S384x8x32, .f32⟩
  | .hbm, ⟨32, _⟩ => ⟨S_, .f32⟩
  | .hbm, ⟨33, _⟩ => ⟨S384x8x32, .f32⟩
  | .hbm, ⟨34, _⟩ => ⟨S384x8x128, .f32⟩
  | .hbm, ⟨35, _⟩ => ⟨S384x1024, .f32⟩
  | .hbm, ⟨36, _⟩ => ⟨S384x1024, .bf16⟩
  | .hbm, ⟨37, _⟩ => ⟨S_, .f32⟩
  | .hbm, ⟨38, _⟩ => ⟨S384x8x64, .f32⟩
  | .hbm, ⟨39, _⟩ => ⟨S384x8x16x2, .f32⟩
  | .hbm, ⟨40, _⟩ => ⟨S384x8x16x1, .f32⟩
  | .hbm, ⟨41, _⟩ => ⟨S384x8x16, .f32⟩
  | .hbm, ⟨42, _⟩ => ⟨S384x8x16, .f32⟩
  | .hbm, ⟨43, _⟩ => ⟨S384x8x16x1, .f32⟩
  | .hbm, ⟨44, _⟩ => ⟨S384x8x16, .f32⟩
  | .hbm, ⟨45, _⟩ => ⟨S384x8x16x1, .f32⟩
  | .hbm, ⟨46, _⟩ => ⟨S384x8x16x1, .f32⟩
  | .hbm, ⟨47, _⟩ => ⟨S384x8x16x2, .f32⟩
  | .hbm, ⟨48, _⟩ => ⟨S384x8x32, .f32⟩
  | .hbm, ⟨49, _⟩ => ⟨S_, .f32⟩
  | .hbm, ⟨50, _⟩ => ⟨S384x8x32, .f32⟩
  | .hbm, ⟨51, _⟩ => ⟨S384x8x128, .f32⟩
  | .hbm, ⟨52, _⟩ => ⟨S384x1024, .f32⟩
  | .hbm, ⟨53, _⟩ => ⟨S384x1024, .bf16⟩
  | .hbm, ⟨54, _⟩ => ⟨S256x8x128, .f32⟩
  | .hbm, ⟨55, _⟩ => ⟨S_, .f32⟩
  | .hbm, ⟨56, _⟩ => ⟨S256x8x64, .f32⟩
  | .hbm, ⟨57, _⟩ => ⟨S256x8x64, .f32⟩
  | .hbm, ⟨58, _⟩ => ⟨S256x8x128, .f32⟩
  | .hbm, ⟨59, _⟩ => ⟨S256x1024, .f32⟩
  | .hbm, ⟨60, _⟩ => ⟨S256x1024, .bf16⟩
  | .hbm, ⟨61, _⟩ => ⟨S256x8x64, .f32⟩
  | .hbm, ⟨62, _⟩ => ⟨S256x8x128, .f32⟩
  | .hbm, ⟨63, _⟩ => ⟨S256x1024, .f32⟩
  | .hbm, ⟨64, _⟩ => ⟨S256x1024, .bf16⟩
  | .hbm, ⟨65, _⟩ => ⟨S_, .f32⟩
  | .hbm, ⟨66, _⟩ => ⟨S8x384, .f32⟩
  | .hbm, ⟨67, _⟩ => ⟨S_, .i32⟩
  | .hbm, ⟨68, _⟩ => ⟨S1, .i32⟩
  | .hbm, ⟨69, _⟩ => ⟨S8x384, .f32⟩
  | .hbm, ⟨70, _⟩ => ⟨S_, .i32⟩
  | .hbm, ⟨71, _⟩ => ⟨S1, .i32⟩
  | .hbm, ⟨72, _⟩ => ⟨S_, .i32⟩
  | .hbm, ⟨73, _⟩ => ⟨S1, .i32⟩
  | .hbm, ⟨74, _⟩ => ⟨S2, .i32⟩
  | .hbm, ⟨75, _⟩ => ⟨S8x384, .f32⟩
  | .hbm, ⟨76, _⟩ => ⟨S8x4352x1024, .bf16⟩
  | .hbm, ⟨77, _⟩ => ⟨S8x4352x1024, .bf16⟩
  | .hbm, ⟨78, _⟩ => ⟨S8x4352x1024, .bf16⟩
  | .local _ .vmem, ⟨0, _⟩ => ⟨S1x256x384, .f32⟩
  | .local _ .vmem, ⟨1, _⟩ => ⟨S1x256x384, .f32⟩
  | .local _ .vmem, ⟨2, _⟩ => ⟨S1x256x256, .f32⟩
  | .local _ .vmem, ⟨3, _⟩ => ⟨S1x256x256, .f32⟩
  | .local _ .vmem, ⟨4, _⟩ => ⟨S1x256x256, .f32⟩
  | .local _ .vmem, ⟨5, _⟩ => ⟨S1x256x256, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S8x384, .f32⟩
  | .local _ .vmem, ⟨11, _⟩ => ⟨S384x1024, .bf16⟩
  | .local _ .vmem, ⟨12, _⟩ => ⟨S384x1024, .bf16⟩
  | .local _ .vmem, ⟨13, _⟩ => ⟨S256x1024, .bf16⟩
  | .local _ .vmem, ⟨14, _⟩ => ⟨S256x1024, .bf16⟩
  | .local _ .vmem, ⟨15, _⟩ => ⟨S1x256x1024, .bf16⟩
  | .local _ .vmem, ⟨16, _⟩ => ⟨S1x256x1024, .bf16⟩
  | .local _ .vmem, ⟨17, _⟩ => ⟨S1x256x1024, .bf16⟩
  | .local _ .vmem, ⟨18, _⟩ => ⟨S1x256x1024, .bf16⟩
  | .local _ .vmem, ⟨19, _⟩ => ⟨S1x256x1024, .bf16⟩
  | .local _ .vmem, ⟨20, _⟩ => ⟨S1x256x1024, .bf16⟩
  | _, _ => ⟨S8x4352x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_c : Ref sig .tc := ⟨.hbm, 13, rfl⟩
abbrev main_v3 : Ref sig .tc := ⟨.hbm, 14, rfl⟩
abbrev main_c_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_c_2 : Ref sig .tc := ⟨.hbm, 23, rfl⟩
abbrev main_v10 : Ref sig .tc := ⟨.hbm, 24, rfl⟩
abbrev main_c_3 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_4 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_5 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_6 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_7 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_8 : Ref sig .tc := ⟨.hbm, 65, rfl⟩
abbrev main_v46 : Ref sig .tc := ⟨.hbm, 66, rfl⟩
abbrev main_c_9 : Ref sig .tc := ⟨.hbm, 67, rfl⟩
abbrev main_v47 : Ref sig .tc := ⟨.hbm, 68, rfl⟩
abbrev main_v48 : Ref sig .tc := ⟨.hbm, 69, rfl⟩
abbrev main_c_10 : Ref sig .tc := ⟨.hbm, 70, rfl⟩
abbrev main_v49 : Ref sig .tc := ⟨.hbm, 71, rfl⟩
abbrev main_c_11 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53_0 : Ref sig .tc := ⟨.hbm, 76, rfl⟩
abbrev main_v53_1 : Ref sig .tc := ⟨.hbm, 77, rfl⟩
abbrev main_v53_2 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨2, ![8, 17], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S8x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S384x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S384x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S256x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== MlaPrepRefIdeal.lean ====
abbrev S8x4352x384 : Shape := ⟨3, ![8, 4352, 384]⟩
abbrev S8x4352x256 : Shape := ⟨3, ![8, 4352, 256]⟩
abbrev S384 : Shape := ⟨1, ![384]⟩
abbrev S384x768 : Shape := ⟨2, ![384, 768]⟩
abbrev S256 : Shape := ⟨1, ![256]⟩
abbrev S256x1024 : Shape := ⟨2, ![256, 1024]⟩
abbrev S4096x16 : Shape := ⟨2, ![4096, 16]⟩
abbrev S8x4352x32 : Shape := ⟨3, ![8, 4352, 32]⟩
abbrev S_ : Shape := ⟨0, ![]⟩
abbrev S8x4352 : Shape := ⟨2, ![8, 4352]⟩
abbrev S8x4352x1 : Shape := ⟨3, ![8, 4352, 1]⟩
abbrev S1x1x384 : Shape := ⟨3, ![1, 1, 384]⟩
abbrev S8x4352x768 : Shape := ⟨3, ![8, 4352, 768]⟩
abbrev S8x4352x8x96 : Shape := ⟨4, ![8, 4352, 8, 96]⟩
abbrev S1x1x256 : Shape := ⟨3, ![1, 1, 256]⟩
abbrev S8x4352x1024 : Shape := ⟨3, ![8, 4352, 1024]⟩
abbrev S8x4352x8x128 : Shape := ⟨4, ![8, 4352, 8, 128]⟩
abbrev S8x4352x8x64 : Shape := ⟨4, ![8, 4352, 8, 64]⟩
abbrev S8x4352x8x32 : Shape := ⟨4, ![8, 4352, 8, 32]⟩
abbrev S8x256x8x32 : Shape := ⟨4, ![8, 256, 8, 32]⟩
abbrev S8x4096x8x32 : Shape := ⟨4, ![8, 4096, 8, 32]⟩
abbrev S4096x1x16 : Shape := ⟨3, ![4096, 1, 16]⟩
abbrev S8x4096x8x16 : Shape := ⟨4, ![8, 4096, 8, 16]⟩
abbrev S1x4096x1x16 : Shape := ⟨4, ![1, 4096, 1, 16]⟩
abbrev S8x4096x8x16x1 : Shape := ⟨5, ![8, 4096, 8, 16, 1]⟩
abbrev S8x4096x8x16x2 : Shape := ⟨5, ![8, 4096, 8, 16, 2]⟩
abbrev S8x256x32 : Shape := ⟨3, ![8, 256, 32]⟩
abbrev S8x4096x32 : Shape := ⟨3, ![8, 4096, 32]⟩
abbrev S8x4096x16 : Shape := ⟨3, ![8, 4096, 16]⟩
abbrev S1x4096x16 : Shape := ⟨3, ![1, 4096, 16]⟩
abbrev S8x4096x16x1 : Shape := ⟨4, ![8, 4096, 16, 1]⟩
abbrev S8x4096x16x2 : Shape := ⟨4, ![8, 4096, 16, 2]⟩
abbrev S8x4352x1x32 : Shape := ⟨4, ![8, 4352, 1, 32]⟩

abbrev nBuf : Space → Nat
  | .hbm => 120
  | .vmem => 0
  | .smem => 0
  | _ => 0

abbrev bufTy : (tb : Table) → Fin (tcTables nBuf tb) → BufTy
  | .hbm, ⟨0, _⟩ => ⟨S8x4352x384, .f32⟩
  | .hbm, ⟨1, _⟩ => ⟨S8x4352x256, .f32⟩
  | .hbm, ⟨2, _⟩ => ⟨S8x4352x256, .f32⟩
  | .hbm, ⟨3, _⟩ => ⟨S384, .f32⟩
  | .hbm, ⟨4, _⟩ => ⟨S384x768, .f32⟩
  | .hbm, ⟨5, _⟩ => ⟨S256, .f32⟩
  | .hbm, ⟨6, _⟩ => ⟨S256x1024, .f32⟩
  | .hbm, ⟨7, _⟩ => ⟨S4096x16, .f32⟩
  | .hbm, ⟨8, _⟩ => ⟨S4096x16, .f32⟩
  | .hbm, ⟨9, _⟩ => ⟨S8x4352x32, .f32⟩
  | .hbm, ⟨10, _⟩ => ⟨S8x4352x384, .f32⟩
  | .hbm, ⟨11, _⟩ => ⟨S_, .f32⟩
  | .hbm, ⟨12, _⟩ => ⟨S8x4352, .f32⟩
  | .hbm, ⟨13, _⟩ => ⟨S8x4352x1, .f32⟩
  | .hbm, ⟨14, _⟩ => ⟨S_, .f32⟩
  | .hbm, ⟨15, _⟩ => ⟨S8x4352x1, .f32⟩
  | .hbm, ⟨16, _⟩ => ⟨S8x4352x1, .f32⟩
  | .hbm, ⟨17, _⟩ => ⟨S_, .f32⟩
  | .hbm, ⟨18, _⟩ => ⟨S8x4352x1, .f32⟩
  | .hbm, ⟨19, _⟩ => ⟨S8x4352x1, .f32⟩
  | .hbm, ⟨20, _⟩ => ⟨S8x4352x1, .f32⟩
  | .hbm, ⟨21, _⟩ => ⟨S8x4352x384, .f32⟩
  | .hbm, ⟨22, _⟩ => ⟨S8x4352x384, .f32⟩
  | .hbm, ⟨23, _⟩ => ⟨S1x1x384, .f32⟩
  | .hbm, ⟨24, _⟩ => ⟨S8x4352x384, .f32⟩
  | .hbm, ⟨25, _⟩ => ⟨S8x4352x384, .f32⟩
  | .hbm, ⟨26, _⟩ => ⟨S8x4352x768, .f32⟩
  | .hbm, ⟨27, _⟩ => ⟨S8x4352x8x96, .f32⟩
  | .hbm, ⟨28, _⟩ => ⟨S8x4352x256, .f32⟩
  | .hbm, ⟨29, _⟩ => ⟨S_, .f32⟩
  | .hbm, ⟨30, _⟩ => ⟨S8x4352, .f32⟩
  | .hbm, ⟨31, _⟩ => ⟨S8x4352x1, .f32⟩
  | .hbm, ⟨32, _⟩ => ⟨S_, .f32⟩
  | .hbm, ⟨33, _⟩ => ⟨S8x4352x1, .f32⟩
  | .hbm, ⟨34, _⟩ => ⟨S8x4352x1, .f32⟩
  | .hbm, ⟨35, _⟩ => ⟨S_, .f32⟩
  | .hbm, ⟨36, _⟩ => ⟨S8x4352x1, .f32⟩
  | .hbm, ⟨37, _⟩ => ⟨S8x4352x1, .f32⟩
  | .hbm, ⟨38, _⟩ => ⟨S8x4352x1, .f32⟩
  | .hbm, ⟨39, _⟩ => ⟨S8x4352x256, .f32⟩
  | .hbm, ⟨40, _⟩ => ⟨S8x4352x256, .f32⟩
  | .hbm, ⟨41, _⟩ => ⟨S1x1x256, .f32⟩
  | .hbm, ⟨42, _⟩ => ⟨S8x4352x256, .f32⟩
  | .hbm, ⟨43, _⟩ => ⟨S8x4352x256, .f32⟩
  | .hbm, ⟨44, _⟩ => ⟨S8x4352x1024, .f32⟩
  | .hbm, ⟨45, _⟩ => ⟨S8x4352x8x128, .f32⟩
  | .hbm, ⟨46, _⟩ => ⟨S8x4352x8x64, .f32⟩
  | .hbm, ⟨47, _⟩ => ⟨S8x4352x8x32, .f32⟩
  | .hbm, ⟨48, _⟩ => ⟨S8x4352x8x64, .f32⟩
  | .hbm, ⟨49, _⟩ => ⟨S8x4352x8x64, .f32⟩
  | .hbm, ⟨50, _⟩ => ⟨S8x256x8x32, .f32⟩
  | .hbm, ⟨51, _⟩ => ⟨S8x4096x8x32, .f32⟩
  | .hbm, ⟨52, _⟩ => ⟨S4096x1x16, .f32⟩
  | .hbm, ⟨53, _⟩ => ⟨S4096x1x16, .f32⟩
  | .hbm, ⟨54, _⟩ => ⟨S8x4096x8x16, .f32⟩
  | .hbm, ⟨55, _⟩ => ⟨S8x4096x8x16, .f32⟩
  | .hbm, ⟨56, _⟩ => ⟨S1x4096x1x16, .f32⟩
  | .hbm, ⟨57, _⟩ => ⟨S8x4096x8x16, .f32⟩
  | .hbm, ⟨58, _⟩ => ⟨S8x4096x8x16, .f32⟩
  | .hbm, ⟨59, _⟩ => ⟨S1x4096x1x16, .f32⟩
  | .hbm, ⟨60, _⟩ => ⟨S8x4096x8x16, .f32⟩
  | .hbm, ⟨61, _⟩ => ⟨S8x4096x8x16, .f32⟩
  | .hbm, ⟨62, _⟩ => ⟨S8x4096x8x16, .f32⟩
  | .hbm, ⟨63, _⟩ => ⟨S1x4096x1x16, .f32⟩
  | .hbm, ⟨64, _⟩ => ⟨S8x4096x8x16, .f32⟩
  | .hbm, ⟨65, _⟩ => ⟨S8x4096x8x16, .f32⟩
  | .hbm, ⟨66, _⟩ => ⟨S1x4096x1x16, .f32⟩
  | .hbm, ⟨67, _⟩ => ⟨S8x4096x8x16, .f32⟩
  | .hbm, ⟨68, _⟩ => ⟨S8x4096x8x16, .f32⟩
  | .hbm, ⟨69, _⟩ => ⟨S8x4096x8x16, .f32⟩
  | .hbm, ⟨70, _⟩ => ⟨S8x4096x8x16x1, .f32⟩
  | .hbm, ⟨71, _⟩ => ⟨S8x4096x8x16x1, .f32⟩
  | .hbm, ⟨72, _⟩ => ⟨S8x4096x8x16x2, .f32⟩
  | .hbm, ⟨73, _⟩ => ⟨S8x4096x8x32, .f32⟩
  | .hbm, ⟨74, _⟩ => ⟨S8x4352x8x32, .f32⟩
  | .hbm, ⟨75, _⟩ => ⟨S8x256x32, .f32⟩
  | .hbm, ⟨76, _⟩ => ⟨S8x4096x32, .f32⟩
  | .hbm, ⟨77, _⟩ => ⟨S8x4096x16, .f32⟩
  | .hbm, ⟨78, _⟩ => ⟨S8x4096x16, .f32⟩
  | .hbm, ⟨79, _⟩ => ⟨S1x4096x16, .f32⟩
  | .hbm, ⟨80, _⟩ => ⟨S8x4096x16, .f32⟩
  | .hbm, ⟨81, _⟩ => ⟨S8x4096x16, .f32⟩
  | .hbm, ⟨82, _⟩ => ⟨S1x4096x16, .f32⟩
  | .hbm, ⟨83, _⟩ => ⟨S8x4096x16, .f32⟩
  | .hbm, ⟨84, _⟩ => ⟨S8x4096x16, .f32⟩
  | .hbm, ⟨85, _⟩ => ⟨S8x4096x16, .f32⟩
  | .hbm, ⟨86, _⟩ => ⟨S1x4096x16, .f32⟩
  | .hbm, ⟨87, _⟩ => ⟨S8x4096x16, .f32⟩
  | .hbm, ⟨88, _⟩ => ⟨S8x4096x16, .f32⟩
  | .hbm, ⟨89, _⟩ => ⟨S1x4096x16, .f32⟩
  | .hbm, ⟨90, _⟩ => ⟨S8x4096x16, .f32⟩
  | .hbm, ⟨91, _⟩ => ⟨S8x4096x16, .f32⟩
  | .hbm, ⟨92, _⟩ => ⟨S8x4096x16, .f32⟩
  | .hbm, ⟨93, _⟩ => ⟨S8x4096x16x1, .f32⟩
  | .hbm, ⟨94, _⟩ => ⟨S8x4096x16x1, .f32⟩
  | .hbm, ⟨95, _⟩ => ⟨S8x4096x16x2, .f32⟩
  | .hbm, ⟨96, _⟩ => ⟨S8x4096x32, .f32⟩
  | .hbm, ⟨97, _⟩ => ⟨S8x4352x32, .f32⟩
  | .hbm, ⟨98, _⟩ => ⟨S8x4352x1x32, .f32⟩
  | .hbm, ⟨99, _⟩ => ⟨S8x4352x8x32, .f32⟩
  | .hbm, ⟨100, _⟩ => ⟨S8x4352x8x96, .f32⟩
  | .hbm, ⟨101, _⟩ => ⟨S8x4352x8x96, .f32⟩
  | .hbm, ⟨102, _⟩ => ⟨S_, .f32⟩
  | .hbm, ⟨103, _⟩ => ⟨S8x4352x8x96, .f32⟩
  | .hbm, ⟨104, _⟩ => ⟨S8x4352x8x96, .f32⟩
  | .hbm, ⟨105, _⟩ => ⟨S_, .i32⟩
  | .hbm, ⟨106, _⟩ => ⟨S_, .f32⟩
  | .hbm, ⟨107, _⟩ => ⟨S8x4352x8x128, .f32⟩
  | .hbm, ⟨108, _⟩ => ⟨S8x4352x1024, .f32⟩
  | .hbm, ⟨109, _⟩ => ⟨S8x4352x1024, .bf16⟩
  | .hbm, ⟨110, _⟩ => ⟨S_, .i32⟩
  | .hbm, ⟨111, _⟩ => ⟨S_, .f32⟩
  | .hbm, ⟨112, _⟩ => ⟨S8x4352x8x128, .f32⟩
  | .hbm, ⟨113, _⟩ => ⟨S8x4352x1024, .f32⟩
  | .hbm, ⟨114, _⟩ => ⟨S8x4352x1024, .bf16⟩
  | .hbm, ⟨115, _⟩ => ⟨S_, .i32⟩
  | .hbm, ⟨116, _⟩ => ⟨S_, .f32⟩
  | .hbm, ⟨117, _⟩ => ⟨S8x4352x8x128, .f32⟩
  | .hbm, ⟨118, _⟩ => ⟨S8x4352x1024, .f32⟩
  | .hbm, ⟨119, _⟩ => ⟨S8x4352x1024, .bf16⟩
  | _, _ => ⟨S8x4352x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_cst_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_cst_5 : Ref sig .tc := ⟨.hbm, 102, rfl⟩
abbrev main_v87 : Ref sig .tc := ⟨.hbm, 103, rfl⟩
abbrev main_v88 : Ref sig .tc := ⟨.hbm, 104, rfl⟩
abbrev main_c : Ref sig .tc := ⟨.hbm, 105, rfl⟩
abbrev main_call0_v0 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_c_6 : Ref sig .tc := ⟨.hbm, 110, rfl⟩
abbrev main_call1_v0 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_c_7 : Ref sig .tc := ⟨.hbm, 115, rfl⟩
abbrev main_call2_v0 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩

abbrev nD : Nat := 1
abbrev τ : Topo := Topo.v7x

variable {F : FTy → Type} [FloatOps F]
-- ==== Proof.AttnFrames.lean ====
module

public import proofs.«01_k».proof.Defs
public import proofs.«01_k».proof.Proof.Gen.Attn.Frame
public import proofs.«01_k».proof.Proof.Gen.AttnIdeal.Frame
public import proofs.«01_k».proof.Proof.Gen.AttnRefIdeal.Run
public import Idealize.ShloMosaic.Lib.Claim
public import Idealize.ShloMosaic.Lib.Quiescent
public import proofs.«01_k».proof.Proof.Gen.Pre_finite_scores

/-! The attention call's frames: the programs end, keep their arguments and leave every semaphore at zero. -/

@[expose] public section

set_option maxRecDepth 16384

noncomputable section

namespace Cert.AttnFrames

open Idealize.ShloMosaic Idealize.SL.Sem

/-- The attention kernel's frame, at the machine's floats. -/
theorem frame_kernel : quiescent_Attn (hAttn := Cert.Attn.Gen.facts) := fun m g _ => Cert.Attn.Gen.frame m g

/-- The attention kernel's frame, at the extended reals. -/
theorem frame_ideal : quiescent_AttnIdeal (hAttnIdeal := Cert.AttnIdeal.Gen.facts) := fun m g _ => Cert.AttnIdeal.Gen.frame m g

/-- The attention reference's frame. -/
theorem frame_ref : quiescent_AttnRefIdeal (hAttnRefIdeal := Cert.AttnRefIdeal.Gen.facts) := fun m g _ =>
  (θ_run _ _ _).mono (fun r h => ⟨fun c => (h c).2, sem_eq_zero_of_no_sems rfl _⟩) (Cert.AttnRefIdeal.Value.run m g)

/-- The attention kernel's frame under the precondition. -/
theorem frame_ideal_pre : quiescent_AttnIdeal_pre_finite_scores (hAttnIdeal := Cert.AttnIdeal.Gen.facts) (hPre_finite_scores := Cert.Pre_finite_scores.Gen.facts) :=
  fun m g _ => Cert.AttnIdeal.Gen.frame m g

/-- The attention reference's frame under the precondition. -/
theorem frame_ref_pre : quiescent_AttnRefIdeal_pre_finite_scores (hAttnRefIdeal := Cert.AttnRefIdeal.Gen.facts) (hPre_finite_scores := Cert.Pre_finite_scores.Gen.facts) :=
  fun m g _ => frame_ref m g trivial

end Cert.AttnFrames

end
-- ==== Proof.FfnFrames.lean ====
module

public import proofs.«01_k».proof.Defs
public import proofs.«01_k».proof.Proof.Gen.Ffn.Frame
public import proofs.«01_k».proof.Proof.Gen.FfnIdeal.Frame
public import proofs.«01_k».proof.Proof.Gen.FfnRefIdeal.Run
public import Idealize.ShloMosaic.Lib.Claim
public import Idealize.ShloMosaic.Lib.Quiescent

/-! The feed-forward call's frames: the programs end, keep their arguments and leave every semaphore at zero. -/

@[expose] public section

set_option maxRecDepth 16384

noncomputable section

namespace Cert.FfnFrames

open Idealize.ShloMosaic Idealize.SL.Sem

/-- The feed-forward kernel's frame, at the machine's floats. -/
theorem frame_kernel : quiescent_Ffn (hFfn := Cert.Ffn.Gen.facts) := fun m g _ => Cert.Ffn.Gen.frame m g

/-- The feed-forward kernel's frame, at the extended reals. -/
theorem frame_ideal : quiescent_FfnIdeal (hFfnIdeal := Cert.FfnIdeal.Gen.facts) := fun m g _ => Cert.FfnIdeal.Gen.frame m g

/-- The feed-forward reference's frame. -/
theorem frame_ref : quiescent_FfnRefIdeal (hFfnRefIdeal := Cert.FfnRefIdeal.Gen.facts) := fun m g _ =>
  (θ_run _ _ _).mono (fun r h => ⟨fun c => (h c).2, sem_eq_zero_of_no_sems rfl _⟩) (Cert.FfnRefIdeal.Value.run m g)

end Cert.FfnFrames

end
-- ==== Proof.InProjFrames.lean ====
module

public import proofs.«01_k».proof.Defs
public import proofs.«01_k».proof.Proof.Gen.InProj.Frame
public import proofs.«01_k».proof.Proof.Gen.InProjIdeal.Frame
public import proofs.«01_k».proof.Proof.Gen.InProjRefIdeal.Run
public import Idealize.ShloMosaic.Lib.Claim
public import Idealize.ShloMosaic.Lib.Quiescent
public import proofs.«01_k».proof.Proof.Gen.Pre_finite_projection

/-! The input projection call's frames: the programs end, keep their arguments and leave every semaphore at zero. -/

@[expose] public section

set_option maxRecDepth 16384

noncomputable section

namespace Cert.InProjFrames

open Idealize.ShloMosaic Idealize.SL.Sem

/-- The input projection kernel's frame, at the machine's floats. -/
theorem frame_kernel : quiescent_InProj (hInProj := Cert.InProj.Gen.facts) := fun m g _ => Cert.InProj.Gen.frame m g

/-- The input projection kernel's frame, at the extended reals. -/
theorem frame_ideal : quiescent_InProjIdeal (hInProjIdeal := Cert.InProjIdeal.Gen.facts) := fun m g _ => Cert.InProjIdeal.Gen.frame m g

/-- The input projection reference's frame. -/
theorem frame_ref : quiescent_InProjRefIdeal (hInProjRefIdeal := Cert.InProjRefIdeal.Gen.facts) := fun m g _ =>
  (θ_run _ _ _).mono (fun r h => ⟨fun c => (h c).2.2.2.2, sem_eq_zero_of_no_sems rfl _⟩) (Cert.InProjRefIdeal.Value.run m g)

/-- The input projection kernel's frame under the precondition. -/
theorem frame_ideal_pre : quiescent_InProjIdeal_pre_finite_projection (hInProjIdeal := Cert.InProjIdeal.Gen.facts) (hPre_finite_projection := Cert.Pre_finite_projection.Gen.facts) :=
  fun m g _ => Cert.InProjIdeal.Gen.frame m g

/-- The input projection reference's frame under the precondition. -/
theorem frame_ref_pre : quiescent_InProjRefIdeal_pre_finite_projection (hInProjRefIdeal := Cert.InProjRefIdeal.Gen.facts) (hPre_finite_projection := Cert.Pre_finite_projection.Gen.facts) :=
  fun m g _ => frame_ref m g trivial

end Cert.InProjFrames

end
-- ==== Proof.MixerOutFrames.lean ====
module

public import proofs.«01_k».proof.Defs
public import proofs.«01_k».proof.Proof.Gen.MixerOut.Frame
public import proofs.«01_k».proof.Proof.Gen.MixerOutIdeal.Frame
public import proofs.«01_k».proof.Proof.Gen.MixerOutRefIdeal.Run
public import Idealize.ShloMosaic.Lib.Claim
public import Idealize.ShloMosaic.Lib.Quiescent
public import proofs.«01_k».proof.Proof.Gen.Pre_finite_scan

/-! The mixer output call's frames: the programs end, keep their arguments and leave every semaphore at zero. -/

@[expose] public section

set_option maxRecDepth 16384

noncomputable section

namespace Cert.MixerOutFrames

open Idealize.ShloMosaic Idealize.SL.Sem

/-- The mixer output kernel's frame, at the machine's floats. -/
theorem frame_kernel : quiescent_MixerOut (hMixerOut := Cert.MixerOut.Gen.facts) := fun m g _ => Cert.MixerOut.Gen.frame m g

/-- The mixer output kernel's frame, at the extended reals. -/
theorem frame_ideal : quiescent_MixerOutIdeal (hMixerOutIdeal := Cert.MixerOutIdeal.Gen.facts) := fun m g _ => Cert.MixerOutIdeal.Gen.frame m g

/-- The mixer output reference's frame. -/
theorem frame_ref : quiescent_MixerOutRefIdeal (hMixerOutRefIdeal := Cert.MixerOutRefIdeal.Gen.facts) := fun m g _ =>
  (θ_run _ _ _).mono (fun r h => ⟨fun c => (h c).2, sem_eq_zero_of_no_sems rfl _⟩) (Cert.MixerOutRefIdeal.Value.run m g)

/-- The mixer output kernel's frame under the precondition. -/
theorem frame_ideal_pre : quiescent_MixerOutIdeal_pre_finite_scan (hMixerOutIdeal := Cert.MixerOutIdeal.Gen.facts) (hPre_finite_scan := Cert.Pre_finite_scan.Gen.facts) :=
  fun m g _ => Cert.MixerOutIdeal.Gen.frame m g

/-- The mixer output reference's frame under the precondition. -/
theorem frame_ref_pre : quiescent_MixerOutRefIdeal_pre_finite_scan (hMixerOutRefIdeal := Cert.MixerOutRefIdeal.Gen.facts) (hPre_finite_scan := Cert.Pre_finite_scan.Gen.facts) :=
  fun m g _ => frame_ref m g trivial

end Cert.MixerOutFrames

end
-- ==== Proof.MlaPrepFrames.lean ====
module

public import proofs.«01_k».proof.Defs
public import proofs.«01_k».proof.Proof.Gen.MlaPrep.Frame
public import proofs.«01_k».proof.Proof.Gen.MlaPrepIdeal.Frame
public import proofs.«01_k».proof.Proof.Gen.MlaPrepRefIdeal.Run
public import Idealize.ShloMosaic.Lib.Claim
public import Idealize.ShloMosaic.Lib.Quiescent
public import proofs.«01_k».proof.Proof.Gen.Pre_turned_key

/-! The query, key and value preparation call's frames: the programs end, keep their arguments and leave every semaphore at zero. -/

@[expose] public section

set_option maxRecDepth 16384

noncomputable section

namespace Cert.MlaPrepFrames

open Idealize.ShloMosaic Idealize.SL.Sem

/-- The query, key and value preparation kernel's frame, at the machine's floats. -/
theorem frame_kernel : quiescent_MlaPrep (hMlaPrep := Cert.MlaPrep.Gen.facts) := fun m g _ => Cert.MlaPrep.Gen.frame m g

/-- The query, key and value preparation kernel's frame, at the extended reals. -/
theorem frame_ideal : quiescent_MlaPrepIdeal (hMlaPrepIdeal := Cert.MlaPrepIdeal.Gen.facts) := fun m g _ => Cert.MlaPrepIdeal.Gen.frame m g

/-- The query, key and value preparation reference's frame. -/
theorem frame_ref : quiescent_MlaPrepRefIdeal (hMlaPrepRefIdeal := Cert.MlaPrepRefIdeal.Gen.facts) := fun m g _ =>
  (θ_run _ _ _).mono (fun r h => ⟨fun c => (h c).2.2.2, sem_eq_zero_of_no_sems rfl _⟩) (Cert.MlaPrepRefIdeal.Value.run m g)

/-- The query, key and value preparation kernel's frame under the precondition. -/
theorem frame_ideal_pre : quiescent_MlaPrepIdeal_pre_turned_key (hMlaPrepIdeal := Cert.MlaPrepIdeal.Gen.facts) (hPre_turned_key := Cert.Pre_turned_key.Gen.facts) :=
  fun m g _ => Cert.MlaPrepIdeal.Gen.frame m g

/-- The query, key and value preparation reference's frame under the precondition. -/
theorem frame_ref_pre : quiescent_MlaPrepRefIdeal_pre_turned_key (hMlaPrepRefIdeal := Cert.MlaPrepRefIdeal.Gen.facts) (hPre_turned_key := Cert.Pre_turned_key.Gen.facts) :=
  fun m g _ => frame_ref m g trivial

end Cert.MlaPrepFrames

end
-- ==== Proof.Softmax.lean ====
module

public import Idealize.ShloMosaic.Lib.Pointwise
public import Idealize.ShloMosaic.Lib.ReduceAll

/-! Softmax over finite scores on the extended reals: weighting the rows and dividing the total by the sum of the weights is
weighting the rows by the divided weights, and a finite contraction stays finite. -/

@[expose] public section

noncomputable section

namespace Cert.Softmax

open Idealize.ShloMosaic Finset

/-- A number of the extended line that is a real. -/
def Fin' (x : EReal) : Prop := ∃ r : ℝ, x = (r : EReal)

/-- An element whose absolute value is below plus infinity is a real. -/
theorem finite_of_abs_lt (x : EReal) (h : max x (-x) < ⊤) : Fin' x := by
  induction x with
  | bot => simp at h
  | top => simp at h
  | coe r => exact ⟨r, rfl⟩

/-- Plus infinity's bit pattern reads as the top of the extended reals. -/
theorem ofBits_inf : Ideal.ofBits .f32 0x7F800000#32 = ⊤ := by simp [Ideal.ofBits, Ideal.ieee]

/-- An element that passes the test "absolute value below plus infinity" is a real. -/
theorem finite_of_test (x : EReal)
    (h : (FloatOps.cmpf .olt (FloatOps.absf (x : Ideal .f32)) (Ideal.ofBits .f32 0x7F800000#32 : Ideal .f32) : BitVec 1) = 1#1) : Fin' x := by
  refine finite_of_abs_lt x ?_
  rw [ofBits_inf] at h
  have h2 : BitVec.ofBool (decide (max x (-x) < (⊤ : EReal))) = 1#1 := h
  by_contra hc
  rw [decide_eq_false hc] at h2
  exact absurd h2 (by decide)

/-- The product of two reals is a real. -/
theorem Fin'.mul {x y : EReal} (hx : Fin' x) (hy : Fin' y) : Fin' (x * y) := by
  obtain ⟨a, rfl⟩ := hx
  obtain ⟨b, rfl⟩ := hy
  exact ⟨a * b, (EReal.coe_mul a b).symm⟩

/-- The sum of two reals is a real. -/
theorem Fin'.add {x y : EReal} (hx : Fin' x) (hy : Fin' y) : Fin' (x + y) := by
  obtain ⟨a, rfl⟩ := hx
  obtain ⟨b, rfl⟩ := hy
  exact ⟨a + b, (EReal.coe_add a b).symm⟩

/-- A finite sum of reals is a real. -/
theorem Fin'.sum {ι : Type*} (s : Finset ι) (f : ι → EReal) (h : ∀ i ∈ s, Fin' (f i)) : Fin' (∑ i ∈ s, f i) := by
  classical
  induction s using Finset.induction_on with
  | empty => exact ⟨0, by simp⟩
  | insert a s ha ih =>
    rw [Finset.sum_insert ha]
    exact (h a (Finset.mem_insert_self a s)).add (ih fun i hi => h i (Finset.mem_insert_of_mem hi))

/-- The largest of a nonempty family of reals, started at minus infinity, is a real. -/
theorem Fin'.fold_max {ι : Type*} (s : Finset ι) (hs : s.Nonempty) (f : ι → EReal) (h : ∀ i ∈ s, Fin' (f i)) :
    Fin' (s.fold max ⊥ f) := by
  classical
  induction hs using Finset.Nonempty.cons_induction with
  | singleton a =>
    simpa using h a (Finset.mem_singleton_self a)
  | cons a s ha hs ih =>
    rw [Finset.fold_cons]
    obtain ⟨x, hx⟩ := h a (Finset.mem_cons_self a s)
    obtain ⟨y, hy⟩ := ih fun i hi => h i (Finset.mem_cons_of_mem hi)
    rw [hx, hy]
    exact ⟨max x y, (EReal.coe_strictMono.monotone.map_max).symm⟩

/-- A nonnegative real factor passes through a finite sum of extended reals. -/
theorem sum_mul_coe {ι : Type*} (s : Finset ι) (f : ι → EReal) (c : ℝ) (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha, ← ih]
    exact EReal.right_distrib_of_nonneg_of_ne_top (EReal.coe_nonneg.2 hc) (EReal.coe_ne_top c) _ _

/-- A finite sum of reals, embedded, is the sum of the embedded reals. -/
theorem coe_sum_real {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Weights `exp (s k - M)` of finite scores, `M` finite: dividing the weighted sum by the sum of the weights is the sum
weighted by the divided weights. -/
theorem divide_after_eq_divide_before {n : ℕ} (hn : 0 < n) (s v : Fin n → EReal) (hs : ∀ k, Fin' (s k)) (M : EReal) (hM : Fin' M) :
    Ideal.div (∑ k, Ideal.exp (s k - M) * v k) (∑ k, Ideal.exp (s k - M))
      = ∑ k, v k * Ideal.div (Ideal.exp (s k - M)) (∑ l, Ideal.exp (s l - M)) := by
  obtain ⟨m, rfl⟩ := hM
  choose r hr using hs
  have he : ∀ k, Ideal.exp (s k - (m : EReal)) = ((Real.exp (r k - m) : ℝ) : EReal) := fun k => by
    rw [hr k, ← EReal.coe_sub]
    rfl
  have hl : (∑ k, Ideal.exp (s k - (m : EReal))) = ((∑ k, Real.exp (r k - m) : ℝ) : EReal) := by
    rw [coe_sum_real]
    exact Finset.sum_congr rfl fun k _ => he k
  have hpos : 0 < ∑ k, Real.exp (r k - m) :=
    Finset.sum_pos (fun k _ => Real.exp_pos _) ⟨⟨0, hn⟩, Finset.mem_univ _⟩
  rw [hl, Ideal.div_coe hpos.ne', sum_mul_coe _ _ _ (one_div_nonneg.2 hpos.le)]
  refine Finset.sum_congr rfl fun k _ => ?_
  rw [Ideal.div_coe hpos.ne', mul_comm (Ideal.exp _) (v k), mul_assoc]

end Cert.Softmax

end
-- ==== Proof.Attention.lean ====
module

public import Idealize.ShloMosaic.Lib.Pointwise
public import proofs.«01_k».proof.Proof.Softmax

/-! What attention computes, over the three arrays: the score of a query row against a key row within one head, and the
softmax-weighted sum of the value rows over the first `n` keys. -/

@[expose] public section

set_option maxRecDepth 16384

noncomputable section

namespace Cert.Attention

open Idealize.ShloMosaic Cert.Softmax

/-- The shape of the queries, keys, values and result: samples, rows, lanes. -/
abbrev SA : Shape := ⟨3, ![8, 4352, 1024]⟩

/-- Minus infinity's bit pattern reads as the bottom of the extended reals. -/
theorem ofBits_neg_inf : Ideal.ofBits .f32 0xFF800000#32 = ⊥ := by simp [Ideal.ofBits, Ideal.ieee]

/-- Minus infinity is the least. -/
theorem max_bot (x : EReal) : max (⊥ : EReal) x = x := max_eq_right bot_le

/-- Lane `e` of head `h`. -/
def lane (h : Fin 8) (e : Fin 128) : Fin 1024 := ⟨h.val * 128 + e.val, by omega⟩

/-- Row `x` among the first `n`. -/
def row {n : ℕ} (hn : n ≤ 4352) (x : Fin n) : Fin 4352 := ⟨x.val, by omega⟩

/-- The score of query row `t` against key row `x` in head `h`: the inner product over the head's lanes. -/
def score (q k : SA.Idx → EReal) (b : Fin 8) (h : Fin 8) (t x : Fin 4352) : EReal :=
  ∑ e : Fin 128, q (ix3 b t (lane h e)) * k (ix3 b x (lane h e))

/-- The largest score of query row `t` over the first `n` keys. -/
def top {n : ℕ} (hn : n ≤ 4352) (q k : SA.Idx → EReal) (b : Fin 8) (h : Fin 8) (t : Fin 4352) : EReal :=
  Finset.univ.fold max ⊥ fun x : Fin n => score q k b h t (row hn x)

/-- The unnormalised weight of key `x` for query row `t`. -/
def weight {n : ℕ} (hn : n ≤ 4352) (q k : SA.Idx → EReal) (b : Fin 8) (h : Fin 8) (t : Fin 4352) (x : Fin n) : EReal :=
  Ideal.exp (score q k b h t (row hn x) - top hn q k b h t)

/-- Attention at query row `t`, head `h`, lane `d` over the first `n` keys: values weighted by the softmax of the scores. -/
def attend {n : ℕ} (hn : n ≤ 4352) (q k v : SA.Idx → EReal) (b : Fin 8) (h : Fin 8) (t : Fin 4352) (d : Fin 128) : EReal :=
  ∑ x : Fin n, v (ix3 b (row hn x) (lane h d)) * Ideal.div (weight hn q k b h t x) (∑ y, weight hn q k b h t y)

/-- With finite queries and keys every score is finite. -/
theorem score_finite {q k : SA.Idx → EReal} (hq : ∀ i, Fin' (q i)) (hk : ∀ i, Fin' (k i)) (b h t x) : Fin' (score q k b h t x) :=
  Fin'.sum _ _ fun e _ => (hq _).mul (hk _)

/-- With finite queries and keys, normalising after the weighted sum is the same as normalising the weights. -/
theorem attend_eq {n : ℕ} (h0 : 0 < n) (hn : n ≤ 4352) (q k v : SA.Idx → EReal) (hq : ∀ i, Fin' (q i)) (hk : ∀ i, Fin' (k i))
    (b h : Fin 8) (t : Fin 4352) (d : Fin 128) :
    Ideal.div (∑ x : Fin n, weight hn q k b h t x * v (ix3 b (row hn x) (lane h d))) (∑ y, weight hn q k b h t y)
      = attend hn q k v b h t d :=
  divide_after_eq_divide_before h0 (fun x => score q k b h t (row hn x)) (fun x => v (ix3 b (row hn x) (lane h d)))
    (fun x => score_finite hq hk b h t _) _
    (Fin'.fold_max _ ⟨⟨0, h0⟩, Finset.mem_univ _⟩ _ fun x _ => score_finite hq hk b h t _)

/-- The whole result: the first 256 rows (the context) attend over the first 256 keys, the rest over all 4352. -/
def result (q k v : SA.Idx → EReal) : SA.Idx → EReal := fun i =>
  if (i 1).val < 256 then attend (n := 256) (by omega) q k v (i 0) ⟨(i 2).val / 128, Nat.div_lt_of_lt_mul (i 2).isLt⟩ (i 1) ⟨(i 2).val % 128, Nat.mod_lt _ (by decide)⟩
  else attend (n := 4352) le_rfl q k v (i 0) ⟨(i 2).val / 128, Nat.div_lt_of_lt_mul (i 2).isLt⟩ (i 1) ⟨(i 2).val % 128, Nat.mod_lt _ (by decide)⟩

/-- The result at a context row. -/
theorem result_ctx (q k v : SA.Idx → EReal) (b h : Fin 8) (t : Fin 4352) (ht : t.val < 256) (d : Fin 128) :
    result q k v (ix3 b t (lane h d)) = attend (n := 256) (by omega) q k v b h t d := by
  have e1 : (h.val * 128 + d.val) / 128 = h.val := by omega
  have e2 : (h.val * 128 + d.val) % 128 = d.val := by omega
  show (if t.val < 256 then _ else _) = _
  rw [if_pos ht]
  exact congrArg₂ (fun h d => attend (n := 256) (by omega) q k v b h t d) (Fin.ext e1) (Fin.ext e2)

/-- The result at a latent row. -/
theorem result_lat (q k v : SA.Idx → EReal) (b h : Fin 8) (t : Fin 4352) (ht : ¬ t.val < 256) (d : Fin 128) :
    result q k v (ix3 b t (lane h d)) = attend (n := 4352) le_rfl q k v b h t d := by
  have e1 : (h.val * 128 + d.val) / 128 = h.val := by omega
  have e2 : (h.val * 128 + d.val) % 128 = d.val := by omega
  show (if t.val < 256 then _ else _) = _
  rw [if_neg ht]
  exact congrArg₂ (fun h d => attend (n := 4352) le_rfl q k v b h t d) (Fin.ext e1) (Fin.ext e2)

/-- Every index of the array is a sample, a row, a head and a lane of the head. -/
theorem idx_cases (i : SA.Idx) : ∃ (b : Fin 8) (t : Fin 4352) (h : Fin 8) (d : Fin 128), i = ix3 b t (lane h d) :=
  ⟨i 0, i 1, ⟨(i 2).val / 128, Nat.div_lt_of_lt_mul (i 2).isLt⟩, ⟨(i 2).val % 128, Nat.mod_lt _ (by decide)⟩, by
    refine (eq_ix3 i).trans (congrArg (ix3 (i 0) (i 1)) (Fin.ext ?_))
    show (i 2).val = (i 2).val / 128 * 128 + (i 2).val % 128
    omega⟩

end Cert.Attention

end
-- ==== Proof.AttnBlock.lean ====
module

public import Idealize.ShloMosaic.Lib.Pipeline.ValueKit
public import Idealize.ShloMosaic.Lib.Pointwise
public import Idealize.ShloMosaic.Lib.Pipeline.Covers
public import proofs.«01_k».proof.Proof.Gen.AttnIdeal.Value
public import proofs.«01_k».proof.Proof.Attention

/-! What one grid point of the attention kernel stores, and the array the whole grid leaves. -/

@[expose] public section

set_option maxRecDepth 16384

noncomputable section

namespace Cert.AttnBlock

open Idealize.ShloMosaic Idealize.ShloMosaic.TcCoe Idealize.SL.Sem
open Cert.AttnIdeal Cert.AttnIdeal.Gen Cert.Attention Cert.Softmax

/-- A context tile's stored block, from blocks that read the arrays at sample `b`, head `h` and the tile's rows. -/
theorem pay_ctx (q k v : SA.Idx → EReal) (hq : ∀ i, Fin' (q i)) (hk : ∀ i, Fin' (k i)) (b h : Fin 8) (T : Fin 256 → Fin 4352)
    (Q K V : FVec Ideal S1x256x128 .bf16) (hQ : ∀ (r : Fin 256) (e : Fin 128), Q (ix3 0 r e) = q (ix3 b (T r) (lane h e)))
    (hK : ∀ (x : Fin 256) (e : Fin 128), K (ix3 0 x e) = k (ix3 b ⟨x.val, by omega⟩ (lane h e)))
    (hV : ∀ (x : Fin 256) (e : Fin 128), V (ix3 0 x e) = v (ix3 b ⟨x.val, by omega⟩ (lane h e))) (r : Fin 256) (d : Fin 128) :
    k0_pay1 (F := Ideal) Q K V (ix3 0 r d) = attend (n := 256) (by omega) q k v b h (T r) d := by
  rw [← attend_eq (by omega) (by omega) q k v hq hk]
  pointwise [k0_pay1, hQ, hK, hV]
  rw [ofBits_neg_inf]
  rfl

/-- A latent tile's stored block, from blocks that read the arrays at sample `b`, head `h` and the tile's rows. -/
theorem pay_lat (q k v : SA.Idx → EReal) (hq : ∀ i, Fin' (q i)) (hk : ∀ i, Fin' (k i)) (b h : Fin 8) (T : Fin 256 → Fin 4352)
    (Q : FVec Ideal S1x256x128 .bf16) (K V : FVec Ideal S1x4352x128 .bf16) (hQ : ∀ (r : Fin 256) (e : Fin 128), Q (ix3 0 r e) = q (ix3 b (T r) (lane h e)))
    (hK : ∀ (x : Fin 4352) (e : Fin 128), K (ix3 0 x e) = k (ix3 b x (lane h e)))
    (hV : ∀ (x : Fin 4352) (e : Fin 128), V (ix3 0 x e) = v (ix3 b x (lane h e))) (r : Fin 256) (d : Fin 128) :
    k0_pay2 (F := Ideal) Q K V (ix3 0 r d) = attend (n := 4352) le_rfl q k v b h (T r) d := by
  rw [← attend_eq (by omega) le_rfl q k v hq hk]
  pointwise [k0_pay2, hQ, hK, hV]
  rw [ofBits_neg_inf]
  rfl

/-- Which blocks a grid point reads and writes: its sample, its tile of rows, its head. -/
theorem idx : ∀ t : Fin cfg0.N, win0_0.index t = ![t.val / 136, t.val % 17, t.val / 17 % 8]
    ∧ win0_1.index t = ![t.val / 136, 0, t.val / 17 % 8]
    ∧ win0_2.index t = ![t.val / 136, 0, t.val / 17 % 8]
    ∧ win0_3.index t = ![t.val / 136, t.val % 17, t.val / 17 % 8] :=
  (by decide +kernel : ∀ t : Fin grid0.N, _)

/-- The points number 1088. -/
theorem lt_points (t : Fin cfg0.N) : t.val < 1088 := lt_of_lt_of_eq t.isLt N_0

/-- The sample of a grid point. -/
def smp (t : Fin cfg0.N) : Fin 8 := ⟨t.val / 136, by have := lt_points t; omega⟩

/-- The head of a grid point. -/
def hd (t : Fin cfg0.N) : Fin 8 := ⟨t.val / 17 % 8, by omega⟩

/-- The rows of a grid point's tile. -/
def rows (t : Fin cfg0.N) (r : Fin 256) : Fin 4352 := ⟨t.val % 17 * 256 + r.val, by omega⟩

variable (m : (ℓ : Loc nD τ sig) → Buf (Elt Ideal) ℓ)

/-- The queries a grid point reads. -/
theorem read_q (c : Dev nD) (t : Fin cfg0.N) (r : Fin 256) (e : Fin 128) :
    (iblk m c 0 t : FVec Ideal S1x256x128 .bf16) (ix3 0 r e)
      = (m ((c : Thread nD τ).loc main_arg0) : FVec Ideal S8x4352x1024 .bf16) (ix3 (smp t) (rows t r) (lane (hd t) e)) := by
  have ht := lt_points t
  unfold smp rows hd lane
  blk_point [iblk, V, idx t]

/-- The keys a grid point reads. -/
theorem read_k (c : Dev nD) (t : Fin cfg0.N) (r : Fin 4352) (e : Fin 128) :
    (iblk m c 1 t : FVec Ideal S1x4352x128 .bf16) (ix3 0 r e)
      = (m ((c : Thread nD τ).loc main_arg1) : FVec Ideal S8x4352x1024 .bf16) (ix3 (smp t) r (lane (hd t) e)) := by
  have ht := lt_points t
  unfold smp hd lane
  blk_point [iblk, V, idx t]

/-- The values a grid point reads. -/
theorem read_v (c : Dev nD) (t : Fin cfg0.N) (r : Fin 4352) (e : Fin 128) :
    (iblk m c 2 t : FVec Ideal S1x4352x128 .bf16) (ix3 0 r e)
      = (m ((c : Thread nD τ).loc main_arg2) : FVec Ideal S8x4352x1024 .bf16) (ix3 (smp t) r (lane (hd t) e)) := by
  have ht := lt_points t
  unfold smp hd lane
  blk_point [iblk, V, idx t]

/-- Where a grid point's block lands in the result. -/
theorem lands (t : Fin cfg0.N) (r : Fin 256) (d : Fin 128) :
    (((cfg0.win 3).blk t).view.emb (ix3 0 r d : S1x256x128.Idx) : S8x4352x1024.Idx) = ix3 (smp t) (rows t r) (lane (hd t) d) := by
  have ht := lt_points t
  unfold smp rows hd lane
  blk_ext [idx t]

/-- Every block of the result is some grid point's. -/
theorem covers : (cfg0.win 3).Covers := by decide +kernel

/-- With finite queries and keys, the array the kernel leaves is attention. -/
theorem final (c : Dev nD) (hq : ∀ i : SA.Idx, Fin' ((m ((c : Thread nD τ).loc main_arg0) : FVec Ideal S8x4352x1024 .bf16) i))
    (hk : ∀ i : SA.Idx, Fin' ((m ((c : Thread nD τ).loc main_arg1) : FVec Ideal S8x4352x1024 .bf16) i)) :
    (dats m 0 c).arrAt 3 (cfgs 0).N = result (m ((c : Thread nD τ).loc main_arg0)) (m ((c : Thread nD τ).loc main_arg1)) (m ((c : Thread nD τ).loc main_arg2)) := by
  refine (dats m 0 c).arrAt_eq_of_covers 3 _ covers fun t _ y => ?_
  blk_simp
  rw [after0_3]
  have hy : ∃ (r : Fin 256) (d : Fin 128), y = (ix3 0 r d : S1x256x128.Idx) := ⟨y 1, y 2, by idx_ext⟩
  obtain ⟨r, d, rfl⟩ := hy
  rw [lands]
  by_cases h0 : t.val % 17 = 0
  · rw [outsAt0_A m c t h0 (by omega)]
    frame_out
    rw [result_ctx _ _ _ _ _ _ (by show t.val % 17 * 256 + r.val < 256; omega)]
    refine pay_ctx _ _ _ hq hk (smp t) (hd t) (rows t) _ _ _ (read_q m c t) (fun x e => ?_) (fun x e => ?_) r d
    · pointwise
      exact read_k m c t _ e
    · pointwise
      exact read_v m c t _ e
  · rw [outsAt0_B m c t h0 (by omega)]
    frame_out
    rw [result_lat _ _ _ _ _ _ (by show ¬ t.val % 17 * 256 + r.val < 256; omega)]
    exact pay_lat _ _ _ hq hk (smp t) (hd t) (rows t) _ _ _ (read_q m c t) (read_k m c t) (read_v m c t) r d

end Cert.AttnBlock

end
-- ==== Proof.AttnRefPoint.lean ====
module

public import Idealize.ShloMosaic.Lib.Pointwise
public import proofs.«01_k».proof.Proof.Gen.AttnRefIdeal.Run
public import proofs.«01_k».proof.Proof.Attention

/-! The attention reference's result is `Attention.result` of its arguments. -/

@[expose] public section

set_option maxRecDepth 16384

noncomputable section

namespace Cert.AttnRefPoint

open Idealize.ShloMosaic Idealize.ShloMosaic.TcCoe Idealize.SL.Sem
open Cert.AttnRefIdeal Cert.AttnRefIdeal.Gen Cert.Attention

/-- The heads of an array: its 1024 lanes as 8 heads of 128. -/
def HEADS (x : FVec Ideal S8x4352x1024 .bf16) : FVec Ideal S8x4352x8x128 .f32 :=
  shapeCast _ (extf .f32 x bitsLt_bf16_f32) shapeCasts_S8x4352x1024_S8x4352x8x128

/-- The context rows' heads. -/
def HC (x : FVec Ideal S8x4352x1024 .bf16) : FVec Ideal S8x256x8x128 .f32 :=
  extractStridedSlice S8x256x8x128 ![0, 0, 0, 0] (HEADS x) slices_S8x4352x8x128_S8x256x8x128_0_0_0_0

/-- The latent rows' heads. -/
def HL (x : FVec Ideal S8x4352x1024 .bf16) : FVec Ideal S8x4096x8x128 .f32 :=
  extractStridedSlice S8x4096x8x128 ![0, 256, 0, 0] (HEADS x) slices_S8x4352x8x128_S8x4096x8x128_0_256_0_0

/-- A head's lane is a lane of the array. -/
theorem heads_at (x : FVec Ideal S8x4352x1024 .bf16) (b : Fin 8) (t : Fin 4352) (h : Fin 8) (d : Fin 128) :
    HEADS x (ix4 b t h d) = x (ix3 b t (lane h d)) := by
  pointwise [HEADS]
  rfl

/-- A context row's lane. -/
theorem hc_at (x : FVec Ideal S8x4352x1024 .bf16) (b : Fin 8) (t : Fin 256) (h : Fin 8) (d : Fin 128) :
    HC x (ix4 b t h d) = x (ix3 b ⟨t.val, by omega⟩ (lane h d)) := by
  pointwise [HC]
  exact heads_at x b _ h d

/-- A latent row's lane. -/
theorem hl_at (x : FVec Ideal S8x4352x1024 .bf16) (b : Fin 8) (t : Fin 4096) (h : Fin 8) (d : Fin 128) :
    HL x (ix4 b t h d) = x (ix3 b ⟨256 + t.val, by omega⟩ (lane h d)) := by
  pointwise [HL]
  exact heads_at x b _ h d

/-- The reference's context scores. -/
def SC (q k : FVec Ideal S8x4352x1024 .bf16) : FVec Ideal S8x8x256x256 .f32 :=
  Host.dotGeneral dot_S8x256x8x128_S8x256x8x128_S8x8x256x256_3_3_1_1_02_02 none (HC q) (HC k)

/-- The reference's latent scores. -/
def SL (q k : FVec Ideal S8x4352x1024 .bf16) : FVec Ideal S8x8x4096x4352 .f32 :=
  Host.dotGeneral dot_S8x4096x8x128_S8x4352x8x128_S8x8x4096x4352_3_3_1_1_02_02 none (HL q) (HEADS k)

/-- The context scores at an index. -/
theorem sc_at (q k : FVec Ideal S8x4352x1024 .bf16) (b h : Fin 8) (t x : Fin 256) :
    SC q k (ix4 b h t x) = score q k b h ⟨t.val, by omega⟩ ⟨x.val, by omega⟩ := by
  pointwise [SC]
  exact Finset.sum_congr rfl fun e _ => by rw [hc_at, hc_at]

/-- The latent scores at an index. -/
theorem sl_at (q k : FVec Ideal S8x4352x1024 .bf16) (b h : Fin 8) (t : Fin 4096) (x : Fin 4352) :
    SL q k (ix4 b h t x) = score q k b h ⟨256 + t.val, by omega⟩ x := by
  pointwise [SL]
  exact Finset.sum_congr rfl fun e _ => by rw [hl_at, heads_at]

/-- The largest context score of each row, as a reduction started at minus infinity. -/
def MAX256 (s : FVec Ideal S8x8x256x256 .f32) : FVec Ideal S8x8x256 .f32 :=
  Host.reduce FloatOps.maximumf s (constant S_ .f32 0xFF800000#32) reducesTo_S8x8x256x256_S8x8x256_d3 h_S_

/-- The largest context score of each row, compared with minus infinity once more. -/
def TOP256 (s : FVec Ideal S8x8x256x256 .f32) : FVec Ideal S8x8x256 .f32 :=
  maximumf (broadcastInDim S8x8x256 ![] bcast_S_S8x8x256 (constant S_ .f32 0xFF800000#32)) (MAX256 s)

/-- One number a row, spread over the row's keys. -/
def SPREAD256 (x : FVec Ideal S8x8x256 .f32) : FVec Ideal S8x8x256x256 .f32 :=
  broadcastInDim S8x8x256x256 ![0, 1, 2, 3] bcast_S8x8x256x1_S8x8x256x256_0_1_2_3 (broadcastInDim S8x8x256x1 ![0, 1, 2] bcast_S8x8x256_S8x8x256x1_0_1_2 x)

/-- The sum over each row's keys. -/
def SUM256 (s : FVec Ideal S8x8x256x256 .f32) : FVec Ideal S8x8x256 .f32 :=
  Host.reduceAdd s (constant S_ .f32 0x00000000#32) reducesTo_S8x8x256x256_S8x8x256_d3 h_S_

/-- The reference's exponentials of the context scores, each row's largest score taken off. -/
def EXP256 (s : FVec Ideal S8x8x256x256 .f32) : FVec Ideal S8x8x256x256 .f32 :=
  Host.exp (subf s (SPREAD256 (TOP256 s)))

/-- The reference's normalised context weights. -/
def SOFT256 (s : FVec Ideal S8x8x256x256 .f32) : FVec Ideal S8x8x256x256 .f32 :=
  Host.divf (EXP256 s) (SPREAD256 (SUM256 (EXP256 s)))

/-- The largest score of a row. -/
theorem max256_at (s : FVec Ideal S8x8x256x256 .f32) (b h : Fin 8) (t : Fin 256) :
    MAX256 s (ix3 b h t) = Finset.univ.fold max ⊥ fun y : Fin 256 => s (ix4 b h t y) := by
  pointwise [MAX256]
  rw [ofBits_neg_inf]

/-- The larger of two arrays at an index. -/
theorem larger256_at (x y : FVec Ideal S8x8x256 .f32) (b h : Fin 8) (t : Fin 256) :
    maximumf x y (ix3 b h t) = max (x (ix3 b h t)) (y (ix3 b h t)) := by
  pointwise

/-- Minus infinity spread over the rows. -/
theorem bot256_at (b h : Fin 8) (t : Fin 256) :
    broadcastInDim S8x8x256 ![] bcast_S_S8x8x256 (constant (F := Ideal) S_ .f32 0xFF800000#32) (ix3 b h t) = (⊥ : EReal) := by
  pointwise
  rw [ofBits_neg_inf]

/-- Comparing with minus infinity changes nothing. -/
theorem top256_at (s : FVec Ideal S8x8x256x256 .f32) (b h : Fin 8) (t : Fin 256) : TOP256 s (ix3 b h t) = MAX256 s (ix3 b h t) := by
  have e : TOP256 s (ix3 b h t) = max _ (MAX256 s (ix3 b h t)) := larger256_at _ _ b h t
  rw [e, bot256_at]
  exact max_bot _

/-- A row's number at each of its keys. -/
theorem spread256_at (x : FVec Ideal S8x8x256 .f32) (b h : Fin 8) (t : Fin 256) (y : Fin 256) : SPREAD256 x (ix4 b h t y) = x (ix3 b h t) := by
  pointwise [SPREAD256]

/-- The sum over a row's keys. -/
theorem sum256_at (s : FVec Ideal S8x8x256x256 .f32) (b h : Fin 8) (t : Fin 256) : SUM256 s (ix3 b h t) = ∑ y : Fin 256, s (ix4 b h t y) := by
  pointwise [SUM256]

/-- The exponentials at an index. -/
theorem exp256_at (s : FVec Ideal S8x8x256x256 .f32) (b h : Fin 8) (t : Fin 256) (x : Fin 256) :
    EXP256 s (ix4 b h t x) = Ideal.exp (s (ix4 b h t x) - Finset.univ.fold max ⊥ fun y : Fin 256 => s (ix4 b h t y)) := by
  rw [← max256_at, ← top256_at, ← spread256_at (TOP256 s) b h t x]
  rfl

/-- The normalised weights at an index. -/
theorem soft256_at (s : FVec Ideal S8x8x256x256 .f32) (b h : Fin 8) (t : Fin 256) (x : Fin 256) :
    SOFT256 s (ix4 b h t x) = Ideal.div (EXP256 s (ix4 b h t x)) (∑ y : Fin 256, EXP256 s (ix4 b h t y)) := by
  rw [← sum256_at, ← spread256_at (SUM256 (EXP256 s)) b h t x]
  rfl

/-- The largest latent score of each row, as a reduction started at minus infinity. -/
def MAX4096 (s : FVec Ideal S8x8x4096x4352 .f32) : FVec Ideal S8x8x4096 .f32 :=
  Host.reduce FloatOps.maximumf s (constant S_ .f32 0xFF800000#32) reducesTo_S8x8x4096x4352_S8x8x4096_d3 h_S_

/-- The largest latent score of each row, compared with minus infinity once more. -/
def TOP4096 (s : FVec Ideal S8x8x4096x4352 .f32) : FVec Ideal S8x8x4096 .f32 :=
  maximumf (broadcastInDim S8x8x4096 ![] bcast_S_S8x8x4096 (constant S_ .f32 0xFF800000#32)) (MAX4096 s)

/-- One number a row, spread over the row's keys. -/
def SPREAD4096 (x : FVec Ideal S8x8x4096 .f32) : FVec Ideal S8x8x4096x4352 .f32 :=
  broadcastInDim S8x8x4096x4352 ![0, 1, 2, 3] bcast_S8x8x4096x1_S8x8x4096x4352_0_1_2_3 (broadcastInDim S8x8x4096x1 ![0, 1, 2] bcast_S8x8x4096_S8x8x4096x1_0_1_2 x)

/-- The sum over each row's keys. -/
def SUM4096 (s : FVec Ideal S8x8x4096x4352 .f32) : FVec Ideal S8x8x4096 .f32 :=
  Host.reduceAdd s (constant S_ .f32 0x00000000#32) reducesTo_S8x8x4096x4352_S8x8x4096_d3 h_S_

/-- The reference's exponentials of the latent scores, each row's largest score taken off. -/
def EXP4096 (s : FVec Ideal S8x8x4096x4352 .f32) : FVec Ideal S8x8x4096x4352 .f32 :=
  Host.exp (subf s (SPREAD4096 (TOP4096 s)))

/-- The reference's normalised latent weights. -/
def SOFT4096 (s : FVec Ideal S8x8x4096x4352 .f32) : FVec Ideal S8x8x4096x4352 .f32 :=
  Host.divf (EXP4096 s) (SPREAD4096 (SUM4096 (EXP4096 s)))

/-- The largest score of a row. -/
theorem max4096_at (s : FVec Ideal S8x8x4096x4352 .f32) (b h : Fin 8) (t : Fin 4096) :
    MAX4096 s (ix3 b h t) = Finset.univ.fold max ⊥ fun y : Fin 4352 => s (ix4 b h t y) := by
  pointwise [MAX4096]
  rw [ofBits_neg_inf]

/-- The larger of two arrays at an index. -/
theorem larger4096_at (x y : FVec Ideal S8x8x4096 .f32) (b h : Fin 8) (t : Fin 4096) :
    maximumf x y (ix3 b h t) = max (x (ix3 b h t)) (y (ix3 b h t)) := by
  pointwise

/-- Minus infinity spread over the rows. -/
theorem bot4096_at (b h : Fin 8) (t : Fin 4096) :
    broadcastInDim S8x8x4096 ![] bcast_S_S8x8x4096 (constant (F := Ideal) S_ .f32 0xFF800000#32) (ix3 b h t) = (⊥ : EReal) := by
  pointwise
  rw [ofBits_neg_inf]

/-- Comparing with minus infinity changes nothing. -/
theorem top4096_at (s : FVec Ideal S8x8x4096x4352 .f32) (b h : Fin 8) (t : Fin 4096) : TOP4096 s (ix3 b h t) = MAX4096 s (ix3 b h t) := by
  have e : TOP4096 s (ix3 b h t) = max _ (MAX4096 s (ix3 b h t)) := larger4096_at _ _ b h t
  rw [e, bot4096_at]
  exact max_bot _

/-- A row's number at each of its keys. -/
theorem spread4096_at (x : FVec Ideal S8x8x4096 .f32) (b h : Fin 8) (t : Fin 4096) (y : Fin 4352) : SPREAD4096 x (ix4 b h t y) = x (ix3 b h t) := by
  pointwise [SPREAD4096]

/-- The sum over a row's keys. -/
theorem sum4096_at (s : FVec Ideal S8x8x4096x4352 .f32) (b h : Fin 8) (t : Fin 4096) : SUM4096 s (ix3 b h t) = ∑ y : Fin 4352, s (ix4 b h t y) := by
  pointwise [SUM4096]

/-- The exponentials at an index. -/
theorem exp4096_at (s : FVec Ideal S8x8x4096x4352 .f32) (b h : Fin 8) (t : Fin 4096) (x : Fin 4352) :
    EXP4096 s (ix4 b h t x) = Ideal.exp (s (ix4 b h t x) - Finset.univ.fold max ⊥ fun y : Fin 4352 => s (ix4 b h t y)) := by
  rw [← max4096_at, ← top4096_at, ← spread4096_at (TOP4096 s) b h t x]
  rfl

/-- The normalised weights at an index. -/
theorem soft4096_at (s : FVec Ideal S8x8x4096x4352 .f32) (b h : Fin 8) (t : Fin 4096) (x : Fin 4352) :
    SOFT4096 s (ix4 b h t x) = Ideal.div (EXP4096 s (ix4 b h t x)) (∑ y : Fin 4352, EXP4096 s (ix4 b h t y)) := by
  rw [← sum4096_at, ← spread4096_at (SUM4096 (EXP4096 s)) b h t x]
  rfl

/-- The reference's context rows, before they are laid out. -/
def OC (v : FVec Ideal S8x4352x1024 .bf16) (p : FVec Ideal S8x8x256x256 .f32) : FVec Ideal S8x256x8x128 .f32 :=
  transpose S8x256x8x128 [0, 3, 1, 2] (Host.dotGeneral dot_S8x256x8x128_S8x8x256x256_S8x8x128x256_1_3_3_2_02_01 none (HC v) p) transposes_S8x8x128x256_S8x256x8x128_0_3_1_2

/-- The reference's latent rows, before they are laid out. -/
def OL (v : FVec Ideal S8x4352x1024 .bf16) (p : FVec Ideal S8x8x4096x4352 .f32) : FVec Ideal S8x4096x8x128 .f32 :=
  transpose S8x4096x8x128 [0, 3, 1, 2] (Host.dotGeneral dot_S8x4352x8x128_S8x8x4096x4352_S8x8x128x4096_1_3_3_2_02_01 none (HEADS v) p) transposes_S8x8x128x4096_S8x4096x8x128_0_3_1_2

/-- The context rows at an index. -/
theorem oc_at (v : FVec Ideal S8x4352x1024 .bf16) (p : FVec Ideal S8x8x256x256 .f32) (b h : Fin 8) (t : Fin 256) (d : Fin 128) :
    OC v p (ix4 b t h d) = ∑ x : Fin 256, HC v (ix4 b x h d) * p (ix4 b h t x) := by
  pointwise [OC]

/-- The latent rows at an index. -/
theorem ol_at (v : FVec Ideal S8x4352x1024 .bf16) (p : FVec Ideal S8x8x4096x4352 .f32) (b h : Fin 8) (t : Fin 4096) (d : Fin 128) :
    OL v p (ix4 b t h d) = ∑ x : Fin 4352, HEADS v (ix4 b x h d) * p (ix4 b h t x) := by
  pointwise [OL]

/-- The context rows and the latent rows, one after the other. -/
def CAT (x : FVec Ideal S8x256x8x128 .f32) (y : FVec Ideal S8x4096x8x128 .f32) : FVec Ideal S8x4352x8x128 .f32 :=
  concatenate S8x4352x8x128 1 [⟨S8x256x8x128, x⟩, ⟨S8x4096x8x128, y⟩] concatenates_S8x256x8x128_S8x4096x8x128_S8x4352x8x128_d1

/-- A context row of the two. -/
theorem cat_ctx (x : FVec Ideal S8x256x8x128 .f32) (y : FVec Ideal S8x4096x8x128 .f32) (b h : Fin 8) (t : Fin 4352) (ht : t.val < 256) (d : Fin 128) :
    CAT x y (ix4 b t h d) = x (ix4 b ⟨t.val, ht⟩ h d) := by
  pointwise [CAT, ht]

/-- A latent row of the two. -/
theorem cat_lat (x : FVec Ideal S8x256x8x128 .f32) (y : FVec Ideal S8x4096x8x128 .f32) (b h : Fin 8) (t : Fin 4352) (ht : ¬ t.val < 256) (d : Fin 128) :
    CAT x y (ix4 b t h d) = y (ix4 b ⟨t.val - 256, by omega⟩ h d) := by
  pointwise [CAT, ht]

/-- The reference's operations composed, as a function of the queries, keys and values. -/
def REF (q k v : FVec Ideal S8x4352x1024 .bf16) : FVec Ideal S8x4352x1024 .bf16 :=
  truncf .bf16 (shapeCast _ (CAT (OC v (SOFT256 (SC q k))) (OL v (SOFT4096 (SL q k)))) shapeCasts_S8x4352x8x128_S8x4352x1024) bitsLt_bf16_f32

/-- The heads laid side by side. -/
theorem merge_at (x : FVec Ideal S8x4352x8x128 .f32) (b h : Fin 8) (t : Fin 4352) (d : Fin 128) :
    truncf .bf16 (shapeCast S8x4352x1024 x shapeCasts_S8x4352x8x128_S8x4352x1024) bitsLt_bf16_f32 (ix3 b t (lane h d)) = x (ix4 b t h d) := by
  unfold lane
  pointwise

/-- A lane of the composed reference is a lane of a head. -/
theorem ref_at (q k v : FVec Ideal S8x4352x1024 .bf16) (b h : Fin 8) (t : Fin 4352) (d : Fin 128) :
    REF q k v (ix3 b t (lane h d)) = CAT (OC v (SOFT256 (SC q k))) (OL v (SOFT4096 (SL q k))) (ix4 b t h d) := by
  unfold REF
  generalize CAT (OC v (SOFT256 (SC q k))) (OL v (SOFT4096 (SL q k))) = x
  exact merge_at x b h t d

/-- The composed reference is attention. -/
theorem ref_eq (q k v : FVec Ideal S8x4352x1024 .bf16) : REF q k v = result q k v := by
  funext i
  obtain ⟨b, t, h, d, rfl⟩ := idx_cases i
  rw [ref_at]
  by_cases ht : t.val < 256
  · rw [result_ctx _ _ _ _ _ _ ht, cat_ctx _ _ _ _ _ ht, oc_at]
    refine Finset.sum_congr rfl fun x _ => ?_
    rw [hc_at, soft256_at]
    simp only [exp256_at, sc_at]
    rfl
  · rw [result_lat _ _ _ _ _ _ ht, cat_lat _ _ _ _ _ ht, ol_at]
    have e : t = ⟨256 + (t.val - 256), by omega⟩ := Fin.ext (by show t.val = 256 + (t.val - 256); omega)
    refine Finset.sum_congr rfl fun x _ => ?_
    rw [heads_at, soft4096_at]
    simp only [exp4096_at, sl_at]
    rw [← e]
    rfl

/-- The reference's result array. -/
theorem result_eq (m : (ℓ : Loc nD τ sig) → Buf (Elt Ideal) ℓ) (c : Dev nD) :
    (Value.res_main_v40 m c : FVec Ideal S8x4352x1024 .bf16)
      = result (m ((c.tc : Thread nD τ).loc main_arg0)) (m ((c.tc : Thread nD τ).loc main_arg1)) (m ((c.tc : Thread nD τ).loc main_arg2)) :=
  Eq.trans (b := REF (m ((c.tc : Thread nD τ).loc main_arg0)) (m ((c.tc : Thread nD τ).loc main_arg1)) (m ((c.tc : Thread nD τ).loc main_arg2)))
    rfl (ref_eq _ _ _)

end Cert.AttnRefPoint

end
-- ==== Proof.AttnClaims.lean ====
module

public import proofs.«01_k».proof.Proof.AttnFrames
public import proofs.«01_k».proof.Proof.AttnBlock
public import proofs.«01_k».proof.Proof.AttnRefPoint
public import Idealize.ShloMosaic.Lib.ReduceAll

/-! The attention call's value claim: with finite queries and keys the kernel's array and the reference's are equal. -/

@[expose] public section

set_option maxRecDepth 16384

noncomputable section

namespace Cert.AttnClaims

open Idealize.ShloMosaic Idealize.ShloMosaic.TcCoe Idealize.SL.Sem Cert.Softmax Cert.Attention

/-- What the precondition says: every query and every key is a real number. -/
theorem finite_of_pre (q k v : FVec Ideal Cert.Pre_finite_scores.S8x4352x1024 .bf16)
    (h : Cert.Pre_finite_scores.fn (F := Ideal) q k v = fun _ => 1#1) : (∀ i, Fin' (q i)) ∧ ∀ i, Fin' (k i) := by
  have e := congrFun h (fun a => a.elim0)
  unfold Cert.Pre_finite_scores.fn at e
  obtain ⟨eq, ek⟩ := IntOp.andi_eq_one.1 e
  haveI : Subsingleton Cert.Pre_finite_scores.S_.Idx := ⟨fun a b => funext fun x => x.elim0⟩
  exact ⟨fun i => finite_of_test _ (Host.reduce_andi_all _ _ _ _ _ eq i), fun i => finite_of_test _ (Host.reduce_andi_all _ _ _ _ _ ek i)⟩

/-- The attention kernel and the attention reference leave the same array, given finite queries and keys. -/
theorem value : algebraic_AttnIdeal_AttnRefIdeal_pre_finite_scores (hAttnIdeal := Cert.AttnIdeal.Gen.facts)
    (hAttnRefIdeal := Cert.AttnRefIdeal.Gen.facts) (hPre_finite_scores := Cert.Pre_finite_scores.Gen.facts) := by
  intro m g m' g' hpre hag
  refine ⟨fun c => result (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)), ?_, ?_⟩
  · refine (θ_run _ _ _).mono (fun _ h c => ⟨(h c).1.trans ?_, (h c).2⟩) (Cert.AttnIdeal.Value.run_blocks m g)
    have hf := finite_of_pre _ _ _ (hpre c)
    exact Cert.AttnBlock.final m c hf.1 hf.2
  · refine (θ_run _ _ _).mono (fun _ h c => ⟨(h c).1.trans ?_, (h c).2⟩) (Cert.AttnRefIdeal.Value.run m' g')
    refine (Cert.AttnRefPoint.result_eq m' c).trans ?_
    rw [(hag c).1, (hag c).2.1, (hag c).2.2]

end Cert.AttnClaims

end
-- ==== Proof.Feedforward.lean ====
module

public import Idealize.ShloMosaic.Lib.Pointwise

/-! What the feedforward part of a layer computes, over its arrays: modulate each row, project it up, convolve along the
rows of its own segment (the first 256 rows, the context, and the other 4096, the latents), gate one half by the other's
sigmoid-weighted value, project it down, add the residual and normalise the row. -/

@[expose] public section

set_option maxRecDepth 16384

noncomputable section

namespace Cert.Feedforward

open Idealize.ShloMosaic

/-- The arrays the feedforward part reads. -/
structure Ins where
  /-- The residual stream: samples, rows, channels. -/
  x : (⟨3, ![8, 4352, 1024]⟩ : Shape).Idx → EReal
  /-- The modulation: a row of eight vectors for each sample and segment. -/
  mod : (⟨3, ![16, 8, 1024]⟩ : Shape).Idx → EReal
  /-- The projection up, gate columns first. -/
  up : (⟨2, ![1024, 5632]⟩ : Shape).Idx → EReal
  /-- The convolution's three taps. -/
  cw : (⟨2, ![3, 5632]⟩ : Shape).Idx → EReal
  /-- The convolution's bias. -/
  cb : (⟨1, ![5632]⟩ : Shape).Idx → EReal
  /-- The projection down. -/
  dn : (⟨2, ![2816, 1024]⟩ : Shape).Idx → EReal
  /-- The normalisation's gain. -/
  g : (⟨1, ![1024]⟩ : Shape).Idx → EReal
  /-- The normalisation's bias. -/
  b : (⟨1, ![1024]⟩ : Shape).Idx → EReal

/-- The row of the modulation for a sample and a row's segment. -/
def seg (b : Fin 8) (t : Fin 4352) : Fin 16 := ⟨2 * b.val + if t.val < 256 then 0 else 1, by split <;> omega⟩

/-- The modulated row: scaled by one plus vector 4, shifted by vector 3. -/
def u (I : Ins) (b : Fin 8) (t : Fin 4352) (e : Fin 1024) : EReal :=
  I.x (ix3 b t e) * (1 + I.mod (ix3 (seg b t) 4 e)) + I.mod (ix3 (seg b t) 3 e)

/-- The row projected up. -/
def h (I : Ins) (b : Fin 8) (t : Fin 4352) (k : Fin 5632) : EReal := ∑ e : Fin 1024, u I b t e * I.up (ix2 e k)

/-- The row before within the segment, zero before the first. -/
def before (I : Ins) (b : Fin 8) (t : Fin 4352) (k : Fin 5632) : EReal :=
  if t.val = 0 ∨ t.val = 256 then 0 else h I b ⟨t.val - 1, by omega⟩ k

/-- The row after within the segment, zero after the last. -/
def after (I : Ins) (b : Fin 8) (t : Fin 4352) (k : Fin 5632) : EReal :=
  if hl : t.val = 255 ∨ t.val = 4351 then 0 else h I b ⟨t.val + 1, by omega⟩ k

/-- Three taps and a bias. -/
def taps (I : Ins) (p c n : EReal) (k : Fin 5632) : EReal :=
  p * I.cw (ix2 0 k) + c * I.cw (ix2 1 k) + n * I.cw (ix2 2 k) + I.cb (ix1 k)

/-- The convolution along the rows. -/
def conv (I : Ins) (b : Fin 8) (t : Fin 4352) (k : Fin 5632) : EReal := taps I (before I b t k) (h I b t k) (after I b t k) k

/-- One number gated by another's sigmoid-weighted value. -/
def gated (a v : EReal) : EReal := a * Ideal.div 1 (1 + Ideal.exp (-a)) * v

/-- The gate's column. -/
def gcol (k : Fin 2816) : Fin 5632 := ⟨k.val, by omega⟩

/-- The value's column. -/
def vcol (k : Fin 2816) : Fin 5632 := ⟨2816 + k.val, by omega⟩

/-- The gated row. -/
def act (I : Ins) (b : Fin 8) (t : Fin 4352) (k : Fin 2816) : EReal := gated (conv I b t (gcol k)) (conv I b t (vcol k))

/-- The row projected down. -/
def y (I : Ins) (b : Fin 8) (t : Fin 4352) (e : Fin 1024) : EReal := ∑ k : Fin 2816, act I b t k * I.dn (ix2 k e)

/-- The residual sum: the stream weighted by the fourth root of twice the depth, vector 5 on the projection. -/
def z (I : Ins) (b : Fin 8) (t : Fin 4352) (e : Fin 1024) : EReal :=
  Ideal.ofBits .f32 0x3FB504F3#32 * I.x (ix3 b t e) + I.mod (ix3 (seg b t) 5 e) * y I b t e

/-- A row less its mean. -/
def center (r : Fin 1024 → EReal) (e : Fin 1024) : EReal := r e - Ideal.div (∑ d, r d) (Ideal.ofBits .f32 0x44800000#32)

/-- A row normalised: centred, divided by the root of the variance and a small constant, scaled and shifted. -/
def norm (r g b : Fin 1024 → EReal) (e : Fin 1024) : EReal :=
  center r e * Ideal.rsqrt (Ideal.div (∑ d, center r d * center r d) (Ideal.ofBits .f32 0x44800000#32) + Ideal.ofBits .f32 0x3727C5AC#32) * g e + b e

/-- The whole result. -/
def result (I : Ins) : (⟨3, ![8, 4352, 1024]⟩ : Shape).Idx → EReal := fun i =>
  norm (z I (i 0) (i 1)) (fun e => I.g (ix1 e)) (fun e => I.b (ix1 e)) (i 2)

end Cert.Feedforward

end
-- ==== Proof.FfnPay.lean ====
module

public import Idealize.ShloMosaic.Lib.Pipeline.ValueKit
public import Idealize.ShloMosaic.Lib.Pointwise
public import proofs.«01_k».proof.Proof.Gen.FfnIdeal.Skeleton
public import proofs.«01_k».proof.Proof.Feedforward

/-! What each block computation of the feedforward kernel leaves at an index. -/

@[expose] public section

set_option maxRecDepth 16384

noncomputable section

namespace Cert.FfnPay

open Idealize.ShloMosaic Idealize.ShloMosaic.TcCoe
open Cert.FfnIdeal Cert.FfnIdeal.Gen Cert.Feedforward

/-- A row of the projection up of the modulated tile. -/
theorem up_at (U : FVec Ideal S272x1024 .bf16) (W : FVec Ideal S1024x1408 .bf16) (s : Fin 272) (k : Fin 1408) :
    k0_pay7 (F := Ideal) U W (ix2 s k) = ∑ e : Fin 1024, U (ix2 s e) * W (ix2 e k) := by
  pointwise [k0_pay7]

/-- The gate's convolved value at a row of the tile. -/
theorem gate_at (U : FVec Ideal S272x1024 .bf16) (W : FVec Ideal S1024x1408 .bf16) (C : FVec Ideal S8x1408 .f32) (r : Fin 256) (k : Fin 1408) :
    k0_pay6 (F := Ideal) U W C (ix2 r k) =
      (∑ e : Fin 1024, U (ix2 ⟨7 + r.val, by omega⟩ e) * W (ix2 e k)) * C (ix2 0 k)
      + (∑ e : Fin 1024, U (ix2 ⟨8 + r.val, by omega⟩ e) * W (ix2 e k)) * C (ix2 1 k)
      + (∑ e : Fin 1024, U (ix2 ⟨9 + r.val, by omega⟩ e) * W (ix2 e k)) * C (ix2 2 k) + C (ix2 3 k) := by
  pointwise [k0_pay6]
  have e1 : (8 + r.val + 272 - 1) % 272 = 7 + r.val := by omega
  have e2 : (8 + r.val + 272 - 271) % 272 = 9 + r.val := by omega
  simp only [e1, e2]

/-- The rotated projection. -/
theorem rot_at (U : FVec Ideal S272x1024 .bf16) (W : FVec Ideal S1024x1408 .bf16) (r : Fin 256) (k : Fin 1408) :
    k0_pay9 (F := Ideal) U W (ix2 ⟨8 + r.val, by omega⟩ k) = k0_pay7 (F := Ideal) U W (ix2 ⟨7 + r.val, by omega⟩ k) := by
  unfold k0_pay9
  generalize k0_pay7 (F := Ideal) U W = Z
  pointwise
  have e1 : (8 + r.val + 272 - 1) % 272 = 7 + r.val := by omega
  have e2 : (8 + r.val + 272 - 271) % 272 = 9 + r.val := by omega
  simp only [e1]

/-- The accumulated projection down. -/
theorem acc_at (G : FVec Ideal S256x1408 .f32) (H : FVec Ideal S272x1408 .f32) (C : FVec Ideal S8x1408 .f32) (R : FVec Ideal S272x1408 .f32)
    (A : FVec Ideal S256x1024 .f32) (W : FVec Ideal S1408x1024 .bf16) (r : Fin 256) (e : Fin 1024) :
    k0_pay1 (F := Ideal) G H C R A W (ix2 r e) = A (ix2 r e) + ∑ k : Fin 1408,
      gated (G (ix2 r k)) (R (ix2 ⟨8 + r.val, by omega⟩ k) * C (ix2 0 k) + H (ix2 ⟨8 + r.val, by omega⟩ k) * C (ix2 1 k)
        + H (ix2 ⟨9 + r.val, by omega⟩ k) * C (ix2 2 k) + C (ix2 3 k)) * W (ix2 k e) := by
  unfold gated
  pointwise [k0_pay1]
  have e1 : (8 + r.val + 272 - 1) % 272 = 7 + r.val := by omega
  have e2 : (8 + r.val + 272 - 271) % 272 = 9 + r.val := by omega
  simp only [e2, zero_sub]

/-- The stored block. -/
theorem out_at (M : FVec Ideal S8x1024 .f32) (X : FVec Ideal S1x256x1024 .f32) (A : FVec Ideal S256x1024 .f32) (g b : FVec Ideal S1x1024 .f32) (r : Fin 256) (e : Fin 1024) :
    k0_pay2 (F := Ideal) M X A g b (ix3 0 r e) =
      Cert.Feedforward.norm (fun d => Ideal.ofBits .f32 0x3FB504F3#32 * X (ix3 0 r d) + M (ix2 5 d) * A (ix2 r d)) (fun d => g (ix2 0 d)) (fun d => b (ix2 0 d)) e := by
  unfold Cert.Feedforward.norm center
  pointwise [k0_pay2]

/-- A tile's own modulated row. -/
theorem mid_at (i : BitVec 32) (M : FVec Ideal S8x1024 .f32) (P : FVec Ideal S1x8x1024 .f32) (X : FVec Ideal S1x256x1024 .f32) (N : FVec Ideal S1x8x1024 .f32) (r : Fin 256) (e : Fin 1024) :
    k0_pay3 (F := Ideal) i M P X N (ix2 ⟨8 + r.val, by omega⟩ e) = X (ix3 0 r e) * (1 + M (ix2 4 e)) + M (ix2 3 e) := by
  pointwise [k0_pay3]

/-- A choice between a number and zero is the number times one or zero. -/
theorem masked (i j : BitVec 32) (x : EReal) :
    Scalar.select (Scalar.andi (Scalar.cmpi .ne i 0#32) (Scalar.cmpi .ne i j)) x 0 = x * (if i ≠ 0#32 ∧ i ≠ j then 1 else 0) := by
  have hb : Scalar.andi (Scalar.cmpi .ne i 0#32) (Scalar.cmpi .ne i j) = 1#1 ↔ i ≠ 0#32 ∧ i ≠ j := by
    unfold Scalar.andi Scalar.cmpi
    have ne : ∀ a b : BitVec 32, IntOp.cmpi .ne a b = 1#1 ↔ a ≠ b := fun a b => by
      unfold IntOp.cmpi
      by_cases h : a = b
      · simp [h]
      · rw [show (a != b) = true from bne_iff_ne.2 h]
        exact ⟨fun _ => h, fun _ => rfl⟩
    rw [IntOp.andi_eq_one, ne, ne]
  unfold Scalar.select
  by_cases h : i ≠ 0#32 ∧ i ≠ j
  · rw [if_pos (show _ = (1 : BitVec 1) from hb.2 h), if_pos h, mul_one]
  · rw [if_neg (show ¬ _ = (1 : BitVec 1) from fun q => h (hb.1 q)), if_neg h, mul_zero]

/-- The modulated row before the tile. -/
theorem prev_at (i : BitVec 32) (M : FVec Ideal S8x1024 .f32) (P : FVec Ideal S1x8x1024 .f32) (X : FVec Ideal S1x256x1024 .f32) (N : FVec Ideal S1x8x1024 .f32) (e : Fin 1024) :
    k0_pay3 (F := Ideal) i M P X N (ix2 7 e) = (P (ix3 0 7 e) * (1 + M (ix2 4 e)) + M (ix2 3 e)) * (if i ≠ 0#32 ∧ i ≠ 1#32 then 1 else 0) := by
  pointwise [k0_pay3]
  exact masked i 1#32 _

/-- The modulated row after the tile. -/
theorem next_at (i : BitVec 32) (M : FVec Ideal S8x1024 .f32) (P : FVec Ideal S1x8x1024 .f32) (X : FVec Ideal S1x256x1024 .f32) (N : FVec Ideal S1x8x1024 .f32) (e : Fin 1024) :
    k0_pay3 (F := Ideal) i M P X N (ix2 264 e) = (N (ix3 0 0 e) * (1 + M (ix2 4 e)) + M (ix2 3 e)) * (if i ≠ 0#32 ∧ i ≠ 16#32 then 1 else 0) := by
  pointwise [k0_pay3]
  exact masked i 16#32 _

end Cert.FfnPay

end
-- ==== Proof.RowSet.lean ====
module

public import Idealize.ShloMosaic.Lib.Routing.OpsOne

/-! Writing one whole row of a matrix, read at an entry. -/

@[expose] public section

namespace Cert.RowSet

open Idealize.ShloMosaic Idealize.ShloMosaic.ValueIdx Idealize.ShloMosaic.Routing

/-- Entry `j` of the row lands at row `k`, column `j`, and nowhere else. -/
theorem hits {R C : Nat} (d : ScatterDims (shape2 R C) (shape1 1) (shape1 C)) (hw : d.insertedWindowDims = [0]) (hs : d.scatterDimsToOperandDims = [0])
    (idx : IVec (shape1 1) 32) (k : Fin R) (hk : (idx (ix1 0)).toInt = (k.val : Int)) (j c : Fin C) (r : Fin R) :
    d.resultIdx? (ix1 j) idx = some (ix2 r c) ↔ r = k ∧ j = c := by
  have kept : d.sKept = [1] := by
    show (shape2 R C).kept d.insertedWindowDims = _
    rw [hw]
    rfl
  have across : d.window (ix1 j) 1 = j.val := by
    unfold ScatterDims.window
    rw [dif_pos (by rw [kept]; simp)]
    exact congrArg (fun a => ((ix1 j : (shape1 C).Idx) a).val) (Subsingleton.elim (α := Fin 1) _ 0)
  have down : d.window (ix1 j) 0 = 0 := by
    unfold ScatterDims.window
    rw [dif_neg (by rw [kept]; simp)]
  have right : d.start (ix1 j) idx 1 = 0 := by
    unfold ScatterDims.start
    rw [dif_neg (by rw [hs]; simp)]
  have below : d.start (ix1 j) idx 0 = (k.val : Int) := by
    have hm : (0 : Fin 2) ∈ d.scatterDimsToOperandDims := by rw [hs]; simp
    unfold ScatterDims.start
    rw [dif_pos hm]
    have word : ∀ i : (shape1 1).Idx, i = ix1 0 := fun i => funext fun a => by
      obtain rfl : a = 0 := Subsingleton.elim (α := Fin 1) _ _
      exact Subsingleton.elim (α := Fin 1) _ _
    rw [word (d.siIdx _ _), hk]
  rw [resultIdx?_ix2, below, down, right, across, Fin.ext_iff, Fin.ext_iff]
  omega

/-- A matrix with row `k` replaced: that row's entries are the new ones, the others the old. -/
theorem row_set {α : Type} {R C : Nat} (d : ScatterDims (shape2 R C) (shape1 1) (shape1 C)) (hw : d.insertedWindowDims = [0]) (hs : d.scatterDimsToOperandDims = [0])
    (x : (shape2 R C).Idx → α) (idx : IVec (shape1 1) 32) (u : (shape1 C).Idx → α) (k : Fin R) (hk : (idx (ix1 0)).toInt = (k.val : Int)) (r : Fin R) (c : Fin C) :
    Host.scatter d (fun _ b => b) x idx u (ix2 r c) = if r = k then u (ix1 c) else x (ix2 r c) := by
  have only : ∀ j : (shape1 C).Idx, d.resultIdx? j idx = some (ix2 r c) → r = k ∧ j = ix1 c := fun j hj => by
    obtain ⟨j, rfl⟩ : ∃ j' : Fin C, j = ix1 j' := ⟨j 0, eq_ix1 j⟩
    obtain ⟨h, rfl⟩ := (hits d hw hs idx k hk j c r).1 hj
    exact ⟨h, rfl⟩
  split
  case isTrue h => exact scatter_set_hit d x idx u _ _ (fun j hj => congrArg u (only j hj).2) (ix1 c) ((hits d hw hs idx k hk c c r).2 ⟨h, rfl⟩)
  case isFalse h => exact scatter_set_miss d x idx u _ fun j hj => h (only j hj).1

end Cert.RowSet
-- ==== Proof.FfnRead.lean ====
module

public import Idealize.ShloMosaic.Lib.Pipeline.ValueKit
public import Idealize.ShloMosaic.Lib.Pointwise
public import proofs.«01_k».proof.Proof.Gen.FfnIdeal.Frame
public import proofs.«01_k».proof.Proof.RowSet

/-! What the feedforward kernel's blocks read: the arguments' entries, the convolution's and the normalisation's vectors
stacked as rows of a padded matrix before the launch. -/

@[expose] public section

set_option maxRecDepth 16384

noncomputable section

namespace Cert.FfnRead

open Idealize.ShloMosaic Idealize.ShloMosaic.TcCoe Idealize.SL.Sem
open Cert.FfnIdeal Cert.FfnIdeal.Gen Cert.RowSet

/-- The row number of a row write. -/
def at' (n : BitVec 32) : IVec S1 32 := broadcastInDim S1 ![] bcast_S_S1 (constantI S_ 32 n)

/-- Writing a row of 5632. -/
def wr (x : FVec Ideal S8x5632 .f32) (n : BitVec 32) (u : FVec Ideal S5632 .f32) : FVec Ideal S8x5632 .f32 :=
  Host.scatter scatter_S8x5632_S1_S5632_0_0_0_0 (fun _ b => b) x (at' n) u

/-- Writing a row of 1024. -/
def wn (x : FVec Ideal S8x1024 .f32) (n : BitVec 32) (u : FVec Ideal S1024 .f32) : FVec Ideal S8x1024 .f32 :=
  Host.scatter scatter_S8x1024_S1_S1024_0_0_0_0 (fun _ b => b) x (at' n) u

/-- The taps and the bias as the first four rows of a matrix. -/
def rows (cw : FVec Ideal S3x5632 .f32) (cb : FVec Ideal S5632 .f32) : FVec Ideal S8x5632 .f32 :=
  wr (wr (wr (wr (broadcastInDim S8x5632 ![] bcast_S_S8x5632 (constant S_ .f32 0x00000000#32))
    0#32 (shapeCast S5632 (extractStridedSlice S1x5632 ![0, 0] cw slices_S3x5632_S1x5632_0_0) shapeCasts_S1x5632_S5632))
    1#32 (shapeCast S5632 (extractStridedSlice S1x5632 ![1, 0] cw slices_S3x5632_S1x5632_1_0) shapeCasts_S1x5632_S5632))
    2#32 (shapeCast S5632 (extractStridedSlice S1x5632 ![2, 0] cw slices_S3x5632_S1x5632_2_0) shapeCasts_S1x5632_S5632))
    3#32 cb

/-- The gain and the bias as the first two rows of a matrix. -/
def lines (g b : FVec Ideal S1024 .f32) : FVec Ideal S8x1024 .f32 :=
  wn (wn (broadcastInDim S8x1024 ![] bcast_S_S8x1024 (constant S_ .f32 0x00000000#32)) 0#32 g) 1#32 b

/-- A row write of 5632 at an entry. -/
theorem wr_at (x : FVec Ideal S8x5632 .f32) (n : BitVec 32) (u : FVec Ideal S5632 .f32) (k : Fin 8) (hk : n.toInt = (k.val : Int)) (r : Fin 8) (c : Fin 5632) :
    wr x n u (ix2 r c) = if r = k then u (ix1 c) else x (ix2 r c) := by
  unfold wr
  exact row_set (C := 5632) scatter_S8x5632_S1_S5632_0_0_0_0 rfl rfl x (at' n) u k hk r c

/-- A row write of 1024 at an entry. -/
theorem wn_at (x : FVec Ideal S8x1024 .f32) (n : BitVec 32) (u : FVec Ideal S1024 .f32) (k : Fin 8) (hk : n.toInt = (k.val : Int)) (r : Fin 8) (c : Fin 1024) :
    wn x n u (ix2 r c) = if r = k then u (ix1 c) else x (ix2 r c) := by
  unfold wn
  exact row_set (C := 1024) scatter_S8x1024_S1_S1024_0_0_0_0 rfl rfl x (at' n) u k hk r c

/-- The taps' and the bias' rows. -/
theorem rows_at (cw : FVec Ideal S3x5632 .f32) (cb : FVec Ideal S5632 .f32) (c : Fin 5632) :
    rows cw cb (ix2 0 c) = cw (ix2 0 c) ∧ rows cw cb (ix2 1 c) = cw (ix2 1 c) ∧ rows cw cb (ix2 2 c) = cw (ix2 2 c) ∧ rows cw cb (ix2 3 c) = cb (ix1 c) := by
  unfold rows
  refine ⟨?_, ?_, ?_, ?_⟩
  · rw [wr_at _ _ _ 3 rfl, if_neg (by decide), wr_at _ _ _ 2 rfl, if_neg (by decide), wr_at _ _ _ 1 rfl, if_neg (by decide), wr_at _ _ _ 0 rfl, if_pos rfl]
    pointwise
  · rw [wr_at _ _ _ 3 rfl, if_neg (by decide), wr_at _ _ _ 2 rfl, if_neg (by decide), wr_at _ _ _ 1 rfl, if_pos rfl]
    pointwise
  · rw [wr_at _ _ _ 3 rfl, if_neg (by decide), wr_at _ _ _ 2 rfl, if_pos rfl]
    pointwise
  · rw [wr_at _ _ _ 3 rfl, if_pos rfl]

/-- The gain's and the bias' rows. -/
theorem lines_at (g b : FVec Ideal S1024 .f32) (c : Fin 1024) : lines g b (ix2 0 c) = g (ix1 c) ∧ lines g b (ix2 1 c) = b (ix1 c) := by
  unfold lines
  refine ⟨?_, ?_⟩
  · rw [wn_at _ _ _ 1 rfl, if_neg (by decide), wn_at _ _ _ 0 rfl, if_pos rfl]
  · rw [wn_at _ _ _ 1 rfl, if_pos rfl]

variable (m : (ℓ : Loc nD τ sig) → Buf (Elt Ideal) ℓ)

/-- The stacked taps and bias before the launch. -/
theorem entry_rows (c : Dev nD) : (V m c main_v15 : FVec Ideal S8x5632 .f32) = rows (m ((c : Thread nD τ).loc main_arg3)) (m ((c : Thread nD τ).loc main_arg4)) := by
  unfold V
  after_results
  rfl

/-- The stacked gain and bias before the launch. -/
theorem entry_lines (c : Dev nD) : (V m c main_v21 : FVec Ideal S8x1024 .f32) = lines (m ((c : Thread nD τ).loc main_arg6)) (m ((c : Thread nD τ).loc main_arg7)) := by
  unfold V
  after_results
  rfl

/-- The projection up before the launch. -/
theorem entry_up (c : Dev nD) : (V m c main_v0 : FVec Ideal S1024x5632 .bf16) = (m ((c : Thread nD τ).loc main_arg2) : FVec Ideal S1024x5632 .f32) := by
  unfold V
  after_results
  rfl

/-- The projection down before the launch. -/
theorem entry_down (c : Dev nD) : (V m c main_v16 : FVec Ideal S2816x1024 .bf16) = (m ((c : Thread nD τ).loc main_arg5) : FVec Ideal S2816x1024 .f32) := by
  unfold V
  after_results
  rfl

/-- Which blocks a grid point reads and writes. -/
theorem idx : ∀ t : Fin cfg0.N, win0_0.index t = ![t.val / 34, t.val / 2 % 17, 0]
    ∧ win0_1.index t = ![t.val / 34, 32 * (t.val / 2 % 17) - 1, 0]
    ∧ win0_2.index t = ![t.val / 34, min (32 * (t.val / 2 % 17 + 1)) 543, 0]
    ∧ win0_3.index t = ![2 * (t.val / 34) + (if t.val / 2 % 17 = 0 then 0 else 1), 0, 0]
    ∧ win0_4.index t = ![0, t.val % 2]
    ∧ win0_5.index t = ![0, 2 + t.val % 2]
    ∧ win0_6.index t = ![0, t.val % 2]
    ∧ win0_7.index t = ![0, 2 + t.val % 2]
    ∧ win0_8.index t = ![t.val % 2, 0]
    ∧ win0_9.index t = ![0, 0]
    ∧ win0_10.index t = ![t.val / 34, t.val / 2 % 17, 0] :=
  (by decide +kernel : ∀ t : Fin grid0.N, _)

/-- The points number 272. -/
theorem lt_points (t : Fin cfg0.N) : t.val < 272 := lt_of_lt_of_eq t.isLt N_0

/-- The sample of a grid point. -/
def smp (t : Fin cfg0.N) : Fin 8 := ⟨t.val / 34, by have := lt_points t; omega⟩

/-- The tile of a grid point. -/
def tile (t : Fin cfg0.N) : Fin 17 := ⟨t.val / 2 % 17, by omega⟩

/-- The chunk of a grid point. -/
def chunk (t : Fin cfg0.N) : Fin 2 := ⟨t.val % 2, by omega⟩

/-- The rows of a tile. -/
def row (i : Fin 17) (r : Fin 256) : Fin 4352 := ⟨i.val * 256 + r.val, by omega⟩

/-- The row before a tile's first, for the first tile some row. -/
def rowBefore (i : Fin 17) : Fin 4352 := ⟨(32 * i.val - 1) * 8 + 7, by omega⟩

/-- The row after a tile's last, for the last tile some row. -/
def rowAfter (i : Fin 17) : Fin 4352 := ⟨min (32 * (i.val + 1)) 543 * 8, by omega⟩

/-- The modulation's row for a sample and a tile. -/
def modRow (b : Fin 8) (i : Fin 17) : Fin 16 := ⟨2 * b.val + (if i.val = 0 then 0 else 1), by split <;> omega⟩

/-- A column of a chunk of the gate's half. -/
def colG (j : Fin 2) (k : Fin 1408) : Fin 5632 := ⟨j.val * 1408 + k.val, by omega⟩

/-- A column of a chunk of the value's half. -/
def colV (j : Fin 2) (k : Fin 1408) : Fin 5632 := ⟨(2 + j.val) * 1408 + k.val, by omega⟩

/-- A row of a chunk of the projection down. -/
def rowD (j : Fin 2) (k : Fin 1408) : Fin 2816 := ⟨j.val * 1408 + k.val, by omega⟩

/-- The tile's rows. -/
theorem read_x (c : Dev nD) (t : Fin cfg0.N) (r : Fin 256) (e : Fin 1024) :
    (iblk m c 0 t : FVec Ideal S1x256x1024 .f32) (ix3 0 r e) = (m ((c : Thread nD τ).loc main_arg0) : FVec Ideal S8x4352x1024 .f32) (ix3 (smp t) (row (tile t) r) e) := by
  have ht := lt_points t
  unfold smp row tile
  blk_point [iblk, V_main_arg0 m c, idx t]

/-- The row before the tile. -/
theorem read_prev (c : Dev nD) (t : Fin cfg0.N) (e : Fin 1024) :
    (iblk m c 1 t : FVec Ideal S1x8x1024 .f32) (ix3 0 7 e) = (m ((c : Thread nD τ).loc main_arg0) : FVec Ideal S8x4352x1024 .f32) (ix3 (smp t) (rowBefore (tile t)) e) := by
  have ht := lt_points t
  unfold smp rowBefore tile
  blk_point [iblk, V_main_arg0 m c, idx t]

/-- The row after the tile. -/
theorem read_next (c : Dev nD) (t : Fin cfg0.N) (e : Fin 1024) :
    (iblk m c 2 t : FVec Ideal S1x8x1024 .f32) (ix3 0 0 e) = (m ((c : Thread nD τ).loc main_arg0) : FVec Ideal S8x4352x1024 .f32) (ix3 (smp t) (rowAfter (tile t)) e) := by
  have ht := lt_points t
  unfold smp rowAfter tile
  blk_point [iblk, V_main_arg0 m c, idx t]

/-- The modulation. -/
theorem read_mod (c : Dev nD) (t : Fin cfg0.N) (s : Fin 8) (e : Fin 1024) :
    (iblk m c 3 t : FVec Ideal S1x8x1024 .f32) (ix3 0 s e) = (m ((c : Thread nD τ).loc main_arg1) : FVec Ideal S16x8x1024 .f32) (ix3 (modRow (smp t) (tile t)) s e) := by
  have ht := lt_points t
  unfold modRow smp tile
  blk_point [iblk, V_main_arg1 m c, idx t]

/-- The gate's columns of the projection up. -/
theorem read_upG (c : Dev nD) (t : Fin cfg0.N) (e : Fin 1024) (k : Fin 1408) :
    (iblk m c 4 t : FVec Ideal S1024x1408 .bf16) (ix2 e k) = (m ((c : Thread nD τ).loc main_arg2) : FVec Ideal S1024x5632 .f32) (ix2 e (colG (chunk t) k)) := by
  have ht := lt_points t
  rw [← entry_up m c]
  unfold colG chunk
  blk_point [iblk, idx t]

/-- The value's columns of the projection up. -/
theorem read_upV (c : Dev nD) (t : Fin cfg0.N) (e : Fin 1024) (k : Fin 1408) :
    (iblk m c 5 t : FVec Ideal S1024x1408 .bf16) (ix2 e k) = (m ((c : Thread nD τ).loc main_arg2) : FVec Ideal S1024x5632 .f32) (ix2 e (colV (chunk t) k)) := by
  have ht := lt_points t
  rw [← entry_up m c]
  unfold colV chunk
  blk_point [iblk, idx t]

/-- The gate's columns of the stacked taps and bias. -/
theorem read_cG (c : Dev nD) (t : Fin cfg0.N) (s : Fin 8) (k : Fin 1408) :
    (iblk m c 6 t : FVec Ideal S8x1408 .f32) (ix2 s k) = rows (m ((c : Thread nD τ).loc main_arg3)) (m ((c : Thread nD τ).loc main_arg4)) (ix2 s (colG (chunk t) k)) := by
  have ht := lt_points t
  rw [← entry_rows m c]
  unfold colG chunk
  blk_point [iblk, idx t]

/-- The value's columns of the stacked taps and bias. -/
theorem read_cV (c : Dev nD) (t : Fin cfg0.N) (s : Fin 8) (k : Fin 1408) :
    (iblk m c 7 t : FVec Ideal S8x1408 .f32) (ix2 s k) = rows (m ((c : Thread nD τ).loc main_arg3)) (m ((c : Thread nD τ).loc main_arg4)) (ix2 s (colV (chunk t) k)) := by
  have ht := lt_points t
  rw [← entry_rows m c]
  unfold colV chunk
  blk_point [iblk, idx t]

/-- The chunk's rows of the projection down. -/
theorem read_down (c : Dev nD) (t : Fin cfg0.N) (k : Fin 1408) (e : Fin 1024) :
    (iblk m c 8 t : FVec Ideal S1408x1024 .bf16) (ix2 k e) = (m ((c : Thread nD τ).loc main_arg5) : FVec Ideal S2816x1024 .f32) (ix2 (rowD (chunk t) k) e) := by
  have ht := lt_points t
  rw [← entry_down m c]
  unfold rowD chunk
  blk_point [iblk, idx t]

/-- The stacked gain and bias. -/
theorem read_ln (c : Dev nD) (t : Fin cfg0.N) (s : Fin 8) (e : Fin 1024) :
    (iblk m c 9 t : FVec Ideal S8x1024 .f32) (ix2 s e) = lines (m ((c : Thread nD τ).loc main_arg6)) (m ((c : Thread nD τ).loc main_arg7)) (ix2 s e) := by
  have ht := lt_points t
  rw [← entry_lines m c]
  blk_point [iblk, idx t]

/-- Where a grid point's block lands in the result. -/
theorem lands (t : Fin cfg0.N) (r : Fin 256) (e : Fin 1024) :
    (((cfg0.win 10).blk t).view.emb (ix3 0 r e : S1x256x1024.Idx) : S8x4352x1024.Idx) = ix3 (smp t) (row (tile t) r) e := by
  have ht := lt_points t
  unfold smp row tile
  blk_ext [idx t]

/-- Every block of the result is some grid point's. -/
theorem covers : (cfg0.win 10).Covers := by decide +kernel

end Cert.FfnRead

end
-- ==== Proof.FfnTile.lean ====
module

public import proofs.«01_k».proof.Proof.FfnPay
public import proofs.«01_k».proof.Proof.FfnRead

/-! What one tile of the feedforward kernel computes: the convolution over the tile's rows and the two rows beside it, the
accumulation over the two chunks of the gated columns, the normalised row. -/

@[expose] public section

set_option maxRecDepth 16384

noncomputable section

namespace Cert.FfnTile

open Idealize.ShloMosaic Idealize.ShloMosaic.TcCoe
open Cert.FfnIdeal Cert.FfnIdeal.Gen Cert.Feedforward Cert.FfnPay Cert.FfnRead

/-- The rows beside a tile and its own, modulated; zero beside a segment's end. -/
structure Tile (I : Ins) (b : Fin 8) (i : Fin 17) (U : FVec Ideal S272x1024 .bf16) : Prop where
  mid : ∀ (r : Fin 256) (e : Fin 1024), U (ix2 ⟨8 + r.val, by omega⟩ e) = u I b (row i r) e
  prev : ∀ e : Fin 1024, U (ix2 7 e) = if i.val = 0 ∨ i.val = 1 then 0 else u I b (rowBefore i) e
  next : ∀ e : Fin 1024, U (ix2 264 e) = if i.val = 0 ∨ i.val = 16 then 0 else u I b (rowAfter i) e

/-- The modulation's row of a tile's row is the tile's. -/
theorem seg_row (b : Fin 8) (i : Fin 17) (r : Fin 256) : seg b (row i r) = modRow b i := by
  apply Fin.ext
  show 2 * b.val + (if i.val * 256 + r.val < 256 then 0 else 1) = 2 * b.val + (if i.val = 0 then 0 else 1)
  split <;> split <;> omega

/-- The row before, of the same segment. -/
theorem seg_before (b : Fin 8) (i : Fin 17) (h : ¬ (i.val = 0 ∨ i.val = 1)) : seg b (rowBefore i) = modRow b i := by
  apply Fin.ext
  show 2 * b.val + (if (32 * i.val - 1) * 8 + 7 < 256 then 0 else 1) = 2 * b.val + (if i.val = 0 then 0 else 1)
  rw [if_neg (by omega), if_neg (by omega)]

/-- The row after, of the same segment. -/
theorem seg_after (b : Fin 8) (i : Fin 17) (h : ¬ (i.val = 0 ∨ i.val = 16)) : seg b (rowAfter i) = modRow b i := by
  apply Fin.ext
  show 2 * b.val + (if min (32 * (i.val + 1)) 543 * 8 < 256 then 0 else 1) = 2 * b.val + (if i.val = 0 then 0 else 1)
  rw [if_neg (by omega), if_neg (by omega)]

/-- A tile number's word differs from a small one's exactly when the numbers do. -/
theorem word_ne (i : Fin 17) (n : ℕ) (hn : n < 17) : BitVec.ofNat 32 i.val ≠ BitVec.ofNat 32 n ↔ ¬ i.val = n := by
  have hi := i.isLt
  rw [Ne, ← BitVec.toNat_inj, BitVec.toNat_ofNat, BitVec.toNat_ofNat, Nat.mod_eq_of_lt (by omega), Nat.mod_eq_of_lt (by omega)]

/-- The stored rows of a tile, from blocks that read the arrays. -/
theorem tile_of (I : Ins) (b : Fin 8) (i : Fin 17) (M : FVec Ideal S1x8x1024 .f32) (P : FVec Ideal S1x8x1024 .f32) (X : FVec Ideal S1x256x1024 .f32) (N : FVec Ideal S1x8x1024 .f32)
    (hM : ∀ (s : Fin 8) (e : Fin 1024), M (ix3 0 s e) = I.mod (ix3 (modRow b i) s e))
    (hP : ∀ e : Fin 1024, P (ix3 0 7 e) = I.x (ix3 b (rowBefore i) e))
    (hX : ∀ (r : Fin 256) (e : Fin 1024), X (ix3 0 r e) = I.x (ix3 b (row i r) e))
    (hN : ∀ e : Fin 1024, N (ix3 0 0 e) = I.x (ix3 b (rowAfter i) e)) :
    Tile I b i (k0_pay3 (F := Ideal) (BitVec.ofNat 32 i.val) (k0_pay4 M) P X N) := by
  have h4 : ∀ (s : Fin 8) (e : Fin 1024), k0_pay4 (F := Ideal) M (ix2 s e) = I.mod (ix3 (modRow b i) s e) := fun s e => by
    rw [← hM]
    pointwise [k0_pay4]
  refine ⟨fun r e => ?_, fun e => ?_, fun e => ?_⟩
  · rw [mid_at, h4, h4, hX, ← seg_row b i r]
    rfl
  · rw [prev_at, h4, h4, hP]
    have hc : (BitVec.ofNat 32 i.val ≠ 0#32 ∧ BitVec.ofNat 32 i.val ≠ 1#32) ↔ ¬ (i.val = 0 ∨ i.val = 1) := by
      rw [word_ne i 0 (by omega), word_ne i 1 (by omega), not_or]
    by_cases h : i.val = 0 ∨ i.val = 1
    · rw [if_neg (fun q => (hc.1 q) h), if_pos h, mul_zero]
    · rw [if_pos (hc.2 h), if_neg h, mul_one, ← seg_before b i h]
      rfl
  · rw [next_at, h4, h4, hN]
    have hc : (BitVec.ofNat 32 i.val ≠ 0#32 ∧ BitVec.ofNat 32 i.val ≠ 16#32) ↔ ¬ (i.val = 0 ∨ i.val = 16) := by
      rw [word_ne i 0 (by omega), word_ne i 16 (by omega), not_or]
    by_cases h : i.val = 0 ∨ i.val = 16
    · rw [if_neg (fun q => (hc.1 q) h), if_pos h, mul_zero]
    · rw [if_pos (hc.2 h), if_neg h, mul_one, ← seg_after b i h]
      rfl

/-- The projection of a tile's row. -/
theorem proj_mid {I : Ins} {b : Fin 8} {i : Fin 17} {U : FVec Ideal S272x1024 .bf16} (hU : Tile I b i U) (w : Fin 1024 → EReal) (c : Fin 5632)
    (hw : ∀ e, w e = I.up (ix2 e c)) (r : Fin 256) : (∑ e : Fin 1024, U (ix2 ⟨8 + r.val, by omega⟩ e) * w e) = h I b (row i r) c :=
  Finset.sum_congr rfl fun e _ => by rw [hU.mid, hw]

/-- The projection of the row before a tile's row. -/
theorem proj_before {I : Ins} {b : Fin 8} {i : Fin 17} {U : FVec Ideal S272x1024 .bf16} (hU : Tile I b i U) (w : Fin 1024 → EReal) (c : Fin 5632)
    (hw : ∀ e, w e = I.up (ix2 e c)) (r : Fin 256) : (∑ e : Fin 1024, U (ix2 ⟨7 + r.val, by omega⟩ e) * w e) = before I b (row i r) c := by
  unfold before
  by_cases hr : r.val = 0
  · have e7 : ∀ e, U (ix2 ⟨7 + r.val, by omega⟩ e) = U (ix2 7 e) := fun e => congrArg (fun s => U (ix2 s e)) (Fin.ext (by show 7 + r.val = 7; omega))
    simp only [e7, hU.prev]
    by_cases hi : i.val = 0 ∨ i.val = 1
    · rw [if_pos (by show i.val * 256 + r.val = 0 ∨ i.val * 256 + r.val = 256; omega)]
      simp only [if_pos hi, zero_mul, Finset.sum_const_zero]
    · rw [if_neg (by show ¬ (i.val * 256 + r.val = 0 ∨ i.val * 256 + r.val = 256); omega)]
      simp only [if_neg hi, hw]
      exact congrArg (fun s => h I b s c) (Fin.ext (by show (32 * i.val - 1) * 8 + 7 = i.val * 256 + r.val - 1; omega))
  · rw [if_neg (by show ¬ (i.val * 256 + r.val = 0 ∨ i.val * 256 + r.val = 256); omega)]
    have e8 : ∀ e, U (ix2 ⟨7 + r.val, by omega⟩ e) = U (ix2 ⟨8 + (⟨r.val - 1, by omega⟩ : Fin 256).val, by show 8 + (r.val - 1) < 272; omega⟩ e) := fun e =>
      congrArg (fun s => U (ix2 s e)) (Fin.ext (by show 7 + r.val = 8 + (r.val - 1); omega))
    simp only [e8]
    refine (proj_mid hU w c hw ⟨r.val - 1, by omega⟩).trans ?_
    exact congrArg (fun s => h I b s c) (Fin.ext (by show i.val * 256 + (r.val - 1) = i.val * 256 + r.val - 1; omega))

/-- The projection of the row after a tile's row. -/
theorem proj_after {I : Ins} {b : Fin 8} {i : Fin 17} {U : FVec Ideal S272x1024 .bf16} (hU : Tile I b i U) (w : Fin 1024 → EReal) (c : Fin 5632)
    (hw : ∀ e, w e = I.up (ix2 e c)) (r : Fin 256) : (∑ e : Fin 1024, U (ix2 ⟨9 + r.val, by omega⟩ e) * w e) = after I b (row i r) c := by
  unfold after
  have hi' := i.isLt
  by_cases hr : r.val = 255
  · have e7 : ∀ e, U (ix2 ⟨9 + r.val, by omega⟩ e) = U (ix2 264 e) := fun e => congrArg (fun s => U (ix2 s e)) (Fin.ext (by show 9 + r.val = 264; omega))
    simp only [e7, hU.next]
    by_cases hi : i.val = 0 ∨ i.val = 16
    · rw [dif_pos (by show i.val * 256 + r.val = 255 ∨ i.val * 256 + r.val = 4351; omega)]
      simp only [if_pos hi, zero_mul, Finset.sum_const_zero]
    · rw [dif_neg (by show ¬ (i.val * 256 + r.val = 255 ∨ i.val * 256 + r.val = 4351); omega)]
      simp only [if_neg hi, hw]
      exact congrArg (fun s => h I b s c) (Fin.ext (by show min (32 * (i.val + 1)) 543 * 8 = i.val * 256 + r.val + 1; omega))
  · rw [dif_neg (by show ¬ (i.val * 256 + r.val = 255 ∨ i.val * 256 + r.val = 4351); omega)]
    have e8 : ∀ e, U (ix2 ⟨9 + r.val, by omega⟩ e) = U (ix2 ⟨8 + (⟨r.val + 1, by omega⟩ : Fin 256).val, by show 8 + (r.val + 1) < 272; omega⟩ e) := fun e =>
      congrArg (fun s => U (ix2 s e)) (Fin.ext (by show 9 + r.val = 8 + (r.val + 1); omega))
    simp only [e8]
    refine (proj_mid hU w c hw ⟨r.val + 1, by omega⟩).trans ?_
    exact congrArg (fun s => h I b s c) (Fin.ext (by show i.val * 256 + (r.val + 1) = i.val * 256 + r.val + 1; omega))

/-- One chunk's accumulation, from blocks that read the arrays at the chunk. -/
theorem acc_of {I : Ins} {b : Fin 8} {i : Fin 17} {U : FVec Ideal S272x1024 .bf16} (hU : Tile I b i U) (j : Fin 2)
    (WG WV : FVec Ideal S1024x1408 .bf16) (CG CV : FVec Ideal S8x1408 .f32) (WD : FVec Ideal S1408x1024 .bf16) (A : FVec Ideal S256x1024 .f32)
    (hWG : ∀ (e : Fin 1024) (k : Fin 1408), WG (ix2 e k) = I.up (ix2 e (colG j k)))
    (hWV : ∀ (e : Fin 1024) (k : Fin 1408), WV (ix2 e k) = I.up (ix2 e (colV j k)))
    (hCG : ∀ (s : Fin 8) (k : Fin 1408), CG (ix2 s k) = rows I.cw I.cb (ix2 s (colG j k)))
    (hCV : ∀ (s : Fin 8) (k : Fin 1408), CV (ix2 s k) = rows I.cw I.cb (ix2 s (colV j k)))
    (hWD : ∀ (k : Fin 1408) (e : Fin 1024), WD (ix2 k e) = I.dn (ix2 (rowD j k) e)) (r : Fin 256) (e : Fin 1024) :
    k0_pay1 (F := Ideal) (k0_pay6 U WG CG) (k0_pay7 U WV) (k0_pay8 CV) (k0_pay9 U WV) A WD (ix2 r e)
      = A (ix2 r e) + ∑ k : Fin 1408, act I b (row i r) (rowD j k) * I.dn (ix2 (rowD j k) e) := by
  have h8 : k0_pay8 (F := Ideal) CV = CV := by
    funext y
    idx_vars y
    pointwise [k0_pay8]
  rw [acc_at, h8]
  refine congrArg (A (ix2 r e) + ·) (Finset.sum_congr rfl fun k _ => ?_)
  have hg : k0_pay6 (F := Ideal) U WG CG (ix2 r k) = conv I b (row i r) (gcol (rowD j k)) := by
    obtain ⟨q0, q1, q2, q3⟩ := rows_at I.cw I.cb (colG j k)
    rw [gate_at, hCG, hCG, hCG, hCG, q0, q1, q2, q3, proj_before hU (fun e => WG (ix2 e k)) _ (fun e => hWG e k), proj_mid hU (fun e => WG (ix2 e k)) _ (fun e => hWG e k),
      proj_after hU (fun e => WG (ix2 e k)) _ (fun e => hWG e k)]
    rfl
  have hv : k0_pay9 (F := Ideal) U WV (ix2 ⟨8 + r.val, by omega⟩ k) * CV (ix2 0 k) + k0_pay7 (F := Ideal) U WV (ix2 ⟨8 + r.val, by omega⟩ k) * CV (ix2 1 k)
        + k0_pay7 (F := Ideal) U WV (ix2 ⟨9 + r.val, by omega⟩ k) * CV (ix2 2 k) + CV (ix2 3 k) = conv I b (row i r) (vcol (rowD j k)) := by
    obtain ⟨q0, q1, q2, q3⟩ := rows_at I.cw I.cb (colV j k)
    have hc : vcol (rowD j k) = colV j k := Fin.ext (by show 2816 + (j.val * 1408 + k.val) = (2 + j.val) * 1408 + k.val; omega)
    rw [rot_at, up_at, up_at, up_at, hCV, hCV, hCV, hCV, q0, q1, q2, q3, proj_before hU (fun e => WV (ix2 e k)) _ (fun e => hWV e k), proj_mid hU (fun e => WV (ix2 e k)) _ (fun e => hWV e k),
      proj_after hU (fun e => WV (ix2 e k)) _ (fun e => hWV e k), hc]
    rfl
  rw [hg, hv, hWD]
  rfl

/-- The two chunks' sums are the whole projection down. -/
theorem y_split (I : Ins) (b : Fin 8) (t : Fin 4352) (e : Fin 1024) :
    y I b t e = (∑ k : Fin 1408, act I b t (rowD 0 k) * I.dn (ix2 (rowD 0 k) e)) + ∑ k : Fin 1408, act I b t (rowD 1 k) * I.dn (ix2 (rowD 1 k) e) := by
  unfold y
  rw [Fin.sum_univ_tiles 2 1408 rfl (fun k : Fin 2816 => act I b t k * I.dn (ix2 k e)), Fin.sum_univ_two]
  rfl

/-- The stored block, from an accumulator that holds the projection down. -/
theorem out_of (I : Ins) (b : Fin 8) (i : Fin 17) (M : FVec Ideal S1x8x1024 .f32) (X : FVec Ideal S1x256x1024 .f32) (A : FVec Ideal S256x1024 .f32) (g' b' : FVec Ideal S1x1024 .f32)
    (hM : ∀ (s : Fin 8) (e : Fin 1024), M (ix3 0 s e) = I.mod (ix3 (modRow b i) s e))
    (hX : ∀ (r : Fin 256) (e : Fin 1024), X (ix3 0 r e) = I.x (ix3 b (row i r) e))
    (hA : ∀ (r : Fin 256) (e : Fin 1024), A (ix2 r e) = y I b (row i r) e)
    (hg : ∀ e : Fin 1024, g' (ix2 0 e) = I.g (ix1 e)) (hb : ∀ e : Fin 1024, b' (ix2 0 e) = I.b (ix1 e)) (r : Fin 256) (e : Fin 1024) :
    k0_pay2 (F := Ideal) (k0_pay4 M) X A g' b' (ix3 0 r e) = result I (ix3 b (row i r) e) := by
  have h4 : ∀ (s : Fin 8) (e : Fin 1024), k0_pay4 (F := Ideal) M (ix2 s e) = I.mod (ix3 (modRow b i) s e) := fun s e => by
    rw [← hM]
    pointwise [k0_pay4]
  rw [out_at]
  simp only [h4, hX, hA, hg, hb, ← seg_row b i r]
  rfl

end Cert.FfnTile

end
-- ==== Proof.FfnBlock.lean ====
module

public import Idealize.ShloMosaic.Lib.Pipeline.ValueKit
public import Idealize.ShloMosaic.Lib.Pointwise
public import Idealize.ShloMosaic.Lib.Pipeline.Covers
public import Idealize.ShloMosaic.Lib.Pipeline.ReadBack
public import proofs.«01_k».proof.Proof.FfnTile

/-! The array the whole feedforward grid leaves, and its run. -/

@[expose] public section

set_option maxRecDepth 16384

noncomputable section

namespace Cert.FfnBlock

open Idealize.ShloMosaic Idealize.ShloMosaic.TcCoe Idealize.SL.Sem
open Cert.FfnIdeal Cert.FfnIdeal.Gen Cert.Feedforward Cert.FfnRead Cert.FfnTile

variable (m : (ℓ : Loc nD τ sig) → Buf (Elt Ideal) ℓ)

/-- The arguments in a memory. -/
def ins (c : Dev nD) : Ins where
  x := m ((c : Thread nD τ).loc main_arg0)
  mod := m ((c : Thread nD τ).loc main_arg1)
  up := m ((c : Thread nD τ).loc main_arg2)
  cw := m ((c : Thread nD τ).loc main_arg3)
  cb := m ((c : Thread nD τ).loc main_arg4)
  dn := m ((c : Thread nD τ).loc main_arg5)
  g := m ((c : Thread nD τ).loc main_arg6)
  b := m ((c : Thread nD τ).loc main_arg7)

/-- The tile's number is the grid's second coordinate. -/
theorem coord (t : Fin cfg0.N) : (grid0.coords t 1).val = t.val / 2 % 17 := by
  exact (by decide +kernel : ∀ t : Fin grid0.N, (grid0.coords t 1).val = t.val / 2 % 17) t

/-- A first chunk's point leaves the tile's rows and the first half of the projection down. -/
theorem first (c : Dev nD) (t : Fin cfg0.N) (h0 : t.val % 2 = 0) :
    Tile (ins m c) (smp t) (tile t) (outsAt0 m c t.val t.isLt).2.1 ∧ ∀ (r : Fin 256) (e : Fin 1024),
      ((outsAt0 m c t.val t.isLt).2.2 : FVec Ideal S256x1024 .f32) (ix2 r e)
        = ∑ k : Fin 1408, act (ins m c) (smp t) (row (tile t) r) (rowD 0 k) * (ins m c).dn (ix2 (rowD 0 k) e) := by
  have hT : Tile (ins m c) (smp t) (tile t) (k0_pay3 (F := Ideal) (BitVec.ofNat 32 (grid0.coords t 1).val) (k0_pay4 (iblk m c 3 t)) (iblk m c 1 t) (iblk m c 0 t) (iblk m c 2 t)) := by
    rw [coord t]
    exact tile_of (ins m c) (smp t) (tile t) _ _ _ _ (read_mod m c t) (read_prev m c t) (read_x m c t) (read_next m c t)
  have hj : chunk t = 0 := Fin.ext h0
  rw [outsAt0_A m c t h0 (by omega)]
  constructor
  · frame_out
    exact hT
  · intro r e
    frame_out
    have hz : k0_pay5 (F := Ideal) (ix2 r e) = 0 := by pointwise [k0_pay5]
    refine (acc_of hT 0 _ _ _ _ _ _ (fun e k => ?_) (fun e k => ?_) (fun s k => ?_) (fun s k => ?_) (fun k e => ?_) r e).trans (by rw [hz, zero_add])
    · rw [← hj]; exact read_upG m c t e k
    · rw [← hj]; exact read_upV m c t e k
    · rw [← hj]; exact read_cG m c t s k
    · rw [← hj]; exact read_cV m c t s k
    · rw [← hj]; exact read_down m c t k e

/-- The point before a second chunk's has the same sample and tile. -/
theorem same (t p : Fin cfg0.N) (h1 : t.val % 2 = 1) (hp : p.val = t.val - 1) : smp p = smp t ∧ tile p = tile t :=
  ⟨Fin.ext (by show p.val / 34 = t.val / 34; omega), Fin.ext (by show p.val / 2 % 17 = t.val / 2 % 17; omega)⟩

/-- A row of a block read alone. -/
theorem ld_row (L : FVec Ideal S8x1024 .f32) (e : Fin 1024) :
    (View.ld (Val := Elt Ideal) (e' := .f32) L (Rect.unit (s := S8x1024) ![0, 0] ![1, 1024] inb_S8x1024_S1x1024_0_0) : FVec Ideal S1x1024 .f32) (ix2 0 e) = L (ix2 0 e)
    ∧ (View.ld (Val := Elt Ideal) (e' := .f32) L (Rect.unit (s := S8x1024) ![1, 0] ![1, 1024] inb_S8x1024_S1x1024_1_0) : FVec Ideal S1x1024 .f32) (ix2 0 e) = L (ix2 1 e) := by
  constructor <;> pointwise

/-- The array the kernel leaves is the feedforward part of the arguments. -/
theorem final (c : Dev nD) : (dats m 0 c).arrAt 10 (cfgs 0).N = result (ins m c) := by
  refine (dats m 0 c).arrAt_eq_of_covers 10 _ covers fun t hf y => ?_
  have h1 : t.val % 2 = 1 := (flush0_10 t).1 hf
  blk_simp
  rw [after0_10]
  obtain ⟨r, e, rfl⟩ : ∃ (r : Fin 256) (e : Fin 1024), y = (ix3 0 r e : S1x256x1024.Idx) := ⟨y 1, y 2, by idx_ext⟩
  rw [lands, outsAt0_B m c t (by omega) h1]
  frame_out
  have hlt : t.val - 1 < cfg0.N := Nat.lt_of_le_of_lt (Nat.sub_le _ _) t.isLt
  obtain ⟨hs, ht⟩ := same t ⟨t.val - 1, hlt⟩ h1 rfl
  obtain ⟨hT, hA⟩ := first m c ⟨t.val - 1, hlt⟩ (by show (t.val - 1) % 2 = 0; omega)
  rw [hs, ht] at hT hA
  have hj : chunk t = 1 := Fin.ext h1
  refine out_of (ins m c) (smp t) (tile t) _ _ _ _ _ (read_mod m c t) (read_x m c t) (fun r e => ?_) (fun e => ?_) (fun e => ?_) r e
  · rw [read_unread_whole, read_unread_whole]
    rw [y_split]
    refine (acc_of hT 1 _ _ _ _ _ _ (fun e k => ?_) (fun e k => ?_) (fun s k => ?_) (fun s k => ?_) (fun k e => ?_) r e).trans (by rw [hA])
    · rw [← hj]; exact read_upG m c t e k
    · rw [← hj]; exact read_upV m c t e k
    · rw [← hj]; exact read_cG m c t s k
    · rw [← hj]; exact read_cV m c t s k
    · rw [← hj]; exact read_down m c t k e
  · exact ((ld_row _ e).1.trans (read_ln m c t 0 e)).trans (lines_at _ _ e).1
  · exact ((ld_row _ e).2.trans (read_ln m c t 1 e)).trans (lines_at _ _ e).2

/-- The kernel's run: the result array is the feedforward part of the arguments, which are unchanged. -/
theorem run (g : Dev nD → PrngReg) :
    θ_run defs (onTc (τ := τ) (main (F := Ideal))) ⟨m, fun _ => 0, g⟩ fun r => ∀ c : Dev nD,
      r.2.mem ((c.tc : Thread nD τ).loc main_v22) = result (ins m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨((h c).1 10).trans (final m c),
    ((h c).1 2).trans (((dats m 0 c).arrAt_in 2 rfl _).trans ((A_eq m c 2).trans (V_main_arg0 m c))),
    ((h c).1 3).trans (((dats m 0 c).arrAt_in 3 rfl _).trans ((A_eq m c 3).trans (V_main_arg1 m c))),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c)⟩) (run_main m g)

end Cert.FfnBlock

end
-- ==== Proof.FfnRefPoint.lean ====
module

public import Idealize.ShloMosaic.Lib.Pointwise
public import proofs.«01_k».proof.Proof.Gen.FfnRefIdeal.Run
public import proofs.«01_k».proof.Proof.Feedforward

/-! The feedforward reference's stages read at an index, each over any arrays, and its result: `Feedforward.result` of its
arguments. -/

@[expose] public section

set_option maxRecDepth 16384

noncomputable section

namespace Cert.FfnRefPoint

open Idealize.ShloMosaic Idealize.ShloMosaic.TcCoe Idealize.SL.Sem
open Cert.FfnRefIdeal Cert.FfnRefIdeal.Gen Cert.Feedforward

/-- The integer zero converted is zero. -/
theorem zero_word : (FloatOps.sitofp FTy.f32 0#32 : Ideal FTy.f32) = 0 := by
  show (((0#32 : BitVec 32).toInt : ℝ) : EReal) = 0
  simp

/-- The context rows of the stream. -/
def X256 (x : FVec Ideal S8x4352x1024 .f32) : FVec Ideal S8x256x1024 .f32 :=
  extractStridedSlice S8x256x1024 ![0, 0, 0] x slices_S8x4352x1024_S8x256x1024_0_0_0

/-- The context's modulation. -/
def M256 (mod : FVec Ideal S16x8x1024 .f32) : FVec Ideal S8x8x1024 .f32 :=
  shapeCast _ (extractStridedSlice S8x1x8x1024 ![0, 0, 0, 0] (shapeCast S8x2x8x1024 mod shapeCasts_S16x8x1024_S8x2x8x1024) slices_S8x2x8x1024_S8x1x8x1024_0_0_0_0) shapeCasts_S8x1x8x1024_S8x8x1024

/-- The modulated context rows, over any rows and modulation. -/
def U256 (x : FVec Ideal S8x256x1024 .f32) (md : FVec Ideal S8x8x1024 .f32) : FVec Ideal S8x256x1024 .f32 :=
  addf (mulf x (broadcastInDim S8x256x1024 ![0, 1, 2] bcast_S8x1x1024_S8x256x1024_0_1_2 (addf (broadcastInDim S8x1x1024 ![] bcast_S_S8x1x1024 (constant S_ .f32 0x3F800000#32)) (extractStridedSlice S8x1x1024 ![0, 4, 0] md slices_S8x8x1024_S8x1x1024_0_4_0)))) (broadcastInDim S8x256x1024 ![0, 1, 2] bcast_S8x1x1024_S8x256x1024_0_1_2 (extractStridedSlice S8x1x1024 ![0, 3, 0] md slices_S8x8x1024_S8x1x1024_0_3_0))

/-- The context rows projected up. -/
def H256 (a : FVec Ideal S8x256x1024 .f32) (w : FVec Ideal S1024x5632 .f32) : FVec Ideal S8x256x5632 .f32 :=
  Host.dotGeneral dot_S8x256x1024_S1024x5632_S8x256x5632_2_0_01_1_n_n none a w

/-- The context rows with a zero row at either end. -/
def P256 (a : FVec Ideal S8x256x5632 .f32) : FVec Ideal S8x258x5632 .f32 :=
  pad S8x258x5632 ![0, 1, 0] ![0, 1, 0] ![0, 0, 0] a (sitofp .f32 (constantI S_ 32 0#32)) pads_S8x256x5632_S8x258x5632_000_110_000 h_S_

/-- The convolution along the context rows. -/
def C256 (p : FVec Ideal S8x258x5632 .f32) (cw : FVec Ideal S3x5632 .f32) (cb : FVec Ideal S5632 .f32) : FVec Ideal S8x256x5632 .f32 :=
  addf (addf (addf (mulf (extractStridedSlice S8x256x5632 ![0, 0, 0] p slices_S8x258x5632_S8x256x5632_0_0_0) (broadcastInDim S8x256x5632 ![0, 1, 2] bcast_S1x1x5632_S8x256x5632_0_1_2 (broadcastInDim S1x1x5632 ![2] bcast_S5632_S1x1x5632_2 (shapeCast _ (extractStridedSlice S1x5632 ![0, 0] cw slices_S3x5632_S1x5632_0_0) shapeCasts_S1x5632_S5632)))) (mulf (extractStridedSlice S8x256x5632 ![0, 1, 0] p slices_S8x258x5632_S8x256x5632_0_1_0) (broadcastInDim S8x256x5632 ![0, 1, 2] bcast_S1x1x5632_S8x256x5632_0_1_2 (broadcastInDim S1x1x5632 ![2] bcast_S5632_S1x1x5632_2 (shapeCast _ (extractStridedSlice S1x5632 ![1, 0] cw slices_S3x5632_S1x5632_1_0) shapeCasts_S1x5632_S5632))))) (mulf (extractStridedSlice S8x256x5632 ![0, 2, 0] p slices_S8x258x5632_S8x256x5632_0_2_0) (broadcastInDim S8x256x5632 ![0, 1, 2] bcast_S1x1x5632_S8x256x5632_0_1_2 (broadcastInDim S1x1x5632 ![2] bcast_S5632_S1x1x5632_2 (shapeCast _ (extractStridedSlice S1x5632 ![2, 0] cw slices_S3x5632_S1x5632_2_0) shapeCasts_S1x5632_S5632))))) (broadcastInDim S8x256x5632 ![0, 1, 2] bcast_S1x1x5632_S8x256x5632_0_1_2 (broadcastInDim S1x1x5632 ![2] bcast_S5632_S1x1x5632_2 cb))

/-- The gate half. -/
def G256 (a : FVec Ideal S8x256x5632 .f32) : FVec Ideal S8x256x2816 .f32 :=
  extractStridedSlice S8x256x2816 ![0, 0, 0] a slices_S8x256x5632_S8x256x2816_0_0_0

/-- The gated context rows. -/
def A256 (a : FVec Ideal S8x256x5632 .f32) : FVec Ideal S8x256x2816 .f32 :=
  mulf (mulf (G256 a) (Host.divf (broadcastInDim S8x256x2816 ![] bcast_S_S8x256x2816 (constant S_ .f32 0x3F800000#32)) (addf (broadcastInDim S8x256x2816 ![] bcast_S_S8x256x2816 (constant S_ .f32 0x3F800000#32)) (Host.exp (Host.negf (G256 a)))))) (extractStridedSlice S8x256x2816 ![0, 0, 2816] a slices_S8x256x5632_S8x256x2816_0_0_2816)

/-- The context rows projected down. -/
def Y256 (a : FVec Ideal S8x256x2816 .f32) (w : FVec Ideal S2816x1024 .f32) : FVec Ideal S8x256x1024 .f32 :=
  Host.dotGeneral dot_S8x256x2816_S2816x1024_S8x256x1024_2_0_01_1_n_n none a w

/-- The residual sum of the context rows. -/
def Z256 (x : FVec Ideal S8x256x1024 .f32) (md : FVec Ideal S8x8x1024 .f32) (a : FVec Ideal S8x256x1024 .f32) : FVec Ideal S8x256x1024 .f32 :=
  addf (mulf (broadcastInDim S8x256x1024 ![] bcast_S_S8x256x1024 (constant S_ .f32 0x3FB504F3#32)) x) (mulf (broadcastInDim S8x256x1024 ![0, 1, 2] bcast_S8x1x1024_S8x256x1024_0_1_2 (extractStridedSlice S8x1x1024 ![0, 5, 0] md slices_S8x8x1024_S8x1x1024_0_5_0)) a)

/-- A row's mean over its channels, spread over them. -/
def AVG256 (a : FVec Ideal S8x256x1024 .f32) : FVec Ideal S8x256x1 .f32 :=
  Host.divf (broadcastInDim S8x256x1 ![0, 1] bcast_S8x256_S8x256x1_0_1 (Host.reduceAdd a (constant S_ .f32 0x00000000#32) reducesTo_S8x256x1024_S8x256_d2 h_S_)) (broadcastInDim S8x256x1 ![] bcast_S_S8x256x1 (constant S_ .f32 0x44800000#32))

/-- The context rows less their means. -/
def D256 (a : FVec Ideal S8x256x1024 .f32) : FVec Ideal S8x256x1024 .f32 :=
  subf a (broadcastInDim S8x256x1024 ![0, 1, 2] bcast_S8x256x1_S8x256x1024_0_1_2 (AVG256 a))

/-- The centred context rows normalised. -/
def N256 (a : FVec Ideal S8x256x1024 .f32) (g b : FVec Ideal S1024 .f32) : FVec Ideal S8x256x1024 .f32 :=
  addf (mulf (mulf a (broadcastInDim S8x256x1024 ![0, 1, 2] bcast_S8x256x1_S8x256x1024_0_1_2 (Host.rsqrt (addf (AVG256 (mulf a a)) (broadcastInDim S8x256x1 ![] bcast_S_S8x256x1 (constant S_ .f32 0x3727C5AC#32)))))) (broadcastInDim S8x256x1024 ![0, 1, 2] bcast_S1x1x1024_S8x256x1024_0_1_2 (broadcastInDim S1x1x1024 ![2] bcast_S1024_S1x1x1024_2 g))) (broadcastInDim S8x256x1024 ![0, 1, 2] bcast_S1x1x1024_S8x256x1024_0_1_2 (broadcastInDim S1x1x1024 ![2] bcast_S1024_S1x1x1024_2 b))

/-- A row of the context as a row of the stream. -/
def r256 (t : Fin 256) : Fin 4352 := ⟨0 + t.val, by omega⟩

/-- The context rows at an index. -/
theorem x256_at (x : FVec Ideal S8x4352x1024 .f32) (b : Fin 8) (t : Fin 256) (e : Fin 1024) : X256 x (ix3 b t e) = x (ix3 b (r256 t) e) := by
  unfold r256
  pointwise [X256]

/-- The context's modulation at an index. -/
theorem m256_at (mod : FVec Ideal S16x8x1024 .f32) (b : Fin 8) (t : Fin 256) (k : Fin 8) (e : Fin 1024) :
    M256 mod (ix3 b k e) = mod (ix3 (seg b (r256 t)) k e) := by
  have hs : seg b (r256 t) = ⟨2 * b.val + 0, by omega⟩ := Fin.ext (by show 2 * b.val + (if 0 + t.val < 256 then 0 else 1) = _; split <;> simp <;> omega)
  rw [hs]
  pointwise [M256]
  exact congrArg (fun s => mod (ix3 s k e)) (Fin.ext (by show b.val * 2 + 0 = 2 * b.val + 0; omega))

/-- The modulated rows at an index. -/
theorem u256_at (x : FVec Ideal S8x256x1024 .f32) (md : FVec Ideal S8x8x1024 .f32) (b : Fin 8) (t : Fin 256) (e : Fin 1024) :
    U256 x md (ix3 b t e) = x (ix3 b t e) * (1 + md (ix3 b 4 e)) + md (ix3 b 3 e) := by
  pointwise [U256]

/-- The projection up at an index. -/
theorem h256_at (a : FVec Ideal S8x256x1024 .f32) (w : FVec Ideal S1024x5632 .f32) (b : Fin 8) (t : Fin 256) (k : Fin 5632) :
    H256 a w (ix3 b t k) = ∑ e : Fin 1024, a (ix3 b t e) * w (ix2 e k) := by
  pointwise [H256]

/-- The padded rows at an index: zero at either end, the rows between. -/
theorem p256_at (a : FVec Ideal S8x256x5632 .f32) (b : Fin 8) (t : Fin 258) (k : Fin 5632) :
    P256 a (ix3 b t k) = if ht : 1 ≤ t.val ∧ t.val < 257 then a (ix3 b ⟨t.val - 1, by omega⟩ k) else 0 := by
  pointwise [P256]
  rw [zero_word]
  split_ifs <;> first | rfl | omega

/-- The convolution at an index. -/
theorem c256_at (p : FVec Ideal S8x258x5632 .f32) (cw : FVec Ideal S3x5632 .f32) (cb : FVec Ideal S5632 .f32) (b : Fin 8) (t : Fin 256) (k : Fin 5632) :
    C256 p cw cb (ix3 b t k) = p (ix3 b ⟨t.val, by omega⟩ k) * cw (ix2 0 k) + p (ix3 b ⟨1 + t.val, by omega⟩ k) * cw (ix2 1 k)
      + p (ix3 b ⟨2 + t.val, by omega⟩ k) * cw (ix2 2 k) + cb (ix1 k) := by
  pointwise [C256]

/-- The gated rows at an index. -/
theorem a256_at (a : FVec Ideal S8x256x5632 .f32) (b : Fin 8) (t : Fin 256) (k : Fin 2816) :
    A256 a (ix3 b t k) = gated (a (ix3 b t (gcol k))) (a (ix3 b t (vcol k))) := by
  unfold gated gcol vcol
  pointwise [A256, G256]

/-- The projection down at an index. -/
theorem y256_at (a : FVec Ideal S8x256x2816 .f32) (w : FVec Ideal S2816x1024 .f32) (b : Fin 8) (t : Fin 256) (e : Fin 1024) :
    Y256 a w (ix3 b t e) = ∑ k : Fin 2816, a (ix3 b t k) * w (ix2 k e) := by
  pointwise [Y256]

/-- The residual sum at an index. -/
theorem z256_at (x : FVec Ideal S8x256x1024 .f32) (md : FVec Ideal S8x8x1024 .f32) (a : FVec Ideal S8x256x1024 .f32) (b : Fin 8) (t : Fin 256) (e : Fin 1024) :
    Z256 x md a (ix3 b t e) = Ideal.ofBits .f32 0x3FB504F3#32 * x (ix3 b t e) + md (ix3 b 5 e) * a (ix3 b t e) := by
  pointwise [Z256]

/-- A row's mean. -/
theorem avg256_at (a : FVec Ideal S8x256x1024 .f32) (b : Fin 8) (t : Fin 256) :
    AVG256 a (ix3 b t 0) = Ideal.div (∑ d : Fin 1024, a (ix3 b t d)) (Ideal.ofBits .f32 0x44800000#32) := by
  pointwise [AVG256]

/-- The centred rows at an index. -/
theorem d256_at (a : FVec Ideal S8x256x1024 .f32) (b : Fin 8) (t : Fin 256) (e : Fin 1024) :
    D256 a (ix3 b t e) = center (fun d => a (ix3 b t d)) e := by
  unfold center
  rw [← avg256_at]
  pointwise [D256]

/-- The normalised rows at an index. -/
theorem n256_at (a : FVec Ideal S8x256x1024 .f32) (g v : FVec Ideal S1024 .f32) (b : Fin 8) (t : Fin 256) (e : Fin 1024) :
    N256 a g v (ix3 b t e) = a (ix3 b t e) * Ideal.rsqrt (Ideal.div (∑ d : Fin 1024, a (ix3 b t d) * a (ix3 b t d)) (Ideal.ofBits .f32 0x44800000#32) + Ideal.ofBits .f32 0x3727C5AC#32) * g (ix1 e) + v (ix1 e) := by
  have hm := avg256_at (mulf a a) b t
  have hs : (∑ d : Fin 1024, mulf a a (ix3 b t d)) = ∑ d : Fin 1024, a (ix3 b t d) * a (ix3 b t d) := rfl
  rw [← hs, ← hm]
  pointwise [N256]

/-- The latent rows of the stream. -/
def X4096 (x : FVec Ideal S8x4352x1024 .f32) : FVec Ideal S8x4096x1024 .f32 :=
  extractStridedSlice S8x4096x1024 ![0, 256, 0] x slices_S8x4352x1024_S8x4096x1024_0_256_0

/-- The latent's modulation. -/
def M4096 (mod : FVec Ideal S16x8x1024 .f32) : FVec Ideal S8x8x1024 .f32 :=
  shapeCast _ (extractStridedSlice S8x1x8x1024 ![0, 1, 0, 0] (shapeCast S8x2x8x1024 mod shapeCasts_S16x8x1024_S8x2x8x1024) slices_S8x2x8x1024_S8x1x8x1024_0_1_0_0) shapeCasts_S8x1x8x1024_S8x8x1024

/-- The modulated latent rows, over any rows and modulation. -/
def U4096 (x : FVec Ideal S8x4096x1024 .f32) (md : FVec Ideal S8x8x1024 .f32) : FVec Ideal S8x4096x1024 .f32 :=
  addf (mulf x (broadcastInDim S8x4096x1024 ![0, 1, 2] bcast_S8x1x1024_S8x4096x1024_0_1_2 (addf (broadcastInDim S8x1x1024 ![] bcast_S_S8x1x1024 (constant S_ .f32 0x3F800000#32)) (extractStridedSlice S8x1x1024 ![0, 4, 0] md slices_S8x8x1024_S8x1x1024_0_4_0)))) (broadcastInDim S8x4096x1024 ![0, 1, 2] bcast_S8x1x1024_S8x4096x1024_0_1_2 (extractStridedSlice S8x1x1024 ![0, 3, 0] md slices_S8x8x1024_S8x1x1024_0_3_0))

/-- The latent rows projected up. -/
def H4096 (a : FVec Ideal S8x4096x1024 .f32) (w : FVec Ideal S1024x5632 .f32) : FVec Ideal S8x4096x5632 .f32 :=
  Host.dotGeneral dot_S8x4096x1024_S1024x5632_S8x4096x5632_2_0_01_1_n_n none a w

/-- The latent rows with a zero row at either end. -/
def P4096 (a : FVec Ideal S8x4096x5632 .f32) : FVec Ideal S8x4098x5632 .f32 :=
  pad S8x4098x5632 ![0, 1, 0] ![0, 1, 0] ![0, 0, 0] a (sitofp .f32 (constantI S_ 32 0#32)) pads_S8x4096x5632_S8x4098x5632_000_110_000 h_S_

/-- The convolution along the latent rows. -/
def C4096 (p : FVec Ideal S8x4098x5632 .f32) (cw : FVec Ideal S3x5632 .f32) (cb : FVec Ideal S5632 .f32) : FVec Ideal S8x4096x5632 .f32 :=
  addf (addf (addf (mulf (extractStridedSlice S8x4096x5632 ![0, 0, 0] p slices_S8x4098x5632_S8x4096x5632_0_0_0) (broadcastInDim S8x4096x5632 ![0, 1, 2] bcast_S1x1x5632_S8x4096x5632_0_1_2 (broadcastInDim S1x1x5632 ![2] bcast_S5632_S1x1x5632_2 (shapeCast _ (extractStridedSlice S1x5632 ![0, 0] cw slices_S3x5632_S1x5632_0_0) shapeCasts_S1x5632_S5632)))) (mulf (extractStridedSlice S8x4096x5632 ![0, 1, 0] p slices_S8x4098x5632_S8x4096x5632_0_1_0) (broadcastInDim S8x4096x5632 ![0, 1, 2] bcast_S1x1x5632_S8x4096x5632_0_1_2 (broadcastInDim S1x1x5632 ![2] bcast_S5632_S1x1x5632_2 (shapeCast _ (extractStridedSlice S1x5632 ![1, 0] cw slices_S3x5632_S1x5632_1_0) shapeCasts_S1x5632_S5632))))) (mulf (extractStridedSlice S8x4096x5632 ![0, 2, 0] p slices_S8x4098x5632_S8x4096x5632_0_2_0) (broadcastInDim S8x4096x5632 ![0, 1, 2] bcast_S1x1x5632_S8x4096x5632_0_1_2 (broadcastInDim S1x1x5632 ![2] bcast_S5632_S1x1x5632_2 (shapeCast _ (extractStridedSlice S1x5632 ![2, 0] cw slices_S3x5632_S1x5632_2_0) shapeCasts_S1x5632_S5632))))) (broadcastInDim S8x4096x5632 ![0, 1, 2] bcast_S1x1x5632_S8x4096x5632_0_1_2 (broadcastInDim S1x1x5632 ![2] bcast_S5632_S1x1x5632_2 cb))

/-- The gate half. -/
def G4096 (a : FVec Ideal S8x4096x5632 .f32) : FVec Ideal S8x4096x2816 .f32 :=
  extractStridedSlice S8x4096x2816 ![0, 0, 0] a slices_S8x4096x5632_S8x4096x2816_0_0_0

/-- The gated latent rows. -/
def A4096 (a : FVec Ideal S8x4096x5632 .f32) : FVec Ideal S8x4096x2816 .f32 :=
  mulf (mulf (G4096 a) (Host.divf (broadcastInDim S8x4096x2816 ![] bcast_S_S8x4096x2816 (constant S_ .f32 0x3F800000#32)) (addf (broadcastInDim S8x4096x2816 ![] bcast_S_S8x4096x2816 (constant S_ .f32 0x3F800000#32)) (Host.exp (Host.negf (G4096 a)))))) (extractStridedSlice S8x4096x2816 ![0, 0, 2816] a slices_S8x4096x5632_S8x4096x2816_0_0_2816)

/-- The latent rows projected down. -/
def Y4096 (a : FVec Ideal S8x4096x2816 .f32) (w : FVec Ideal S2816x1024 .f32) : FVec Ideal S8x4096x1024 .f32 :=
  Host.dotGeneral dot_S8x4096x2816_S2816x1024_S8x4096x1024_2_0_01_1_n_n none a w

/-- The residual sum of the latent rows. -/
def Z4096 (x : FVec Ideal S8x4096x1024 .f32) (md : FVec Ideal S8x8x1024 .f32) (a : FVec Ideal S8x4096x1024 .f32) : FVec Ideal S8x4096x1024 .f32 :=
  addf (mulf (broadcastInDim S8x4096x1024 ![] bcast_S_S8x4096x1024 (constant S_ .f32 0x3FB504F3#32)) x) (mulf (broadcastInDim S8x4096x1024 ![0, 1, 2] bcast_S8x1x1024_S8x4096x1024_0_1_2 (extractStridedSlice S8x1x1024 ![0, 5, 0] md slices_S8x8x1024_S8x1x1024_0_5_0)) a)

/-- A row's mean over its channels, spread over them. -/
def AVG4096 (a : FVec Ideal S8x4096x1024 .f32) : FVec Ideal S8x4096x1 .f32 :=
  Host.divf (broadcastInDim S8x4096x1 ![0, 1] bcast_S8x4096_S8x4096x1_0_1 (Host.reduceAdd a (constant S_ .f32 0x00000000#32) reducesTo_S8x4096x1024_S8x4096_d2 h_S_)) (broadcastInDim S8x4096x1 ![] bcast_S_S8x4096x1 (constant S_ .f32 0x44800000#32))

/-- The latent rows less their means. -/
def D4096 (a : FVec Ideal S8x4096x1024 .f32) : FVec Ideal S8x4096x1024 .f32 :=
  subf a (broadcastInDim S8x4096x1024 ![0, 1, 2] bcast_S8x4096x1_S8x4096x1024_0_1_2 (AVG4096 a))

/-- The centred latent rows normalised. -/
def N4096 (a : FVec Ideal S8x4096x1024 .f32) (g b : FVec Ideal S1024 .f32) : FVec Ideal S8x4096x1024 .f32 :=
  addf (mulf (mulf a (broadcastInDim S8x4096x1024 ![0, 1, 2] bcast_S8x4096x1_S8x4096x1024_0_1_2 (Host.rsqrt (addf (AVG4096 (mulf a a)) (broadcastInDim S8x4096x1 ![] bcast_S_S8x4096x1 (constant S_ .f32 0x3727C5AC#32)))))) (broadcastInDim S8x4096x1024 ![0, 1, 2] bcast_S1x1x1024_S8x4096x1024_0_1_2 (broadcastInDim S1x1x1024 ![2] bcast_S1024_S1x1x1024_2 g))) (broadcastInDim S8x4096x1024 ![0, 1, 2] bcast_S1x1x1024_S8x4096x1024_0_1_2 (broadcastInDim S1x1x1024 ![2] bcast_S1024_S1x1x1024_2 b))

/-- A row of the latent as a row of the stream. -/
def r4096 (t : Fin 4096) : Fin 4352 := ⟨256 + t.val, by omega⟩

/-- The latent rows at an index. -/
theorem x4096_at (x : FVec Ideal S8x4352x1024 .f32) (b : Fin 8) (t : Fin 4096) (e : Fin 1024) : X4096 x (ix3 b t e) = x (ix3 b (r4096 t) e) := by
  unfold r4096
  pointwise [X4096]

/-- The latent's modulation at an index. -/
theorem m4096_at (mod : FVec Ideal S16x8x1024 .f32) (b : Fin 8) (t : Fin 4096) (k : Fin 8) (e : Fin 1024) :
    M4096 mod (ix3 b k e) = mod (ix3 (seg b (r4096 t)) k e) := by
  have hs : seg b (r4096 t) = ⟨2 * b.val + 1, by omega⟩ := Fin.ext (by show 2 * b.val + (if 256 + t.val < 256 then 0 else 1) = _; split <;> simp <;> omega)
  rw [hs]
  pointwise [M4096]
  exact congrArg (fun s => mod (ix3 s k e)) (Fin.ext (by show b.val * 2 + 1 = 2 * b.val + 1; omega))

/-- The modulated rows at an index. -/
theorem u4096_at (x : FVec Ideal S8x4096x1024 .f32) (md : FVec Ideal S8x8x1024 .f32) (b : Fin 8) (t : Fin 4096) (e : Fin 1024) :
    U4096 x md (ix3 b t e) = x (ix3 b t e) * (1 + md (ix3 b 4 e)) + md (ix3 b 3 e) := by
  pointwise [U4096]

/-- The projection up at an index. -/
theorem h4096_at (a : FVec Ideal S8x4096x1024 .f32) (w : FVec Ideal S1024x5632 .f32) (b : Fin 8) (t : Fin 4096) (k : Fin 5632) :
    H4096 a w (ix3 b t k) = ∑ e : Fin 1024, a (ix3 b t e) * w (ix2 e k) := by
  pointwise [H4096]

/-- The padded rows at an index: zero at either end, the rows between. -/
theorem p4096_at (a : FVec Ideal S8x4096x5632 .f32) (b : Fin 8) (t : Fin 4098) (k : Fin 5632) :
    P4096 a (ix3 b t k) = if ht : 1 ≤ t.val ∧ t.val < 4097 then a (ix3 b ⟨t.val - 1, by omega⟩ k) else 0 := by
  pointwise [P4096]
  rw [zero_word]
  split_ifs <;> first | rfl | omega

/-- The convolution at an index. -/
theorem c4096_at (p : FVec Ideal S8x4098x5632 .f32) (cw : FVec Ideal S3x5632 .f32) (cb : FVec Ideal S5632 .f32) (b : Fin 8) (t : Fin 4096) (k : Fin 5632) :
    C4096 p cw cb (ix3 b t k) = p (ix3 b ⟨t.val, by omega⟩ k) * cw (ix2 0 k) + p (ix3 b ⟨1 + t.val, by omega⟩ k) * cw (ix2 1 k)
      + p (ix3 b ⟨2 + t.val, by omega⟩ k) * cw (ix2 2 k) + cb (ix1 k) := by
  pointwise [C4096]

/-- The gated rows at an index. -/
theorem a4096_at (a : FVec Ideal S8x4096x5632 .f32) (b : Fin 8) (t : Fin 4096) (k : Fin 2816) :
    A4096 a (ix3 b t k) = gated (a (ix3 b t (gcol k))) (a (ix3 b t (vcol k))) := by
  unfold gated gcol vcol
  pointwise [A4096, G4096]

/-- The projection down at an index. -/
theorem y4096_at (a : FVec Ideal S8x4096x2816 .f32) (w : FVec Ideal S2816x1024 .f32) (b : Fin 8) (t : Fin 4096) (e : Fin 1024) :
    Y4096 a w (ix3 b t e) = ∑ k : Fin 2816, a (ix3 b t k) * w (ix2 k e) := by
  pointwise [Y4096]

/-- The residual sum at an index. -/
theorem z4096_at (x : FVec Ideal S8x4096x1024 .f32) (md : FVec Ideal S8x8x1024 .f32) (a : FVec Ideal S8x4096x1024 .f32) (b : Fin 8) (t : Fin 4096) (e : Fin 1024) :
    Z4096 x md a (ix3 b t e) = Ideal.ofBits .f32 0x3FB504F3#32 * x (ix3 b t e) + md (ix3 b 5 e) * a (ix3 b t e) := by
  pointwise [Z4096]

/-- A row's mean. -/
theorem avg4096_at (a : FVec Ideal S8x4096x1024 .f32) (b : Fin 8) (t : Fin 4096) :
    AVG4096 a (ix3 b t 0) = Ideal.div (∑ d : Fin 1024, a (ix3 b t d)) (Ideal.ofBits .f32 0x44800000#32) := by
  pointwise [AVG4096]

/-- The centred rows at an index. -/
theorem d4096_at (a : FVec Ideal S8x4096x1024 .f32) (b : Fin 8) (t : Fin 4096) (e : Fin 1024) :
    D4096 a (ix3 b t e) = center (fun d => a (ix3 b t d)) e := by
  unfold center
  rw [← avg4096_at]
  pointwise [D4096]

/-- The normalised rows at an index. -/
theorem n4096_at (a : FVec Ideal S8x4096x1024 .f32) (g v : FVec Ideal S1024 .f32) (b : Fin 8) (t : Fin 4096) (e : Fin 1024) :
    N4096 a g v (ix3 b t e) = a (ix3 b t e) * Ideal.rsqrt (Ideal.div (∑ d : Fin 1024, a (ix3 b t d) * a (ix3 b t d)) (Ideal.ofBits .f32 0x44800000#32) + Ideal.ofBits .f32 0x3727C5AC#32) * g (ix1 e) + v (ix1 e) := by
  have hm := avg4096_at (mulf a a) b t
  have hs : (∑ d : Fin 1024, mulf a a (ix3 b t d)) = ∑ d : Fin 1024, a (ix3 b t d) * a (ix3 b t d) := rfl
  rw [← hs, ← hm]
  pointwise [N4096]

/-- The convolution of the padded context rows over the arguments. -/
def CONV256 (x : FVec Ideal S8x4352x1024 .f32) (mod : FVec Ideal S16x8x1024 .f32) (up : FVec Ideal S1024x5632 .f32) (cw : FVec Ideal S3x5632 .f32) (cb : FVec Ideal S5632 .f32) : FVec Ideal S8x256x5632 .f32 :=
  C256 (P256 (H256 (U256 (X256 x) (M256 mod)) up)) cw cb

/-- The residual sum of the context rows over the arguments. -/
def SUM256 (x : FVec Ideal S8x4352x1024 .f32) (mod : FVec Ideal S16x8x1024 .f32) (up : FVec Ideal S1024x5632 .f32) (cw : FVec Ideal S3x5632 .f32) (cb : FVec Ideal S5632 .f32) (dn : FVec Ideal S2816x1024 .f32) : FVec Ideal S8x256x1024 .f32 :=
  Z256 (X256 x) (M256 mod) (Y256 (A256 (CONV256 x mod up cw cb)) dn)

/-- The projection up over the arguments. -/
theorem proj256_at (I : Ins) (b : Fin 8) (t : Fin 256) (k : Fin 5632) : H256 (U256 (X256 I.x) (M256 I.mod)) I.up (ix3 b t k) = h I b (r256 t) k := by
  rw [h256_at]
  exact Finset.sum_congr rfl fun e _ => by rw [u256_at, x256_at, m256_at I.mod b t, m256_at I.mod b t]; rfl

/-- The convolution over the arguments. -/
theorem conv256_at (I : Ins) (b : Fin 8) (t : Fin 256) (k : Fin 5632) : CONV256 I.x I.mod I.up I.cw I.cb (ix3 b t k) = conv I b (r256 t) k := by
  have hc : P256 (H256 (U256 (X256 I.x) (M256 I.mod)) I.up) (ix3 b ⟨1 + t.val, by omega⟩ k) = h I b (r256 t) k := by
    rw [p256_at, dif_pos ⟨Nat.le_add_right 1 _, by show 1 + t.val < _; omega⟩, proj256_at]
    exact congrArg (fun s => h I b (r256 s) k) (Fin.ext (by show 1 + t.val - 1 = _; omega))
  have hp : P256 (H256 (U256 (X256 I.x) (M256 I.mod)) I.up) (ix3 b ⟨t.val, by omega⟩ k) = before I b (r256 t) k := by
    rw [p256_at]
    unfold before
    by_cases h0 : t.val = 0
    · rw [dif_neg (by show ¬ (1 ≤ t.val ∧ _); omega), if_pos (by show 0 + t.val = 0 ∨ 0 + t.val = 256; omega)]
    · rw [dif_pos (by show 1 ≤ t.val ∧ t.val < _; omega), if_neg (by show ¬ (0 + t.val = 0 ∨ 0 + t.val = 256); omega), proj256_at]
      exact congrArg (fun s => h I b s k) (Fin.ext (by show 0 + (t.val - 1) = 0 + t.val - 1; omega))
  have hn : P256 (H256 (U256 (X256 I.x) (M256 I.mod)) I.up) (ix3 b ⟨2 + t.val, by omega⟩ k) = after I b (r256 t) k := by
    rw [p256_at]
    unfold after
    by_cases h0 : t.val + 1 = 256
    · rw [dif_neg (by show ¬ (1 ≤ 2 + t.val ∧ 2 + t.val < _); omega), dif_pos (by show 0 + t.val = 255 ∨ 0 + t.val = 4351; omega)]
    · rw [dif_pos (by show 1 ≤ 2 + t.val ∧ 2 + t.val < _; omega), dif_neg (by show ¬ (0 + t.val = 255 ∨ 0 + t.val = 4351); omega), proj256_at]
      exact congrArg (fun s => h I b s k) (Fin.ext (by show 0 + (2 + t.val - 1) = 0 + t.val + 1; omega))
  unfold CONV256 conv taps
  rw [c256_at, hc, hp, hn]

/-- The residual sum over the arguments. -/
theorem sum256_at (I : Ins) (b : Fin 8) (t : Fin 256) (e : Fin 1024) : SUM256 I.x I.mod I.up I.cw I.cb I.dn (ix3 b t e) = z I b (r256 t) e := by
  unfold SUM256 z y
  rw [z256_at, y256_at, x256_at, m256_at I.mod b t]
  simp only [a256_at, conv256_at]
  rfl

/-- The normalised context rows over the arguments. -/
theorem out256_at (I : Ins) (b : Fin 8) (t : Fin 256) (e : Fin 1024) :
    N256 (D256 (SUM256 I.x I.mod I.up I.cw I.cb I.dn)) I.g I.b (ix3 b t e) = result I (ix3 b (r256 t) e) := by
  have hz : (fun d => SUM256 I.x I.mod I.up I.cw I.cb I.dn (ix3 b t d)) = z I b (r256 t) := funext fun d => sum256_at I b t d
  rw [n256_at]
  simp only [d256_at, hz]
  rfl

/-- The convolution of the padded latent rows over the arguments. -/
def CONV4096 (x : FVec Ideal S8x4352x1024 .f32) (mod : FVec Ideal S16x8x1024 .f32) (up : FVec Ideal S1024x5632 .f32) (cw : FVec Ideal S3x5632 .f32) (cb : FVec Ideal S5632 .f32) : FVec Ideal S8x4096x5632 .f32 :=
  C4096 (P4096 (H4096 (U4096 (X4096 x) (M4096 mod)) up)) cw cb

/-- The residual sum of the latent rows over the arguments. -/
def SUM4096 (x : FVec Ideal S8x4352x1024 .f32) (mod : FVec Ideal S16x8x1024 .f32) (up : FVec Ideal S1024x5632 .f32) (cw : FVec Ideal S3x5632 .f32) (cb : FVec Ideal S5632 .f32) (dn : FVec Ideal S2816x1024 .f32) : FVec Ideal S8x4096x1024 .f32 :=
  Z4096 (X4096 x) (M4096 mod) (Y4096 (A4096 (CONV4096 x mod up cw cb)) dn)

/-- The projection up over the arguments. -/
theorem proj4096_at (I : Ins) (b : Fin 8) (t : Fin 4096) (k : Fin 5632) : H4096 (U4096 (X4096 I.x) (M4096 I.mod)) I.up (ix3 b t k) = h I b (r4096 t) k := by
  rw [h4096_at]
  exact Finset.sum_congr rfl fun e _ => by rw [u4096_at, x4096_at, m4096_at I.mod b t, m4096_at I.mod b t]; rfl

/-- The convolution over the arguments. -/
theorem conv4096_at (I : Ins) (b : Fin 8) (t : Fin 4096) (k : Fin 5632) : CONV4096 I.x I.mod I.up I.cw I.cb (ix3 b t k) = conv I b (r4096 t) k := by
  have hc : P4096 (H4096 (U4096 (X4096 I.x) (M4096 I.mod)) I.up) (ix3 b ⟨1 + t.val, by omega⟩ k) = h I b (r4096 t) k := by
    rw [p4096_at, dif_pos ⟨Nat.le_add_right 1 _, by show 1 + t.val < _; omega⟩, proj4096_at]
    exact congrArg (fun s => h I b (r4096 s) k) (Fin.ext (by show 1 + t.val - 1 = _; omega))
  have hp : P4096 (H4096 (U4096 (X4096 I.x) (M4096 I.mod)) I.up) (ix3 b ⟨t.val, by omega⟩ k) = before I b (r4096 t) k := by
    rw [p4096_at]
    unfold before
    by_cases h0 : t.val = 0
    · rw [dif_neg (by show ¬ (1 ≤ t.val ∧ _); omega), if_pos (by show 256 + t.val = 0 ∨ 256 + t.val = 256; omega)]
    · rw [dif_pos (by show 1 ≤ t.val ∧ t.val < _; omega), if_neg (by show ¬ (256 + t.val = 0 ∨ 256 + t.val = 256); omega), proj4096_at]
      exact congrArg (fun s => h I b s k) (Fin.ext (by show 256 + (t.val - 1) = 256 + t.val - 1; omega))
  have hn : P4096 (H4096 (U4096 (X4096 I.x) (M4096 I.mod)) I.up) (ix3 b ⟨2 + t.val, by omega⟩ k) = after I b (r4096 t) k := by
    rw [p4096_at]
    unfold after
    by_cases h0 : t.val + 1 = 4096
    · rw [dif_neg (by show ¬ (1 ≤ 2 + t.val ∧ 2 + t.val < _); omega), dif_pos (by show 256 + t.val = 255 ∨ 256 + t.val = 4351; omega)]
    · rw [dif_pos (by show 1 ≤ 2 + t.val ∧ 2 + t.val < _; omega), dif_neg (by show ¬ (256 + t.val = 255 ∨ 256 + t.val = 4351); omega), proj4096_at]
      exact congrArg (fun s => h I b s k) (Fin.ext (by show 256 + (2 + t.val - 1) = 256 + t.val + 1; omega))
  unfold CONV4096 conv taps
  rw [c4096_at, hc, hp, hn]

/-- The residual sum over the arguments. -/
theorem sum4096_at (I : Ins) (b : Fin 8) (t : Fin 4096) (e : Fin 1024) : SUM4096 I.x I.mod I.up I.cw I.cb I.dn (ix3 b t e) = z I b (r4096 t) e := by
  unfold SUM4096 z y
  rw [z4096_at, y4096_at, x4096_at, m4096_at I.mod b t]
  simp only [a4096_at, conv4096_at]
  rfl

/-- The normalised latent rows over the arguments. -/
theorem out4096_at (I : Ins) (b : Fin 8) (t : Fin 4096) (e : Fin 1024) :
    N4096 (D4096 (SUM4096 I.x I.mod I.up I.cw I.cb I.dn)) I.g I.b (ix3 b t e) = result I (ix3 b (r4096 t) e) := by
  have hz : (fun d => SUM4096 I.x I.mod I.up I.cw I.cb I.dn (ix3 b t d)) = z I b (r4096 t) := funext fun d => sum4096_at I b t d
  rw [n4096_at]
  simp only [d4096_at, hz]
  rfl

/-- The two segments' rows joined. -/
def JOIN (x : FVec Ideal S8x256x1024 .f32) (y : FVec Ideal S8x4096x1024 .f32) : FVec Ideal S8x4352x1024 .f32 :=
  concatenate S8x4352x1024 1 [⟨S8x256x1024, x⟩, ⟨S8x4096x1024, y⟩] concatenates_S8x256x1024_S8x4096x1024_S8x4352x1024_d1

/-- A context row of the joined array. -/
theorem join_ctx (x : FVec Ideal S8x256x1024 .f32) (y : FVec Ideal S8x4096x1024 .f32) (b : Fin 8) (t : Fin 4352) (ht : t.val < 256) (e : Fin 1024) :
    JOIN x y (ix3 b t e) = x (ix3 b ⟨t.val, ht⟩ e) := by
  pointwise [JOIN, ht]

/-- A latent row of the joined array. -/
theorem join_lat (x : FVec Ideal S8x256x1024 .f32) (y : FVec Ideal S8x4096x1024 .f32) (b : Fin 8) (t : Fin 4352) (ht : ¬ t.val < 256) (e : Fin 1024) :
    JOIN x y (ix3 b t e) = y (ix3 b ⟨t.val - 256, by omega⟩ e) := by
  pointwise [JOIN, ht]

/-- The reference's operations composed, as a function of the arguments. -/
def REF (x : FVec Ideal S8x4352x1024 .f32) (mod : FVec Ideal S16x8x1024 .f32) (up : FVec Ideal S1024x5632 .f32) (cw : FVec Ideal S3x5632 .f32) (cb : FVec Ideal S5632 .f32) (dn : FVec Ideal S2816x1024 .f32) (g b : FVec Ideal S1024 .f32) : FVec Ideal S8x4352x1024 .f32 :=
  JOIN (N256 (D256 (SUM256 x mod up cw cb dn)) g b) (N4096 (D4096 (SUM4096 x mod up cw cb dn)) g b)

/-- The composed reference is the feedforward part. -/
theorem ref_eq (I : Ins) : REF I.x I.mod I.up I.cw I.cb I.dn I.g I.b = result I := by
  funext i
  obtain ⟨b, t, e, rfl⟩ : ∃ (b : Fin 8) (t : Fin 4352) (e : Fin 1024), i = (ix3 b t e : S8x4352x1024.Idx) := ⟨i 0, i 1, i 2, by idx_ext⟩
  unfold REF
  by_cases ht : t.val < 256
  · rw [join_ctx _ _ _ _ ht, out256_at]
    exact congrArg (fun s => result I (ix3 b s e)) (Fin.ext (by show 0 + t.val = _; omega))
  · rw [join_lat _ _ _ _ ht, out4096_at]
    exact congrArg (fun s => result I (ix3 b s e)) (Fin.ext (by show 256 + (t.val - 256) = _; omega))

/-- The arguments in a memory. -/
def ins (m : (ℓ : Loc nD τ sig) → Buf (Elt Ideal) ℓ) (c : Dev nD) : Ins where
  x := m ((c.tc : Thread nD τ).loc main_arg0)
  mod := m ((c.tc : Thread nD τ).loc main_arg1)
  up := m ((c.tc : Thread nD τ).loc main_arg2)
  cw := m ((c.tc : Thread nD τ).loc main_arg3)
  cb := m ((c.tc : Thread nD τ).loc main_arg4)
  dn := m ((c.tc : Thread nD τ).loc main_arg5)
  g := m ((c.tc : Thread nD τ).loc main_arg6)
  b := m ((c.tc : Thread nD τ).loc main_arg7)

/-- The reference's run: the result array is the feedforward part of the arguments, which are unchanged. -/
theorem run (m : (ℓ : Loc nD τ sig) → Buf (Elt Ideal) ℓ) (g : Dev nD → PrngReg) :
    θ_run defs (onTc (τ := τ) (main (F := Ideal))) ⟨m, fun _ => 0, g⟩ fun r => ∀ c : Dev nD,
      r.2.mem ((c.tc : Thread nD τ).loc main_v139) = result (ins m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run _ _ _).mono (fun _ h c => ⟨(h c).1.trans (Eq.trans (b := REF (ins m c).x (ins m c).mod (ins m c).up (ins m c).cw (ins m c).cb (ins m c).dn (ins m c).g (ins m c).b) rfl (ref_eq (ins m c))), (h c).2⟩) (Value.run m g)

end Cert.FfnRefPoint

end
-- ==== Proof.FfnClaims.lean ====
module

public import proofs.«01_k».proof.Proof.FfnFrames
public import proofs.«01_k».proof.Proof.FfnBlock
public import proofs.«01_k».proof.Proof.FfnRefPoint

/-! The feedforward call's value claim: the kernel's array and the reference's are equal. -/

@[expose] public section

set_option maxRecDepth 16384

noncomputable section

namespace Cert.FfnClaims

open Idealize.ShloMosaic Idealize.ShloMosaic.TcCoe Idealize.SL.Sem Cert.Feedforward

/-- The feedforward kernel and the feedforward reference leave the same array. -/
theorem value : algebraic_FfnIdeal_FfnRefIdeal (hFfnIdeal := Cert.FfnIdeal.Gen.facts) (hFfnRefIdeal := Cert.FfnRefIdeal.Gen.facts) := by
  intro m g m' g' _ hag
  refine ⟨fun c => result (Cert.FfnBlock.ins m c), ?_, ?_⟩
  · exact Cert.FfnBlock.run m g
  · have he : ∀ c, Cert.FfnRefPoint.ins m' c = Cert.FfnBlock.ins m c := fun c => by
      obtain ⟨h0, h1, h2, h3, h4, h5, h6, h7⟩ := hag c
      unfold Cert.FfnRefPoint.ins Cert.FfnBlock.ins
      rw [h0, h1, h2, h3, h4, h5, h6, h7]
    exact (θ_run _ _ _).mono (fun _ h c => ⟨(h c).1.trans (congrArg result (he c)), (h c).2⟩) (Cert.FfnRefPoint.run m' g')

end Cert.FfnClaims

end
-- ==== Proof.Projection.lean ====
module

public import Idealize.ShloMosaic.Lib.Pointwise
public import proofs.«01_k».proof.Proof.Softmax

/-! What the input projection of a layer computes, over its arrays: each row modulated by its segment's scale and shift,
times the weight; the last 32 columns, the rotary key, beside their quarter turn. -/

@[expose] public section

set_option maxRecDepth 16384

noncomputable section

namespace Cert.Projection

open Idealize.ShloMosaic Cert.Softmax

/-- The arrays the projection reads. -/
structure Ins where
  /-- The tokens: samples, rows, channels. -/
  x : (⟨3, ![8, 4352, 1024]⟩ : Shape).Idx → EReal
  /-- The modulation: a row of eight vectors for each sample and segment. -/
  mod : (⟨3, ![16, 8, 1024]⟩ : Shape).Idx → EReal
  /-- The weight. -/
  w : (⟨2, ![1024, 2592]⟩ : Shape).Idx → EReal

/-- The row of the modulation for a sample and a row's segment. -/
def seg (b : Fin 8) (t : Fin 4352) : Fin 16 := ⟨2 * b.val + if t.val < 256 then 0 else 1, by split <;> omega⟩

/-- The modulated row: scaled by one plus vector 1, shifted by vector 0. -/
def u (I : Ins) (b : Fin 8) (t : Fin 4352) (e : Fin 1024) : EReal :=
  I.x (ix3 b t e) * (1 + I.mod (ix3 (seg b t) 1 e)) + I.mod (ix3 (seg b t) 0 e)

/-- The row projected. -/
def p (I : Ins) (b : Fin 8) (t : Fin 4352) (k : Fin 2592) : EReal := ∑ e : Fin 1024, u I b t e * I.w (ix2 e k)

/-- A rotary column of the weight. -/
def kcol (d : Fin 32) : Fin 2592 := ⟨2560 + d.val, by omega⟩

/-- A vector of 32 turned by a quarter in each pair of lanes. -/
def turned (f : Fin 32 → EReal) (d : Fin 32) : EReal :=
  if h : d.val % 2 = 0 then -f ⟨d.val + 1, by omega⟩ else f ⟨d.val - 1, by omega⟩

/-- A vector of 32 in the lanes 64 to 95 of 128, zero elsewhere. -/
def lanes (f : Fin 32 → EReal) (j : Fin 128) : EReal := if h : 64 ≤ j.val ∧ j.val < 96 then f ⟨j.val - 64, by omega⟩ else 0

/-- A vector of 32 beside its quarter turn, each in its own 128 lanes. -/
def pair (f : Fin 32 → EReal) (j : Fin 256) : EReal :=
  if h : j.val < 128 then lanes f ⟨j.val, h⟩ else lanes (turned f) ⟨j.val - 128, by omega⟩

/-- The recurrence's columns. -/
def outZ (I : Ins) : (⟨3, ![8, 4352, 1920]⟩ : Shape).Idx → EReal := fun i => p I (i 0) (i 1) ⟨(i 2).val, by have h : (i 2).val < 1920 := (i 2).isLt; omega⟩

/-- The queries' latent. -/
def outQ (I : Ins) : (⟨3, ![8, 4352, 384]⟩ : Shape).Idx → EReal := fun i => p I (i 0) (i 1) ⟨1920 + (i 2).val, by have h : (i 2).val < 384 := (i 2).isLt; omega⟩

/-- The keys' and values' latent. -/
def outC (I : Ins) : (⟨3, ![8, 4352, 256]⟩ : Shape).Idx → EReal := fun i => p I (i 0) (i 1) ⟨2304 + (i 2).val, by have h : (i 2).val < 256 := (i 2).isLt; omega⟩

/-- The rotary key beside its quarter turn. -/
def outK (I : Ins) : (⟨3, ![8, 4352, 256]⟩ : Shape).Idx → EReal := fun i => pair (fun d => p I (i 0) (i 1) (kcol d)) (i 2)

/-- A sum of real numbers is a real number, its negative the sum of the negatives. -/
theorem sum_neg {n : Nat} (f : Fin n → EReal) (hf : ∀ i, Fin' (f i)) : ∑ i, -f i = -∑ i, f i := by
  choose g hg using hf
  simp only [hg]
  rw [← coe_sum_real, ← EReal.coe_neg, ← Finset.sum_neg_distrib, coe_sum_real]
  exact Finset.sum_congr rfl fun i _ => (EReal.coe_neg _).symm

/-- Where every number is real, a product with a turned, spread weight is the turned, spread product. -/
theorem pair_sum (v : Fin 1024 → EReal) (W : Fin 1024 → Fin 32 → EReal) (hv : ∀ e, Fin' (v e)) (hW : ∀ e d, Fin' (W e d)) (j : Fin 256) :
    ∑ e, v e * pair (W e) j = pair (fun d => ∑ e, v e * W e d) j := by
  have hl : ∀ (w : Fin 1024 → Fin 32 → EReal) (k : Fin 128), ∑ e, v e * lanes (w e) k = lanes (fun d => ∑ e, v e * w e d) k := fun w k => by
    unfold lanes
    by_cases h : 64 ≤ k.val ∧ k.val < 96
    · simp only [dif_pos h]
    · simp only [dif_neg h, mul_zero, Finset.sum_const_zero]
  have ht : (fun d => ∑ e, v e * turned (W e) d) = turned (fun d => ∑ e, v e * W e d) := funext fun d => by
    unfold turned
    by_cases h : d.val % 2 = 0
    · simp only [dif_pos h, mul_neg]
      exact sum_neg _ fun e => (hv e).mul (hW e _)
    · simp only [dif_neg h]
  unfold pair
  by_cases h : j.val < 128
  · simp only [dif_pos h]
    exact hl _ _
  · simp only [dif_neg h]
    rw [hl, ht]

end Cert.Projection

end
-- ==== Proof.InProjBlock.lean ====
module

public import Idealize.ShloMosaic.Lib.Pipeline.ValueKit
public import Idealize.ShloMosaic.Lib.Pointwise
public import Idealize.ShloMosaic.Lib.Pipeline.Covers
public import proofs.«01_k».proof.Proof.Gen.InProjIdeal.Frame
public import proofs.«01_k».proof.Proof.Projection

/-! What the projection kernel leaves: its weight's columns before the launch, its blocks' reads, what a grid point
computes, the four arrays the whole grid leaves, and its run. -/

@[expose] public section

set_option maxRecDepth 16384

noncomputable section

namespace Cert.InProjBlock

open Idealize.ShloMosaic Idealize.ShloMosaic.TcCoe Idealize.SL.Sem
open Cert.InProjIdeal Cert.InProjIdeal.Gen Cert.Projection Cert.Softmax

/-- The rotary columns of the weight. -/
def WK (w : FVec Ideal S1024x2592 .f32) : FVec Ideal S1024x32 .f32 :=
  extractStridedSlice S1024x32 ![0, 2560] w slices_S1024x2592_S1024x32_0_2560

/-- The columns turned by a quarter in each pair. -/
def WT (k : FVec Ideal S1024x32 .f32) : FVec Ideal S1024x32 .f32 :=
  shapeCast S1024x32 (concatenate S1024x16x2 2 [
    ⟨S1024x16x1, broadcastInDim S1024x16x1 ![0, 1] bcast_S1024x16_S1024x16x1_0_1 (Host.negf (shapeCast S1024x16 (extractStridedSlice S1024x16x1 ![0, 0, 1] (shapeCast S1024x16x2 k shapeCasts_S1024x32_S1024x16x2) slices_S1024x16x2_S1024x16x1_0_0_1) shapeCasts_S1024x16x1_S1024x16))⟩,
    ⟨S1024x16x1, broadcastInDim S1024x16x1 ![0, 1] bcast_S1024x16_S1024x16x1_0_1 (shapeCast S1024x16 (extractStridedSlice S1024x16x1 ![0, 0, 0] (shapeCast S1024x16x2 k shapeCasts_S1024x32_S1024x16x2) slices_S1024x16x2_S1024x16x1_0_0_0) shapeCasts_S1024x16x1_S1024x16)⟩] concatenates_S1024x16x1_S1024x16x1_S1024x16x2_d2) shapeCasts_S1024x16x2_S1024x32

/-- Sixty-four zero columns. -/
def Z64 : FVec Ideal S1024x64 .f32 := broadcastInDim S1024x64 ![] bcast_S_S1024x64 (constant S_ .f32 0x00000000#32)

/-- Thirty-two zero columns. -/
def Z32 : FVec Ideal S1024x32 .f32 := broadcastInDim S1024x32 ![] bcast_S_S1024x32 (constant S_ .f32 0x00000000#32)

/-- The columns laid side by side. -/
def CAT (a : FVec Ideal S1024x2560 .f32) (z : FVec Ideal S1024x64 .f32) (k : FVec Ideal S1024x32 .f32) (y : FVec Ideal S1024x32 .f32) (q : FVec Ideal S1024x32 .f32) : FVec Ideal S1024x2816 .f32 :=
  concatenate S1024x2816 1 [⟨S1024x2560, a⟩, ⟨S1024x64, z⟩, ⟨S1024x32, k⟩, ⟨S1024x32, y⟩, ⟨S1024x64, z⟩, ⟨S1024x32, q⟩, ⟨S1024x32, y⟩] concatenates_S1024x2560_S1024x64_S1024x32_S1024x32_S1024x64_S1024x32_S1024x32_S1024x2816_d1

/-- The kernel's weight. -/
def W (w : FVec Ideal S1024x2592 .f32) : FVec Ideal S1024x2816 .f32 :=
  CAT (extractStridedSlice S1024x2560 ![0, 0] w slices_S1024x2592_S1024x2560_0_0) Z64 (WK w) Z32 (WT (WK w))

/-- The turned columns at an entry. -/
theorem wt_at (k : FVec Ideal S1024x32 .f32) (e : Fin 1024) (d : Fin 32) : WT k (ix2 e d) = turned (fun j => k (ix2 e j)) d := by
  unfold turned
  by_cases hd : d.val % 2 = 0
  · rw [dif_pos hd]
    pointwise [WT, hd]
    exact congrArg (fun j => -k (ix2 e j)) (Fin.ext (by show d.val / 2 * 2 + 1 = d.val + 1; omega))
  · rw [dif_neg hd]
    pointwise [WT, hd]
    rw [dif_neg (by omega)]
    exact congrArg (fun j => k (ix2 e j)) (Fin.ext (by show d.val / 2 * 2 = d.val - 1; omega))

/-- The first columns of the laid out weight. -/
theorem cat_low (a : FVec Ideal S1024x2560 .f32) (z : FVec Ideal S1024x64 .f32) (k : FVec Ideal S1024x32 .f32) (y : FVec Ideal S1024x32 .f32) (q : FVec Ideal S1024x32 .f32)
    (e : Fin 1024) (j : Fin 2816) (h : j.val < 2560) : CAT a z k y q (ix2 e j) = a (ix2 e ⟨j.val, h⟩) := by
  pointwise [CAT, h]

/-- The last columns of the laid out weight. -/
theorem cat_high (a : FVec Ideal S1024x2560 .f32) (z : FVec Ideal S1024x64 .f32) (k : FVec Ideal S1024x32 .f32) (y : FVec Ideal S1024x32 .f32) (q : FVec Ideal S1024x32 .f32)
    (e : Fin 1024) (j : Fin 256) : CAT a z k y q (ix2 e ⟨2560 + j.val, by omega⟩) =
      if h : j.val < 64 then z (ix2 e ⟨j.val, h⟩) else if h : j.val < 96 then k (ix2 e ⟨j.val - 64, by omega⟩) else if h : j.val < 128 then y (ix2 e ⟨j.val - 96, by omega⟩)
      else if h : j.val < 192 then z (ix2 e ⟨j.val - 128, by omega⟩) else if h : j.val < 224 then q (ix2 e ⟨j.val - 192, by omega⟩) else y (ix2 e ⟨j.val - 224, by omega⟩) := by
  pointwise [CAT]
  repeat' split
  all_goals first
    | rfl
    | (exfalso; omega)
    | (refine congrArg (fun i => y (ix2 e i)) (Fin.ext ?_); dsimp only; omega)
    | (refine congrArg (fun i => z (ix2 e i)) (Fin.ext ?_); dsimp only; omega)
    | (refine congrArg (fun i => q (ix2 e i)) (Fin.ext ?_); dsimp only; omega)

/-- The weight's first columns are the argument's. -/
theorem w_low (w : FVec Ideal S1024x2592 .f32) (e : Fin 1024) (j : Fin 2816) (h : j.val < 2560) : W w (ix2 e j) = w (ix2 e ⟨j.val, by omega⟩) := by
  unfold W
  rw [cat_low _ _ _ _ _ e j h]
  pointwise

/-- The weight's last columns: the rotary columns and their quarter turn, spread. -/
theorem w_high (w : FVec Ideal S1024x2592 .f32) (e : Fin 1024) (j : Fin 256) :
    W w (ix2 e ⟨2560 + j.val, by omega⟩) = pair (fun d => w (ix2 e (kcol d))) j := by
  have hz : ∀ i, Z64 (ix2 e i) = 0 := fun i => by pointwise [Z64]
  have hy : ∀ i, Z32 (ix2 e i) = 0 := fun i => by pointwise [Z32]
  have hk : ∀ i, WK w (ix2 e i) = w (ix2 e (kcol i)) := fun i => by unfold kcol; pointwise [WK]
  unfold W
  rw [cat_high]
  simp only [hz, hy, hk, wt_at]
  unfold pair lanes
  split_ifs with h1 h2 h3 h4 h5 h6 h7 h8 h9 h10 h11 h12 <;>
    first | rfl | (exfalso; dsimp only at *; omega) | exact congrArg (turned fun d => w (ix2 e (kcol d))) (Fin.ext (by show j.val - 192 = j.val - 128 - 64; omega))

/-- What a grid point computes at an entry of its modulated tile. -/
theorem pay_u (md : FVec Ideal S1x8x1024 .f32) (x : FVec Ideal S1x256x1024 .f32) (r : Fin 256) (e : Fin 1024) :
    (k0_pay2 (F := Ideal) md x (ix2 r e) : EReal) = x (ix3 0 r e) * (1 + md (ix3 0 1 e)) + md (ix3 0 0 e) := by
  pointwise [k0_pay2]

/-- The product with the recurrence's columns at an entry. -/
theorem pay_z (md : FVec Ideal S1x8x1024 .f32) (x : FVec Ideal S1x256x1024 .f32) (w : FVec Ideal S1024x1920 .bf16) (r : Fin 256) (k : Fin 1920) :
    (k0_pay3 (F := Ideal) md x w (ix3 0 r k) : EReal) = ∑ e : Fin 1024, k0_pay2 (F := Ideal) md x (ix2 r e) * w (ix2 e k) := by
  unfold k0_pay3
  generalize k0_pay2 (F := Ideal) md x = a
  pointwise

/-- The product with the queries' columns at an entry. -/
theorem pay_q (md : FVec Ideal S1x8x1024 .f32) (x : FVec Ideal S1x256x1024 .f32) (w : FVec Ideal S1024x384 .bf16) (r : Fin 256) (k : Fin 384) :
    (k0_pay4 (F := Ideal) md x w (ix3 0 r k) : EReal) = ∑ e : Fin 1024, k0_pay2 (F := Ideal) md x (ix2 r e) * w (ix2 e k) := by
  unfold k0_pay4
  generalize k0_pay2 (F := Ideal) md x = a
  pointwise

/-- The product with the keys' and values' columns at an entry. -/
theorem pay_c (md : FVec Ideal S1x8x1024 .f32) (x : FVec Ideal S1x256x1024 .f32) (w : FVec Ideal S1024x256 .bf16) (r : Fin 256) (k : Fin 256) :
    (k0_pay5 (F := Ideal) md x w (ix3 0 r k) : EReal) = ∑ e : Fin 1024, k0_pay2 (F := Ideal) md x (ix2 r e) * w (ix2 e k) := by
  unfold k0_pay5
  generalize k0_pay2 (F := Ideal) md x = a
  pointwise

/-- The product with the rotary columns at an entry. -/
theorem pay_k (a : FVec Ideal S256x1024 .bf16) (w : FVec Ideal S1024x256 .bf16) (r : Fin 256) (k : Fin 256) :
    (k0_pay1 (F := Ideal) a w (ix3 0 r k) : EReal) = ∑ e : Fin 1024, a (ix2 r e) * w (ix2 e k) := by
  pointwise [k0_pay1]

variable (m : (ℓ : Loc nD τ sig) → Buf (Elt Ideal) ℓ)

/-- The arguments in a memory. -/
def ins (c : Dev nD) : Ins where
  x := m ((c : Thread nD τ).loc main_arg0)
  mod := m ((c : Thread nD τ).loc main_arg1)
  w := m ((c : Thread nD τ).loc main_arg2)

/-- The weight before the launch. -/
theorem entry_w (c : Dev nD) : (V m c main_v15 : FVec Ideal S1024x2816 .bf16) = W (m ((c : Thread nD τ).loc main_arg2)) := by
  unfold V
  after_results
  rfl

/-- Which blocks a grid point reads and writes. -/
theorem idx : ∀ t : Fin cfg0.N, win0_0.index t = ![t.val / 17, t.val % 17, 0]
    ∧ win0_1.index t = ![2 * (t.val / 17) + (if t.val % 17 = 0 then 0 else 1), 0, 0]
    ∧ win0_2.index t = ![0, 0]
    ∧ win0_3.index t = ![t.val / 17, t.val % 17, 0]
    ∧ win0_4.index t = ![t.val / 17, t.val % 17, 0]
    ∧ win0_5.index t = ![t.val / 17, t.val % 17, 0]
    ∧ win0_6.index t = ![t.val / 17, t.val % 17, 0] :=
  (by decide +kernel : ∀ t : Fin grid0.N, _)

/-- The points number 136. -/
theorem lt_points (t : Fin cfg0.N) : t.val < 136 := lt_of_lt_of_eq t.isLt N_0

/-- The sample of a grid point. -/
def smp (t : Fin cfg0.N) : Fin 8 := ⟨t.val / 17, by have := lt_points t; omega⟩

/-- A row of a grid point's tile. -/
def row (t : Fin cfg0.N) (r : Fin 256) : Fin 4352 := ⟨t.val % 17 * 256 + r.val, by omega⟩

/-- The modulation row of a grid point. -/
def modRow (t : Fin cfg0.N) : Fin 16 := ⟨2 * (t.val / 17) + (if t.val % 17 = 0 then 0 else 1), by have := lt_points t; split <;> omega⟩

/-- The modulation row of a grid point is its tile's segment's. -/
theorem modRow_eq (t : Fin cfg0.N) (r : Fin 256) : modRow t = seg (smp t) (row t r) := by
  refine Fin.ext ?_
  show 2 * (t.val / 17) + (if t.val % 17 = 0 then 0 else 1) = 2 * (t.val / 17) + (if t.val % 17 * 256 + r.val < 256 then 0 else 1)
  split_ifs <;> omega

/-- The tile's rows. -/
theorem read_x (c : Dev nD) (t : Fin cfg0.N) (r : Fin 256) (e : Fin 1024) :
    (iblk m c 0 t : FVec Ideal S1x256x1024 .f32) (ix3 0 r e) = (ins m c).x (ix3 (smp t) (row t r) e) := by
  have ht := lt_points t
  unfold smp row ins
  blk_point [iblk, V_main_arg0 m c, idx t]

/-- The modulation. -/
theorem read_mod (c : Dev nD) (t : Fin cfg0.N) (s : Fin 8) (e : Fin 1024) :
    (iblk m c 1 t : FVec Ideal S1x8x1024 .f32) (ix3 0 s e) = (ins m c).mod (ix3 (modRow t) s e) := by
  have ht := lt_points t
  unfold modRow ins
  blk_point [iblk, V_main_arg1 m c, idx t]

/-- The weight. -/
theorem read_w (c : Dev nD) (t : Fin cfg0.N) (e : Fin 1024) (k : Fin 2816) :
    (iblk m c 2 t : FVec Ideal S1024x2816 .bf16) (ix2 e k) = W (ins m c).w (ix2 e k) := by
  have ht := lt_points t
  have he := entry_w m c
  unfold ins
  rw [← he]
  blk_point [iblk, idx t]

/-- A grid point's modulated tile. -/
theorem tile_u (c : Dev nD) (t : Fin cfg0.N) (md : FVec Ideal S1x8x1024 .f32) (x : FVec Ideal S1x256x1024 .f32)
    (hmd : ∀ s e, md (ix3 0 s e) = (ins m c).mod (ix3 (modRow t) s e)) (hx : ∀ r e, x (ix3 0 r e) = (ins m c).x (ix3 (smp t) (row t r) e)) (r : Fin 256) (e : Fin 1024) :
    (k0_pay2 (F := Ideal) md x (ix2 r e) : EReal) = u (ins m c) (smp t) (row t r) e := by
  unfold u
  rw [pay_u, hmd, hmd, hx, modRow_eq t r]

/-- The recurrence's columns of a weight block. -/
theorem ld_z (w : FVec Ideal S1024x2816 .bf16) (e : Fin 1024) (k : Fin 1920) :
    (View.ld (Val := Elt Ideal) (e' := .bf16) w r0_2 : FVec Ideal S1024x1920 .bf16) (ix2 e k) = w (ix2 e ⟨k.val, by omega⟩) := by
  pointwise

/-- The queries' columns of a weight block. -/
theorem ld_q (w : FVec Ideal S1024x2816 .bf16) (e : Fin 1024) (k : Fin 384) :
    (View.ld (Val := Elt Ideal) (e' := .bf16) w r0_4 : FVec Ideal S1024x384 .bf16) (ix2 e k) = w (ix2 e ⟨1920 + k.val, by omega⟩) := by
  pointwise

/-- The keys' and values' columns of a weight block. -/
theorem ld_c (w : FVec Ideal S1024x2816 .bf16) (e : Fin 1024) (k : Fin 256) :
    (View.ld (Val := Elt Ideal) (e' := .bf16) w r0_6 : FVec Ideal S1024x256 .bf16) (ix2 e k) = w (ix2 e ⟨2304 + k.val, by omega⟩) := by
  pointwise

/-- The rotary columns of a weight block. -/
theorem ld_k (w : FVec Ideal S1024x2816 .bf16) (e : Fin 1024) (k : Fin 256) :
    (View.ld (Val := Elt Ideal) (e' := .bf16) w r0_8 : FVec Ideal S1024x256 .bf16) (ix2 e k) = w (ix2 e ⟨2560 + k.val, by omega⟩) := by
  pointwise

/-- Where a grid point's blocks land in the four results. -/
theorem lands_z (t : Fin cfg0.N) (r : Fin 256) (e : Fin 1920) :
    (((cfg0.win 3).blk t).view.emb (ix3 0 r e : S1x256x1920.Idx) : S8x4352x1920.Idx) = ix3 (smp t) (row t r) e := by
  have ht := lt_points t
  unfold smp row
  blk_ext [idx t]

/-- The queries' latent's blocks land likewise. -/
theorem lands_q (t : Fin cfg0.N) (r : Fin 256) (e : Fin 384) :
    (((cfg0.win 4).blk t).view.emb (ix3 0 r e : S1x256x384.Idx) : S8x4352x384.Idx) = ix3 (smp t) (row t r) e := by
  have ht := lt_points t
  unfold smp row
  blk_ext [idx t]

/-- The keys' and values' latent's blocks land likewise. -/
theorem lands_c (t : Fin cfg0.N) (r : Fin 256) (e : Fin 256) :
    (((cfg0.win 5).blk t).view.emb (ix3 0 r e : S1x256x256.Idx) : S8x4352x256.Idx) = ix3 (smp t) (row t r) e := by
  have ht := lt_points t
  unfold smp row
  blk_ext [idx t]

/-- The rotary key's blocks land likewise. -/
theorem lands_k (t : Fin cfg0.N) (r : Fin 256) (e : Fin 256) :
    (((cfg0.win 6).blk t).view.emb (ix3 0 r e : S1x256x256.Idx) : S8x4352x256.Idx) = ix3 (smp t) (row t r) e := by
  have ht := lt_points t
  unfold smp row
  blk_ext [idx t]

/-- The blocks cover the four results. -/
theorem covers : (cfg0.win 3).Covers ∧ (cfg0.win 4).Covers ∧ (cfg0.win 5).Covers ∧ (cfg0.win 6).Covers :=
  ⟨by decide +kernel, by decide +kernel, by decide +kernel, by decide +kernel⟩

/-- The first array the kernel leaves: the recurrence's columns. -/
theorem final_z (c : Dev nD) : (dats m 0 c).arrAt 3 (cfgs 0).N = outZ (ins m c) := by
  refine (dats m 0 c).arrAt_eq_of_covers 3 _ covers.1 fun t hf y => ?_
  blk_simp
  rw [after0_3]
  obtain ⟨r, e, rfl⟩ : ∃ (r : Fin 256) (e : Fin 1920), y = (ix3 0 r e : S1x256x1920.Idx) := ⟨y 1, y 2, by idx_ext⟩
  rw [lands_z]
  frame_out
  unfold outZ p
  refine (pay_z _ _ _ r e).trans (Finset.sum_congr rfl fun d _ => ?_)
  rw [tile_u m c t _ _ (read_mod m c t) (read_x m c t)]
  refine congrArg _ ((ld_z _ d e).trans ((read_w m c t d _).trans (w_low _ d _ ?_)))
  show e.val < 2560
  omega

/-- The second array the kernel leaves: the queries' latent. -/
theorem final_q (c : Dev nD) : (dats m 0 c).arrAt 4 (cfgs 0).N = outQ (ins m c) := by
  refine (dats m 0 c).arrAt_eq_of_covers 4 _ covers.2.1 fun t hf y => ?_
  blk_simp
  rw [after0_4]
  obtain ⟨r, e, rfl⟩ : ∃ (r : Fin 256) (e : Fin 384), y = (ix3 0 r e : S1x256x384.Idx) := ⟨y 1, y 2, by idx_ext⟩
  rw [lands_q]
  frame_out
  unfold outQ p
  refine (pay_q _ _ _ r e).trans (Finset.sum_congr rfl fun d _ => ?_)
  rw [tile_u m c t _ _ (read_mod m c t) (read_x m c t)]
  refine congrArg _ ((ld_q _ d e).trans ((read_w m c t d _).trans (w_low _ d _ ?_)))
  show 1920 + e.val < 2560
  omega

/-- The third array the kernel leaves: the keys' and values' latent. -/
theorem final_c (c : Dev nD) : (dats m 0 c).arrAt 5 (cfgs 0).N = outC (ins m c) := by
  refine (dats m 0 c).arrAt_eq_of_covers 5 _ covers.2.2.1 fun t hf y => ?_
  blk_simp
  rw [after0_5]
  obtain ⟨r, e, rfl⟩ : ∃ (r : Fin 256) (e : Fin 256), y = (ix3 0 r e : S1x256x256.Idx) := ⟨y 1, y 2, by idx_ext⟩
  rw [lands_c]
  frame_out
  unfold outC p
  refine (pay_c _ _ _ r e).trans (Finset.sum_congr rfl fun d _ => ?_)
  rw [tile_u m c t _ _ (read_mod m c t) (read_x m c t)]
  refine congrArg _ ((ld_c _ d e).trans ((read_w m c t d _).trans (w_low _ d _ ?_)))
  show 2304 + e.val < 2560
  omega

/-- The fourth array the kernel leaves: the rotary key beside its quarter turn, given real tokens, modulation and rotary columns. -/
theorem final_k (c : Dev nD) (hx : ∀ i, Fin' ((ins m c).x i)) (hm : ∀ i, Fin' ((ins m c).mod i)) (hw : ∀ e d, Fin' ((ins m c).w (ix2 e (kcol d)))) :
    (dats m 0 c).arrAt 6 (cfgs 0).N = outK (ins m c) := by
  refine (dats m 0 c).arrAt_eq_of_covers 6 _ covers.2.2.2 fun t hf y => ?_
  blk_simp
  rw [after0_6]
  obtain ⟨r, e, rfl⟩ : ∃ (r : Fin 256) (e : Fin 256), y = (ix3 0 r e : S1x256x256.Idx) := ⟨y 1, y 2, by idx_ext⟩
  rw [lands_k]
  frame_out
  have hu : ∀ d, Fin' (u (ins m c) (smp t) (row t r) d) := fun d => ((hx _).mul (Fin'.add ⟨1, by simp⟩ (hm _))).add (hm _)
  refine ((pay_k _ _ r e).trans (Finset.sum_congr rfl fun d _ => ?_)).trans (pair_sum (u (ins m c) (smp t) (row t r)) (fun d k => (ins m c).w (ix2 d (kcol k))) hu hw e)
  rw [tile_u m c t _ _ (read_mod m c t) (read_x m c t)]
  exact congrArg _ ((ld_k _ d e).trans ((read_w m c t d _).trans (w_high _ d e)))

/-- The kernel's run: the four result arrays are the projection's parts of the arguments, which are unchanged. -/
theorem run (g : Dev nD → PrngReg) (hx : ∀ c i, Fin' ((ins m c).x i)) (hm : ∀ c i, Fin' ((ins m c).mod i)) (hw : ∀ c e d, Fin' ((ins m c).w (ix2 e (kcol d)))) :
    θ_run defs (onTc (τ := τ) (main (F := Ideal))) ⟨m, fun _ => 0, g⟩ fun r => ∀ c : Dev nD,
      r.2.mem ((c.tc : Thread nD τ).loc main_v16_0) = outZ (ins m c)
      ∧ r.2.mem ((c.tc : Thread nD τ).loc main_v16_1) = outQ (ins m c)
      ∧ r.2.mem ((c.tc : Thread nD τ).loc main_v16_2) = outC (ins m c)
      ∧ r.2.mem ((c.tc : Thread nD τ).loc main_v16_3) = outK (ins m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨((h c).1 3).trans (final_z m c), ((h c).1 4).trans (final_q m c), ((h c).1 5).trans (final_c m c),
    ((h c).1 6).trans (final_k m c (hx c) (hm c) (hw c)),
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).2 main_arg2 (Pipeline.mem_restRefs_of main_arg2 (by decide) (by decide))).trans (V_main_arg2 m c)⟩) (run_main m g)

end Cert.InProjBlock

end
-- ==== Proof.InProjRefPoint.lean ====
module

public import Idealize.ShloMosaic.Lib.Pointwise
public import proofs.«01_k».proof.Proof.Gen.InProjRefIdeal.Run
public import proofs.«01_k».proof.Proof.Projection

/-! The projection reference's stages read at an index, each over any arrays, and its result: the projection of its
arguments. -/

@[expose] public section

set_option maxRecDepth 16384

noncomputable section

namespace Cert.InProjRefPoint

open Idealize.ShloMosaic Idealize.ShloMosaic.TcCoe Idealize.SL.Sem
open Cert.InProjRefIdeal Cert.InProjRefIdeal.Gen Cert.Projection

/-- The integer zero converted is zero. -/
theorem zero_word : (FloatOps.sitofp FTy.f32 0#32 : Ideal FTy.f32) = 0 := by
  show (((0#32 : BitVec 32).toInt : ℝ) : EReal) = 0
  simp

/-- The context rows of the stream. -/
def X256 (x : FVec Ideal S8x4352x1024 .f32) : FVec Ideal S8x256x1024 .f32 :=
  extractStridedSlice S8x256x1024 ![0, 0, 0] x slices_S8x4352x1024_S8x256x1024_0_0_0

/-- The context's modulation. -/
def M256 (mod : FVec Ideal S16x8x1024 .f32) : FVec Ideal S8x8x1024 .f32 :=
  shapeCast _ (extractStridedSlice S8x1x8x1024 ![0, 0, 0, 0] (shapeCast S8x2x8x1024 mod shapeCasts_S16x8x1024_S8x2x8x1024) slices_S8x2x8x1024_S8x1x8x1024_0_0_0_0) shapeCasts_S8x1x8x1024_S8x8x1024

/-- The modulated context rows, over any rows and modulation. -/
def U256 (x : FVec Ideal S8x256x1024 .f32) (md : FVec Ideal S8x8x1024 .f32) : FVec Ideal S8x256x1024 .f32 :=
  addf (mulf x (broadcastInDim S8x256x1024 ![0, 1, 2] bcast_S8x1x1024_S8x256x1024_0_1_2 (addf (broadcastInDim S8x1x1024 ![] bcast_S_S8x1x1024 (constant S_ .f32 0x3F800000#32)) (extractStridedSlice S8x1x1024 ![0, 1, 0] md slices_S8x8x1024_S8x1x1024_0_1_0)))) (broadcastInDim S8x256x1024 ![0, 1, 2] bcast_S8x1x1024_S8x256x1024_0_1_2 (extractStridedSlice S8x1x1024 ![0, 0, 0] md slices_S8x8x1024_S8x1x1024_0_0_0))

/-- The context rows projected. -/
def H256 (a : FVec Ideal S8x256x1024 .f32) (w : FVec Ideal S1024x2592 .f32) : FVec Ideal S8x256x2592 .f32 :=
  Host.dotGeneral dot_S8x256x1024_S1024x2592_S8x256x2592_2_0_01_1_n_n none a w

/-- A row of the context as a row of the stream. -/
def r256 (t : Fin 256) : Fin 4352 := ⟨0 + t.val, by omega⟩

/-- The context rows at an index. -/
theorem x256_at (x : FVec Ideal S8x4352x1024 .f32) (b : Fin 8) (t : Fin 256) (e : Fin 1024) : X256 x (ix3 b t e) = x (ix3 b (r256 t) e) := by
  unfold r256
  pointwise [X256]

/-- The context's modulation at an index. -/
theorem m256_at (mod : FVec Ideal S16x8x1024 .f32) (b : Fin 8) (t : Fin 256) (k : Fin 8) (e : Fin 1024) :
    M256 mod (ix3 b k e) = mod (ix3 (seg b (r256 t)) k e) := by
  have hs : seg b (r256 t) = ⟨2 * b.val + 0, by omega⟩ := Fin.ext (by show 2 * b.val + (if 0 + t.val < 256 then 0 else 1) = _; split <;> simp <;> omega)
  rw [hs]
  pointwise [M256]
  exact congrArg (fun s => mod (ix3 s k e)) (Fin.ext (by show b.val * 2 + 0 = 2 * b.val + 0; omega))

/-- The modulated rows at an index. -/
theorem u256_at (x : FVec Ideal S8x256x1024 .f32) (md : FVec Ideal S8x8x1024 .f32) (b : Fin 8) (t : Fin 256) (e : Fin 1024) :
    U256 x md (ix3 b t e) = x (ix3 b t e) * (1 + md (ix3 b 1 e)) + md (ix3 b 0 e) := by
  pointwise [U256]

/-- The projection at an index. -/
theorem h256_at (a : FVec Ideal S8x256x1024 .f32) (w : FVec Ideal S1024x2592 .f32) (b : Fin 8) (t : Fin 256) (k : Fin 2592) :
    H256 a w (ix3 b t k) = ∑ e : Fin 1024, a (ix3 b t e) * w (ix2 e k) := by
  pointwise [H256]

/-- The projected context rows over the arguments. -/
theorem p256_at (I : Ins) (b : Fin 8) (t : Fin 256) (k : Fin 2592) :
    H256 (U256 (X256 I.x) (M256 I.mod)) I.w (ix3 b t k) = p I b (r256 t) k := by
  unfold p u
  rw [h256_at]
  refine Finset.sum_congr rfl fun e _ => ?_
  rw [u256_at, x256_at, m256_at I.mod b t, m256_at I.mod b t]

/-- The latent rows of the stream. -/
def X4096 (x : FVec Ideal S8x4352x1024 .f32) : FVec Ideal S8x4096x1024 .f32 :=
  extractStridedSlice S8x4096x1024 ![0, 256, 0] x slices_S8x4352x1024_S8x4096x1024_0_256_0

/-- The latent's modulation. -/
def M4096 (mod : FVec Ideal S16x8x1024 .f32) : FVec Ideal S8x8x1024 .f32 :=
  shapeCast _ (extractStridedSlice S8x1x8x1024 ![0, 1, 0, 0] (shapeCast S8x2x8x1024 mod shapeCasts_S16x8x1024_S8x2x8x1024) slices_S8x2x8x1024_S8x1x8x1024_0_1_0_0) shapeCasts_S8x1x8x1024_S8x8x1024

/-- The modulated latent rows, over any rows and modulation. -/
def U4096 (x : FVec Ideal S8x4096x1024 .f32) (md : FVec Ideal S8x8x1024 .f32) : FVec Ideal S8x4096x1024 .f32 :=
  addf (mulf x (broadcastInDim S8x4096x1024 ![0, 1, 2] bcast_S8x1x1024_S8x4096x1024_0_1_2 (addf (broadcastInDim S8x1x1024 ![] bcast_S_S8x1x1024 (constant S_ .f32 0x3F800000#32)) (extractStridedSlice S8x1x1024 ![0, 1, 0] md slices_S8x8x1024_S8x1x1024_0_1_0)))) (broadcastInDim S8x4096x1024 ![0, 1, 2] bcast_S8x1x1024_S8x4096x1024_0_1_2 (extractStridedSlice S8x1x1024 ![0, 0, 0] md slices_S8x8x1024_S8x1x1024_0_0_0))

/-- The latent rows projected. -/
def H4096 (a : FVec Ideal S8x4096x1024 .f32) (w : FVec Ideal S1024x2592 .f32) : FVec Ideal S8x4096x2592 .f32 :=
  Host.dotGeneral dot_S8x4096x1024_S1024x2592_S8x4096x2592_2_0_01_1_n_n none a w

/-- A row of the latent as a row of the stream. -/
def r4096 (t : Fin 4096) : Fin 4352 := ⟨256 + t.val, by omega⟩

/-- The latent rows at an index. -/
theorem x4096_at (x : FVec Ideal S8x4352x1024 .f32) (b : Fin 8) (t : Fin 4096) (e : Fin 1024) : X4096 x (ix3 b t e) = x (ix3 b (r4096 t) e) := by
  unfold r4096
  pointwise [X4096]

/-- The latent's modulation at an index. -/
theorem m4096_at (mod : FVec Ideal S16x8x1024 .f32) (b : Fin 8) (t : Fin 4096) (k : Fin 8) (e : Fin 1024) :
    M4096 mod (ix3 b k e) = mod (ix3 (seg b (r4096 t)) k e) := by
  have hs : seg b (r4096 t) = ⟨2 * b.val + 1, by omega⟩ := Fin.ext (by show 2 * b.val + (if 256 + t.val < 256 then 0 else 1) = _; split <;> simp <;> omega)
  rw [hs]
  pointwise [M4096]
  exact congrArg (fun s => mod (ix3 s k e)) (Fin.ext (by show b.val * 2 + 1 = 2 * b.val + 1; omega))

/-- The modulated rows at an index. -/
theorem u4096_at (x : FVec Ideal S8x4096x1024 .f32) (md : FVec Ideal S8x8x1024 .f32) (b : Fin 8) (t : Fin 4096) (e : Fin 1024) :
    U4096 x md (ix3 b t e) = x (ix3 b t e) * (1 + md (ix3 b 1 e)) + md (ix3 b 0 e) := by
  pointwise [U4096]

/-- The projection at an index. -/
theorem h4096_at (a : FVec Ideal S8x4096x1024 .f32) (w : FVec Ideal S1024x2592 .f32) (b : Fin 8) (t : Fin 4096) (k : Fin 2592) :
    H4096 a w (ix3 b t k) = ∑ e : Fin 1024, a (ix3 b t e) * w (ix2 e k) := by
  pointwise [H4096]

/-- The projected latent rows over the arguments. -/
theorem p4096_at (I : Ins) (b : Fin 8) (t : Fin 4096) (k : Fin 2592) :
    H4096 (U4096 (X4096 I.x) (M4096 I.mod)) I.w (ix3 b t k) = p I b (r4096 t) k := by
  unfold p u
  rw [h4096_at]
  refine Finset.sum_congr rfl fun e _ => ?_
  rw [u4096_at, x4096_at, m4096_at I.mod b t, m4096_at I.mod b t]

/-- The two segments' rows joined. -/
def JOIN (x : FVec Ideal S8x256x2592 .f32) (y : FVec Ideal S8x4096x2592 .f32) : FVec Ideal S8x4352x2592 .f32 :=
  concatenate S8x4352x2592 1 [⟨S8x256x2592, x⟩, ⟨S8x4096x2592, y⟩] concatenates_S8x256x2592_S8x4096x2592_S8x4352x2592_d1

/-- A context row of the joined array. -/
theorem join_ctx (x : FVec Ideal S8x256x2592 .f32) (y : FVec Ideal S8x4096x2592 .f32) (b : Fin 8) (t : Fin 4352) (ht : t.val < 256) (e : Fin 2592) :
    JOIN x y (ix3 b t e) = x (ix3 b ⟨t.val, ht⟩ e) := by
  pointwise [JOIN, ht]

/-- A latent row of the joined array. -/
theorem join_lat (x : FVec Ideal S8x256x2592 .f32) (y : FVec Ideal S8x4096x2592 .f32) (b : Fin 8) (t : Fin 4352) (ht : ¬ t.val < 256) (e : Fin 2592) :
    JOIN x y (ix3 b t e) = y (ix3 b ⟨t.val - 256, by omega⟩ e) := by
  pointwise [JOIN, ht]

/-- The whole projected array. -/
def PROJ (x : FVec Ideal S8x4352x1024 .f32) (mod : FVec Ideal S16x8x1024 .f32) (w : FVec Ideal S1024x2592 .f32) : FVec Ideal S8x4352x2592 .f32 :=
  JOIN (H256 (U256 (X256 x) (M256 mod)) w) (H4096 (U4096 (X4096 x) (M4096 mod)) w)

/-- The whole projected array at an index. -/
theorem proj_at (I : Ins) (b : Fin 8) (t : Fin 4352) (k : Fin 2592) : PROJ I.x I.mod I.w (ix3 b t k) = p I b t k := by
  unfold PROJ
  by_cases ht : t.val < 256
  · rw [join_ctx _ _ _ _ ht, p256_at]
    exact congrArg (fun s => p I b s k) (Fin.ext (by show 0 + t.val = _; omega))
  · rw [join_lat _ _ _ _ ht, p4096_at]
    exact congrArg (fun s => p I b s k) (Fin.ext (by show 256 + (t.val - 256) = _; omega))

/-- The recurrence's columns of an array. -/
def OZ (a : FVec Ideal S8x4352x2592 .f32) : FVec Ideal S8x4352x1920 .f32 :=
  extractStridedSlice S8x4352x1920 ![0, 0, 0] a slices_S8x4352x2592_S8x4352x1920_0_0_0

/-- The queries' columns of an array. -/
def OQ (a : FVec Ideal S8x4352x2592 .f32) : FVec Ideal S8x4352x384 .f32 :=
  extractStridedSlice S8x4352x384 ![0, 0, 1920] a slices_S8x4352x2592_S8x4352x384_0_0_1920

/-- The keys' and values' columns of an array. -/
def OC (a : FVec Ideal S8x4352x2592 .f32) : FVec Ideal S8x4352x256 .f32 :=
  extractStridedSlice S8x4352x256 ![0, 0, 2304] a slices_S8x4352x2592_S8x4352x256_0_0_2304

/-- The rotary columns of an array. -/
def OR (a : FVec Ideal S8x4352x2592 .f32) : FVec Ideal S8x4352x32 .f32 :=
  extractStridedSlice S8x4352x32 ![0, 0, 2560] a slices_S8x4352x2592_S8x4352x32_0_0_2560

/-- The quarter turn in each pair of lanes. -/
def TURN (a : FVec Ideal S8x4352x32 .f32) : FVec Ideal S8x4352x32 .f32 :=
  shapeCast _ (concatenate S8x4352x16x2 3 [⟨S8x4352x16x1, (broadcastInDim S8x4352x16x1 ![0, 1, 2] bcast_S8x4352x16_S8x4352x16x1_0_1_2 (Host.negf (Host.slice S8x4352x16 ![0, 0, 1] ![1, 1, 2] a slicesBy_S8x4352x32_S8x4352x16_0s1_0s1_1s2)))⟩, ⟨S8x4352x16x1, (broadcastInDim S8x4352x16x1 ![0, 1, 2] bcast_S8x4352x16_S8x4352x16x1_0_1_2 (Host.slice S8x4352x16 ![0, 0, 0] ![1, 1, 2] a slicesBy_S8x4352x32_S8x4352x16_0s1_0s1_0s2))⟩] concatenates_S8x4352x16x1_S8x4352x16x1_S8x4352x16x2_d3) shapeCasts_S8x4352x16x2_S8x4352x32

/-- Lanes 64 to 95 of 128, the rest zero. -/
def PAD (a : FVec Ideal S8x4352x32 .f32) : FVec Ideal S8x4352x128 .f32 :=
  pad S8x4352x128 ![0, 0, 64] ![0, 0, 32] ![0, 0, 0] a (sitofp .f32 (constantI S_ 32 0#32)) pads_S8x4352x32_S8x4352x128_000_000_64320 h_S_

/-- Two arrays side by side. -/
def SIDE (a c : FVec Ideal S8x4352x128 .f32) : FVec Ideal S8x4352x256 .f32 :=
  concatenate S8x4352x256 2 [⟨S8x4352x128, a⟩, ⟨S8x4352x128, c⟩] concatenates_S8x4352x128_S8x4352x128_S8x4352x256_d2

/-- The quarter turn at an index. -/
theorem turn_at (a : FVec Ideal S8x4352x32 .f32) (b : Fin 8) (t : Fin 4352) (d : Fin 32) :
    TURN a (ix3 b t d) = turned (fun k => a (ix3 b t k)) d := by
  unfold turned
  by_cases hd : d.val % 2 = 0
  · rw [dif_pos hd]
    pointwise [TURN, hd]
    exact congrArg (fun k => -a (ix3 b t k)) (Fin.ext (by show 1 + 2 * (d.val / 2) = d.val + 1; omega))
  · rw [dif_neg hd]
    pointwise [TURN, hd]
    rw [dif_neg (by omega)]
    exact congrArg (fun k => a (ix3 b t k)) (Fin.ext (by show 2 * (d.val / 2) = d.val - 1; omega))

/-- The padded lanes at an index. -/
theorem pad_at (a : FVec Ideal S8x4352x32 .f32) (b : Fin 8) (t : Fin 4352) (j : Fin 128) :
    PAD a (ix3 b t j) = lanes (fun k => a (ix3 b t k)) j := by
  unfold lanes
  pointwise [PAD]
  rw [zero_word]
  split_ifs <;> first | rfl | omega

/-- The two arrays side by side at an index. -/
theorem side_at (a c : FVec Ideal S8x4352x128 .f32) (b : Fin 8) (t : Fin 4352) (j : Fin 256) :
    SIDE a c (ix3 b t j) = if h : j.val < 128 then a (ix3 b t ⟨j.val, h⟩) else c (ix3 b t ⟨j.val - 128, by omega⟩) := by
  by_cases h : j.val < 128
  · rw [dif_pos h]
    pointwise [SIDE, h]
  · rw [dif_neg h]
    pointwise [SIDE, h]

/-- A rotary column at an index. -/
theorem or_at (a : FVec Ideal S8x4352x2592 .f32) (b : Fin 8) (t : Fin 4352) (d : Fin 32) : OR a (ix3 b t d) = a (ix3 b t (kcol d)) := by
  unfold kcol
  pointwise [OR]

/-- The recurrence's columns of the projection. -/
theorem refZ (I : Ins) : OZ (PROJ I.x I.mod I.w) = outZ I := by
  funext i
  obtain ⟨b, t, e, rfl⟩ : ∃ (b : Fin 8) (t : Fin 4352) (e : Fin 1920), i = (ix3 b t e : S8x4352x1920.Idx) := ⟨i 0, i 1, i 2, by idx_ext⟩
  refine Eq.trans ?_ (proj_at I b t ⟨e.val, by omega⟩)
  generalize PROJ I.x I.mod I.w = a
  pointwise [OZ]

/-- The queries' columns of the projection. -/
theorem refQ (I : Ins) : OQ (PROJ I.x I.mod I.w) = outQ I := by
  funext i
  obtain ⟨b, t, e, rfl⟩ : ∃ (b : Fin 8) (t : Fin 4352) (e : Fin 384), i = (ix3 b t e : S8x4352x384.Idx) := ⟨i 0, i 1, i 2, by idx_ext⟩
  refine Eq.trans ?_ (proj_at I b t ⟨1920 + e.val, by omega⟩)
  generalize PROJ I.x I.mod I.w = a
  pointwise [OQ]

/-- The keys' and values' columns of the projection. -/
theorem refC (I : Ins) : OC (PROJ I.x I.mod I.w) = outC I := by
  funext i
  obtain ⟨b, t, e, rfl⟩ : ∃ (b : Fin 8) (t : Fin 4352) (e : Fin 256), i = (ix3 b t e : S8x4352x256.Idx) := ⟨i 0, i 1, i 2, by idx_ext⟩
  refine Eq.trans ?_ (proj_at I b t ⟨2304 + e.val, by omega⟩)
  generalize PROJ I.x I.mod I.w = a
  pointwise [OC]

/-- The rotary key beside its quarter turn. -/
theorem refK (I : Ins) : SIDE (PAD (OR (PROJ I.x I.mod I.w))) (PAD (TURN (OR (PROJ I.x I.mod I.w)))) = outK I := by
  funext i
  obtain ⟨b, t, e, rfl⟩ : ∃ (b : Fin 8) (t : Fin 4352) (e : Fin 256), i = (ix3 b t e : S8x4352x256.Idx) := ⟨i 0, i 1, i 2, by idx_ext⟩
  rw [side_at]
  simp only [pad_at, turn_at, or_at, proj_at]
  rfl

/-- The arguments in a memory. -/
def ins (m : (ℓ : Loc nD τ sig) → Buf (Elt Ideal) ℓ) (c : Dev nD) : Ins where
  x := m ((c.tc : Thread nD τ).loc main_arg0)
  mod := m ((c.tc : Thread nD τ).loc main_arg1)
  w := m ((c.tc : Thread nD τ).loc main_arg2)

/-- The reference's run: the four result arrays are the projection's parts of the arguments, which are unchanged. -/
theorem run (m : (ℓ : Loc nD τ sig) → Buf (Elt Ideal) ℓ) (g : Dev nD → PrngReg) :
    θ_run defs (onTc (τ := τ) (main (F := Ideal))) ⟨m, fun _ => 0, g⟩ fun r => ∀ c : Dev nD,
      r.2.mem ((c.tc : Thread nD τ).loc main_v26) = outZ (ins m c)
      ∧ r.2.mem ((c.tc : Thread nD τ).loc main_v27) = outQ (ins m c)
      ∧ r.2.mem ((c.tc : Thread nD τ).loc main_v28) = outC (ins m c)
      ∧ r.2.mem ((c.tc : Thread nD τ).loc main_v39) = outK (ins m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run _ _ _).mono (fun _ h c => ⟨
    (h c).1.trans (Eq.trans (b := OZ (PROJ (ins m c).x (ins m c).mod (ins m c).w)) rfl (refZ (ins m c))),
    (h c).2.1.trans (Eq.trans (b := OQ (PROJ (ins m c).x (ins m c).mod (ins m c).w)) rfl (refQ (ins m c))),
    (h c).2.2.1.trans (Eq.trans (b := OC (PROJ (ins m c).x (ins m c).mod (ins m c).w)) rfl (refC (ins m c))),
    (h c).2.2.2.1.trans (Eq.trans (b := SIDE (PAD (OR (PROJ (ins m c).x (ins m c).mod (ins m c).w))) (PAD (TURN (OR (PROJ (ins m c).x (ins m c).mod (ins m c).w))))) (by unfold Value.res_main_v39; rfl) (refK (ins m c))),
    (h c).2.2.2.2⟩) (Value.run m g)

end Cert.InProjRefPoint

end
-- ==== Proof.InProjClaims.lean ====
module

public import proofs.«01_k».proof.Proof.InProjFrames
public import proofs.«01_k».proof.Proof.InProjBlock
public import proofs.«01_k».proof.Proof.InProjRefPoint
public import Idealize.ShloMosaic.Lib.ReduceAll
public import Idealize.ShloMosaic.Lib.Pointwise

/-! The input projection's value claim: with finite tokens, modulation and rotary columns the kernel's four arrays and the
reference's are equal. -/

@[expose] public section

set_option maxRecDepth 16384

noncomputable section

namespace Cert.InProjClaims

open Idealize.ShloMosaic Idealize.ShloMosaic.TcCoe Idealize.SL.Sem Cert.Softmax Cert.Projection

/-- What the precondition says: every token, every modulation and every rotary weight is a real number. -/
theorem finite_of_pre (x : FVec Ideal Cert.Pre_finite_projection.S8x4352x1024 .f32) (md : FVec Ideal Cert.Pre_finite_projection.S16x8x1024 .f32)
    (w : FVec Ideal Cert.Pre_finite_projection.S1024x2592 .f32)
    (h : Cert.Pre_finite_projection.fn (F := Ideal) x md w = fun _ => 1#1) :
    (∀ i, Fin' (x i)) ∧ (∀ i, Fin' (md i)) ∧ ∀ e d, Fin' (w (ix2 e (kcol d))) := by
  have e := congrFun h (fun a => a.elim0)
  unfold Cert.Pre_finite_projection.fn at e
  obtain ⟨e1, ew⟩ := IntOp.andi_eq_one.1 e
  obtain ⟨ex, em⟩ := IntOp.andi_eq_one.1 e1
  haveI : Subsingleton Cert.Pre_finite_projection.S_.Idx := ⟨fun a b => funext fun x => x.elim0⟩
  refine ⟨fun i => finite_of_test _ (Host.reduce_andi_all _ _ _ _ _ ex i), fun i => finite_of_test _ (Host.reduce_andi_all _ _ _ _ _ em i), fun i d => ?_⟩
  have hd := finite_of_test _ (Host.reduce_andi_all _ _ _ _ _ ew (ix2 i d))
  have hs : extractStridedSlice Cert.Pre_finite_projection.S1024x32 ![0, 2560] w Cert.Pre_finite_projection.Gen.slices_S1024x2592_S1024x32_0_2560 (ix2 i d) = w (ix2 i (kcol d)) := by
    unfold kcol
    pointwise
  exact hs ▸ hd

/-- The projection kernel and the projection reference leave the same four arrays, given the finite arguments. -/
theorem value : algebraic_InProjIdeal_InProjRefIdeal_pre_finite_projection (hInProjIdeal := Cert.InProjIdeal.Gen.facts)
    (hInProjRefIdeal := Cert.InProjRefIdeal.Gen.facts) (hPre_finite_projection := Cert.Pre_finite_projection.Gen.facts) := by
  intro m g m' g' hpre hag
  refine ⟨fun c => outZ (Cert.InProjBlock.ins m c), fun c => outQ (Cert.InProjBlock.ins m c), fun c => outC (Cert.InProjBlock.ins m c), fun c => outK (Cert.InProjBlock.ins m c), ?_, ?_⟩
  · have hf := fun c => finite_of_pre _ _ _ (hpre c)
    exact Cert.InProjBlock.run m g (fun c => (hf c).1) (fun c => (hf c).2.1) (fun c => (hf c).2.2)
  · have he : ∀ c, Cert.InProjRefPoint.ins m' c = Cert.InProjBlock.ins m c := fun c => by
      obtain ⟨h0, h1, h2⟩ := hag c
      unfold Cert.InProjRefPoint.ins Cert.InProjBlock.ins
      rw [h0, h1, h2]
    exact (θ_run _ _ _).mono (fun _ h c => ⟨(h c).1.trans (congrArg outZ (he c)), (h c).2.1.trans (congrArg outQ (he c)), (h c).2.2.1.trans (congrArg outC (he c)),
      (h c).2.2.2.1.trans (congrArg outK (he c)), (h c).2.2.2.2⟩) (Cert.InProjRefPoint.run m' g')

end Cert.InProjClaims

end
-- ==== Proof.Mixer.lean ====
module

public import Idealize.ShloMosaic.Lib.Pointwise
public import proofs.«01_k».proof.Proof.Softmax
public import proofs.«01_k».proof.Proof.Feedforward

/-! What the mixer's output computes, over its arrays: the recurrence's two directions summed and normalised head by head, the
bonus, the gate, beside the attention's lanes; the projection of both; the residual and the layer norm. -/

@[expose] public section

set_option maxRecDepth 16384

noncomputable section

namespace Cert.Mixer

open Idealize.ShloMosaic Cert.Softmax Cert.Feedforward

/-- The arrays the mixer's output reads. -/
structure Ins where
  /-- The recurrence's outputs in its two directions. -/
  y : (⟨4, ![2, 8, 4352, 512]⟩ : Shape).Idx → EReal
  /-- The bonus. -/
  bonus : (⟨3, ![8, 4352, 512]⟩ : Shape).Idx → EReal
  /-- The gate. -/
  gate : (⟨3, ![8, 4352, 512]⟩ : Shape).Idx → EReal
  /-- The attention's output, its heads 128 lanes apart. -/
  o : (⟨3, ![8, 4352, 1024]⟩ : Shape).Idx → EReal
  /-- The residual stream. -/
  x : (⟨3, ![8, 4352, 1024]⟩ : Shape).Idx → EReal
  /-- The modulation. -/
  mod : (⟨3, ![16, 8, 1024]⟩ : Shape).Idx → EReal
  /-- The group norm's gain. -/
  gg : (⟨1, ![512]⟩ : Shape).Idx → EReal
  /-- The group norm's bias. -/
  gb : (⟨1, ![512]⟩ : Shape).Idx → EReal
  /-- The projection. -/
  w : (⟨2, ![1024, 1024]⟩ : Shape).Idx → EReal
  /-- The layer norm's gain. -/
  lg : (⟨1, ![1024]⟩ : Shape).Idx → EReal
  /-- The layer norm's bias. -/
  lb : (⟨1, ![1024]⟩ : Shape).Idx → EReal

/-- A head's channel. -/
def ch (h : Fin 8) (d : Fin 64) : Fin 512 := ⟨h.val * 64 + d.val, by omega⟩

/-- A channel's head. -/
def head (k : Fin 512) : Fin 8 := ⟨k.val / 64, by omega⟩

/-- The mean over a channel's head. -/
def hmean (f : Fin 512 → EReal) (k : Fin 512) : EReal := Ideal.div (∑ d : Fin 64, f (ch (head k) d)) (Ideal.ofBits .f32 0x42800000#32)

/-- A channel less its head's mean. -/
def hcen (f : Fin 512 → EReal) (k : Fin 512) : EReal := f k - hmean f k

/-- The group norm of a row. -/
def hnorm (f g b : Fin 512 → EReal) (k : Fin 512) : EReal :=
  hcen f k * Ideal.rsqrt (hmean (fun j => hcen f j * hcen f j) k + Ideal.ofBits .f32 0x3A27C5AC#32) * g k + b k

/-- The two directions' sum. -/
def ys (I : Ins) (b : Fin 8) (t : Fin 4352) (k : Fin 512) : EReal := I.y (ix4 0 b t k) + I.y (ix4 1 b t k)

/-- The recurrence's part of the row. -/
def rec (I : Ins) (b : Fin 8) (t : Fin 4352) (k : Fin 512) : EReal :=
  (hnorm (ys I b t) (fun j => I.gg (ix1 j)) (fun j => I.gb (ix1 j)) k + I.bonus (ix3 b t k)) * I.gate (ix3 b t k)

/-- The lane of the attention's output that a channel is. -/
def lane (k : Fin 512) : Fin 1024 := ⟨k.val / 64 * 128 + k.val % 64, by omega⟩

/-- The row the projection reads: the recurrence's channels, then the attention's. -/
def joined (I : Ins) (b : Fin 8) (t : Fin 4352) (k : Fin 1024) : EReal :=
  if h : k.val < 512 then rec I b t ⟨k.val, h⟩ else I.o (ix3 b t (lane ⟨k.val - 512, by omega⟩))

/-- The projected row. -/
def mix (I : Ins) (b : Fin 8) (t : Fin 4352) (e : Fin 1024) : EReal := ∑ k : Fin 1024, joined I b t k * I.w (ix2 k e)

/-- The residual sum. -/
def sum (I : Ins) (b : Fin 8) (t : Fin 4352) (e : Fin 1024) : EReal :=
  Ideal.ofBits .f32 0x3FB504F3#32 * I.x (ix3 b t e) + I.mod (ix3 (seg b t) 2 e) * mix I b t e

/-- The whole result. -/
def result (I : Ins) : (⟨3, ![8, 4352, 1024]⟩ : Shape).Idx → EReal :=
  fun i => Cert.Feedforward.norm (sum I (i 0) (i 1)) (fun d => I.lg (ix1 d)) (fun d => I.lb (ix1 d)) (i 2)

/-- One where two channels share a head, zero elsewhere. -/
def same (j k : Fin 512) : EReal := if j.val / 64 = k.val / 64 then 1 else 0

/-- A head's sum as a sum over all channels. -/
theorem sum_same (f : Fin 512 → EReal) (k : Fin 512) : ∑ j, f j * same j k = ∑ d : Fin 64, f (ch (head k) d) := by
  rw [Fin.sum_univ_tiles 8 64 rfl]
  rw [Finset.sum_eq_single (head k)]
  · refine Finset.sum_congr rfl fun d _ => ?_
    have h : same ⟨(head k).val * 64 + d.val, by omega⟩ k = 1 := if_pos (by show (k.val / 64 * 64 + d.val) / 64 = k.val / 64; omega)
    rw [h, mul_one]
    rfl
  · intro h _ hne
    refine Finset.sum_eq_zero fun d _ => ?_
    have hz : same ⟨h.val * 64 + d.val, by omega⟩ k = 0 := if_neg (fun he => hne (Fin.ext (by
      have h' : (h.val * 64 + d.val) / 64 = k.val / 64 := he
      show h.val = k.val / 64
      omega)))
    rw [hz, mul_zero]
  · intro h
    exact absurd (Finset.mem_univ _) h

/-- The word of one sixty-fourth. -/
theorem sixtyfourth : Ideal.ofBits .f32 0x3C800000#32 = (((1 : ℝ) / 64 : ℝ) : EReal) := by
  simp [Ideal.ofBits, Ideal.ieee]
  rw [← EReal.coe_mul]
  norm_num

/-- The word of sixty-four. -/
theorem sixtyfour : Ideal.ofBits .f32 0x42800000#32 = ((64 : ℝ) : EReal) := by
  simp [Ideal.ofBits, Ideal.ieee]
  rw [← EReal.coe_mul]
  norm_num

/-- A number less itself, for a real number. -/
theorem sub_self' {x : EReal} (h : Fin' x) : x - x = 0 := by
  obtain ⟨r, rfl⟩ := h
  rw [← EReal.coe_sub, sub_self, EReal.coe_zero]

/-- A head's mean as the kernel sums it: a number, what it leaves, and what that leaves, each over all channels. -/
def pooled (f : Fin 512 → EReal) (M : Fin 512 → Fin 512 → EReal) (k : Fin 512) : EReal :=
  (∑ j, f j * M j k + (∑ j, (f j - f j) * M j k + ∑ j, (f j - f j - (f j - f j)) * M j k)) * Ideal.ofBits .f32 0x3C800000#32

/-- Multiplying by one sixty-fourth is dividing by sixty-four. -/
theorem mul_div (x : EReal) : x * Ideal.ofBits .f32 0x3C800000#32 = Ideal.div x (Ideal.ofBits .f32 0x42800000#32) := by
  rw [sixtyfourth, sixtyfour]
  unfold Ideal.div
  rw [if_neg (by norm_num), ← EReal.coe_inv, one_div]

/-- The kernel's mean is the mean, for a row of real numbers. -/
theorem pooled_eq (f : Fin 512 → EReal) (hf : ∀ j, Fin' (f j)) (k : Fin 512) : pooled f same k = hmean f k := by
  have h0 : ∀ j, f j - f j = 0 := fun j => sub_self' (hf j)
  unfold pooled hmean
  rw [← mul_div, ← sum_same]
  simp only [h0, sub_zero, zero_mul, Finset.sum_const_zero, add_zero]

/-- A head's mean of real numbers is a real number. -/
theorem hmean_fin (f : Fin 512 → EReal) (hf : ∀ j, Fin' (f j)) (k : Fin 512) : Fin' (hmean f k) := by
  unfold hmean
  rw [← mul_div, sixtyfourth]
  exact (Fin'.sum _ _ fun d _ => hf _).mul ⟨_, rfl⟩

/-- A difference of real numbers is a real number. -/
theorem fin_sub {x y : EReal} (hx : Fin' x) (hy : Fin' y) : Fin' (x - y) := by
  obtain ⟨r, rfl⟩ := hx
  obtain ⟨s, rfl⟩ := hy
  exact ⟨r - s, (EReal.coe_sub r s).symm⟩

/-- A row of real numbers less its head's means is one. -/
theorem hcen_fin (f : Fin 512 → EReal) (hf : ∀ j, Fin' (f j)) (k : Fin 512) : Fin' (hcen f k) := fin_sub (hf k) (hmean_fin f hf k)

/-- The attention's rows of the projection, a zero row for every unused lane. -/
def spread (w : (⟨2, ![1024, 1024]⟩ : Shape).Idx → EReal) (j e : Fin 1024) : EReal :=
  if h : j.val % 128 < 64 then w (ix2 ⟨512 + j.val / 128 * 64 + j.val % 128, by omega⟩ e) else 0

/-- A sum in two halves. -/
theorem halves (n N : ℕ) (h : N = n + n) (f : Fin N → EReal) :
    ∑ k, f k = ∑ k : Fin n, f ⟨k.val, by omega⟩ + ∑ k : Fin n, f ⟨n + k.val, by omega⟩ := by
  subst h
  exact Fin.sum_univ_add f

/-- The recurrence's channels come first. -/
theorem joined_low (I : Ins) (b : Fin 8) (t : Fin 4352) (k : Fin 512) : joined I b t ⟨k.val, by omega⟩ = rec I b t k := dif_pos k.isLt

/-- The attention's follow. -/
theorem joined_high (I : Ins) (b : Fin 8) (t : Fin 4352) (k : Fin 512) : joined I b t ⟨512 + k.val, by omega⟩ = I.o (ix3 b t (lane k)) := by
  refine (dif_neg (by show ¬ (512 + k.val < 512); omega)).trans (congrArg (fun s => I.o (ix3 b t (lane s))) (Fin.ext ?_))
  show 512 + k.val - 512 = k.val
  omega

/-- The used lanes of the attention's rows. -/
theorem spread_low (w : (⟨2, ![1024, 1024]⟩ : Shape).Idx → EReal) (h : Fin 8) (d : Fin 64) (e : Fin 1024) :
    spread w ⟨h.val * 128 + d.val, by omega⟩ e = w (ix2 ⟨512 + (h.val * 64 + d.val), by omega⟩ e) := by
  refine (dif_pos (by show (h.val * 128 + d.val) % 128 < 64; omega)).trans (congrArg (fun s => w (ix2 s e)) (Fin.ext ?_))
  show 512 + (h.val * 128 + d.val) / 128 * 64 + (h.val * 128 + d.val) % 128 = 512 + (h.val * 64 + d.val)
  omega

/-- The unused lanes of the attention's rows. -/
theorem spread_high (w : (⟨2, ![1024, 1024]⟩ : Shape).Idx → EReal) (h : Fin 8) (d : Fin 64) (e : Fin 1024) :
    spread w ⟨h.val * 128 + (64 + d.val), by omega⟩ e = 0 :=
  dif_neg (by show ¬ (h.val * 128 + (64 + d.val)) % 128 < 64; omega)

/-- The product with the spread rows is the product over the attention's channels. -/
theorem sum_spread (w : (⟨2, ![1024, 1024]⟩ : Shape).Idx → EReal) (o : Fin 1024 → EReal) (e : Fin 1024) :
    ∑ j : Fin 1024, o j * spread w j e = ∑ k : Fin 512, o (lane k) * w (ix2 ⟨512 + k.val, by omega⟩ e) := by
  refine (Fin.sum_univ_tiles 8 128 rfl _).trans (Eq.trans (Finset.sum_congr rfl fun h _ => ?_) (Fin.sum_univ_tiles 8 64 rfl _).symm)
  refine (halves 64 128 rfl _).trans ?_
  have hz : ∑ d : Fin 64, o ⟨h.val * 128 + (64 + d.val), by omega⟩ * spread w ⟨h.val * 128 + (64 + d.val), by omega⟩ e = 0 :=
    Finset.sum_eq_zero fun d _ => by rw [spread_high, mul_zero]
  refine (congrArg₂ (· + ·) rfl hz).trans ((add_zero _).trans (Finset.sum_congr rfl fun d _ => ?_))
  refine congrArg₂ (fun p q => o p * q) (Fin.ext ?_) (spread_low w h d e)
  show h.val * 128 + d.val = (h.val * 64 + d.val) / 64 * 128 + (h.val * 64 + d.val) % 64
  omega

/-- The projection in two products: the recurrence's channels, and the attention's lanes with the unused ones. -/
theorem mix_split (I : Ins) (b : Fin 8) (t : Fin 4352) (e : Fin 1024) :
    ∑ k : Fin 512, rec I b t k * I.w (ix2 ⟨k.val, by omega⟩ e) + ∑ j : Fin 1024, I.o (ix3 b t j) * spread I.w j e = mix I b t e := by
  refine Eq.trans ?_ (halves 512 1024 rfl fun k => joined I b t k * I.w (ix2 k e)).symm
  rw [sum_spread I.w (fun j => I.o (ix3 b t j))]
  simp only [joined_low, joined_high]

end Cert.Mixer

end
-- ==== Proof.MixerPay.lean ====
module

public import Idealize.ShloMosaic.Lib.Pipeline.ValueKit
public import Idealize.ShloMosaic.Lib.Pointwise
public import proofs.«01_k».proof.Proof.Gen.MixerOutIdeal.Frame
public import proofs.«01_k».proof.Proof.Mixer

/-! What a grid point of the mixer's output computes, step by step, each over any blocks. -/

@[expose] public section

set_option maxRecDepth 16384

noncomputable section

namespace Cert.MixerPay

open Idealize.ShloMosaic Cert.MixerOutIdeal Cert.MixerOutIdeal.Gen Cert.Mixer Cert.Softmax

/-- The two directions' sum less the pooled means. -/
theorem cen_at (M : FVec Ideal S512x512 .bf16) (Y Z : FVec Ideal S1x1x256x512 .f32) (r : Fin 256) (k : Fin 512) :
    (k0_pay3 (F := Ideal) M Y Z (ix2 r k) : EReal) = (Y (ix4 0 0 r k) + Z (ix4 0 0 r k)) - pooled (fun j => Y (ix4 0 0 r j) + Z (ix4 0 0 r j)) (fun j k => M (ix2 j k)) k := by
  unfold pooled
  pointwise [k0_pay3, k0_pay2]

/-- The pooled variance with its small constant. -/
theorem var_at (M : FVec Ideal S512x512 .bf16) (Y Z : FVec Ideal S1x1x256x512 .f32) (r : Fin 256) (k : Fin 512) :
    (k0_pay4 (F := Ideal) M Y Z (ix2 r k) : EReal) =
      pooled (fun j => k0_pay3 (F := Ideal) M Y Z (ix2 r j) * k0_pay3 (F := Ideal) M Y Z (ix2 r j)) (fun j k => M (ix2 j k)) k + Ideal.ofBits .f32 0x3A27C5AC#32 := by
  unfold k0_pay4 pooled
  generalize k0_pay3 (F := Ideal) M Y Z = a
  pointwise [k0_pay2]

/-- The projected row. -/
theorem mix_at (a v : FVec Ideal S256x512 .f32) (gg gb : FVec Ideal S1x512 .f32) (bonus gate : FVec Ideal S1x256x512 .f32) (wr : FVec Ideal S512x1024 .bf16)
    (o : FVec Ideal S1x256x1024 .bf16) (wm : FVec Ideal S1024x1024 .bf16) (r : Fin 256) (e : Fin 1024) :
    (k0_pay5 (F := Ideal) a v gg gb bonus gate wr o wm (ix2 r e) : EReal) =
      ∑ k : Fin 512, ((a (ix2 r k) * Ideal.rsqrt (v (ix2 r k)) * gg (ix2 0 k) + gb (ix2 0 k) + bonus (ix3 0 r k)) * gate (ix3 0 r k)) * wr (ix2 k e)
      + ∑ j : Fin 1024, o (ix3 0 r j) * wm (ix2 j e) := by
  pointwise [k0_pay5]

/-- The scaled residual. -/
theorem res_at (x : FVec Ideal S1x256x1024 .f32) (r : Fin 256) (e : Fin 1024) : (k0_pay6 (F := Ideal) x (ix2 r e) : EReal) = Ideal.ofBits .f32 0x3FB504F3#32 * x (ix3 0 r e) := by
  pointwise [k0_pay6]

/-- The modulation's row. -/
theorem mod_at (md : FVec Ideal S1x8x1024 .f32) (r : Fin 256) (e : Fin 1024) : (k0_pay7 (F := Ideal) md (ix2 r e) : EReal) = md (ix3 0 2 e) := by
  pointwise [k0_pay7]

/-- The stored block. -/
theorem out_at (p a v : FVec Ideal S256x1024 .f32) (g b : FVec Ideal S1x1024 .f32) (r : Fin 256) (e : Fin 1024) :
    (k0_pay1 (F := Ideal) p a v g b (ix3 0 r e) : EReal) =
      Cert.Feedforward.norm (fun d => a (ix2 r d) + v (ix2 r d) * p (ix2 r d)) (fun d => g (ix2 0 d)) (fun d => b (ix2 0 d)) e := by
  unfold Cert.Feedforward.norm Cert.Feedforward.center
  pointwise [k0_pay1]

/-- A row of the recurrence, from blocks that hold real numbers: the group norm. -/
theorem norm_at (M : FVec Ideal S512x512 .bf16) (hM : ∀ j k, (M (ix2 j k) : EReal) = same j k) (Y Z : FVec Ideal S1x1x256x512 .f32) (r : Fin 256)
    (f : Fin 512 → EReal) (hf : ∀ j, Y (ix4 0 0 r j) + Z (ix4 0 0 r j) = f j) (hr : ∀ j, Fin' (f j)) (g b : Fin 512 → EReal) (k : Fin 512) :
    k0_pay3 (F := Ideal) M Y Z (ix2 r k) * Ideal.rsqrt (k0_pay4 (F := Ideal) M Y Z (ix2 r k)) * g k + b k = hnorm f g b k := by
  have hm : (fun j k => (M (ix2 j k) : EReal)) = same := funext fun j => funext fun k => hM j k
  have hs : (fun j => Y (ix4 0 0 r j) + Z (ix4 0 0 r j)) = f := funext hf
  have hc : ∀ j, (k0_pay3 (F := Ideal) M Y Z (ix2 r j) : EReal) = hcen f j := fun j => by
    rw [cen_at, hm, hs, hf, pooled_eq f hr]
    rfl
  have hv : (k0_pay4 (F := Ideal) M Y Z (ix2 r k) : EReal) = hmean (fun j => hcen f j * hcen f j) k + Ideal.ofBits .f32 0x3A27C5AC#32 := by
    rw [var_at, hm]
    simp only [hc]
    rw [pooled_eq _ fun j => (hcen_fin f hr j).mul (hcen_fin f hr j)]
  unfold hnorm
  rw [hc, hv]

end Cert.MixerPay

end
-- ==== Proof.MixerHost.lean ====
module

public import Idealize.ShloMosaic.Lib.Pipeline.ValueKit
public import Idealize.ShloMosaic.Lib.Pointwise
public import proofs.«01_k».proof.Proof.Gen.MixerOutIdeal.Frame
public import proofs.«01_k».proof.Proof.RowSet
public import proofs.«01_k».proof.Proof.Mixer

/-! What is prepared before the mixer output's launch: the mask of channels that share a head, the projection's two parts,
the norms' vectors as rows of padded matrices. -/

@[expose] public section

set_option maxRecDepth 16384

noncomputable section

namespace Cert.MixerHost

open Idealize.ShloMosaic Idealize.ShloMosaic.TcCoe Idealize.SL.Sem
open Cert.MixerOutIdeal Cert.MixerOutIdeal.Gen Cert.Mixer Cert.RowSet

/-- A word of the divisor's, along the channels. -/
def word (n : BitVec 32) : IVec S512 32 := broadcastInDim S512 ![] bcast_S_S512 (constantI S_ 32 n)

/-- A channel's head, as the launch computes it: the quotient, one less where signs differ and a remainder is left. -/
def heads : IVec S512 32 :=
  select (andi (cmpi .ne (signi (iotaInDim S512 32 0)) (broadcastInDim S512 ![] bcast_S_S512 (signi (constantI S_ 32 64#32))))
    (cmpi .ne (Host.remsi (iotaInDim S512 32 0) (word 64#32)) (word 0#32)))
    (subi (Host.divsi (iotaInDim S512 32 0) (word 64#32)) (word 1#32)) (Host.divsi (iotaInDim S512 32 0) (word 64#32))

/-- The mask of channels that share a head. -/
def mask : FVec Ideal S512x512 .bf16 :=
  uitofp .bf16 (cmpi .eq (broadcastInDim S512x512 ![0, 1] bcast_S512x1_S512x512_0_1 (broadcastInDim S512x1 ![0] bcast_S512_S512x1_0 heads))
    (broadcastInDim S512x512 ![0, 1] bcast_S1x512_S512x512_0_1 (broadcastInDim S1x512 ![1] bcast_S512_S1x512_1 heads)))

/-- The recurrence's rows of the projection. -/
def top (w : FVec Ideal S1024x1024 .f32) : FVec Ideal S512x1024 .bf16 :=
  truncf .bf16 (extractStridedSlice S512x1024 ![0, 0] w slices_S1024x1024_S512x1024_0_0) bitsLt_bf16_f32

/-- The attention's rows of the projection, padded head by head. -/
def low (w : FVec Ideal S1024x1024 .f32) : FVec Ideal S1024x1024 .bf16 :=
  truncf .bf16 (shapeCast S1024x1024 (concatenate S8x128x1024 1 [⟨S8x64x1024, shapeCast S8x64x1024 (extractStridedSlice S512x1024 ![512, 0] w slices_S1024x1024_S512x1024_512_0) shapeCasts_S512x1024_S8x64x1024⟩,
    ⟨S8x64x1024, broadcastInDim S8x64x1024 ![] bcast_S_S8x64x1024 (constant S_ .f32 0x00000000#32)⟩] concatenates_S8x64x1024_S8x64x1024_S8x128x1024_d1) shapeCasts_S8x128x1024_S1024x1024) bitsLt_bf16_f32

/-- The row number of a row write. -/
def place (n : BitVec 32) : IVec S1 32 := broadcastInDim S1 ![] bcast_S_S1 (constantI S_ 32 n)

/-- Writing a row of 512. -/
def wg (x : FVec Ideal S8x512 .f32) (n : BitVec 32) (u : FVec Ideal S512 .f32) : FVec Ideal S8x512 .f32 :=
  Host.scatter scatter_S8x512_S1_S512_0_0_0_0 (fun _ b => b) x (place n) u

/-- Writing a row of 1024. -/
def wl (x : FVec Ideal S8x1024 .f32) (n : BitVec 32) (u : FVec Ideal S1024 .f32) : FVec Ideal S8x1024 .f32 :=
  Host.scatter scatter_S8x1024_S1_S1024_0_0_0_0 (fun _ b => b) x (place n) u

/-- The group norm's gain and bias as the first two rows of a matrix. -/
def group (g b : FVec Ideal S512 .f32) : FVec Ideal S8x512 .f32 :=
  wg (wg (broadcastInDim S8x512 ![] bcast_S_S8x512 (constant S_ .f32 0x00000000#32)) 0#32 g) 1#32 b

/-- The layer norm's gain and bias as the first two rows of a matrix. -/
def layer (g b : FVec Ideal S1024 .f32) : FVec Ideal S8x1024 .f32 :=
  wl (wl (broadcastInDim S8x1024 ![] bcast_S_S8x1024 (constant S_ .f32 0x00000000#32)) 0#32 g) 1#32 b

/-- A channel's head's word. -/
theorem heads_at (k : Fin 512) : heads (ix1 k) = BitVec.ofNat 32 (k.val / 64) :=
  (by decide +kernel : ∀ k : Fin 512, heads (ix1 k) = BitVec.ofNat 32 (k.val / 64)) k

/-- A mask's entry is one where the words agree. -/
theorem mask_word (j k : Fin 512) : (mask (ix2 j k) : EReal) = if heads (ix1 j) = heads (ix1 k) then 1 else 0 := by
  unfold mask
  generalize heads = h
  pointwise
  unfold IntOp.cmpi
  by_cases e : h (ix1 j) = h (ix1 k)
  · rw [if_pos e, e]
    show ((((BitVec.ofBool (h (ix1 k) == h (ix1 k))).toNat : ℝ)) : EReal) = 1
    simp
  · rw [if_neg e]
    show ((((BitVec.ofBool (h (ix1 j) == h (ix1 k))).toNat : ℝ)) : EReal) = 0
    simp [e]

/-- The mask's entries. -/
theorem mask_at (j k : Fin 512) : (mask (ix2 j k) : EReal) = same j k := by
  rw [mask_word, heads_at, heads_at]
  unfold same
  refine if_congr ⟨fun h => ?_, fun h => by rw [h]⟩ rfl rfl
  have h' := congrArg BitVec.toNat h
  rw [BitVec.toNat_ofNat, BitVec.toNat_ofNat] at h'
  omega

/-- The recurrence's rows at an entry. -/
theorem top_at (w : FVec Ideal S1024x1024 .f32) (k : Fin 512) (e : Fin 1024) : (top w (ix2 k e) : EReal) = w (ix2 ⟨k.val, by omega⟩ e) := by
  pointwise [top]

/-- The attention's rows at an entry. -/
theorem low_at (w : FVec Ideal S1024x1024 .f32) (j e : Fin 1024) : (low w (ix2 j e) : EReal) = spread w j e := by
  unfold spread
  pointwise [low]
  repeat' split
  all_goals first
    | rfl
    | (exfalso; omega)
    | (refine congrArg (fun i => w (ix2 i e)) (Fin.ext ?_); dsimp only; omega)

/-- A row write of 512 at an entry. -/
theorem wg_at (x : FVec Ideal S8x512 .f32) (n : BitVec 32) (u : FVec Ideal S512 .f32) (k : Fin 8) (hk : n.toInt = (k.val : Int)) (r : Fin 8) (c : Fin 512) :
    wg x n u (ix2 r c) = if r = k then u (ix1 c) else x (ix2 r c) := by
  unfold wg
  exact row_set (C := 512) scatter_S8x512_S1_S512_0_0_0_0 rfl rfl x (place n) u k hk r c

/-- A row write of 1024 at an entry. -/
theorem wl_at (x : FVec Ideal S8x1024 .f32) (n : BitVec 32) (u : FVec Ideal S1024 .f32) (k : Fin 8) (hk : n.toInt = (k.val : Int)) (r : Fin 8) (c : Fin 1024) :
    wl x n u (ix2 r c) = if r = k then u (ix1 c) else x (ix2 r c) := by
  unfold wl
  exact row_set (C := 1024) scatter_S8x1024_S1_S1024_0_0_0_0 rfl rfl x (place n) u k hk r c

/-- The group norm's rows at an entry. -/
theorem group_at (g b : FVec Ideal S512 .f32) (c : Fin 512) : group g b (ix2 0 c) = g (ix1 c) ∧ group g b (ix2 1 c) = b (ix1 c) := by
  unfold group
  refine ⟨?_, ?_⟩
  · rw [wg_at _ _ _ 1 rfl, if_neg (by decide), wg_at _ _ _ 0 rfl, if_pos rfl]
  · rw [wg_at _ _ _ 1 rfl, if_pos rfl]

/-- The layer norm's rows at an entry. -/
theorem layer_at (g b : FVec Ideal S1024 .f32) (c : Fin 1024) : layer g b (ix2 0 c) = g (ix1 c) ∧ layer g b (ix2 1 c) = b (ix1 c) := by
  unfold layer
  refine ⟨?_, ?_⟩
  · rw [wl_at _ _ _ 1 rfl, if_neg (by decide), wl_at _ _ _ 0 rfl, if_pos rfl]
  · rw [wl_at _ _ _ 1 rfl, if_pos rfl]

variable (m : (ℓ : Loc nD τ sig) → Buf (Elt Ideal) ℓ)

/-- The mask before the launch. -/
theorem entry_mask (c : Dev nD) : (V m c main_v7 : FVec Ideal S512x512 .bf16) = mask := by
  unfold V
  simp only [hostOps0, hostOps0_1, hostOps0_2, List.flatten_cons, List.flatten_nil, List.append_nil, List.cons_append, List.nil_append]
  after_results
  rfl

/-- The recurrence's rows before the launch. -/
theorem entry_top (c : Dev nD) : (V m c main_v18 : FVec Ideal S512x1024 .bf16) = top (m ((c : Thread nD τ).loc main_arg8)) := by
  unfold V
  simp only [hostOps0, hostOps0_1, hostOps0_2, List.flatten_cons, List.flatten_nil, List.append_nil, List.cons_append, List.nil_append]
  after_results
  rfl

/-- The attention's rows before the launch. -/
theorem entry_low (c : Dev nD) : (V m c main_v20 : FVec Ideal S1024x1024 .bf16) = low (m ((c : Thread nD τ).loc main_arg8)) := by
  unfold V
  simp only [hostOps0, hostOps0_1, hostOps0_2, List.flatten_cons, List.flatten_nil, List.append_nil, List.cons_append, List.nil_append]
  after_results
  rfl

/-- The group norm's rows before the launch. -/
theorem entry_group (c : Dev nD) : (V m c main_v16 : FVec Ideal S8x512 .f32) = group (m ((c : Thread nD τ).loc main_arg6)) (m ((c : Thread nD τ).loc main_arg7)) := by
  unfold V
  simp only [hostOps0, hostOps0_1, hostOps0_2, List.flatten_cons, List.flatten_nil, List.append_nil, List.cons_append, List.nil_append]
  after_results
  rfl

/-- The layer norm's rows before the launch. -/
theorem entry_layer (c : Dev nD) : (V m c main_v25 : FVec Ideal S8x1024 .f32) = layer (m ((c : Thread nD τ).loc main_arg9)) (m ((c : Thread nD τ).loc main_arg10)) := by
  unfold V
  simp only [hostOps0, hostOps0_1, hostOps0_2, List.flatten_cons, List.flatten_nil, List.append_nil, List.cons_append, List.nil_append]
  after_results
  rfl

end Cert.MixerHost

end
-- ==== Proof.MixerBlock.lean ====
module

public import Idealize.ShloMosaic.Lib.Pipeline.ValueKit
public import Idealize.ShloMosaic.Lib.Pointwise
public import Idealize.ShloMosaic.Lib.Pipeline.Covers
public import proofs.«01_k».proof.Proof.MixerPay
public import proofs.«01_k».proof.Proof.MixerHost

/-! What the mixer output's kernel leaves: its blocks' reads, what a grid point computes of them, the array the whole grid
leaves, and its run. -/

@[expose] public section

set_option maxRecDepth 16384

noncomputable section

namespace Cert.MixerBlock

open Idealize.ShloMosaic Idealize.ShloMosaic.TcCoe Idealize.SL.Sem
open Cert.MixerOutIdeal Cert.MixerOutIdeal.Gen Cert.Mixer Cert.MixerPay Cert.MixerHost Cert.Softmax
open Cert.Feedforward (seg)

variable (m : (ℓ : Loc nD τ sig) → Buf (Elt Ideal) ℓ)

/-- The arguments in a memory. -/
def ins (c : Dev nD) : Ins where
  y := m ((c : Thread nD τ).loc main_arg0)
  bonus := m ((c : Thread nD τ).loc main_arg1)
  gate := m ((c : Thread nD τ).loc main_arg2)
  o := m ((c : Thread nD τ).loc main_arg3)
  x := m ((c : Thread nD τ).loc main_arg4)
  mod := m ((c : Thread nD τ).loc main_arg5)
  gg := m ((c : Thread nD τ).loc main_arg6)
  gb := m ((c : Thread nD τ).loc main_arg7)
  w := m ((c : Thread nD τ).loc main_arg8)
  lg := m ((c : Thread nD τ).loc main_arg9)
  lb := m ((c : Thread nD τ).loc main_arg10)

/-- Which blocks a grid point reads and writes. -/
theorem idx : ∀ t : Fin cfg0.N, win0_0.index t = ![0, t.val / 17, t.val % 17, 0]
    ∧ win0_1.index t = ![t.val / 17, t.val % 17, 0]
    ∧ win0_2.index t = ![t.val / 17, t.val % 17, 0]
    ∧ win0_3.index t = ![t.val / 17, t.val % 17, 0]
    ∧ win0_4.index t = ![t.val / 17, t.val % 17, 0]
    ∧ win0_5.index t = ![2 * (t.val / 17) + (if t.val % 17 = 0 then 0 else 1), 0, 0]
    ∧ win0_6.index t = ![0, 0]
    ∧ win0_7.index t = ![0, 0]
    ∧ win0_8.index t = ![0, 0]
    ∧ win0_9.index t = ![0, 0]
    ∧ win0_10.index t = ![0, 0]
    ∧ win0_11.index t = ![t.val / 17, t.val % 17, 0] :=
  (by decide +kernel : ∀ t : Fin grid0.N, _)

/-- The points number 136. -/
theorem lt_points (t : Fin cfg0.N) : t.val < 136 := lt_of_lt_of_eq t.isLt N_0

/-- The sample of a grid point. -/
def smp (t : Fin cfg0.N) : Fin 8 := ⟨t.val / 17, by have := lt_points t; omega⟩

/-- A row of a grid point's tile. -/
def row (t : Fin cfg0.N) (r : Fin 256) : Fin 4352 := ⟨t.val % 17 * 256 + r.val, by omega⟩

/-- The modulation row of a grid point. -/
def modRow (t : Fin cfg0.N) : Fin 16 := ⟨2 * (t.val / 17) + (if t.val % 17 = 0 then 0 else 1), by have := lt_points t; split <;> omega⟩

/-- The modulation row of a grid point is its tile's segment's. -/
theorem modRow_eq (t : Fin cfg0.N) (r : Fin 256) : modRow t = seg (smp t) (row t r) := by
  refine Fin.ext ?_
  show 2 * (t.val / 17) + (if t.val % 17 = 0 then 0 else 1) = 2 * (t.val / 17) + (if t.val % 17 * 256 + r.val < 256 then 0 else 1)
  split_ifs <;> omega

/-- The recurrence's tile. -/
theorem read_y (c : Dev nD) (t : Fin cfg0.N) (d : Fin 2) (r : Fin 256) (k : Fin 512) :
    (iblk m c 0 t : FVec Ideal S2x1x256x512 .f32) (ix4 d 0 r k) = (ins m c).y (ix4 d (smp t) (row t r) k) := by
  have ht := lt_points t
  unfold smp row ins
  blk_point [iblk, V_main_arg0 m c, idx t]

/-- The bonus' tile. -/
theorem read_bonus (c : Dev nD) (t : Fin cfg0.N) (r : Fin 256) (k : Fin 512) :
    (iblk m c 1 t : FVec Ideal S1x256x512 .f32) (ix3 0 r k) = (ins m c).bonus (ix3 (smp t) (row t r) k) := by
  have ht := lt_points t
  unfold smp row ins
  blk_point [iblk, V_main_arg1 m c, idx t]

/-- The gate's tile. -/
theorem read_gate (c : Dev nD) (t : Fin cfg0.N) (r : Fin 256) (k : Fin 512) :
    (iblk m c 2 t : FVec Ideal S1x256x512 .f32) (ix3 0 r k) = (ins m c).gate (ix3 (smp t) (row t r) k) := by
  have ht := lt_points t
  unfold smp row ins
  blk_point [iblk, V_main_arg2 m c, idx t]

/-- The attention's tile. -/
theorem read_o (c : Dev nD) (t : Fin cfg0.N) (r : Fin 256) (e : Fin 1024) :
    (iblk m c 3 t : FVec Ideal S1x256x1024 .bf16) (ix3 0 r e) = (ins m c).o (ix3 (smp t) (row t r) e) := by
  have ht := lt_points t
  unfold smp row ins
  blk_point [iblk, V_main_arg3 m c, idx t]

/-- The stream's tile. -/
theorem read_x (c : Dev nD) (t : Fin cfg0.N) (r : Fin 256) (e : Fin 1024) :
    (iblk m c 4 t : FVec Ideal S1x256x1024 .f32) (ix3 0 r e) = (ins m c).x (ix3 (smp t) (row t r) e) := by
  have ht := lt_points t
  unfold smp row ins
  blk_point [iblk, V_main_arg4 m c, idx t]

/-- The modulation. -/
theorem read_mod (c : Dev nD) (t : Fin cfg0.N) (s : Fin 8) (e : Fin 1024) :
    (iblk m c 5 t : FVec Ideal S1x8x1024 .f32) (ix3 0 s e) = (ins m c).mod (ix3 (modRow t) s e) := by
  have ht := lt_points t
  unfold modRow ins
  blk_point [iblk, V_main_arg5 m c, idx t]

/-- The group norm's rows. -/
theorem read_group (c : Dev nD) (t : Fin cfg0.N) (s : Fin 8) (k : Fin 512) :
    (iblk m c 6 t : FVec Ideal S8x512 .f32) (ix2 s k) = group (ins m c).gg (ins m c).gb (ix2 s k) := by
  have ht := lt_points t
  have he := entry_group m c
  unfold ins
  rw [← he]
  blk_point [iblk, idx t]

/-- The mask. -/
theorem read_mask (c : Dev nD) (t : Fin cfg0.N) (j k : Fin 512) :
    (iblk m c 7 t : FVec Ideal S512x512 .bf16) (ix2 j k) = mask (ix2 j k) := by
  have ht := lt_points t
  have he := entry_mask m c
  rw [← he]
  blk_point [iblk, idx t]

/-- The recurrence's rows of the projection. -/
theorem read_top (c : Dev nD) (t : Fin cfg0.N) (k : Fin 512) (e : Fin 1024) :
    (iblk m c 8 t : FVec Ideal S512x1024 .bf16) (ix2 k e) = top (ins m c).w (ix2 k e) := by
  have ht := lt_points t
  have he := entry_top m c
  unfold ins
  rw [← he]
  blk_point [iblk, idx t]

/-- The attention's rows of the projection. -/
theorem read_low (c : Dev nD) (t : Fin cfg0.N) (j e : Fin 1024) :
    (iblk m c 9 t : FVec Ideal S1024x1024 .bf16) (ix2 j e) = low (ins m c).w (ix2 j e) := by
  have ht := lt_points t
  have he := entry_low m c
  unfold ins
  rw [← he]
  blk_point [iblk, idx t]

/-- The layer norm's rows. -/
theorem read_layer (c : Dev nD) (t : Fin cfg0.N) (s : Fin 8) (e : Fin 1024) :
    (iblk m c 10 t : FVec Ideal S8x1024 .f32) (ix2 s e) = layer (ins m c).lg (ins m c).lb (ix2 s e) := by
  have ht := lt_points t
  have he := entry_layer m c
  unfold ins
  rw [← he]
  blk_point [iblk, idx t]

/-- The first direction of a block. -/
theorem ld_fwd (y : FVec Ideal S2x1x256x512 .f32) (r : Fin 256) (k : Fin 512) :
    (View.ld (Val := Elt Ideal) (e' := .f32) y r0_1 : FVec Ideal S1x1x256x512 .f32) (ix4 0 0 r k) = y (ix4 0 0 r k) := by
  pointwise

/-- The second direction of a block. -/
theorem ld_bwd (y : FVec Ideal S2x1x256x512 .f32) (r : Fin 256) (k : Fin 512) :
    (View.ld (Val := Elt Ideal) (e' := .f32) y r0_2 : FVec Ideal S1x1x256x512 .f32) (ix4 0 0 r k) = y (ix4 1 0 r k) := by
  pointwise

/-- The group norm's gain. -/
theorem ld_gg (g : FVec Ideal S8x512 .f32) (k : Fin 512) :
    (View.ld (Val := Elt Ideal) (e' := .f32) g r0_3 : FVec Ideal S1x512 .f32) (ix2 0 k) = g (ix2 0 k) := by
  pointwise

/-- The group norm's bias. -/
theorem ld_gb (g : FVec Ideal S8x512 .f32) (k : Fin 512) :
    (View.ld (Val := Elt Ideal) (e' := .f32) g r0_4 : FVec Ideal S1x512 .f32) (ix2 0 k) = g (ix2 1 k) := by
  pointwise

/-- The layer norm's gain. -/
theorem ld_lg (g : FVec Ideal S8x1024 .f32) (k : Fin 1024) :
    (View.ld (Val := Elt Ideal) (e' := .f32) g r0_10 : FVec Ideal S1x1024 .f32) (ix2 0 k) = g (ix2 0 k) := by
  pointwise

/-- The layer norm's bias. -/
theorem ld_lb (g : FVec Ideal S8x1024 .f32) (k : Fin 1024) :
    (View.ld (Val := Elt Ideal) (e' := .f32) g r0_11 : FVec Ideal S1x1024 .f32) (ix2 0 k) = g (ix2 1 k) := by
  pointwise

/-- What a grid point stores, from blocks that hold the arguments' entries: the mixer's output of them. -/
theorem store_at (I : Ins) (hy : ∀ i, Fin' (I.y i)) (b : Fin 8) (w : Fin 256 → Fin 4352) (s : Fin 16) (hs : ∀ r, s = seg b (w r))
    (M : FVec Ideal S512x512 .bf16) (hM : ∀ j k, (M (ix2 j k) : EReal) = mask (ix2 j k))
    (Y Z : FVec Ideal S1x1x256x512 .f32) (hY : ∀ r k, Y (ix4 0 0 r k) = I.y (ix4 0 b (w r) k)) (hZ : ∀ r k, Z (ix4 0 0 r k) = I.y (ix4 1 b (w r) k))
    (gg gb : FVec Ideal S1x512 .f32) (hgg : ∀ k, gg (ix2 0 k) = I.gg (ix1 k)) (hgb : ∀ k, gb (ix2 0 k) = I.gb (ix1 k))
    (bonus gate : FVec Ideal S1x256x512 .f32) (hbo : ∀ r k, bonus (ix3 0 r k) = I.bonus (ix3 b (w r) k)) (hga : ∀ r k, gate (ix3 0 r k) = I.gate (ix3 b (w r) k))
    (wr : FVec Ideal S512x1024 .bf16) (hwr : ∀ k e, (wr (ix2 k e) : EReal) = top I.w (ix2 k e))
    (o : FVec Ideal S1x256x1024 .bf16) (ho : ∀ r e, (o (ix3 0 r e) : EReal) = I.o (ix3 b (w r) e))
    (wm : FVec Ideal S1024x1024 .bf16) (hwm : ∀ k e, (wm (ix2 k e) : EReal) = low I.w (ix2 k e))
    (x : FVec Ideal S1x256x1024 .f32) (hx : ∀ r e, x (ix3 0 r e) = I.x (ix3 b (w r) e))
    (md : FVec Ideal S1x8x1024 .f32) (hmd : ∀ k e, md (ix3 0 k e) = I.mod (ix3 s k e))
    (lg lb : FVec Ideal S1x1024 .f32) (hlg : ∀ k, lg (ix2 0 k) = I.lg (ix1 k)) (hlb : ∀ k, lb (ix2 0 k) = I.lb (ix1 k)) (r : Fin 256) (e : Fin 1024) :
    (k0_pay1 (F := Ideal) (k0_pay5 (F := Ideal) (k0_pay3 (F := Ideal) M Y Z) (k0_pay4 (F := Ideal) M Y Z) gg gb bonus gate wr o wm) (k0_pay6 (F := Ideal) x) (k0_pay7 (F := Ideal) md) lg lb (ix3 0 r e) : EReal)
      = result I (ix3 b (w r) e) := by
  have hM' : ∀ j k, (M (ix2 j k) : EReal) = same j k := fun j k => (hM j k).trans (mask_at j k)
  have hf : ∀ j, Y (ix4 0 0 r j) + Z (ix4 0 0 r j) = ys I b (w r) j := fun j => by rw [hY, hZ]; rfl
  have hr : ∀ j, Fin' (ys I b (w r) j) := fun j => (hy _).add (hy _)
  have hp : ∀ d, (k0_pay5 (F := Ideal) (k0_pay3 (F := Ideal) M Y Z) (k0_pay4 (F := Ideal) M Y Z) gg gb bonus gate wr o wm (ix2 r d) : EReal) = mix I b (w r) d := fun d => by
    rw [mix_at, ← mix_split]
    refine congrArg₂ (· + ·) (Finset.sum_congr rfl fun k _ => ?_) (Finset.sum_congr rfl fun j _ => ?_)
    · rw [hgg, hgb, norm_at M hM' Y Z r (ys I b (w r)) hf hr (fun j => I.gg (ix1 j)) (fun j => I.gb (ix1 j)) k, hbo, hga, hwr, top_at]
      rfl
    · rw [ho, hwm, low_at]
  rw [out_at]
  simp only [hp, res_at, mod_at, hx, hmd, hlg, hlb, hs r]
  rfl

/-- Where a grid point's block lands in the result. -/
theorem lands (t : Fin cfg0.N) (r : Fin 256) (e : Fin 1024) :
    (((cfg0.win 11).blk t).view.emb (ix3 0 r e : S1x256x1024.Idx) : S8x4352x1024.Idx) = ix3 (smp t) (row t r) e := by
  have ht := lt_points t
  unfold smp row
  blk_ext [idx t]

/-- The blocks cover the result. -/
theorem covers : (cfg0.win 11).Covers := by decide +kernel

/-- The array the kernel leaves, given a real recurrence. -/
theorem final (c : Dev nD) (hy : ∀ i, Fin' ((ins m c).y i)) : (dats m 0 c).arrAt 11 (cfgs 0).N = result (ins m c) := by
  refine (dats m 0 c).arrAt_eq_of_covers 11 _ covers fun t hf y => ?_
  blk_simp
  rw [after0_11]
  obtain ⟨r, e, rfl⟩ : ∃ (r : Fin 256) (e : Fin 1024), y = (ix3 0 r e : S1x256x1024.Idx) := ⟨y 1, y 2, by idx_ext⟩
  rw [lands]
  frame_out
  exact store_at (ins m c) hy (smp t) (row t) (modRow t) (modRow_eq t) _ (read_mask m c t)
    _ _ (fun r k => (ld_fwd _ r k).trans (read_y m c t 0 r k)) (fun r k => (ld_bwd _ r k).trans (read_y m c t 1 r k))
    _ _ (fun k => (ld_gg _ k).trans ((read_group m c t 0 k).trans (group_at _ _ k).1)) (fun k => (ld_gb _ k).trans ((read_group m c t 1 k).trans (group_at _ _ k).2))
    _ _ (read_bonus m c t) (read_gate m c t) _ (read_top m c t) _ (read_o m c t) _ (read_low m c t) _ (read_x m c t) _ (read_mod m c t)
    _ _ (fun k => (ld_lg _ k).trans ((read_layer m c t 0 k).trans (layer_at _ _ k).1)) (fun k => (ld_lb _ k).trans ((read_layer m c t 1 k).trans (layer_at _ _ k).2)) r e

/-- The kernel's run: the result array is the mixer's output of the arguments, which are unchanged. -/
theorem run (g : Dev nD → PrngReg) (hy : ∀ c i, Fin' ((ins m c).y i)) :
    θ_run defs (onTc (τ := τ) (main (F := Ideal))) ⟨m, fun _ => 0, g⟩ fun r => ∀ c : Dev nD,
      r.2.mem ((c.tc : Thread nD τ).loc main_v26) = result (ins m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨((h c).1 11).trans (final m c (hy c)),
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c))),
    ((h c).1 3).trans (((dats m 0 c).arrAt_in 3 rfl _).trans ((A_eq m c 3).trans (V_main_arg3 m c))),
    ((h c).1 4).trans (((dats m 0 c).arrAt_in 4 rfl _).trans ((A_eq m c 4).trans (V_main_arg4 m c))),
    ((h c).1 5).trans (((dats m 0 c).arrAt_in 5 rfl _).trans ((A_eq m c 5).trans (V_main_arg5 m c))),
    ((h c).2 main_arg6 (Pipeline.mem_restRefs_of main_arg6 (by decide) (by decide))).trans (V_main_arg6 m c),
    ((h c).2 main_arg7 (Pipeline.mem_restRefs_of main_arg7 (by decide) (by decide))).trans (V_main_arg7 m c),
    ((h c).2 main_arg8 (Pipeline.mem_restRefs_of main_arg8 (by decide) (by decide))).trans (V_main_arg8 m c),
    ((h c).2 main_arg9 (Pipeline.mem_restRefs_of main_arg9 (by decide) (by decide))).trans (V_main_arg9 m c),
    ((h c).2 main_arg10 (Pipeline.mem_restRefs_of main_arg10 (by decide) (by decide))).trans (V_main_arg10 m c)⟩) (run_main m g)

end Cert.MixerBlock

end
-- ==== Proof.MixerOutRefPoint.lean ====
module

public import Idealize.ShloMosaic.Lib.Pointwise
public import proofs.«01_k».proof.Proof.Gen.MixerOutRefIdeal.Run
public import proofs.«01_k».proof.Proof.FfnRefPoint
public import proofs.«01_k».proof.Proof.Mixer

/-! The mixer output reference's stages read at an index, each over any arrays, and its result: `Mixer.result` of its
arguments. -/

@[expose] public section

set_option maxRecDepth 16384

noncomputable section

namespace Cert.MixerOutRefPoint

open Idealize.ShloMosaic Idealize.ShloMosaic.TcCoe Idealize.SL.Sem
open Cert.MixerOutRefIdeal Cert.MixerOutRefIdeal.Gen Cert.Mixer
open Cert.Feedforward (seg center)
open Cert.FfnRefPoint (X256 X4096 D256 D4096 N256 N4096 JOIN r256 r4096 x256_at x4096_at d256_at d4096_at n256_at n4096_at join_ctx join_lat)

/-- The two directions' sum. -/
def YS (y : FVec Ideal S2x8x4352x512 .f32) : FVec Ideal S8x4352x512 .f32 :=
  addf (shapeCast _ (extractStridedSlice S1x8x4352x512 ![0, 0, 0, 0] y slices_S2x8x4352x512_S1x8x4352x512_0_0_0_0) shapeCasts_S1x8x4352x512_S8x4352x512) (shapeCast _ (extractStridedSlice S1x8x4352x512 ![1, 0, 0, 0] y slices_S2x8x4352x512_S1x8x4352x512_1_0_0_0) shapeCasts_S1x8x4352x512_S8x4352x512)

/-- Rows of channels as rows of heads. -/
def HD (f : FVec Ideal S8x4352x512 .f32) : FVec Ideal S8x4352x8x64 .f32 := shapeCast _ f shapeCasts_S8x4352x512_S8x4352x8x64

/-- A head's mean over its channels. -/
def HAVG (a : FVec Ideal S8x4352x8x64 .f32) : FVec Ideal S8x4352x8x1 .f32 :=
  Host.divf (broadcastInDim S8x4352x8x1 ![0, 1, 2] bcast_S8x4352x8_S8x4352x8x1_0_1_2 (Host.reduceAdd a (constant S_ .f32 0x00000000#32) reducesTo_S8x4352x8x64_S8x4352x8_d3 h_S_)) (broadcastInDim S8x4352x8x1 ![] bcast_S_S8x4352x8x1 (constant S_ .f32 0x42800000#32))

/-- The heads less their means. -/
def HCEN (a : FVec Ideal S8x4352x8x64 .f32) : FVec Ideal S8x4352x8x64 .f32 :=
  subf a (broadcastInDim S8x4352x8x64 ![0, 1, 2, 3] bcast_S8x4352x8x1_S8x4352x8x64_0_1_2_3 (HAVG a))

/-- A gain or a bias laid over every head row. -/
def ROW (g : FVec Ideal S512 .f32) : FVec Ideal S8x4352x8x64 .f32 :=
  broadcastInDim S8x4352x8x64 ![0, 1, 2, 3] bcast_S1x1x8x64_S8x4352x8x64_0_1_2_3 (broadcastInDim S1x1x8x64 ![2, 3] bcast_S8x64_S1x1x8x64_2_3 (shapeCast _ g shapeCasts_S512_S8x64))

/-- The centred heads normalised. -/
def HN (c : FVec Ideal S8x4352x8x64 .f32) (g b : FVec Ideal S8x4352x8x64 .f32) : FVec Ideal S8x4352x8x64 .f32 :=
  addf (mulf (mulf c (broadcastInDim S8x4352x8x64 ![0, 1, 2, 3] bcast_S8x4352x8x1_S8x4352x8x64_0_1_2_3 (Host.rsqrt (addf (HAVG (mulf c c)) (broadcastInDim S8x4352x8x1 ![] bcast_S_S8x4352x8x1 (constant S_ .f32 0x3A27C5AC#32)))))) g) b

/-- The normalised heads with the bonus, gated. -/
def REC (n : FVec Ideal S8x4352x8x64 .f32) (bonus gate : FVec Ideal S8x4352x512 .f32) : FVec Ideal S8x4352x512 .f32 :=
  mulf (shapeCast _ (addf n (HD bonus)) shapeCasts_S8x4352x8x64_S8x4352x512) gate

/-- The attention's used lanes. -/
def MLA (o : FVec Ideal S8x4352x1024 .bf16) : FVec Ideal S8x4352x512 .f32 :=
  shapeCast _ (extractStridedSlice S8x4352x8x64 ![0, 0, 0, 0] (shapeCast _ (extf .f32 o bitsLt_bf16_f32) shapeCasts_S8x4352x1024_S8x4352x8x128) slices_S8x4352x8x128_S8x4352x8x64_0_0_0_0) shapeCasts_S8x4352x8x64_S8x4352x512

/-- The two parts side by side. -/
def CATS (r a : FVec Ideal S8x4352x512 .f32) : FVec Ideal S8x4352x1024 .f32 :=
  concatenate S8x4352x1024 2 [⟨S8x4352x512, r⟩, ⟨S8x4352x512, a⟩] concatenates_S8x4352x512_S8x4352x512_S8x4352x1024_d2

/-- The rows projected. -/
def MIX (a : FVec Ideal S8x4352x1024 .f32) (w : FVec Ideal S1024x1024 .f32) : FVec Ideal S8x4352x1024 .f32 :=
  Host.dotGeneral dot_S8x4352x1024_S1024x1024_S8x4352x1024_2_0_01_1_n_n none a w

/-- The two directions' sum at an index. -/
theorem ys_at (y : FVec Ideal S2x8x4352x512 .f32) (b : Fin 8) (t : Fin 4352) (k : Fin 512) :
    YS y (ix3 b t k) = y (ix4 0 b t k) + y (ix4 1 b t k) := by
  pointwise [YS]

/-- A head row's channel. -/
theorem hd_at (f : FVec Ideal S8x4352x512 .f32) (b : Fin 8) (t : Fin 4352) (h : Fin 8) (d : Fin 64) :
    HD f (ix4 b t h d) = f (ix3 b t (ch h d)) := by
  unfold ch
  pointwise [HD]

/-- A head's mean. -/
theorem havg_at (a : FVec Ideal S8x4352x8x64 .f32) (b : Fin 8) (t : Fin 4352) (h : Fin 8) :
    HAVG a (ix4 b t h 0) = Ideal.div (∑ d : Fin 64, a (ix4 b t h d)) (Ideal.ofBits .f32 0x42800000#32) := by
  pointwise [HAVG]

/-- A head row less its mean. -/
theorem hcen_at (a : FVec Ideal S8x4352x8x64 .f32) (b : Fin 8) (t : Fin 4352) (h : Fin 8) (d : Fin 64) :
    HCEN a (ix4 b t h d) = a (ix4 b t h d) - HAVG a (ix4 b t h 0) := by
  pointwise [HCEN]

/-- A gain laid over the head rows. -/
theorem row_at (g : FVec Ideal S512 .f32) (b : Fin 8) (t : Fin 4352) (h : Fin 8) (d : Fin 64) : ROW g (ix4 b t h d) = g (ix1 (ch h d)) := by
  unfold ch
  pointwise [ROW]

/-- The normalised heads at an index. -/
theorem hn_at (c g v : FVec Ideal S8x4352x8x64 .f32) (b : Fin 8) (t : Fin 4352) (h : Fin 8) (d : Fin 64) :
    HN c g v (ix4 b t h d) = c (ix4 b t h d) * Ideal.rsqrt (HAVG (mulf c c) (ix4 b t h 0) + Ideal.ofBits .f32 0x3A27C5AC#32) * g (ix4 b t h d) + v (ix4 b t h d) := by
  pointwise [HN]

/-- The gated row at an index. -/
theorem rec_at (n : FVec Ideal S8x4352x8x64 .f32) (bonus gate : FVec Ideal S8x4352x512 .f32) (b : Fin 8) (t : Fin 4352) (k : Fin 512) :
    REC n bonus gate (ix3 b t k) = (n (ix4 b t (head k) ⟨k.val % 64, by omega⟩) + HD bonus (ix4 b t (head k) ⟨k.val % 64, by omega⟩)) * gate (ix3 b t k) := by
  unfold REC head
  generalize HD bonus = s
  pointwise

/-- The attention's channel at an index. -/
theorem mla_at (o : FVec Ideal S8x4352x1024 .bf16) (b : Fin 8) (t : Fin 4352) (k : Fin 512) : (MLA o (ix3 b t k) : EReal) = o (ix3 b t (lane k)) := by
  unfold lane
  pointwise [MLA]

/-- The parts side by side at an index. -/
theorem cats_at (r a : FVec Ideal S8x4352x512 .f32) (b : Fin 8) (t : Fin 4352) (k : Fin 1024) :
    CATS r a (ix3 b t k) = if h : k.val < 512 then r (ix3 b t ⟨k.val, h⟩) else a (ix3 b t ⟨k.val - 512, by omega⟩) := by
  pointwise [CATS]

/-- The projected rows at an index. -/
theorem mix_at (a : FVec Ideal S8x4352x1024 .f32) (w : FVec Ideal S1024x1024 .f32) (b : Fin 8) (t : Fin 4352) (e : Fin 1024) :
    MIX a w (ix3 b t e) = ∑ k : Fin 1024, a (ix3 b t k) * w (ix2 k e) := by
  pointwise [MIX]

/-- A channel is its head's. -/
theorem ch_head (k : Fin 512) : ch (head k) ⟨k.val % 64, by omega⟩ = k := Fin.ext (by show k.val / 64 * 64 + k.val % 64 = k.val; omega)

/-- A head's channel's head. -/
theorem head_ch (h : Fin 8) (d : Fin 64) : head (ch h d) = h := Fin.ext (by show (h.val * 64 + d.val) / 64 = h.val; omega)

/-- The centred heads over the arguments. -/
theorem cen_at (I : Ins) (b : Fin 8) (t : Fin 4352) (h : Fin 8) (d : Fin 64) :
    HCEN (HD (YS I.y)) (ix4 b t h d) = hcen (ys I b t) (ch h d) := by
  unfold hcen hmean
  rw [hcen_at, havg_at, head_ch]
  simp only [hd_at, ys_at]
  rfl

/-- The normalised heads over the arguments. -/
theorem norm_at (I : Ins) (b : Fin 8) (t : Fin 4352) (h : Fin 8) (d : Fin 64) :
    HN (HCEN (HD (YS I.y))) (ROW I.gg) (ROW I.gb) (ix4 b t h d) = hnorm (ys I b t) (fun j => I.gg (ix1 j)) (fun j => I.gb (ix1 j)) (ch h d) := by
  have hs : (∑ e : Fin 64, mulf (HCEN (HD (YS I.y))) (HCEN (HD (YS I.y))) (ix4 b t h e)) = ∑ e : Fin 64, hcen (ys I b t) (ch h e) * hcen (ys I b t) (ch h e) :=
    Finset.sum_congr rfl fun e _ => congrArg₂ (· * ·) (cen_at I b t h e) (cen_at I b t h e)
  unfold hnorm
  rw [hn_at, havg_at, hs, cen_at, row_at, row_at]
  unfold hmean
  rw [head_ch]

/-- The recurrence's part over the arguments. -/
theorem part_at (I : Ins) (b : Fin 8) (t : Fin 4352) (k : Fin 512) :
    REC (HN (HCEN (HD (YS I.y))) (ROW I.gg) (ROW I.gb)) I.bonus I.gate (ix3 b t k) = rec I b t k := by
  unfold rec
  rw [rec_at, norm_at, hd_at, ch_head]

/-- The projection's rows, as a function of the arguments. -/
def PROJ (y : FVec Ideal S2x8x4352x512 .f32) (bonus gate : FVec Ideal S8x4352x512 .f32) (o : FVec Ideal S8x4352x1024 .bf16) (gg gb : FVec Ideal S512 .f32) (w : FVec Ideal S1024x1024 .f32) : FVec Ideal S8x4352x1024 .f32 :=
  MIX (CATS (REC (HN (HCEN (HD (YS y))) (ROW gg) (ROW gb)) bonus gate) (MLA o)) w

/-- The projected rows over the arguments. -/
theorem proj_at (I : Ins) (b : Fin 8) (t : Fin 4352) (e : Fin 1024) :
    PROJ I.y I.bonus I.gate I.o I.gg I.gb I.w (ix3 b t e) = mix I b t e := by
  unfold PROJ mix joined
  rw [mix_at]
  simp only [cats_at, part_at, mla_at]

/-- The context's residual modulation. -/
def MV256 (mod : FVec Ideal S16x8x1024 .f32) : FVec Ideal S8x1x1024 .f32 :=
  shapeCast _ (extractStridedSlice S8x1x1x1024 ![0, 0, 0, 0] (extractStridedSlice S8x2x1x1024 ![0, 0, 2, 0] (shapeCast _ mod shapeCasts_S16x8x1024_S8x2x8x1024) slices_S8x2x8x1024_S8x2x1x1024_0_0_2_0) slices_S8x2x1x1024_S8x1x1x1024_0_0_0_0) shapeCasts_S8x1x1x1024_S8x1x1024

/-- The residual sum of the context rows. -/
def Z256 (x : FVec Ideal S8x256x1024 .f32) (md : FVec Ideal S8x1x1024 .f32) (a : FVec Ideal S8x256x1024 .f32) : FVec Ideal S8x256x1024 .f32 :=
  addf (mulf (broadcastInDim S8x256x1024 ![] bcast_S_S8x256x1024 (constant S_ .f32 0x3FB504F3#32)) x) (mulf (broadcastInDim S8x256x1024 ![0, 1, 2] bcast_S8x1x1024_S8x256x1024_0_1_2 md) a)

/-- The context's modulation at an index. -/
theorem mv256_at (mod : FVec Ideal S16x8x1024 .f32) (b : Fin 8) (t : Fin 256) (e : Fin 1024) :
    MV256 mod (ix3 b 0 e) = mod (ix3 (seg b (r256 t)) 2 e) := by
  have hs : seg b (r256 t) = ⟨2 * b.val, by omega⟩ := Fin.ext (by show 2 * b.val + (if 0 + t.val < 256 then 0 else 1) = _; split <;> simp <;> omega)
  rw [hs]
  pointwise [MV256]
  exact congrArg (fun s => mod (ix3 s 2 e)) (Fin.ext (by show b.val * 2 = 2 * b.val; omega))

/-- The residual sum at an index. -/
theorem z256_at (x : FVec Ideal S8x256x1024 .f32) (md : FVec Ideal S8x1x1024 .f32) (a : FVec Ideal S8x256x1024 .f32) (b : Fin 8) (t : Fin 256) (e : Fin 1024) :
    Z256 x md a (ix3 b t e) = Ideal.ofBits .f32 0x3FB504F3#32 * x (ix3 b t e) + md (ix3 b 0 e) * a (ix3 b t e) := by
  pointwise [Z256]

/-- The residual sum over the arguments. -/
theorem sum256_at (I : Ins) (p : FVec Ideal S8x4352x1024 .f32) (hp : ∀ b t e, p (ix3 b t e) = mix I b t e) (b : Fin 8) (t : Fin 256) (e : Fin 1024) :
    Z256 (X256 I.x) (MV256 I.mod) (X256 p) (ix3 b t e) = Mixer.sum I b (r256 t) e := by
  unfold Mixer.sum
  rw [z256_at, x256_at, x256_at, mv256_at I.mod b t, hp]

/-- The normalised context rows over the arguments. -/
theorem out256_at (I : Ins) (p : FVec Ideal S8x4352x1024 .f32) (hp : ∀ b t e, p (ix3 b t e) = mix I b t e) (b : Fin 8) (t : Fin 256) (e : Fin 1024) :
    N256 (D256 (Z256 (X256 I.x) (MV256 I.mod) (X256 p))) I.lg I.lb (ix3 b t e) = Mixer.result I (ix3 b (r256 t) e) := by
  have hz : (fun d => Z256 (X256 I.x) (MV256 I.mod) (X256 p) (ix3 b t d)) = Mixer.sum I b (r256 t) := funext fun d => sum256_at I p hp b t d
  rw [n256_at]
  simp only [d256_at, hz]
  rfl

/-- The latent's residual modulation. -/
def MV4096 (mod : FVec Ideal S16x8x1024 .f32) : FVec Ideal S8x1x1024 .f32 :=
  shapeCast _ (extractStridedSlice S8x1x1x1024 ![0, 1, 0, 0] (extractStridedSlice S8x2x1x1024 ![0, 0, 2, 0] (shapeCast _ mod shapeCasts_S16x8x1024_S8x2x8x1024) slices_S8x2x8x1024_S8x2x1x1024_0_0_2_0) slices_S8x2x1x1024_S8x1x1x1024_0_1_0_0) shapeCasts_S8x1x1x1024_S8x1x1024

/-- The residual sum of the latent rows. -/
def Z4096 (x : FVec Ideal S8x4096x1024 .f32) (md : FVec Ideal S8x1x1024 .f32) (a : FVec Ideal S8x4096x1024 .f32) : FVec Ideal S8x4096x1024 .f32 :=
  addf (mulf (broadcastInDim S8x4096x1024 ![] bcast_S_S8x4096x1024 (constant S_ .f32 0x3FB504F3#32)) x) (mulf (broadcastInDim S8x4096x1024 ![0, 1, 2] bcast_S8x1x1024_S8x4096x1024_0_1_2 md) a)

/-- The latent's modulation at an index. -/
theorem mv4096_at (mod : FVec Ideal S16x8x1024 .f32) (b : Fin 8) (t : Fin 4096) (e : Fin 1024) :
    MV4096 mod (ix3 b 0 e) = mod (ix3 (seg b (r4096 t)) 2 e) := by
  have hs : seg b (r4096 t) = ⟨2 * b.val + 1, by omega⟩ := Fin.ext (by show 2 * b.val + (if 256 + t.val < 256 then 0 else 1) = _; split <;> simp <;> omega)
  rw [hs]
  pointwise [MV4096]
  exact congrArg (fun s => mod (ix3 s 2 e)) (Fin.ext (by show b.val * 2 + 1 = 2 * b.val + 1; omega))

/-- The residual sum at an index. -/
theorem z4096_at (x : FVec Ideal S8x4096x1024 .f32) (md : FVec Ideal S8x1x1024 .f32) (a : FVec Ideal S8x4096x1024 .f32) (b : Fin 8) (t : Fin 4096) (e : Fin 1024) :
    Z4096 x md a (ix3 b t e) = Ideal.ofBits .f32 0x3FB504F3#32 * x (ix3 b t e) + md (ix3 b 0 e) * a (ix3 b t e) := by
  pointwise [Z4096]

/-- The residual sum over the arguments. -/
theorem sum4096_at (I : Ins) (p : FVec Ideal S8x4352x1024 .f32) (hp : ∀ b t e, p (ix3 b t e) = mix I b t e) (b : Fin 8) (t : Fin 4096) (e : Fin 1024) :
    Z4096 (X4096 I.x) (MV4096 I.mod) (X4096 p) (ix3 b t e) = Mixer.sum I b (r4096 t) e := by
  unfold Mixer.sum
  rw [z4096_at, x4096_at, x4096_at, mv4096_at I.mod b t, hp]

/-- The normalised latent rows over the arguments. -/
theorem out4096_at (I : Ins) (p : FVec Ideal S8x4352x1024 .f32) (hp : ∀ b t e, p (ix3 b t e) = mix I b t e) (b : Fin 8) (t : Fin 4096) (e : Fin 1024) :
    N4096 (D4096 (Z4096 (X4096 I.x) (MV4096 I.mod) (X4096 p))) I.lg I.lb (ix3 b t e) = Mixer.result I (ix3 b (r4096 t) e) := by
  have hz : (fun d => Z4096 (X4096 I.x) (MV4096 I.mod) (X4096 p) (ix3 b t d)) = Mixer.sum I b (r4096 t) := funext fun d => sum4096_at I p hp b t d
  rw [n4096_at]
  simp only [d4096_at, hz]
  rfl

/-- The reference's operations composed, as a function of the arguments. -/
def REF (x : FVec Ideal S8x4352x1024 .f32) (mod : FVec Ideal S16x8x1024 .f32) (p : FVec Ideal S8x4352x1024 .f32) (g b : FVec Ideal S1024 .f32) : FVec Ideal S8x4352x1024 .f32 :=
  JOIN (N256 (D256 (Z256 (X256 x) (MV256 mod) (X256 p))) g b) (N4096 (D4096 (Z4096 (X4096 x) (MV4096 mod) (X4096 p))) g b)

/-- The composed reference is the mixer's output. -/
theorem ref_eq (I : Ins) : REF I.x I.mod (PROJ I.y I.bonus I.gate I.o I.gg I.gb I.w) I.lg I.lb = Mixer.result I := by
  have hp := proj_at I
  revert hp
  generalize PROJ I.y I.bonus I.gate I.o I.gg I.gb I.w = p
  intro hp
  funext i
  obtain ⟨b, t, e, rfl⟩ : ∃ (b : Fin 8) (t : Fin 4352) (e : Fin 1024), i = (ix3 b t e : S8x4352x1024.Idx) := ⟨i 0, i 1, i 2, by idx_ext⟩
  unfold REF
  by_cases ht : t.val < 256
  · refine (join_ctx _ _ b t ht e).trans ((out256_at I p hp b ⟨t.val, ht⟩ e).trans ?_)
    exact congrArg (fun s => Mixer.result I (ix3 b s e)) (Fin.ext (by show 0 + t.val = _; omega))
  · refine (join_lat _ _ b t ht e).trans ((out4096_at I p hp b ⟨t.val - 256, by omega⟩ e).trans ?_)
    exact congrArg (fun s => Mixer.result I (ix3 b s e)) (Fin.ext (by show 256 + (t.val - 256) = _; omega))

/-- The arguments in a memory. -/
def ins (m : (ℓ : Loc nD τ sig) → Buf (Elt Ideal) ℓ) (c : Dev nD) : Ins where
  y := m ((c.tc : Thread nD τ).loc main_arg0)
  bonus := m ((c.tc : Thread nD τ).loc main_arg1)
  gate := m ((c.tc : Thread nD τ).loc main_arg2)
  o := m ((c.tc : Thread nD τ).loc main_arg3)
  x := m ((c.tc : Thread nD τ).loc main_arg4)
  mod := m ((c.tc : Thread nD τ).loc main_arg5)
  gg := m ((c.tc : Thread nD τ).loc main_arg6)
  gb := m ((c.tc : Thread nD τ).loc main_arg7)
  w := m ((c.tc : Thread nD τ).loc main_arg8)
  lg := m ((c.tc : Thread nD τ).loc main_arg9)
  lb := m ((c.tc : Thread nD τ).loc main_arg10)

/-- The reference's run: the result array is the mixer's output of the arguments, which are unchanged. -/
theorem run (m : (ℓ : Loc nD τ sig) → Buf (Elt Ideal) ℓ) (g : Dev nD → PrngReg) :
    θ_run defs (onTc (τ := τ) (main (F := Ideal))) ⟨m, fun _ => 0, g⟩ fun r => ∀ c : Dev nD,
      r.2.mem ((c.tc : Thread nD τ).loc main_v104) = Mixer.result (ins m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run _ _ _).mono (fun _ h c => ⟨(h c).1.trans (Eq.trans (b := REF (ins m c).x (ins m c).mod (PROJ (ins m c).y (ins m c).bonus (ins m c).gate (ins m c).o (ins m c).gg (ins m c).gb (ins m c).w) (ins m c).lg (ins m c).lb)
    (by unfold Value.res_main_v104; rfl) (ref_eq (ins m c))), (h c).2⟩) (Value.run m g)

end Cert.MixerOutRefPoint

end
-- ==== Proof.MixerOutClaims.lean ====
module

public import proofs.«01_k».proof.Proof.MixerOutFrames
public import proofs.«01_k».proof.Proof.MixerBlock
public import proofs.«01_k».proof.Proof.MixerOutRefPoint
public import Idealize.ShloMosaic.Lib.ReduceAll
public import Idealize.ShloMosaic.Lib.Pointwise

/-! The mixer output's value claim: with a finite recurrence the kernel's array and the reference's are equal. -/

@[expose] public section

set_option maxRecDepth 16384

noncomputable section

namespace Cert.MixerOutClaims

open Idealize.ShloMosaic Idealize.ShloMosaic.TcCoe Idealize.SL.Sem Cert.Softmax Cert.Mixer

/-- What the precondition says: every output of the recurrence is a real number. -/
theorem finite_of_pre (y : FVec Ideal Cert.Pre_finite_scan.S2x8x4352x512 .f32) (bonus gate : FVec Ideal Cert.Pre_finite_scan.S8x4352x512 .f32)
    (o : FVec Ideal Cert.Pre_finite_scan.S8x4352x1024 .bf16) (x : FVec Ideal Cert.Pre_finite_scan.S8x4352x1024 .f32) (md : FVec Ideal Cert.Pre_finite_scan.S16x8x1024 .f32)
    (gg gb : FVec Ideal Cert.Pre_finite_scan.S512 .f32) (w : FVec Ideal Cert.Pre_finite_scan.S1024x1024 .f32) (lg lb : FVec Ideal Cert.Pre_finite_scan.S1024 .f32)
    (h : Cert.Pre_finite_scan.fn (F := Ideal) y bonus gate o x md gg gb w lg lb = fun _ => 1#1) : ∀ i, Fin' (y i) := by
  have e := congrFun h (fun a => a.elim0)
  unfold Cert.Pre_finite_scan.fn at e
  haveI : Subsingleton Cert.Pre_finite_scan.S_.Idx := ⟨fun a b => funext fun x => x.elim0⟩
  exact fun i => finite_of_test _ (Host.reduce_andi_all _ _ _ _ _ e i)

/-- The mixer output's kernel and its reference leave the same array, given a finite recurrence. -/
theorem value : algebraic_MixerOutIdeal_MixerOutRefIdeal_pre_finite_scan (hMixerOutIdeal := Cert.MixerOutIdeal.Gen.facts)
    (hMixerOutRefIdeal := Cert.MixerOutRefIdeal.Gen.facts) (hPre_finite_scan := Cert.Pre_finite_scan.Gen.facts) := by
  intro m g m' g' hpre hag
  refine ⟨fun c => result (Cert.MixerBlock.ins m c), ?_, ?_⟩
  · exact Cert.MixerBlock.run m g (fun c => finite_of_pre _ _ _ _ _ _ _ _ _ _ _ (hpre c))
  · have he : ∀ c, Cert.MixerOutRefPoint.ins m' c = Cert.MixerBlock.ins m c := fun c => by
      obtain ⟨h0, h1, h2, h3, h4, h5, h6, h7, h8, h9, h10⟩ := hag c
      unfold Cert.MixerOutRefPoint.ins Cert.MixerBlock.ins
      rw [h0, h1, h2, h3, h4, h5, h6, h7, h8, h9, h10]
    exact (θ_run _ _ _).mono (fun _ h c => ⟨(h c).1.trans (congrArg result (he c)), (h c).2⟩) (Cert.MixerOutRefPoint.run m' g')

end Cert.MixerOutClaims

end
-- ==== Proof.BoxSet.lean ====
module

public import Idealize.ShloMosaic.Lib.Routing.OpsOne

/-! Writing a box, or a part of one row, of a matrix, read at an entry. -/

@[expose] public section

namespace Cert.BoxSet

open Idealize.ShloMosaic Idealize.ShloMosaic.ValueIdx Idealize.ShloMosaic.Routing

/-- The start of a write along an axis its two words name. -/
theorem start_eq {R C : Nat} {u : Shape} (d : ScatterDims (shape2 R C) (shape1 2) u) (hs : d.scatterDimsToOperandDims = [0, 1]) (hv : d.indexVectorDim = 0)
    (idx : IVec (shape1 2) 32) (j : u.Idx) (a : Fin 2) : d.start j idx a = (idx (ix1 a)).toInt := by
  have hm : a ∈ d.scatterDimsToOperandDims := by rw [hs]; fin_cases a <;> simp
  have hi : d.scatterDimsToOperandDims.idxOf a = a.val := by rw [hs]; fin_cases a <;> rfl
  unfold ScatterDims.start
  rw [dif_pos hm]
  refine congrArg (fun i => (idx i).toInt) (funext fun b => Fin.ext ?_)
  unfold ScatterDims.siIdx
  rw [dif_pos (by rw [hv]; exact congrArg Fin.val (Subsingleton.elim (α := Fin 1) b 0))]
  show d.scatterDimsToOperandDims.idxOf a = _
  rw [hi]
  obtain rfl : b = 0 := Subsingleton.elim (α := Fin 1) _ _
  rfl

/-- A matrix with a box replaced: the box's entries are the new ones, the others the old. -/
theorem box_set {α : Type} {R C S D : Nat} (d : ScatterDims (shape2 R C) (shape1 2) (shape2 S D)) (hu : d.updateWindowDims = [0, 1]) (hw : d.insertedWindowDims = [])
    (hs : d.scatterDimsToOperandDims = [0, 1]) (hv : d.indexVectorDim = 0)
    (x : (shape2 R C).Idx → α) (idx : IVec (shape1 2) 32) (u : (shape2 S D).Idx → α) (p q : Nat) (hp : (idx (ix1 0)).toInt = (p : Int)) (hq : (idx (ix1 1)).toInt = (q : Int))
    (r : Fin R) (c : Fin C) :
    Host.scatter d (fun _ b => b) x idx u (ix2 r c) =
      if h : (p ≤ r.val ∧ r.val < p + S) ∧ (q ≤ c.val ∧ c.val < q + D) then u (ix2 ⟨r.val - p, by omega⟩ ⟨c.val - q, by omega⟩) else x (ix2 r c) := by
  have kept : d.sKept = [0, 1] := by
    show (shape2 R C).kept d.insertedWindowDims = _
    rw [hw]
    rfl
  have wd : ∀ (i : Fin S) (j : Fin D), d.window (ix2 i j) 0 = i.val ∧ d.window (ix2 i j) 1 = j.val := fun i j => by
    have g : ∀ (ups : List (Fin 2)) (ks : List (Fin 2)) (a : Fin 2) (hl : ks.idxOf a < ups.length), ups = [0, 1] → ks = [0, 1] → ups[ks.idxOf a] = a := by
      rintro ups ks a hl rfl rfl
      fin_cases a <;> rfl
    refine ⟨?_, ?_⟩
    all_goals
      unfold ScatterDims.window
      rw [dif_pos (by rw [kept]; simp)]
    · exact congrArg (fun a => ((ix2 i j : (shape2 S D).Idx) a).val) (g d.updateWindowDims d.sKept 0 _ hu kept)
    · exact congrArg (fun a => ((ix2 i j : (shape2 S D).Idx) a).val) (g d.updateWindowDims d.sKept 1 _ hu kept)
  have hits : ∀ (i : Fin S) (j : Fin D), d.resultIdx? (ix2 i j) idx = some (ix2 r c) ↔ p + i.val = r.val ∧ q + j.val = c.val := fun i j => by
    rw [resultIdx?_ix2, start_eq d hs hv, start_eq d hs hv, hp, hq, (wd i j).1, (wd i j).2]
    omega
  by_cases h : (p ≤ r.val ∧ r.val < p + S) ∧ (q ≤ c.val ∧ c.val < q + D)
  · rw [dif_pos h]
    refine scatter_set_hit d x idx u _ _ (fun k hk => ?_) (ix2 ⟨r.val - p, by omega⟩ ⟨c.val - q, by omega⟩) ((hits _ _).2 ⟨by show p + (r.val - p) = _; omega, by show q + (c.val - q) = _; omega⟩)
    obtain ⟨i, j, rfl⟩ : ∃ (i : Fin S) (j : Fin D), k = ix2 i j := ⟨k 0, k 1, eq_ix2 k⟩
    have := (hits i j).1 hk
    exact congrArg u (congrArg₂ ix2 (Fin.ext (by show i.val = r.val - p; omega)) (Fin.ext (by show j.val = c.val - q; omega)))
  · rw [dif_neg h]
    refine scatter_set_miss d x idx u _ fun k hk => h ?_
    obtain ⟨i, j, rfl⟩ : ∃ (i : Fin S) (j : Fin D), k = ix2 i j := ⟨k 0, k 1, eq_ix2 k⟩
    have := (hits i j).1 hk
    have := i.isLt
    have := j.isLt
    omega

/-- A matrix with a part of row `p` from column `q` on replaced. -/
theorem part_set {α : Type} {R C D : Nat} (d : ScatterDims (shape2 R C) (shape1 2) (shape1 D)) (hw : d.insertedWindowDims = [0])
    (hs : d.scatterDimsToOperandDims = [0, 1]) (hv : d.indexVectorDim = 0)
    (x : (shape2 R C).Idx → α) (idx : IVec (shape1 2) 32) (u : (shape1 D).Idx → α) (p q : Nat) (hp : (idx (ix1 0)).toInt = (p : Int)) (hq : (idx (ix1 1)).toInt = (q : Int))
    (r : Fin R) (c : Fin C) :
    Host.scatter d (fun _ b => b) x idx u (ix2 r c) =
      if h : r.val = p ∧ (q ≤ c.val ∧ c.val < q + D) then u (ix1 ⟨c.val - q, by omega⟩) else x (ix2 r c) := by
  have kept : d.sKept = [1] := by
    show (shape2 R C).kept d.insertedWindowDims = _
    rw [hw]
    rfl
  have across : ∀ j : Fin D, d.window (ix1 j) 1 = j.val := fun j => by
    unfold ScatterDims.window
    rw [dif_pos (by rw [kept]; simp)]
    exact congrArg (fun a => ((ix1 j : (shape1 D).Idx) a).val) (Subsingleton.elim (α := Fin 1) _ 0)
  have down : ∀ j : Fin D, d.window (ix1 j) 0 = 0 := fun j => by
    unfold ScatterDims.window
    rw [dif_neg (by rw [kept]; simp)]
  have hits : ∀ j : Fin D, d.resultIdx? (ix1 j) idx = some (ix2 r c) ↔ p = r.val ∧ q + j.val = c.val := fun j => by
    rw [resultIdx?_ix2, start_eq d hs hv, start_eq d hs hv, hp, hq, across, down]
    omega
  by_cases h : r.val = p ∧ (q ≤ c.val ∧ c.val < q + D)
  · rw [dif_pos h]
    refine scatter_set_hit d x idx u _ _ (fun k hk => ?_) (ix1 ⟨c.val - q, by omega⟩) ((hits _).2 ⟨h.1.symm, by show q + (c.val - q) = _; omega⟩)
    obtain ⟨j, rfl⟩ : ∃ j : Fin D, k = ix1 j := ⟨k 0, eq_ix1 k⟩
    have := (hits j).1 hk
    exact congrArg u (congrArg ix1 (Fin.ext (by show j.val = c.val - q; omega)))
  · rw [dif_neg h]
    refine scatter_set_miss d x idx u _ fun k hk => h ?_
    obtain ⟨j, rfl⟩ : ∃ j : Fin D, k = ix1 j := ⟨k 0, eq_ix1 k⟩
    have := (hits j).1 hk
    have := j.isLt
    omega

end Cert.BoxSet
-- ==== Proof.Heads.lean ====
module

public import Idealize.ShloMosaic.Lib.Pointwise
public import proofs.«01_k».proof.Proof.Softmax
public import proofs.«01_k».proof.Proof.Projection

/-! What the preparation of queries, keys and values computes, over its arrays: the latents normalised by their root mean
square and projected, the latent tokens' rotary parts turned by their angles, each head in 128 lanes. -/

@[expose] public section

set_option maxRecDepth 16384

noncomputable section

namespace Cert.Heads

open Idealize.ShloMosaic Cert.Softmax Cert.Projection

/-- The arrays the preparation reads. -/
structure Ins where
  /-- The queries' latent. -/
  q : (⟨3, ![8, 4352, 384]⟩ : Shape).Idx → EReal
  /-- The keys' and values' latent. -/
  kv : (⟨3, ![8, 4352, 256]⟩ : Shape).Idx → EReal
  /-- The rotary key beside its quarter turn. -/
  kr : (⟨3, ![8, 4352, 256]⟩ : Shape).Idx → EReal
  /-- The gain of the queries' norm. -/
  qg : (⟨1, ![384]⟩ : Shape).Idx → EReal
  /-- The queries' weight. -/
  wq : (⟨2, ![384, 768]⟩ : Shape).Idx → EReal
  /-- The gain of the keys' and values' norm. -/
  kg : (⟨1, ![256]⟩ : Shape).Idx → EReal
  /-- The keys' and values' weight. -/
  wkv : (⟨2, ![256, 1024]⟩ : Shape).Idx → EReal
  /-- The angles' cosines. -/
  cos : (⟨2, ![4096, 16]⟩ : Shape).Idx → EReal
  /-- The angles' sines. -/
  sin : (⟨2, ![4096, 16]⟩ : Shape).Idx → EReal

/-- A row over its root mean square, with a gain; the divisor is given by its word. -/
def rms {n : Nat} (w : BitVec 32) (x g : Fin n → EReal) (e : Fin n) : EReal :=
  x e * Ideal.rsqrt (Ideal.div (∑ d, x d * x d) (Ideal.ofBits .f32 w) + Ideal.ofBits .f32 0x358637BD#32) * g e

/-- The queries' latent normalised. -/
def cq (I : Ins) (b : Fin 8) (t : Fin 4352) : Fin 384 → EReal := rms 0x43C00000#32 (fun d => I.q (ix3 b t d)) (fun d => I.qg (ix1 d))

/-- The keys' and values' latent normalised. -/
def ckv (I : Ins) (b : Fin 8) (t : Fin 4352) : Fin 256 → EReal := rms 0x43800000#32 (fun d => I.kv (ix3 b t d)) (fun d => I.kg (ix1 d))

/-- The queries before the rotation. -/
def qp (I : Ins) (b : Fin 8) (t : Fin 4352) (k : Fin 768) : EReal := ∑ e : Fin 384, cq I b t e * I.wq (ix2 e k)

/-- The keys and values. -/
def kp (I : Ins) (b : Fin 8) (t : Fin 4352) (k : Fin 1024) : EReal := ∑ e : Fin 256, ckv I b t e * I.wkv (ix2 e k)

/-- The rotary key. -/
def kr (I : Ins) (b : Fin 8) (t : Fin 4352) (d : Fin 32) : EReal := I.kr (ix3 b t ⟨64 + d.val, by omega⟩)

/-- The head of a lane. -/
def hd (j : Fin 1024) : Fin 8 := ⟨j.val / 128, by omega⟩

/-- A lane within its head. -/
def ln (j : Fin 1024) : Fin 128 := ⟨j.val % 128, by omega⟩

/-- A column of a head's query. -/
def qc (h : Fin 8) (d : Fin 96) : Fin 768 := ⟨h.val * 96 + d.val, by omega⟩

/-- A column of a head's key and value. -/
def kc (h : Fin 8) (d : Fin 128) : Fin 1024 := ⟨h.val * 128 + d.val, by omega⟩

/-- A rotary part turned by its token's angles, a context token's as it is. -/
def rope (I : Ins) (t : Fin 4352) (f : Fin 32 → EReal) (d : Fin 32) : EReal :=
  if t.val < 256 then f d
  else if h : d.val % 2 = 0 then
    f d * I.cos (ix2 ⟨t.val - 256, by omega⟩ ⟨d.val / 2, by omega⟩) - f ⟨d.val + 1, by omega⟩ * I.sin (ix2 ⟨t.val - 256, by omega⟩ ⟨d.val / 2, by omega⟩)
  else f ⟨d.val - 1, by omega⟩ * I.sin (ix2 ⟨t.val - 256, by omega⟩ ⟨d.val / 2, by omega⟩) + f d * I.cos (ix2 ⟨t.val - 256, by omega⟩ ⟨d.val / 2, by omega⟩)

/-- A head's query in its 128 lanes. -/
def qh (I : Ins) (b : Fin 8) (t : Fin 4352) (h : Fin 8) (l : Fin 128) : EReal :=
  if hl : l.val < 64 then qp I b t (qc h ⟨l.val, by omega⟩)
  else if hr : l.val < 96 then rope I t (fun d => qp I b t (qc h ⟨64 + d.val, by omega⟩)) ⟨l.val - 64, by omega⟩
  else 0

/-- A head's key in its 128 lanes. -/
def kh (I : Ins) (b : Fin 8) (t : Fin 4352) (h : Fin 8) (l : Fin 128) : EReal :=
  if hl : l.val < 64 then kp I b t (kc h l)
  else if hr : l.val < 96 then rope I t (kr I b t) ⟨l.val - 64, by omega⟩
  else 0

/-- A head's value in its 128 lanes. -/
def vh (I : Ins) (b : Fin 8) (t : Fin 4352) (h : Fin 8) (l : Fin 128) : EReal :=
  if hl : l.val < 64 then kp I b t (kc h ⟨64 + l.val, by omega⟩) else 0

/-- The scaled queries. -/
def outQ (I : Ins) : (⟨3, ![8, 4352, 1024]⟩ : Shape).Idx → EReal := fun i => qh I (i 0) (i 1) (hd (i 2)) (ln (i 2)) * Ideal.ofBits .f32 0x3DD105EC#32

/-- The keys. -/
def outK (I : Ins) : (⟨3, ![8, 4352, 1024]⟩ : Shape).Idx → EReal := fun i => kh I (i 0) (i 1) (hd (i 2)) (ln (i 2))

/-- The values. -/
def outV (I : Ins) : (⟨3, ![8, 4352, 1024]⟩ : Shape).Idx → EReal := fun i => vh I (i 0) (i 1) (hd (i 2)) (ln (i 2))

/-- A table of the angles in 128 lanes: the angles' numbers at the latent tokens' rotary lanes, another number elsewhere. -/
def table (a : (⟨2, ![4096, 16]⟩ : Shape).Idx → EReal) (z : EReal) (t : Fin 4352) (l : Fin 128) : EReal :=
  if h : 256 ≤ t.val ∧ 64 ≤ l.val ∧ l.val < 96 then a (ix2 ⟨t.val - 256, by omega⟩ ⟨(l.val - 64) / 2, by omega⟩) else z

/-- A spread part times the cosines and its spread quarter turn times the sines is the spread turned part. -/
theorem turn_lanes (I : Ins) (t : Fin 4352) (f : Fin 32 → EReal) (l : Fin 128) :
    lanes f l * table I.cos 1 t l + lanes (turned f) l * table I.sin 0 t l = lanes (rope I t f) l := by
  unfold lanes table
  by_cases hl : 64 ≤ l.val ∧ l.val < 96
  · rw [dif_pos hl, dif_pos hl, dif_pos hl]
    unfold rope turned
    by_cases ht : t.val < 256
    · have hn : ¬ (256 ≤ t.val ∧ 64 ≤ l.val ∧ l.val < 96) := by omega
      rw [if_pos ht, dif_neg hn, dif_neg hn, mul_one, mul_zero, add_zero]
    · have hn : 256 ≤ t.val ∧ 64 ≤ l.val ∧ l.val < 96 := by omega
      rw [if_neg ht, dif_pos hn, dif_pos hn]
      by_cases hd : (l.val - 64) % 2 = 0
      · rw [dif_pos hd, dif_pos hd, neg_mul, sub_eq_add_neg]
      · rw [dif_neg hd, dif_neg hd, add_comm]
  · rw [dif_neg hl, dif_neg hl, dif_neg hl, zero_mul, zero_mul, add_zero]

/-- A weight spread over its lanes spreads the product. -/
theorem lanes_sum {n : Nat} (v : Fin n → EReal) (w : Fin n → Fin 32 → EReal) (l : Fin 128) :
    ∑ e, v e * lanes (w e) l = lanes (fun d => ∑ e, v e * w e d) l := by
  unfold lanes
  by_cases h : 64 ≤ l.val ∧ l.val < 96
  · simp only [dif_pos h]
  · simp only [dif_neg h, mul_zero, Finset.sum_const_zero]

/-- Where every number is real, the product with a turned weight is the turned product. -/
theorem turned_sum {n : Nat} (v : Fin n → EReal) (w : Fin n → Fin 32 → EReal) (hv : ∀ e, Fin' (v e)) (hw : ∀ e d, Fin' (w e d)) :
    (fun d => ∑ e, v e * turned (w e) d) = turned (fun d => ∑ e, v e * w e d) := funext fun d => by
  unfold turned
  by_cases h : d.val % 2 = 0
  · simp only [dif_pos h, mul_neg]
    exact sum_neg _ fun e => (hv e).mul (hw e _)
  · simp only [dif_neg h]

/-- The small constant is positive. -/
theorem eps_pos : ∃ r : ℝ, 0 < r ∧ Ideal.ofBits .f32 0x358637BD#32 = (r : EReal) := by
  simp [Ideal.ofBits, Ideal.ieee]
  refine ⟨_, ?_, (EReal.coe_mul _ _).symm⟩
  positivity

/-- The queries' divisor. -/
theorem word384 : Ideal.ofBits .f32 0x43C00000#32 = ((384 : ℝ) : EReal) := by
  simp [Ideal.ofBits, Ideal.ieee]
  rw [← EReal.coe_mul]
  norm_num

/-- A square is not negative. -/
theorem sq_nonneg' (x : EReal) : 0 ≤ x * x := by
  induction x using EReal.rec with
  | bot => simp
  | top => simp
  | coe r => exact_mod_cast mul_self_nonneg r

/-- The square of a number that is not real is infinite. -/
theorem sq_top (x : EReal) (h : ¬ Fin' x) : x * x = ⊤ := by
  induction x using EReal.rec with
  | bot => simp
  | top => simp
  | coe r => exact absurd ⟨r, rfl⟩ h

/-- A row over its root mean square, with a real gain, is real, whatever the row: with an infinite entry it is zero. -/
theorem rms_fin (x g : Fin 384 → EReal) (hg : ∀ e, Fin' (g e)) (e : Fin 384) : Fin' (rms 0x43C00000#32 x g e) := by
  obtain ⟨r, hr, hw⟩ := eps_pos
  unfold rms
  refine Fin'.mul ?_ (hg e)
  by_cases hx : ∀ e, Fin' (x e)
  · choose y hy using hx
    have hs : (∑ d, x d * x d) = ((∑ d, y d * y d : ℝ) : EReal) := by
      rw [coe_sum_real]
      exact Finset.sum_congr rfl fun d _ => by rw [hy, EReal.coe_mul]
    have hn : 0 ≤ ∑ d, y d * y d := Finset.sum_nonneg fun d _ => mul_self_nonneg (y d)
    refine Fin'.mul (x := x e) ⟨y e, hy e⟩ ?_
    rw [hs, word384, hw]
    have hd : Ideal.div ((∑ d, y d * y d : ℝ) : EReal) ((384 : ℝ) : EReal) = (((∑ d, y d * y d) * (384 : ℝ)⁻¹ : ℝ) : EReal) := by
      unfold Ideal.div
      rw [if_neg (by exact_mod_cast (by norm_num : (384 : ℝ) ≠ 0)), EReal.coe_mul, EReal.coe_inv]
    rw [hd, ← EReal.coe_add]
    have hp : 0 < (∑ d, y d * y d) * (384 : ℝ)⁻¹ + r := by positivity
    generalize (∑ d, y d * y d) * (384 : ℝ)⁻¹ + r = s at hp
    refine ⟨(√s)⁻¹, ?_⟩
    show (if s < 0 then ⊥ else if s = 0 then ⊤ else (((√s)⁻¹ : ℝ) : EReal)) = _
    rw [if_neg hp.le.not_gt, if_neg hp.ne']
  · obtain ⟨k, hk⟩ := not_forall.1 hx
    have hs : (∑ d, x d * x d) = ⊤ := top_le_iff.1 ((sq_top _ hk).symm.le.trans (Finset.single_le_sum (f := fun d => x d * x d) (fun d _ => sq_nonneg' (x d)) (Finset.mem_univ k)))
    have hd : Ideal.div ⊤ ((384 : ℝ) : EReal) = ⊤ := by
      unfold Ideal.div
      rw [if_neg (by exact_mod_cast (by norm_num : (384 : ℝ) ≠ 0)), ← EReal.coe_inv]
      exact EReal.top_mul_coe_of_pos (by norm_num)
    rw [hs, word384, hw, hd, EReal.top_add_coe]
    have hz : Ideal.rsqrt ⊤ = 0 := rfl
    rw [hz, mul_zero]
    exact ⟨0, rfl⟩

/-- The head's query from the two spread weights. -/
theorem query_eq (I : Ins) (b : Fin 8) (t : Fin 4352) (h : Fin 8) (l : Fin 128) (hg : ∀ i, Fin' (I.qg i))
    (hw : ∀ (e : Fin 384) (d : Fin 32), Fin' (I.wq (ix2 e (qc h ⟨64 + d.val, by omega⟩)))) :
    (∑ e : Fin 384, cq I b t e * (if hl : l.val < 96 then I.wq (ix2 e (qc h ⟨l.val, hl⟩)) else 0)) * table I.cos 1 t l
      + (∑ e : Fin 384, cq I b t e * lanes (turned fun d => I.wq (ix2 e (qc h ⟨64 + d.val, by omega⟩))) l) * table I.sin 0 t l = qh I b t h l := by
  have hc : ∀ e, Fin' (cq I b t e) := fun e => rms_fin _ _ (fun d => hg _) e
  rw [lanes_sum, turned_sum _ _ hc hw]
  have hr := turn_lanes I t (fun d => qp I b t (qc h ⟨64 + d.val, by omega⟩)) l
  unfold qh
  by_cases h1 : l.val < 64
  · have hl : ¬ (64 ≤ l.val ∧ l.val < 96) := by omega
    have ht : ¬ (256 ≤ t.val ∧ 64 ≤ l.val ∧ l.val < 96) := by omega
    simp only [dif_pos h1, dif_pos (show l.val < 96 by omega)]
    unfold lanes table
    rw [dif_neg hl, dif_neg ht, zero_mul, mul_one, add_zero]
    rfl
  · by_cases h2 : l.val < 96
    · have hl : 64 ≤ l.val ∧ l.val < 96 := by omega
      simp only [dif_neg h1, dif_pos h2]
      have e1 : lanes (fun d => qp I b t (qc h ⟨64 + d.val, by omega⟩)) l = ∑ e : Fin 384, cq I b t e * I.wq (ix2 e (qc h ⟨l.val, h2⟩)) := by
        unfold lanes
        rw [dif_pos hl]
        exact congrArg (fun k => qp I b t (qc h k)) (Fin.ext (by show 64 + (l.val - 64) = l.val; omega))
      have e2 : lanes (rope I t fun d => qp I b t (qc h ⟨64 + d.val, by omega⟩)) l = rope I t (fun d => qp I b t (qc h ⟨64 + d.val, by omega⟩)) ⟨l.val - 64, by omega⟩ := by
        unfold lanes
        rw [dif_pos hl]
      rw [← e1, ← e2]
      exact hr
    · have hl : ¬ (64 ≤ l.val ∧ l.val < 96) := by omega
      simp only [dif_neg h1, dif_neg h2, mul_zero, Finset.sum_const_zero, zero_mul]
      unfold lanes
      rw [dif_neg hl, zero_mul, add_zero]

/-- The head's key from the spread weight and the rotary key. -/
theorem key_eq (I : Ins) (b : Fin 8) (t : Fin 4352) (h : Fin 8) (l : Fin 128) (hp : ∀ b t j, I.kr (ix3 b t j) = pair (kr I b t) j) :
    (∑ e : Fin 256, ckv I b t e * (if l.val < 64 then I.wkv (ix2 e (kc h l)) else 0))
      + (I.kr (ix3 b t ⟨l.val, by omega⟩) * table I.cos 1 t l + I.kr (ix3 b t ⟨128 + l.val, by omega⟩) * table I.sin 0 t l) = kh I b t h l := by
  have e1 : pair (kr I b t) ⟨l.val, by omega⟩ = lanes (kr I b t) l := by
    unfold pair
    rw [dif_pos (show l.val < 128 from l.isLt)]
  have e2 : pair (kr I b t) ⟨128 + l.val, by omega⟩ = lanes (turned (kr I b t)) l := by
    unfold pair
    rw [dif_neg (show ¬ 128 + l.val < 128 by omega)]
    exact congrArg _ (Fin.ext (by show 128 + l.val - 128 = l.val; omega))
  rw [hp, hp, e1, e2, turn_lanes]
  unfold kh lanes
  by_cases h1 : l.val < 64
  · simp only [if_pos h1, dif_pos h1]
    rw [dif_neg (by omega), add_zero]
    rfl
  · simp only [if_neg h1, dif_neg h1, mul_zero, Finset.sum_const_zero, zero_add]
    by_cases h2 : l.val < 96
    · rw [dif_pos ⟨by omega, h2⟩, dif_pos h2]
    · rw [dif_neg (by omega), dif_neg h2]

/-- The head's value from the spread weight. -/
theorem value_eq (I : Ins) (b : Fin 8) (t : Fin 4352) (h : Fin 8) (l : Fin 128) :
    (∑ e : Fin 256, ckv I b t e * (if hl : l.val < 64 then I.wkv (ix2 e (kc h ⟨64 + l.val, by omega⟩)) else 0)) = vh I b t h l := by
  unfold vh
  by_cases h1 : l.val < 64
  · simp only [dif_pos h1]
    rfl
  · simp only [dif_neg h1, mul_zero, Finset.sum_const_zero]

end Cert.Heads

end
-- ==== Proof.MlaHost.lean ====
module

public import Idealize.ShloMosaic.Lib.Pipeline.ValueKit
public import Idealize.ShloMosaic.Lib.Pointwise
public import proofs.«01_k».proof.Proof.Gen.MlaPrepIdeal.Frame
public import proofs.«01_k».proof.Proof.RowSet
public import proofs.«01_k».proof.Proof.BoxSet
public import proofs.«01_k».proof.Proof.Heads

/-! What is prepared before the launch of the queries', keys' and values' preparation: the tables of cosines and sines, the
weights laid out head by head, the norms' gains as rows of a padded matrix. -/

@[expose] public section

set_option maxRecDepth 16384

noncomputable section

namespace Cert.MlaHost

open Idealize.ShloMosaic Idealize.ShloMosaic.TcCoe Idealize.SL.Sem
open Cert.MlaPrepIdeal Cert.MlaPrepIdeal.Gen Cert.Heads Cert.RowSet Cert.BoxSet Cert.Projection

/-- A word alone. -/
def word (n : BitVec 32) : IVec S1 32 := broadcastInDim S1 ![] bcast_S_S1 (constantI S_ 32 n)

/-- Two words. -/
def words (n k : BitVec 32) : IVec S2 32 := concatenate S2 0 [⟨S1, word n⟩, ⟨S1, word k⟩] concatenates_S1_S1_S2_d0

/-- The angles' numbers, each twice. -/
def twice (a : FVec Ideal S4096x16 .f32) : FVec Ideal S4096x32 .f32 :=
  shapeCast S4096x32 (broadcastInDim S4096x16x2 ![0, 1] bcast_S4096x16_S4096x16x2_0_1 a) shapeCasts_S4096x16x2_S4096x32

/-- Writing the latent tokens' rotary lanes. -/
def put (x : FVec Ideal S4352x128 .f32) (i : IVec S2 32) (u : FVec Ideal S4096x32 .f32) : FVec Ideal S4352x128 .f32 :=
  Host.scatter scatter_S4352x128_S2_S4096x32_01_n_01_0 (fun _ b => b) x i u

/-- A table of the angles over a constant. -/
def tab (z : BitVec 32) (a : FVec Ideal S4096x16 .f32) : FVec Ideal S4352x128 .f32 :=
  put (broadcastInDim S4352x128 ![] bcast_S_S4352x128 (constant S_ .f32 z)) (words 256#32 64#32) (twice a)

/-- The queries' weight head by head. -/
def byHead (w : FVec Ideal S384x768 .f32) : FVec Ideal S384x8x96 .f32 := shapeCast S384x8x96 w shapeCasts_S384x768_S384x8x96

/-- Its rotary columns. -/
def rot (w : FVec Ideal S384x8x96 .f32) : FVec Ideal S384x8x32 .f32 := extractStridedSlice S384x8x32 ![0, 0, 64] w slices_S384x8x96_S384x8x32_0_0_64

/-- Thirty-two columns of zeros. -/
def z32 : FVec Ideal S384x8x32 .f32 := broadcastInDim S384x8x32 ![] bcast_S_S384x8x32 (constant S_ .f32 0x00000000#32)

/-- Sixty-four columns of zeros. -/
def z64 : FVec Ideal S384x8x64 .f32 := broadcastInDim S384x8x64 ![] bcast_S_S384x8x64 (constant S_ .f32 0x00000000#32)

/-- The quarter turn of the rotary columns. -/
def turn (k : FVec Ideal S384x8x32 .f32) : FVec Ideal S384x8x32 .f32 :=
  have p : FVec Ideal S384x8x16x2 .f32 := shapeCast S384x8x16x2 k shapeCasts_S384x8x32_S384x8x16x2
  shapeCast S384x8x32 (concatenate S384x8x16x2 3 [⟨S384x8x16x1, broadcastInDim S384x8x16x1 ![0, 1, 2] bcast_S384x8x16_S384x8x16x1_0_1_2 (Host.negf (shapeCast S384x8x16 (extractStridedSlice S384x8x16x1 ![0, 0, 0, 1] p slices_S384x8x16x2_S384x8x16x1_0_0_0_1) shapeCasts_S384x8x16x1_S384x8x16))⟩,
    ⟨S384x8x16x1, broadcastInDim S384x8x16x1 ![0, 1, 2] bcast_S384x8x16_S384x8x16x1_0_1_2 (shapeCast S384x8x16 (extractStridedSlice S384x8x16x1 ![0, 0, 0, 0] p slices_S384x8x16x2_S384x8x16x1_0_0_0_0) shapeCasts_S384x8x16x1_S384x8x16)⟩] concatenates_S384x8x16x1_S384x8x16x1_S384x8x16x2_d3) shapeCasts_S384x8x16x2_S384x8x32

/-- Three groups of columns in a head's 128. -/
def cols (a : FVec Ideal S384x8x64 .f32) (b c : FVec Ideal S384x8x32 .f32) : FVec Ideal S384x1024 .bf16 :=
  truncf .bf16 (shapeCast S384x1024 (concatenate S384x8x128 2 [⟨S384x8x64, a⟩, ⟨S384x8x32, b⟩, ⟨S384x8x32, c⟩] concatenates_S384x8x64_S384x8x32_S384x8x32_S384x8x128_d2) shapeCasts_S384x8x128_S384x1024) bitsLt_bf16_f32

/-- The first query weight. -/
def wq1 (w : FVec Ideal S384x768 .f32) : FVec Ideal S384x1024 .bf16 :=
  cols (extractStridedSlice S384x8x64 ![0, 0, 0] (byHead w) slices_S384x8x96_S384x8x64_0_0_0) (rot (byHead w)) z32

/-- The second query weight. -/
def wq2 (w : FVec Ideal S384x768 .f32) : FVec Ideal S384x1024 .bf16 := cols z64 (turn (rot (byHead w))) z32

/-- Sixty-four columns beside zeros, head by head. -/
def half (a : FVec Ideal S256x8x64 .f32) : FVec Ideal S256x1024 .bf16 :=
  truncf .bf16 (shapeCast S256x1024 (concatenate S256x8x128 2 [⟨S256x8x64, a⟩, ⟨S256x8x64, broadcastInDim S256x8x64 ![] bcast_S_S256x8x64 (constant S_ .f32 0x00000000#32)⟩] concatenates_S256x8x64_S256x8x64_S256x8x128_d2) shapeCasts_S256x8x128_S256x1024) bitsLt_bf16_f32

/-- The keys' weight. -/
def wk (w : FVec Ideal S256x1024 .f32) : FVec Ideal S256x1024 .bf16 :=
  half (extractStridedSlice S256x8x64 ![0, 0, 0] (shapeCast S256x8x128 w shapeCasts_S256x1024_S256x8x128) slices_S256x8x128_S256x8x64_0_0_0)

/-- The values' weight. -/
def wv (w : FVec Ideal S256x1024 .f32) : FVec Ideal S256x1024 .bf16 :=
  half (extractStridedSlice S256x8x64 ![0, 0, 64] (shapeCast S256x8x128 w shapeCasts_S256x1024_S256x8x128) slices_S256x8x128_S256x8x64_0_0_64)

/-- Writing the whole first row. -/
def w0 (x : FVec Ideal S8x384 .f32) (u : FVec Ideal S384 .f32) : FVec Ideal S8x384 .f32 :=
  Host.scatter scatter_S8x384_S1_S384_0_0_0_0 (fun _ b => b) x (word 0#32) u

/-- Writing the second row's first 256 entries. -/
def w1 (x : FVec Ideal S8x384 .f32) (u : FVec Ideal S256 .f32) : FVec Ideal S8x384 .f32 :=
  Host.scatter scatter_S8x384_S2_S256_0_0_01_0 (fun _ b => b) x (words 1#32 0#32) u

/-- The norms' gains. -/
def gains (g : FVec Ideal S384 .f32) (k : FVec Ideal S256 .f32) : FVec Ideal S8x384 .f32 :=
  w1 (w0 (broadcastInDim S8x384 ![] bcast_S_S8x384 (constant S_ .f32 0x00000000#32)) g) k

/-- The two words. -/
theorem words_at (n k : BitVec 32) : words n k (ix1 0) = n ∧ words n k (ix1 1) = k := by
  refine ⟨?_, ?_⟩
  all_goals
    unfold words
    pointwise [word]

/-- A doubled number. -/
theorem twice_at (a : FVec Ideal S4096x16 .f32) (t : Fin 4096) (d : Fin 32) : twice a (ix2 t d) = a (ix2 t ⟨d.val / 2, by omega⟩) := by
  pointwise [twice]

/-- A written table at an entry. -/
theorem put_at (x : FVec Ideal S4352x128 .f32) (u : FVec Ideal S4096x32 .f32) (t : Fin 4352) (l : Fin 128) :
    put x (words 256#32 64#32) u (ix2 t l) =
      if h : (256 ≤ t.val ∧ t.val < 256 + 4096) ∧ (64 ≤ l.val ∧ l.val < 64 + 32) then u (ix2 ⟨t.val - 256, by omega⟩ ⟨l.val - 64, by omega⟩) else x (ix2 t l) := by
  unfold put
  exact box_set (R := 4352) (C := 128) (S := 4096) (D := 32) scatter_S4352x128_S2_S4096x32_01_n_01_0 rfl rfl rfl rfl x (words 256#32 64#32) u 256 64
    ((congrArg BitVec.toInt (words_at 256#32 64#32).1).trans (by decide)) ((congrArg BitVec.toInt (words_at 256#32 64#32).2).trans (by decide)) t l

/-- A table at an entry. -/
theorem tab_at (z : BitVec 32) (a : FVec Ideal S4096x16 .f32) (t : Fin 4352) (l : Fin 128) : tab z a (ix2 t l) = table a (Ideal.ofBits .f32 z) t l := by
  unfold tab table
  rw [put_at]
  by_cases h : 256 ≤ t.val ∧ 64 ≤ l.val ∧ l.val < 96
  · rw [dif_pos h, dif_pos (by omega), twice_at]
  · rw [dif_neg h, dif_neg (by omega)]
    pointwise

/-- One's word. -/
theorem word_one : Ideal.ofBits .f32 0x3F800000#32 = 1 := by
  simp [Ideal.ofBits, Ideal.ieee]
  rw [← EReal.coe_mul]
  norm_num

/-- Zero's word. -/
theorem word_zero : Ideal.ofBits .f32 0x00000000#32 = 0 := by
  simp [Ideal.ofBits, Ideal.ieee]

/-- The rotary columns at an entry. -/
theorem rot_at (w : FVec Ideal S384x768 .f32) (e : Fin 384) (h : Fin 8) (d : Fin 32) : rot (byHead w) (ix3 e h d) = w (ix2 e (qc h ⟨64 + d.val, by omega⟩)) := by
  unfold qc
  pointwise [rot, byHead]

/-- The quarter turn at an entry. -/
theorem turn_at (k : FVec Ideal S384x8x32 .f32) (e : Fin 384) (h : Fin 8) (d : Fin 32) : turn k (ix3 e h d) = turned (fun j => k (ix3 e h j)) d := by
  unfold turned
  by_cases hd : d.val % 2 = 0
  · rw [dif_pos hd]
    pointwise [turn, hd]
    exact congrArg (fun j => -k (ix3 e h j)) (Fin.ext (by dsimp only; omega))
  · rw [dif_neg hd]
    pointwise [turn, hd]
    rw [dif_neg (by omega)]
    exact congrArg (fun j => k (ix3 e h j)) (Fin.ext (by dsimp only; omega))

/-- Three groups of columns at an entry. -/
theorem cols_at (a : FVec Ideal S384x8x64 .f32) (b c : FVec Ideal S384x8x32 .f32) (e : Fin 384) (j : Fin 1024) :
    (cols a b c (ix2 e j) : EReal) = if h : (ln j).val < 64 then a (ix3 e (hd j) ⟨(ln j).val, h⟩) else
      if h' : (ln j).val < 96 then b (ix3 e (hd j) ⟨(ln j).val - 64, by omega⟩) else c (ix3 e (hd j) ⟨(ln j).val - 96, by have := (ln j).isLt; omega⟩) := by
  unfold ln hd
  pointwise [cols]
  repeat' split
  all_goals first
    | rfl
    | (exfalso; omega)
    | (refine congrArg (fun i => c (ix3 e ⟨j.val / 128, by omega⟩ i)) (Fin.ext ?_); dsimp only; omega)

/-- The columns without the rotation at an entry. -/
theorem nope_at (w : FVec Ideal S384x768 .f32) (e : Fin 384) (h : Fin 8) (l : Fin 64) :
    extractStridedSlice S384x8x64 ![0, 0, 0] (byHead w) slices_S384x8x96_S384x8x64_0_0_0 (ix3 e h l) = w (ix2 e (qc h ⟨l.val, by omega⟩)) := by
  unfold qc
  pointwise [byHead]

/-- Zero columns are zero. -/
theorem z32_at (i : S384x8x32.Idx) : z32 i = 0 := by
  pointwise [z32]

/-- Zero columns are zero. -/
theorem z64_at (i : S384x8x64.Idx) : z64 i = 0 := by
  pointwise [z64]

/-- The keys' columns at an entry. -/
theorem kpart_at (w : FVec Ideal S256x1024 .f32) (e : Fin 256) (h : Fin 8) (l : Fin 64) :
    extractStridedSlice S256x8x64 ![0, 0, 0] (shapeCast S256x8x128 w shapeCasts_S256x1024_S256x8x128) slices_S256x8x128_S256x8x64_0_0_0 (ix3 e h l) = w (ix2 e (kc h ⟨l.val, by omega⟩)) := by
  unfold kc
  pointwise

/-- The values' columns at an entry. -/
theorem vpart_at (w : FVec Ideal S256x1024 .f32) (e : Fin 256) (h : Fin 8) (l : Fin 64) :
    extractStridedSlice S256x8x64 ![0, 0, 64] (shapeCast S256x8x128 w shapeCasts_S256x1024_S256x8x128) slices_S256x8x128_S256x8x64_0_0_64 (ix3 e h l) = w (ix2 e (kc h ⟨64 + l.val, by omega⟩)) := by
  unfold kc
  pointwise

/-- The first query weight at an entry. -/
theorem wq1_at (w : FVec Ideal S384x768 .f32) (e : Fin 384) (j : Fin 1024) :
    (wq1 w (ix2 e j) : EReal) = if hl : (ln j).val < 96 then w (ix2 e (qc (hd j) ⟨(ln j).val, hl⟩)) else 0 := by
  unfold wq1
  rw [cols_at]
  by_cases h1 : (ln j).val < 64
  · rw [dif_pos h1, dif_pos (by omega)]
    exact nope_at w e (hd j) ⟨_, h1⟩
  · rw [dif_neg h1]
    by_cases h2 : (ln j).val < 96
    · rw [dif_pos h2, dif_pos h2, rot_at]
      exact congrArg (fun k => w (ix2 e (qc (hd j) k))) (Fin.ext (by dsimp only; omega))
    · rw [dif_neg h2, dif_neg h2]
      exact z32_at _

/-- The second query weight at an entry. -/
theorem wq2_at (w : FVec Ideal S384x768 .f32) (e : Fin 384) (j : Fin 1024) :
    (wq2 w (ix2 e j) : EReal) = lanes (turned fun d => w (ix2 e (qc (hd j) ⟨64 + d.val, by omega⟩))) (ln j) := by
  unfold wq2 lanes
  rw [cols_at]
  have hl := (ln j).isLt
  by_cases h1 : (ln j).val < 64
  · rw [dif_pos h1, dif_neg (by omega)]
    exact z64_at _
  · rw [dif_neg h1]
    by_cases h2 : (ln j).val < 96
    · rw [dif_pos h2, dif_pos ⟨by omega, h2⟩, turn_at]
      simp only [rot_at]
    · rw [dif_neg h2, dif_neg (by omega)]
      exact z32_at _

/-- Half a head's columns at an entry. -/
theorem half_at (a : FVec Ideal S256x8x64 .f32) (e : Fin 256) (j : Fin 1024) :
    (half a (ix2 e j) : EReal) = if h : (ln j).val < 64 then a (ix3 e (hd j) ⟨(ln j).val, h⟩) else 0 := by
  unfold ln hd
  pointwise [half]

/-- The keys' weight at an entry. -/
theorem wk_at (w : FVec Ideal S256x1024 .f32) (e : Fin 256) (j : Fin 1024) :
    (wk w (ix2 e j) : EReal) = if (ln j).val < 64 then w (ix2 e (kc (hd j) (ln j))) else 0 := by
  unfold wk
  rw [half_at]
  by_cases h1 : (ln j).val < 64
  · rw [dif_pos h1, if_pos h1]
    exact kpart_at w e (hd j) ⟨_, h1⟩
  · rw [dif_neg h1, if_neg h1]

/-- The values' weight at an entry. -/
theorem wv_at (w : FVec Ideal S256x1024 .f32) (e : Fin 256) (j : Fin 1024) :
    (wv w (ix2 e j) : EReal) = if hl : (ln j).val < 64 then w (ix2 e (kc (hd j) ⟨64 + (ln j).val, by omega⟩)) else 0 := by
  unfold wv
  rw [half_at]
  by_cases h1 : (ln j).val < 64
  · rw [dif_pos h1, dif_pos h1]
    exact vpart_at w e (hd j) ⟨_, h1⟩
  · rw [dif_neg h1, dif_neg h1]

/-- The first row's write at an entry. -/
theorem w0_at (x : FVec Ideal S8x384 .f32) (u : FVec Ideal S384 .f32) (r : Fin 8) (c : Fin 384) : w0 x u (ix2 r c) = if r = 0 then u (ix1 c) else x (ix2 r c) := by
  unfold w0
  exact row_set (C := 384) scatter_S8x384_S1_S384_0_0_0_0 rfl rfl x (word 0#32) u 0 rfl r c

/-- The second row's write at an entry. -/
theorem w1_at (x : FVec Ideal S8x384 .f32) (u : FVec Ideal S256 .f32) (r : Fin 8) (c : Fin 384) :
    w1 x u (ix2 r c) = if h : r.val = 1 ∧ (0 ≤ c.val ∧ c.val < 0 + 256) then u (ix1 ⟨c.val - 0, by omega⟩) else x (ix2 r c) := by
  unfold w1
  exact part_set (R := 8) (C := 384) (D := 256) scatter_S8x384_S2_S256_0_0_01_0 rfl rfl rfl x (words 1#32 0#32) u 1 0
    ((congrArg BitVec.toInt (words_at 1#32 0#32).1).trans (by decide)) ((congrArg BitVec.toInt (words_at 1#32 0#32).2).trans (by decide)) r c

/-- The first gain. -/
theorem gains_q (g : FVec Ideal S384 .f32) (k : FVec Ideal S256 .f32) (c : Fin 384) : gains g k (ix2 0 c) = g (ix1 c) := by
  unfold gains
  rw [w1_at, dif_neg (fun h => absurd h.1 (by decide)), w0_at, if_pos rfl]

/-- The second gain. -/
theorem gains_k (g : FVec Ideal S384 .f32) (k : FVec Ideal S256 .f32) (c : Fin 256) : gains g k (ix2 1 ⟨c.val, by omega⟩) = k (ix1 c) := by
  unfold gains
  rw [w1_at, dif_pos ⟨rfl, Nat.zero_le _, by show c.val < 0 + 256; omega⟩]
  rfl

variable (m : (ℓ : Loc nD τ sig) → Buf (Elt Ideal) ℓ)

/-- The cosines' table before the launch. -/
theorem entry_cos (c : Dev nD) : (V m c main_v6 : FVec Ideal S4352x128 .f32) = tab 0x3F800000#32 (m ((c : Thread nD τ).loc main_arg7)) := by
  unfold V
  after_results
  rfl

/-- The sines' table before the launch. -/
theorem entry_sin (c : Dev nD) : (V m c main_v13 : FVec Ideal S4352x128 .f32) = tab 0x00000000#32 (m ((c : Thread nD τ).loc main_arg8)) := by
  unfold V
  after_results
  rfl

/-- The first query weight before the launch. -/
theorem entry_wq1 (c : Dev nD) : (V m c main_v20 : FVec Ideal S384x1024 .bf16) = wq1 (m ((c : Thread nD τ).loc main_arg4)) := by
  unfold V
  after_results
  rfl

/-- The second query weight before the launch. -/
theorem entry_wq2 (c : Dev nD) : (V m c main_v35 : FVec Ideal S384x1024 .bf16) = wq2 (m ((c : Thread nD τ).loc main_arg4)) := by
  unfold V
  after_results
  rfl

/-- The keys' weight before the launch. -/
theorem entry_wk (c : Dev nD) : (V m c main_v41 : FVec Ideal S256x1024 .bf16) = wk (m ((c : Thread nD τ).loc main_arg6)) := by
  unfold V
  after_results
  rfl

/-- The values' weight before the launch. -/
theorem entry_wv (c : Dev nD) : (V m c main_v45 : FVec Ideal S256x1024 .bf16) = wv (m ((c : Thread nD τ).loc main_arg6)) := by
  unfold V
  after_results
  rfl

/-- The gains before the launch. -/
theorem entry_gains (c : Dev nD) : (V m c main_v52 : FVec Ideal S8x384 .f32) = gains (m ((c : Thread nD τ).loc main_arg3)) (m ((c : Thread nD τ).loc main_arg5)) := by
  unfold V
  after_results
  rfl

end Cert.MlaHost

end
-- ==== Proof.MlaPay.lean ====
module

public import Idealize.ShloMosaic.Lib.Pipeline.ValueKit
public import Idealize.ShloMosaic.Lib.Pointwise
public import proofs.«01_k».proof.Proof.Gen.MlaPrepIdeal.Frame
public import proofs.«01_k».proof.Proof.Heads

/-! What a grid point of the queries', keys' and values' preparation computes, step by step, each over any blocks. -/

@[expose] public section

set_option maxRecDepth 16384

noncomputable section

namespace Cert.MlaPay

open Idealize.ShloMosaic Cert.MlaPrepIdeal Cert.MlaPrepIdeal.Gen Cert.Heads

/-- A block of 128 lanes, once for each head. -/
def EIGHT (v : FVec Ideal S256x128 .f32) : FVec Ideal S256x1024 .f32 :=
  concatenate S256x1024 1 [⟨S256x128, v⟩, ⟨S256x128, v⟩, ⟨S256x128, v⟩, ⟨S256x128, v⟩, ⟨S256x128, v⟩, ⟨S256x128, v⟩, ⟨S256x128, v⟩, ⟨S256x128, v⟩] concatenates_S256x128_S256x128_S256x128_S256x128_S256x128_S256x128_S256x128_S256x128_S256x1024_d1

/-- The queries' latent normalised. -/
def NQ (x : FVec Ideal S1x256x384 .f32) (g : FVec Ideal S1x384 .f32) : FVec Ideal S256x384 .bf16 :=
  have v7 : FVec Ideal S256x384 .f32 := shapeCast S256x384 x shapeCasts_S1x256x384_S256x384
  truncf .bf16 (mulf (mulf v7 (broadcastTo S256x384 (rsqrt (addf (divf (shapeCast S256x1 (multiReduction .add [1] S256 (mulf v7 v7) 0x00000000#32 reduces_S256x384_S256 (.inl rfl) rfl) shapeCasts_S256_S256x1) (broadcast S256x1 (Scalar.ofBits .f32 0x43C00000#32))) (broadcast S256x1 (Scalar.ofBits .f32 0x358637BD#32)))) broadcasts_S256x1_S256x384)) (broadcastTo S256x384 (shapeCast S1x384 g shapeCasts_S1x384_S1x384) broadcasts_S1x384_S256x384)) bitsLt_bf16_f32

/-- The queries from their latent, two weights and two tables. -/
def QB (n : FVec Ideal S256x384 .bf16) (c s : FVec Ideal S256x1024 .f32) (w1 w2 : FVec Ideal S384x1024 .bf16) : FVec Ideal S256x1024 .bf16 :=
  truncf .bf16 (mulf (addf (mulf (matmul dot_S256x384_S384x1024_S256x1024_1_0_0_1_n_n none n (shapeCast S384x1024 w1 shapeCasts_S384x1024_S384x1024) (constant S256x1024 .f32 0x00000000#32)) c)
    (mulf (matmul dot_S256x384_S384x1024_S256x1024_1_0_0_1_n_n none n (shapeCast S384x1024 w2 shapeCasts_S384x1024_S384x1024) (constant S256x1024 .f32 0x00000000#32)) s))
    (broadcast S256x1024 (Scalar.ofBits .f32 0x3DD105EC#32))) bitsLt_bf16_f32

/-- The rotary key turned. -/
def RK (c s : FVec Ideal S256x128 .f32) (x y : FVec Ideal S1x256x128 .f32) : FVec Ideal S256x128 .f32 :=
  addf (mulf (shapeCast S256x128 x shapeCasts_S1x256x128_S256x128) c) (mulf (shapeCast S256x128 y shapeCasts_S1x256x128_S256x128) s)

/-- The keys from their latent, their weight and the rotary key. -/
def KB (n : FVec Ideal S256x256 .bf16) (w : FVec Ideal S256x1024 .bf16) (k : FVec Ideal S256x1024 .f32) : FVec Ideal S1x256x1024 .bf16 :=
  shapeCast S1x256x1024 (truncf .bf16 (addf (matmul dot_S256x256_S256x1024_S256x1024_1_0_0_1_n_n none n (shapeCast S256x1024 w shapeCasts_S256x1024_S256x1024) (constant S256x1024 .f32 0x00000000#32)) k) bitsLt_bf16_f32) shapeCasts_S256x1024_S1x256x1024

/-- The repeated block at an entry. -/
theorem eight_at (v : FVec Ideal S256x128 .f32) (r : Fin 256) (j : Fin 1024) : EIGHT v (ix2 r j) = v (ix2 r (ln j)) := by
  unfold ln
  pointwise [EIGHT]
  repeat' split
  all_goals (refine congrArg (fun i => v (ix2 r i)) (Fin.ext ?_); dsimp only; omega)

/-- The normalised queries' latent at an entry. -/
theorem nq_at (x : FVec Ideal S1x256x384 .f32) (g : FVec Ideal S1x384 .f32) (r : Fin 256) (e : Fin 384) :
    (NQ x g (ix2 r e) : EReal) = rms 0x43C00000#32 (fun d => x (ix3 0 r d)) (fun d => g (ix2 0 d)) e := by
  unfold rms
  pointwise [NQ]

/-- The queries at an entry. -/
theorem qb_at (n : FVec Ideal S256x384 .bf16) (c s : FVec Ideal S256x1024 .f32) (w1 w2 : FVec Ideal S384x1024 .bf16) (r : Fin 256) (j : Fin 1024) :
    (QB n c s w1 w2 (ix2 r j) : EReal) = ((∑ e : Fin 384, n (ix2 r e) * w1 (ix2 e j)) * c (ix2 r j) + (∑ e : Fin 384, n (ix2 r e) * w2 (ix2 e j)) * s (ix2 r j)) * Ideal.ofBits .f32 0x3DD105EC#32 := by
  pointwise [QB]

/-- The normalised keys' and values' latent at an entry. -/
theorem nk_at (x : FVec Ideal S1x256x256 .f32) (g : FVec Ideal S1x256 .f32) (r e : Fin 256) :
    (k0_pay6 (F := Ideal) x g (ix2 r e) : EReal) = rms 0x43800000#32 (fun d => x (ix3 0 r d)) (fun d => g (ix2 0 d)) e := by
  unfold rms
  pointwise [k0_pay6]

/-- The turned rotary key at an entry. -/
theorem rk_at (c s : FVec Ideal S256x128 .f32) (x y : FVec Ideal S1x256x128 .f32) (r : Fin 256) (l : Fin 128) :
    RK c s x y (ix2 r l) = x (ix3 0 r l) * c (ix2 r l) + y (ix3 0 r l) * s (ix2 r l) := by
  pointwise [RK]

/-- The keys at an entry. -/
theorem kb_at (n : FVec Ideal S256x256 .bf16) (w : FVec Ideal S256x1024 .bf16) (k : FVec Ideal S256x1024 .f32) (r : Fin 256) (j : Fin 1024) :
    (KB n w k (ix3 0 r j) : EReal) = (∑ e : Fin 256, n (ix2 r e) * w (ix2 e j)) + k (ix2 r j) := by
  pointwise [KB]

/-- The values at an entry. -/
theorem vb_at (n : FVec Ideal S256x256 .bf16) (w : FVec Ideal S256x1024 .bf16) (r : Fin 256) (j : Fin 1024) :
    (k0_pay1 (F := Ideal) n w (ix3 0 r j) : EReal) = ∑ e : Fin 256, n (ix2 r e) * w (ix2 e j) := by
  pointwise [k0_pay1]

/-- A table as it is read. -/
theorem tab_eq (v : FVec Ideal S256x128 .f32) : k0_pay2 (F := Ideal) v = v ∧ k0_pay3 (F := Ideal) v = v := by
  refine ⟨?_, ?_⟩
  all_goals
    funext i
    obtain ⟨r, l, rfl⟩ : ∃ (r : Fin 256) (l : Fin 128), i = (ix2 r l : S256x128.Idx) := ⟨i 0, i 1, by idx_ext⟩
  · pointwise [k0_pay2]
  · pointwise [k0_pay3]

/-- The stored queries. -/
theorem q_eq (c s : FVec Ideal S256x128 .f32) (x : FVec Ideal S1x256x384 .f32) (g : FVec Ideal S1x384 .f32) (w1 w2 : FVec Ideal S384x1024 .bf16) :
    k0_pay4 (F := Ideal) c s x g w1 w2 = QB (NQ x g) (EIGHT (k0_pay2 (F := Ideal) c)) (EIGHT (k0_pay3 (F := Ideal) s)) w1 w2 := rfl

/-- The stored keys. -/
theorem k_eq (c s : FVec Ideal S256x128 .f32) (x : FVec Ideal S1x256x256 .f32) (g : FVec Ideal S1x256 .f32) (a b : FVec Ideal S1x256x128 .f32) (w : FVec Ideal S256x1024 .bf16) :
    k0_pay7 (F := Ideal) c s x g a b w = KB (k0_pay6 (F := Ideal) x g) w (EIGHT (RK c s a b)) := rfl

/-- The stored queries at an entry. -/
theorem q_at (c s : FVec Ideal S256x128 .f32) (x : FVec Ideal S1x256x384 .f32) (g : FVec Ideal S1x384 .f32) (w1 w2 : FVec Ideal S384x1024 .bf16) (r : Fin 256) (j : Fin 1024) :
    (k0_pay5 (F := Ideal) (k0_pay4 (F := Ideal) c s x g w1 w2) (ix3 0 r j) : EReal) =
      ((∑ e : Fin 384, rms 0x43C00000#32 (fun d => x (ix3 0 r d)) (fun d => g (ix2 0 d)) e * w1 (ix2 e j)) * c (ix2 r (ln j))
        + (∑ e : Fin 384, rms 0x43C00000#32 (fun d => x (ix3 0 r d)) (fun d => g (ix2 0 d)) e * w2 (ix2 e j)) * s (ix2 r (ln j))) * Ideal.ofBits .f32 0x3DD105EC#32 := by
  rw [q_eq, (tab_eq c).1, (tab_eq s).2]
  have h := qb_at (NQ x g) (EIGHT c) (EIGHT s) w1 w2 r j
  simp only [nq_at, eight_at] at h
  rw [← h]
  generalize QB (NQ x g) (EIGHT c) (EIGHT s) w1 w2 = a
  pointwise [k0_pay5]

/-- The stored keys at an entry. -/
theorem k_at (c s : FVec Ideal S256x128 .f32) (x : FVec Ideal S1x256x256 .f32) (g : FVec Ideal S1x256 .f32) (a b : FVec Ideal S1x256x128 .f32) (w : FVec Ideal S256x1024 .bf16) (r : Fin 256) (j : Fin 1024) :
    (k0_pay7 (F := Ideal) (k0_pay2 (F := Ideal) c) (k0_pay3 (F := Ideal) s) x g a b w (ix3 0 r j) : EReal) =
      (∑ e : Fin 256, rms 0x43800000#32 (fun d => x (ix3 0 r d)) (fun d => g (ix2 0 d)) e * w (ix2 e j))
        + (a (ix3 0 r (ln j)) * c (ix2 r (ln j)) + b (ix3 0 r (ln j)) * s (ix2 r (ln j))) := by
  rw [(tab_eq c).1, (tab_eq s).2, k_eq, kb_at]
  simp only [nk_at, eight_at, rk_at]

/-- The stored values at an entry. -/
theorem v_at (x : FVec Ideal S1x256x256 .f32) (g : FVec Ideal S1x256 .f32) (w : FVec Ideal S256x1024 .bf16) (r : Fin 256) (j : Fin 1024) :
    (k0_pay1 (F := Ideal) (k0_pay6 (F := Ideal) x g) w (ix3 0 r j) : EReal) =
      ∑ e : Fin 256, rms 0x43800000#32 (fun d => x (ix3 0 r d)) (fun d => g (ix2 0 d)) e * w (ix2 e j) := by
  rw [vb_at]
  simp only [nk_at]

end Cert.MlaPay

end
-- ==== Proof.MlaTab.lean ====
module

public import Idealize.ShloMosaic.Lib.Pipeline.ValueKit
public import Idealize.ShloMosaic.Lib.Pointwise
public import Idealize.ShloMosaic.Lib.Pipeline.Covers
public import proofs.«01_k».proof.Proof.Gen.MlaPrepIdeal.Frame
public import proofs.«01_k».proof.Proof.MlaHost

/-! The arguments of the preparation of queries, keys and values, its grid points' blocks, and the reads of its two tables. -/

@[expose] public section

set_option maxRecDepth 16384

noncomputable section

namespace Cert.MlaBlock

open Idealize.ShloMosaic Idealize.ShloMosaic.TcCoe Idealize.SL.Sem
open Cert.MlaPrepIdeal Cert.MlaPrepIdeal.Gen Cert.Heads Cert.MlaHost
open Cert.Softmax (Fin')
open Cert.Projection (pair)

variable (m : (ℓ : Loc nD τ sig) → Buf (Elt Ideal) ℓ)

/-- The arguments in a memory. -/
def ins (c : Dev nD) : Ins where
  q := m ((c : Thread nD τ).loc main_arg0)
  kv := m ((c : Thread nD τ).loc main_arg1)
  kr := m ((c : Thread nD τ).loc main_arg2)
  qg := m ((c : Thread nD τ).loc main_arg3)
  wq := m ((c : Thread nD τ).loc main_arg4)
  kg := m ((c : Thread nD τ).loc main_arg5)
  wkv := m ((c : Thread nD τ).loc main_arg6)
  cos := m ((c : Thread nD τ).loc main_arg7)
  sin := m ((c : Thread nD τ).loc main_arg8)

/-- Which blocks a grid point reads and writes. -/
theorem idx : ∀ t : Fin cfg0.N, win0_0.index t = ![t.val / 17, t.val % 17, 0]
    ∧ win0_1.index t = ![t.val / 17, t.val % 17, 0]
    ∧ win0_2.index t = ![t.val / 17, t.val % 17, 0]
    ∧ win0_3.index t = ![t.val % 17, 0]
    ∧ win0_4.index t = ![t.val % 17, 0]
    ∧ win0_5.index t = ![0, 0]
    ∧ win0_6.index t = ![0, 0]
    ∧ win0_7.index t = ![0, 0]
    ∧ win0_8.index t = ![0, 0]
    ∧ win0_9.index t = ![0, 0]
    ∧ win0_10.index t = ![t.val / 17, t.val % 17, 0]
    ∧ win0_11.index t = ![t.val / 17, t.val % 17, 0]
    ∧ win0_12.index t = ![t.val / 17, t.val % 17, 0] :=
  (by decide +kernel : ∀ t : Fin grid0.N, _)

/-- The points number 136. -/
theorem lt_points (t : Fin cfg0.N) : t.val < 136 := lt_of_lt_of_eq t.isLt N_0

/-- The sample of a grid point. -/
def smp (t : Fin cfg0.N) : Fin 8 := ⟨t.val / 17, by have := lt_points t; omega⟩

/-- A row of a grid point's tile. -/
def row (t : Fin cfg0.N) (r : Fin 256) : Fin 4352 := ⟨t.val % 17 * 256 + r.val, by omega⟩

/-- Where a grid point's rows of the cosines lie. -/
theorem lies_cos (t : Fin cfg0.N) (r : Fin 256) (l : Fin 128) :
    (((cfg0.win 3).blk t).view.emb (ix2 r l : S256x128.Idx) : S4352x128.Idx) = ix2 (row t r) l := by
  have ht := lt_points t
  unfold row
  blk_ext [idx t]

/-- Where a grid point's rows of the sines lie. -/
theorem lies_sin (t : Fin cfg0.N) (r : Fin 256) (l : Fin 128) :
    (((cfg0.win 4).blk t).view.emb (ix2 r l : S256x128.Idx) : S4352x128.Idx) = ix2 (row t r) l := by
  have ht := lt_points t
  unfold row
  blk_ext [idx t]

/-- A grid point's rows of any table at the cosines' place. -/
theorem block_cos (a : FVec Ideal S4352x128 .f32) (t : Fin cfg0.N) (r : Fin 256) (l : Fin 128) :
    (((cfg0.win 3).blk t).view.read (Elt Ideal) a : FVec Ideal S256x128 .f32) (ix2 r l) = a (ix2 (row t r) l) := by
  rw [← lies_cos t r l]
  rfl

/-- A grid point's rows of any table at the sines' place. -/
theorem block_sin (a : FVec Ideal S4352x128 .f32) (t : Fin cfg0.N) (r : Fin 256) (l : Fin 128) :
    (((cfg0.win 4).blk t).view.read (Elt Ideal) a : FVec Ideal S256x128 .f32) (ix2 r l) = a (ix2 (row t r) l) := by
  rw [← lies_sin t r l]
  rfl

/-- The cosines' block is read from the prepared table. -/
theorem from_cos (c : Dev nD) (t : Fin cfg0.N) : iblk m c 3 t = ((cfg0.win 3).blk t).view.read (Elt Ideal) (tab 0x3F800000#32 (ins m c).cos) :=
  congrArg (fun a => ((cfg0.win 3).blk t).view.read (Elt Ideal) a) (entry_cos m c)

/-- The sines' block is read from the prepared table. -/
theorem from_sin (c : Dev nD) (t : Fin cfg0.N) : iblk m c 4 t = ((cfg0.win 4).blk t).view.read (Elt Ideal) (tab 0x00000000#32 (ins m c).sin) :=
  congrArg (fun a => ((cfg0.win 4).blk t).view.read (Elt Ideal) a) (entry_sin m c)

/-- The cosines. -/
theorem read_cos (c : Dev nD) (t : Fin cfg0.N) (r : Fin 256) (l : Fin 128) :
    (iblk m c 3 t : FVec Ideal S256x128 .f32) (ix2 r l) = table (ins m c).cos 1 (row t r) l := by
  rw [from_cos, block_cos, tab_at, word_one]

/-- The sines. -/
theorem read_sin (c : Dev nD) (t : Fin cfg0.N) (r : Fin 256) (l : Fin 128) :
    (iblk m c 4 t : FVec Ideal S256x128 .f32) (ix2 r l) = table (ins m c).sin 0 (row t r) l := by
  rw [from_sin, block_sin, tab_at, word_zero]

end Cert.MlaBlock

end
-- ==== Proof.MlaBlock.lean ====
module

public import Idealize.ShloMosaic.Lib.Pipeline.ValueKit
public import Idealize.ShloMosaic.Lib.Pointwise
public import Idealize.ShloMosaic.Lib.Pipeline.Covers
public import proofs.«01_k».proof.Proof.Gen.MlaPrepIdeal.Frame
public import proofs.«01_k».proof.Proof.MlaHost
public import proofs.«01_k».proof.Proof.MlaPay
public import proofs.«01_k».proof.Proof.MlaTab

/-! What the preparation of queries, keys and values leaves: its blocks' reads, the three arrays the whole grid leaves, and its
run. -/

@[expose] public section

set_option maxRecDepth 16384

noncomputable section

namespace Cert.MlaBlock

open Idealize.ShloMosaic Idealize.ShloMosaic.TcCoe Idealize.SL.Sem
open Cert.MlaPrepIdeal Cert.MlaPrepIdeal.Gen Cert.Heads Cert.MlaHost Cert.MlaPay
open Cert.Softmax (Fin')
open Cert.Projection (pair)

variable (m : (ℓ : Loc nD τ sig) → Buf (Elt Ideal) ℓ)

/-- The queries' latent. -/
theorem read_q (c : Dev nD) (t : Fin cfg0.N) (r : Fin 256) (e : Fin 384) :
    (iblk m c 0 t : FVec Ideal S1x256x384 .f32) (ix3 0 r e) = (ins m c).q (ix3 (smp t) (row t r) e) := by
  have ht := lt_points t
  unfold smp row ins
  blk_point [iblk, V_main_arg0 m c, idx t]

/-- The keys' and values' latent. -/
theorem read_kv (c : Dev nD) (t : Fin cfg0.N) (r : Fin 256) (e : Fin 256) :
    (iblk m c 1 t : FVec Ideal S1x256x256 .f32) (ix3 0 r e) = (ins m c).kv (ix3 (smp t) (row t r) e) := by
  have ht := lt_points t
  unfold smp row ins
  blk_point [iblk, V_main_arg1 m c, idx t]

/-- The rotary key beside its quarter turn. -/
theorem read_kr (c : Dev nD) (t : Fin cfg0.N) (r : Fin 256) (e : Fin 256) :
    (iblk m c 2 t : FVec Ideal S1x256x256 .f32) (ix3 0 r e) = (ins m c).kr (ix3 (smp t) (row t r) e) := by
  have ht := lt_points t
  unfold smp row ins
  blk_point [iblk, V_main_arg2 m c, idx t]

/-- The first half of a block of the rotary key. -/
theorem ld_lo (a : FVec Ideal S1x256x256 .f32) (r : Fin 256) (l : Fin 128) :
    (View.ld (Val := Elt Ideal) (e' := .f32) a r0_7 : FVec Ideal S1x256x128 .f32) (ix3 0 r l) = a (ix3 0 r ⟨l.val, by omega⟩) := by
  pointwise

/-- The second half of a block of the rotary key. -/
theorem ld_hi (a : FVec Ideal S1x256x256 .f32) (r : Fin 256) (l : Fin 128) :
    (View.ld (Val := Elt Ideal) (e' := .f32) a r0_8 : FVec Ideal S1x256x128 .f32) (ix3 0 r l) = a (ix3 0 r ⟨128 + l.val, by omega⟩) := by
  pointwise

/-- The gains' rows. -/
theorem read_gains (c : Dev nD) (t : Fin cfg0.N) (r : Fin 8) (e : Fin 384) :
    (iblk m c 5 t : FVec Ideal S8x384 .f32) (ix2 r e) = gains (ins m c).qg (ins m c).kg (ix2 r e) := by
  have ht := lt_points t
  have he := entry_gains m c
  unfold ins
  dsimp only
  rw [← he]
  blk_point [iblk, idx t]

/-- The first row of the gains. -/
theorem ld_qg (a : FVec Ideal S8x384 .f32) (e : Fin 384) :
    (View.ld (Val := Elt Ideal) (e' := .f32) a r0_2 : FVec Ideal S1x384 .f32) (ix2 0 e) = a (ix2 0 e) := by
  pointwise

/-- The second row of the gains. -/
theorem ld_kg (a : FVec Ideal S8x384 .f32) (e : Fin 256) :
    (View.ld (Val := Elt Ideal) (e' := .f32) a r0_6 : FVec Ideal S1x256 .f32) (ix2 0 e) = a (ix2 1 ⟨e.val, by omega⟩) := by
  pointwise

/-- The first query weight. -/
theorem read_wq1 (c : Dev nD) (t : Fin cfg0.N) (e : Fin 384) (j : Fin 1024) :
    (iblk m c 6 t : FVec Ideal S384x1024 .bf16) (ix2 e j) = wq1 (ins m c).wq (ix2 e j) := by
  have ht := lt_points t
  have he := entry_wq1 m c
  unfold ins
  dsimp only
  rw [← he]
  blk_point [iblk, idx t]

/-- The second query weight. -/
theorem read_wq2 (c : Dev nD) (t : Fin cfg0.N) (e : Fin 384) (j : Fin 1024) :
    (iblk m c 7 t : FVec Ideal S384x1024 .bf16) (ix2 e j) = wq2 (ins m c).wq (ix2 e j) := by
  have ht := lt_points t
  have he := entry_wq2 m c
  unfold ins
  dsimp only
  rw [← he]
  blk_point [iblk, idx t]

/-- The keys' weight. -/
theorem read_wk (c : Dev nD) (t : Fin cfg0.N) (e : Fin 256) (j : Fin 1024) :
    (iblk m c 8 t : FVec Ideal S256x1024 .bf16) (ix2 e j) = wk (ins m c).wkv (ix2 e j) := by
  have ht := lt_points t
  have he := entry_wk m c
  unfold ins
  dsimp only
  rw [← he]
  blk_point [iblk, idx t]

/-- The values' weight. -/
theorem read_wv (c : Dev nD) (t : Fin cfg0.N) (e : Fin 256) (j : Fin 1024) :
    (iblk m c 9 t : FVec Ideal S256x1024 .bf16) (ix2 e j) = wv (ins m c).wkv (ix2 e j) := by
  have ht := lt_points t
  have he := entry_wv m c
  unfold ins
  dsimp only
  rw [← he]
  blk_point [iblk, idx t]

/-- Where a grid point's queries land. -/
theorem lands_q (t : Fin cfg0.N) (r : Fin 256) (e : Fin 1024) :
    (((cfg0.win 10).blk t).view.emb (ix3 0 r e : S1x256x1024.Idx) : S8x4352x1024.Idx) = ix3 (smp t) (row t r) e := by
  have ht := lt_points t
  unfold smp row
  blk_ext [idx t]

/-- The keys' blocks land likewise. -/
theorem lands_k (t : Fin cfg0.N) (r : Fin 256) (e : Fin 1024) :
    (((cfg0.win 11).blk t).view.emb (ix3 0 r e : S1x256x1024.Idx) : S8x4352x1024.Idx) = ix3 (smp t) (row t r) e := by
  have ht := lt_points t
  unfold smp row
  blk_ext [idx t]

/-- The values' blocks land likewise. -/
theorem lands_v (t : Fin cfg0.N) (r : Fin 256) (e : Fin 1024) :
    (((cfg0.win 12).blk t).view.emb (ix3 0 r e : S1x256x1024.Idx) : S8x4352x1024.Idx) = ix3 (smp t) (row t r) e := by
  have ht := lt_points t
  unfold smp row
  blk_ext [idx t]

/-- The blocks cover the three results. -/
theorem covers : (cfg0.win 10).Covers ∧ (cfg0.win 11).Covers ∧ (cfg0.win 12).Covers :=
  ⟨by decide +kernel, by decide +kernel, by decide +kernel⟩

/-- The gain of the queries' norm, as a grid point reads it. -/
theorem gain_q (c : Dev nD) (t : Fin cfg0.N) (e : Fin 384) :
    (View.ld (Val := Elt Ideal) (e' := .f32) (iblk m c 5 t : FVec Ideal S8x384 .f32) r0_2 : FVec Ideal S1x384 .f32) (ix2 0 e) = (ins m c).qg (ix1 e) :=
  (ld_qg _ e).trans ((read_gains m c t 0 e).trans (gains_q _ _ e))

/-- The gain of the keys' and values' norm, as a grid point reads it. -/
theorem gain_k (c : Dev nD) (t : Fin cfg0.N) (e : Fin 256) :
    (View.ld (Val := Elt Ideal) (e' := .f32) (iblk m c 5 t : FVec Ideal S8x384 .f32) r0_6 : FVec Ideal S1x256 .f32) (ix2 0 e) = (ins m c).kg (ix1 e) :=
  (ld_kg _ e).trans ((read_gains m c t 1 _).trans (gains_k _ _ e))

/-- The normalised queries' latent, as a grid point computes it. -/
theorem norm_q (c : Dev nD) (t : Fin cfg0.N) (r : Fin 256) (x : FVec Ideal S1x256x384 .f32) (g : FVec Ideal S1x384 .f32)
    (hx : ∀ r e, x (ix3 0 r e) = (ins m c).q (ix3 (smp t) (row t r) e)) (hg : ∀ e, g (ix2 0 e) = (ins m c).qg (ix1 e)) (e : Fin 384) :
    rms 0x43C00000#32 (fun d => x (ix3 0 r d)) (fun d => g (ix2 0 d)) e = cq (ins m c) (smp t) (row t r) e := by
  simp only [hx, hg]
  rfl

/-- The normalised keys' and values' latent, as a grid point computes it. -/
theorem norm_k (c : Dev nD) (t : Fin cfg0.N) (r : Fin 256) (x : FVec Ideal S1x256x256 .f32) (g : FVec Ideal S1x256 .f32)
    (hx : ∀ r e, x (ix3 0 r e) = (ins m c).kv (ix3 (smp t) (row t r) e)) (hg : ∀ e, g (ix2 0 e) = (ins m c).kg (ix1 e)) (e : Fin 256) :
    rms 0x43800000#32 (fun d => x (ix3 0 r d)) (fun d => g (ix2 0 d)) e = ckv (ins m c) (smp t) (row t r) e := by
  simp only [hx, hg]
  rfl

/-- The first array the kernel leaves: the queries, given a real gain and rotary columns. -/
theorem final_q (c : Dev nD) (hg : ∀ i, Fin' ((ins m c).qg i))
    (hw : ∀ (e : Fin 384) (h : Fin 8) (d : Fin 32), Fin' ((ins m c).wq (ix2 e (qc h ⟨64 + d.val, by omega⟩)))) :
    (dats m 0 c).arrAt 10 (cfgs 0).N = outQ (ins m c) := by
  refine (dats m 0 c).arrAt_eq_of_covers 10 _ covers.1 fun t hf y => ?_
  blk_simp
  rw [after0_10]
  obtain ⟨r, j, rfl⟩ : ∃ (r : Fin 256) (j : Fin 1024), y = (ix3 0 r j : S1x256x1024.Idx) := ⟨y 1, y 2, by idx_ext⟩
  rw [lands_q]
  frame_out
  refine (q_at _ _ _ _ _ _ r j).trans ?_
  show _ = qh (ins m c) (smp t) (row t r) (hd j) (ln j) * Ideal.ofBits .f32 0x3DD105EC#32
  refine congrArg (· * Ideal.ofBits .f32 0x3DD105EC#32) ?_
  rw [← query_eq (ins m c) (smp t) (row t r) (hd j) (ln j) hg (fun e d => hw e _ d), read_cos, read_sin]
  refine congrArg₂ (· + ·) (congrArg (· * _) (Finset.sum_congr rfl fun e _ => ?_)) (congrArg (· * _) (Finset.sum_congr rfl fun e _ => ?_))
  · exact congrArg₂ (· * ·) (norm_q m c t r _ _ (read_q m c t) (gain_q m c t) e) ((read_wq1 m c t e j).trans (wq1_at _ e j))
  · exact congrArg₂ (· * ·) (norm_q m c t r _ _ (read_q m c t) (gain_q m c t) e) ((read_wq2 m c t e j).trans (wq2_at _ e j))

/-- The second array the kernel leaves: the keys, given the rotary key beside its quarter turn. -/
theorem final_k (c : Dev nD) (hp : ∀ b t j, (ins m c).kr (ix3 b t j) = pair (kr (ins m c) b t) j) :
    (dats m 0 c).arrAt 11 (cfgs 0).N = outK (ins m c) := by
  refine (dats m 0 c).arrAt_eq_of_covers 11 _ covers.2.1 fun t hf y => ?_
  blk_simp
  rw [after0_11]
  obtain ⟨r, j, rfl⟩ : ∃ (r : Fin 256) (j : Fin 1024), y = (ix3 0 r j : S1x256x1024.Idx) := ⟨y 1, y 2, by idx_ext⟩
  rw [lands_k]
  frame_out
  refine (k_at _ _ _ _ _ _ _ r j).trans ?_
  show _ = kh (ins m c) (smp t) (row t r) (hd j) (ln j)
  rw [← key_eq (ins m c) (smp t) (row t r) (hd j) (ln j) hp, read_cos, read_sin]
  refine congrArg₂ (· + ·) (Finset.sum_congr rfl fun e _ => ?_) (congrArg₂ (· + ·) (congrArg (· * _) ?_) (congrArg (· * _) ?_))
  · exact congrArg₂ (· * ·) (norm_k m c t r _ _ (read_kv m c t) (gain_k m c t) e) ((read_wk m c t e j).trans (wk_at _ e j))
  · exact (ld_lo _ r (ln j)).trans (read_kr m c t r _)
  · exact (ld_hi _ r (ln j)).trans (read_kr m c t r _)

/-- The third array the kernel leaves: the values. -/
theorem final_v (c : Dev nD) : (dats m 0 c).arrAt 12 (cfgs 0).N = outV (ins m c) := by
  refine (dats m 0 c).arrAt_eq_of_covers 12 _ covers.2.2 fun t hf y => ?_
  blk_simp
  rw [after0_12]
  obtain ⟨r, j, rfl⟩ : ∃ (r : Fin 256) (j : Fin 1024), y = (ix3 0 r j : S1x256x1024.Idx) := ⟨y 1, y 2, by idx_ext⟩
  rw [lands_v]
  frame_out
  refine (v_at _ _ _ r j).trans ?_
  show _ = vh (ins m c) (smp t) (row t r) (hd j) (ln j)
  rw [← value_eq (ins m c) (smp t) (row t r) (hd j) (ln j)]
  refine Finset.sum_congr rfl fun e _ => ?_
  exact congrArg₂ (· * ·) (norm_k m c t r _ _ (read_kv m c t) (gain_k m c t) e) ((read_wv m c t e j).trans (wv_at _ e j))

/-- The kernel's run: the three result arrays are the specified ones of the arguments, which are unchanged. -/
theorem run (g : Dev nD → PrngReg) (hg : ∀ c i, Fin' ((ins m c).qg i))
    (hw : ∀ c (e : Fin 384) (h : Fin 8) (d : Fin 32), Fin' ((ins m c).wq (ix2 e (qc h ⟨64 + d.val, by omega⟩))))
    (hp : ∀ c b t j, (ins m c).kr (ix3 b t j) = pair (kr (ins m c) b t) j) :
    θ_run defs (onTc (τ := τ) (main (F := Ideal))) ⟨m, fun _ => 0, g⟩ fun r => ∀ c : Dev nD,
      r.2.mem ((c.tc : Thread nD τ).loc main_v53_0) = outQ (ins m c)
      ∧ r.2.mem ((c.tc : Thread nD τ).loc main_v53_1) = outK (ins m c)
      ∧ r.2.mem ((c.tc : Thread nD τ).loc main_v53_2) = outV (ins m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨((h c).1 10).trans (final_q m c (hg c) (hw c)), ((h c).1 11).trans (final_k m c (hp c)), ((h c).1 12).trans (final_v m c),
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c))),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c),
    ((h c).2 main_arg8 (Pipeline.mem_restRefs_of main_arg8 (by decide) (by decide))).trans (V_main_arg8 m c)⟩) (run_main m g)

end Cert.MlaBlock

end
-- ==== Proof.MlaRefPoint.lean ====
module

public import Idealize.ShloMosaic.Lib.Pointwise
public import proofs.«01_k».proof.Proof.Gen.MlaPrepRefIdeal.Run
public import proofs.«01_k».proof.Proof.Heads

/-! The reference of the queries', keys' and values' preparation: its stages read at an index, each over any arrays, and its
results. -/

@[expose] public section

set_option maxRecDepth 16384

noncomputable section

namespace Cert.MlaRefPoint

open Idealize.ShloMosaic Idealize.ShloMosaic.TcCoe Idealize.SL.Sem
open Cert.MlaPrepRefIdeal Cert.MlaPrepRefIdeal.Gen Cert.Heads

/-- The integer zero converted is zero. -/
theorem zero_word : (FloatOps.sitofp FTy.f32 0#32 : Ideal FTy.f32) = 0 := by
  show (((0#32 : BitVec 32).toInt : ℝ) : EReal) = 0
  simp

/-- The queries' latent normalised. -/
def NQ (x : FVec Ideal S8x4352x384 .f32) (g : FVec Ideal S384 .f32) : FVec Ideal S8x4352x384 .f32 :=
  mulf (mulf x (broadcastInDim S8x4352x384 ![0, 1, 2] bcast_S8x4352x1_S8x4352x384_0_1_2 (Host.rsqrt (addf (Host.divf (broadcastInDim S8x4352x1 ![0, 1] bcast_S8x4352_S8x4352x1_0_1 (Host.reduceAdd (mulf x x) (constant S_ .f32 0x00000000#32) reducesTo_S8x4352x384_S8x4352_d2 h_S_)) (broadcastInDim S8x4352x1 ![] bcast_S_S8x4352x1 (constant S_ .f32 0x43C00000#32))) (broadcastInDim S8x4352x1 ![] bcast_S_S8x4352x1 (constant S_ .f32 0x358637BD#32)))))) (broadcastInDim S8x4352x384 ![0, 1, 2] bcast_S1x1x384_S8x4352x384_0_1_2 (broadcastInDim S1x1x384 ![2] bcast_S384_S1x1x384_2 g))

/-- The keys' and values' latent normalised. -/
def NK (x : FVec Ideal S8x4352x256 .f32) (g : FVec Ideal S256 .f32) : FVec Ideal S8x4352x256 .f32 :=
  mulf (mulf x (broadcastInDim S8x4352x256 ![0, 1, 2] bcast_S8x4352x1_S8x4352x256_0_1_2 (Host.rsqrt (addf (Host.divf (broadcastInDim S8x4352x1 ![0, 1] bcast_S8x4352_S8x4352x1_0_1 (Host.reduceAdd (mulf x x) (constant S_ .f32 0x00000000#32) reducesTo_S8x4352x256_S8x4352_d2 h_S_)) (broadcastInDim S8x4352x1 ![] bcast_S_S8x4352x1 (constant S_ .f32 0x43800000#32))) (broadcastInDim S8x4352x1 ![] bcast_S_S8x4352x1 (constant S_ .f32 0x358637BD#32)))))) (broadcastInDim S8x4352x256 ![0, 1, 2] bcast_S1x1x256_S8x4352x256_0_1_2 (broadcastInDim S1x1x256 ![2] bcast_S256_S1x1x256_2 g))

/-- The queries head by head. -/
def PQ (n : FVec Ideal S8x4352x384 .f32) (w : FVec Ideal S384x768 .f32) : FVec Ideal S8x4352x8x96 .f32 :=
  shapeCast _ (Host.dotGeneral dot_S8x4352x384_S384x768_S8x4352x768_2_0_01_1_n_n none n w) shapeCasts_S8x4352x768_S8x4352x8x96

/-- The keys and values head by head. -/
def PK (n : FVec Ideal S8x4352x256 .f32) (w : FVec Ideal S256x1024 .f32) : FVec Ideal S8x4352x8x128 .f32 :=
  shapeCast _ (Host.dotGeneral dot_S8x4352x256_S256x1024_S8x4352x1024_2_0_01_1_n_n none n w) shapeCasts_S8x4352x1024_S8x4352x8x128

/-- The queries' lanes without the rotation. -/
def QN (a : FVec Ideal S8x4352x8x96 .f32) : FVec Ideal S8x4352x8x64 .f32 := extractStridedSlice S8x4352x8x64 ![0, 0, 0, 0] a slices_S8x4352x8x96_S8x4352x8x64_0_0_0_0

/-- The queries' rotary lanes. -/
def QR (a : FVec Ideal S8x4352x8x96 .f32) : FVec Ideal S8x4352x8x32 .f32 := extractStridedSlice S8x4352x8x32 ![0, 0, 0, 64] a slices_S8x4352x8x96_S8x4352x8x32_0_0_0_64

/-- The keys' lanes. -/
def KN (a : FVec Ideal S8x4352x8x128 .f32) : FVec Ideal S8x4352x8x64 .f32 := extractStridedSlice S8x4352x8x64 ![0, 0, 0, 0] a slices_S8x4352x8x128_S8x4352x8x64_0_0_0_0

/-- The values' lanes. -/
def VN (a : FVec Ideal S8x4352x8x128 .f32) : FVec Ideal S8x4352x8x64 .f32 := extractStridedSlice S8x4352x8x64 ![0, 0, 0, 64] a slices_S8x4352x8x128_S8x4352x8x64_0_0_0_64

/-- The rotary key. -/
def KR (a : FVec Ideal S8x4352x256 .f32) : FVec Ideal S8x4352x32 .f32 := extractStridedSlice S8x4352x32 ![0, 0, 64] a slices_S8x4352x256_S8x4352x32_0_0_64

/-- The even lanes of the queries. -/
def E4 (x : FVec Ideal S8x4096x8x32 .f32) : FVec Ideal S8x4096x8x16 .f32 := Host.slice S8x4096x8x16 ![0, 0, 0, 0] ![1, 1, 1, 2] x slicesBy_S8x4096x8x32_S8x4096x8x16_0s1_0s1_0s1_0s2

/-- The odd lanes of the queries. -/
def O4 (x : FVec Ideal S8x4096x8x32 .f32) : FVec Ideal S8x4096x8x16 .f32 := Host.slice S8x4096x8x16 ![0, 0, 0, 1] ![1, 1, 1, 2] x slicesBy_S8x4096x8x32_S8x4096x8x16_0s1_0s1_0s1_1s2

/-- The angles' numbers for every sample and head. -/
def A4 (a : FVec Ideal S4096x16 .f32) : FVec Ideal S8x4096x8x16 .f32 := broadcastInDim S8x4096x8x16 ![0, 1, 2, 3] bcast_S1x4096x1x16_S8x4096x8x16_0_1_2_3 (broadcastInDim S1x4096x1x16 ![1, 2, 3] bcast_S4096x1x16_S1x4096x1x16_1_2_3 (broadcastInDim S4096x1x16 ![0, 2] bcast_S4096x16_S4096x1x16_0_2 a))

/-- Two arrays lane by lane in turn. -/
def W4 (x y : FVec Ideal S8x4096x8x16 .f32) : FVec Ideal S8x4096x8x32 .f32 :=
  shapeCast _ (concatenate S8x4096x8x16x2 4 [⟨S8x4096x8x16x1, (broadcastInDim S8x4096x8x16x1 ![0, 1, 2, 3] bcast_S8x4096x8x16_S8x4096x8x16x1_0_1_2_3 x)⟩, ⟨S8x4096x8x16x1, (broadcastInDim S8x4096x8x16x1 ![0, 1, 2, 3] bcast_S8x4096x8x16_S8x4096x8x16x1_0_1_2_3 y)⟩] concatenates_S8x4096x8x16x1_S8x4096x8x16x1_S8x4096x8x16x2_d4) shapeCasts_S8x4096x8x16x2_S8x4096x8x32

/-- The latent tokens' queries turned. -/
def R4 (x : FVec Ideal S8x4096x8x32 .f32) (c s : FVec Ideal S4096x16 .f32) : FVec Ideal S8x4096x8x32 .f32 :=
  W4 (subf (mulf (E4 x) (A4 c)) (mulf (O4 x) (A4 s))) (addf (mulf (E4 x) (A4 s)) (mulf (O4 x) (A4 c)))

/-- The queries' rotary lanes turned. -/
def RQ (x : FVec Ideal S8x4352x8x32 .f32) (c s : FVec Ideal S4096x16 .f32) : FVec Ideal S8x4352x8x32 .f32 :=
  concatenate S8x4352x8x32 1 [⟨S8x256x8x32, (extractStridedSlice S8x256x8x32 ![0, 0, 0, 0] x slices_S8x4352x8x32_S8x256x8x32_0_0_0_0)⟩, ⟨S8x4096x8x32, R4 (extractStridedSlice S8x4096x8x32 ![0, 256, 0, 0] x slices_S8x4352x8x32_S8x4096x8x32_0_256_0_0) c s⟩] concatenates_S8x256x8x32_S8x4096x8x32_S8x4352x8x32_d1

/-- The even lanes of the key. -/
def E3 (x : FVec Ideal S8x4096x32 .f32) : FVec Ideal S8x4096x16 .f32 := Host.slice S8x4096x16 ![0, 0, 0] ![1, 1, 2] x slicesBy_S8x4096x32_S8x4096x16_0s1_0s1_0s2

/-- The odd lanes of the key. -/
def O3 (x : FVec Ideal S8x4096x32 .f32) : FVec Ideal S8x4096x16 .f32 := Host.slice S8x4096x16 ![0, 0, 1] ![1, 1, 2] x slicesBy_S8x4096x32_S8x4096x16_0s1_0s1_1s2

/-- The angles' numbers for every sample. -/
def A3 (a : FVec Ideal S4096x16 .f32) : FVec Ideal S8x4096x16 .f32 := broadcastInDim S8x4096x16 ![0, 1, 2] bcast_S1x4096x16_S8x4096x16_0_1_2 (broadcastInDim S1x4096x16 ![1, 2] bcast_S4096x16_S1x4096x16_1_2 a)

/-- Two arrays lane by lane in turn. -/
def W3 (x y : FVec Ideal S8x4096x16 .f32) : FVec Ideal S8x4096x32 .f32 :=
  shapeCast _ (concatenate S8x4096x16x2 3 [⟨S8x4096x16x1, (broadcastInDim S8x4096x16x1 ![0, 1, 2] bcast_S8x4096x16_S8x4096x16x1_0_1_2 x)⟩, ⟨S8x4096x16x1, (broadcastInDim S8x4096x16x1 ![0, 1, 2] bcast_S8x4096x16_S8x4096x16x1_0_1_2 y)⟩] concatenates_S8x4096x16x1_S8x4096x16x1_S8x4096x16x2_d3) shapeCasts_S8x4096x16x2_S8x4096x32

/-- The latent tokens' key turned. -/
def R3 (x : FVec Ideal S8x4096x32 .f32) (c s : FVec Ideal S4096x16 .f32) : FVec Ideal S8x4096x32 .f32 :=
  W3 (subf (mulf (E3 x) (A3 c)) (mulf (O3 x) (A3 s))) (addf (mulf (E3 x) (A3 s)) (mulf (O3 x) (A3 c)))

/-- The rotary key turned. -/
def RK (x : FVec Ideal S8x4352x32 .f32) (c s : FVec Ideal S4096x16 .f32) : FVec Ideal S8x4352x32 .f32 :=
  concatenate S8x4352x32 1 [⟨S8x256x32, (extractStridedSlice S8x256x32 ![0, 0, 0] x slices_S8x4352x32_S8x256x32_0_0_0)⟩, ⟨S8x4096x32, R3 (extractStridedSlice S8x4096x32 ![0, 256, 0] x slices_S8x4352x32_S8x4096x32_0_256_0) c s⟩] concatenates_S8x256x32_S8x4096x32_S8x4352x32_d1

/-- The key for every head. -/
def HK (x : FVec Ideal S8x4352x32 .f32) : FVec Ideal S8x4352x8x32 .f32 := broadcastInDim S8x4352x8x32 ![0, 1, 2, 3] bcast_S8x4352x1x32_S8x4352x8x32_0_1_2_3 (broadcastInDim S8x4352x1x32 ![0, 1, 3] bcast_S8x4352x32_S8x4352x1x32_0_1_3 x)

/-- The two kinds of lanes side by side. -/
def C96 (x : FVec Ideal S8x4352x8x64 .f32) (y : FVec Ideal S8x4352x8x32 .f32) : FVec Ideal S8x4352x8x96 .f32 :=
  concatenate S8x4352x8x96 3 [⟨S8x4352x8x64, x⟩, ⟨S8x4352x8x32, y⟩] concatenates_S8x4352x8x64_S8x4352x8x32_S8x4352x8x96_d3

/-- The queries scaled. -/
def SC (x : FVec Ideal S8x4352x8x96 .f32) : FVec Ideal S8x4352x8x96 .f32 := mulf x (broadcastInDim S8x4352x8x96 ![] bcast_S_S8x4352x8x96 (constant S_ .f32 0x3DD105EC#32))

/-- Ninety-six lanes of each head's 128. -/
def P96 (x : FVec Ideal S8x4352x8x96 .f32) : FVec Ideal S8x4352x1024 .bf16 :=
  truncf .bf16 (shapeCast _ (pad S8x4352x8x128 ![0, 0, 0, 0] ![0, 0, 0, 32] ![0, 0, 0, 0] x (sitofp .f32 (constantI S_ 32 0#32)) pads_S8x4352x8x96_S8x4352x8x128_000_000_000_0320 h_S_) shapeCasts_S8x4352x8x128_S8x4352x1024) bitsLt_bf16_f32

/-- Sixty-four lanes of each head's 128. -/
def P64 (x : FVec Ideal S8x4352x8x64 .f32) : FVec Ideal S8x4352x1024 .bf16 :=
  truncf .bf16 (shapeCast _ (pad S8x4352x8x128 ![0, 0, 0, 0] ![0, 0, 0, 64] ![0, 0, 0, 0] x (sitofp .f32 (constantI S_ 32 0#32)) pads_S8x4352x8x64_S8x4352x8x128_000_000_000_0640 h_S_) shapeCasts_S8x4352x8x128_S8x4352x1024) bitsLt_bf16_f32

/-- The normalised queries' latent at an index. -/
theorem nq_at (x : FVec Ideal S8x4352x384 .f32) (g : FVec Ideal S384 .f32) (b : Fin 8) (t : Fin 4352) (e : Fin 384) :
    NQ x g (ix3 b t e) = rms 0x43C00000#32 (fun d => x (ix3 b t d)) (fun d => g (ix1 d)) e := by
  unfold rms
  pointwise [NQ]

/-- The normalised keys' and values' latent at an index. -/
theorem nk_at (x : FVec Ideal S8x4352x256 .f32) (g : FVec Ideal S256 .f32) (b : Fin 8) (t : Fin 4352) (e : Fin 256) :
    NK x g (ix3 b t e) = rms 0x43800000#32 (fun d => x (ix3 b t d)) (fun d => g (ix1 d)) e := by
  unfold rms
  pointwise [NK]

/-- The queries at an index. -/
theorem pq_at (n : FVec Ideal S8x4352x384 .f32) (w : FVec Ideal S384x768 .f32) (b : Fin 8) (t : Fin 4352) (h : Fin 8) (d : Fin 96) :
    PQ n w (ix4 b t h d) = ∑ e : Fin 384, n (ix3 b t e) * w (ix2 e (qc h d)) := by
  unfold qc
  pointwise [PQ]

/-- The keys and values at an index. -/
theorem pk_at (n : FVec Ideal S8x4352x256 .f32) (w : FVec Ideal S256x1024 .f32) (b : Fin 8) (t : Fin 4352) (h : Fin 8) (d : Fin 128) :
    PK n w (ix4 b t h d) = ∑ e : Fin 256, n (ix3 b t e) * w (ix2 e (kc h d)) := by
  unfold kc
  pointwise [PK]

/-- The queries' plain lanes at an index. -/
theorem qn_at (a : FVec Ideal S8x4352x8x96 .f32) (b : Fin 8) (t : Fin 4352) (h : Fin 8) (d : Fin 64) : QN a (ix4 b t h d) = a (ix4 b t h ⟨d.val, by omega⟩) := by
  pointwise [QN]

/-- The queries' rotary lanes at an index. -/
theorem qr_at (a : FVec Ideal S8x4352x8x96 .f32) (b : Fin 8) (t : Fin 4352) (h : Fin 8) (d : Fin 32) : QR a (ix4 b t h d) = a (ix4 b t h ⟨64 + d.val, by omega⟩) := by
  pointwise [QR]

/-- The keys' lanes at an index. -/
theorem kn_at (a : FVec Ideal S8x4352x8x128 .f32) (b : Fin 8) (t : Fin 4352) (h : Fin 8) (d : Fin 64) : KN a (ix4 b t h d) = a (ix4 b t h ⟨d.val, by omega⟩) := by
  pointwise [KN]

/-- The values' lanes at an index. -/
theorem vn_at (a : FVec Ideal S8x4352x8x128 .f32) (b : Fin 8) (t : Fin 4352) (h : Fin 8) (d : Fin 64) : VN a (ix4 b t h d) = a (ix4 b t h ⟨64 + d.val, by omega⟩) := by
  pointwise [VN]

/-- The rotary key at an index. -/
theorem kr_at (a : FVec Ideal S8x4352x256 .f32) (b : Fin 8) (t : Fin 4352) (d : Fin 32) : KR a (ix3 b t d) = a (ix3 b t ⟨64 + d.val, by omega⟩) := by
  pointwise [KR]

/-- An even lane of the queries. -/
theorem e4_at (x : FVec Ideal S8x4096x8x32 .f32) (b : Fin 8) (t : Fin 4096) (h : Fin 8) (i : Fin 16) : E4 x (ix4 b t h i) = x (ix4 b t h ⟨2 * i.val, by omega⟩) := by
  pointwise [E4]

/-- An odd lane of the queries. -/
theorem o4_at (x : FVec Ideal S8x4096x8x32 .f32) (b : Fin 8) (t : Fin 4096) (h : Fin 8) (i : Fin 16) : O4 x (ix4 b t h i) = x (ix4 b t h ⟨1 + 2 * i.val, by omega⟩) := by
  pointwise [O4]

/-- An angle's number for a sample and head. -/
theorem a4_at (a : FVec Ideal S4096x16 .f32) (b : Fin 8) (t : Fin 4096) (h : Fin 8) (i : Fin 16) : A4 a (ix4 b t h i) = a (ix2 t i) := by
  pointwise [A4]

/-- The lanes in turn. -/
theorem w4_at (x y : FVec Ideal S8x4096x8x16 .f32) (b : Fin 8) (t : Fin 4096) (h : Fin 8) (d : Fin 32) :
    W4 x y (ix4 b t h d) = if d.val % 2 = 0 then x (ix4 b t h ⟨d.val / 2, by omega⟩) else y (ix4 b t h ⟨d.val / 2, by omega⟩) := by
  by_cases hd : d.val % 2 = 0
  · rw [if_pos hd]
    pointwise [W4, hd]
  · rw [if_neg hd]
    pointwise [W4, hd]
    rw [dif_neg (by omega)]

/-- An even lane of the key. -/
theorem e3_at (x : FVec Ideal S8x4096x32 .f32) (b : Fin 8) (t : Fin 4096) (i : Fin 16) : E3 x (ix3 b t i) = x (ix3 b t ⟨2 * i.val, by omega⟩) := by
  pointwise [E3]

/-- An odd lane of the key. -/
theorem o3_at (x : FVec Ideal S8x4096x32 .f32) (b : Fin 8) (t : Fin 4096) (i : Fin 16) : O3 x (ix3 b t i) = x (ix3 b t ⟨1 + 2 * i.val, by omega⟩) := by
  pointwise [O3]

/-- An angle's number for a sample. -/
theorem a3_at (a : FVec Ideal S4096x16 .f32) (b : Fin 8) (t : Fin 4096) (i : Fin 16) : A3 a (ix3 b t i) = a (ix2 t i) := by
  pointwise [A3]

/-- The lanes in turn. -/
theorem w3_at (x y : FVec Ideal S8x4096x16 .f32) (b : Fin 8) (t : Fin 4096) (d : Fin 32) :
    W3 x y (ix3 b t d) = if d.val % 2 = 0 then x (ix3 b t ⟨d.val / 2, by omega⟩) else y (ix3 b t ⟨d.val / 2, by omega⟩) := by
  by_cases hd : d.val % 2 = 0
  · rw [if_pos hd]
    pointwise [W3, hd]
  · rw [if_neg hd]
    pointwise [W3, hd]
    rw [dif_neg (by omega)]

/-- A sum of products as the index reads it. -/
theorem sub_at {s : Shape} (a b c d : FVec Ideal s .f32) (i : s.Idx) : subf (mulf a b) (mulf c d) i = (a i * b i - c i * d i : EReal) := rfl

/-- A sum of products as the index reads it. -/
theorem add_at {s : Shape} (a b c d : FVec Ideal s .f32) (i : s.Idx) : addf (mulf a b) (mulf c d) i = (a i * b i + c i * d i : EReal) := rfl

/-- A context token of the turned queries. -/
theorem rq_ctx (x : FVec Ideal S8x4352x8x32 .f32) (c s : FVec Ideal S4096x16 .f32) (b : Fin 8) (t : Fin 4352) (ht : t.val < 256) (h : Fin 8) (d : Fin 32) :
    RQ x c s (ix4 b t h d) = x (ix4 b t h d) := by
  unfold RQ
  generalize R4 (extractStridedSlice S8x4096x8x32 ![0, 256, 0, 0] x slices_S8x4352x8x32_S8x4096x8x32_0_256_0_0) c s = y
  pointwise [ht]

/-- A latent token of the turned queries is of the turned latent tokens. -/
theorem rq_lat (x : FVec Ideal S8x4352x8x32 .f32) (c s : FVec Ideal S4096x16 .f32) (b : Fin 8) (t : Fin 4352) (ht : ¬ t.val < 256) (h : Fin 8) (d : Fin 32) :
    RQ x c s (ix4 b t h d) = R4 (extractStridedSlice S8x4096x8x32 ![0, 256, 0, 0] x slices_S8x4352x8x32_S8x4096x8x32_0_256_0_0) c s (ix4 b ⟨t.val - 256, by omega⟩ h d) := by
  unfold RQ
  generalize R4 (extractStridedSlice S8x4096x8x32 ![0, 256, 0, 0] x slices_S8x4352x8x32_S8x4096x8x32_0_256_0_0) c s = y
  pointwise [ht]

/-- A latent row of the queries. -/
theorem lat4_at (x : FVec Ideal S8x4352x8x32 .f32) (b : Fin 8) (t : Fin 4352) (ht : ¬ t.val < 256) (h : Fin 8) (d : Fin 32) :
    extractStridedSlice S8x4096x8x32 ![0, 256, 0, 0] x slices_S8x4352x8x32_S8x4096x8x32_0_256_0_0 (ix4 b ⟨t.val - 256, by omega⟩ h d) = x (ix4 b t h d) := by
  pointwise
  exact congrArg (fun i => x (ix4 b i h d)) (Fin.ext (by dsimp only; omega))

/-- The turned queries at an index. -/
theorem rq_at (I : Ins) (x : FVec Ideal S8x4352x8x32 .f32) (b : Fin 8) (t : Fin 4352) (h : Fin 8) (d : Fin 32) :
    RQ x I.cos I.sin (ix4 b t h d) = rope I t (fun k => x (ix4 b t h k)) d := by
  unfold rope
  by_cases ht : t.val < 256
  · rw [if_pos ht, rq_ctx _ _ _ _ _ ht]
  · rw [if_neg ht, rq_lat _ _ _ _ _ ht]
    unfold R4
    rw [w4_at, sub_at, add_at]
    simp only [e4_at, o4_at, a4_at, lat4_at x b t ht]
    by_cases hd : d.val % 2 = 0
    · rw [if_pos hd, dif_pos hd]
      have e1 : (⟨2 * (d.val / 2), by omega⟩ : Fin 32) = d := Fin.ext (by dsimp only; omega)
      have e2 : (⟨1 + 2 * (d.val / 2), by omega⟩ : Fin 32) = ⟨d.val + 1, by omega⟩ := Fin.ext (by dsimp only; omega)
      rw [e1, e2]
    · rw [if_neg hd, dif_neg hd]
      have e1 : (⟨2 * (d.val / 2), by omega⟩ : Fin 32) = ⟨d.val - 1, by omega⟩ := Fin.ext (by dsimp only; omega)
      have e2 : (⟨1 + 2 * (d.val / 2), by omega⟩ : Fin 32) = d := Fin.ext (by dsimp only; omega)
      rw [e1, e2]

/-- A context token of the turned key. -/
theorem rk_ctx (x : FVec Ideal S8x4352x32 .f32) (c s : FVec Ideal S4096x16 .f32) (b : Fin 8) (t : Fin 4352) (ht : t.val < 256) (d : Fin 32) :
    RK x c s (ix3 b t d) = x (ix3 b t d) := by
  unfold RK
  generalize R3 (extractStridedSlice S8x4096x32 ![0, 256, 0] x slices_S8x4352x32_S8x4096x32_0_256_0) c s = y
  pointwise [ht]

/-- A latent token of the turned key is of the turned latent tokens. -/
theorem rk_lat (x : FVec Ideal S8x4352x32 .f32) (c s : FVec Ideal S4096x16 .f32) (b : Fin 8) (t : Fin 4352) (ht : ¬ t.val < 256) (d : Fin 32) :
    RK x c s (ix3 b t d) = R3 (extractStridedSlice S8x4096x32 ![0, 256, 0] x slices_S8x4352x32_S8x4096x32_0_256_0) c s (ix3 b ⟨t.val - 256, by omega⟩ d) := by
  unfold RK
  generalize R3 (extractStridedSlice S8x4096x32 ![0, 256, 0] x slices_S8x4352x32_S8x4096x32_0_256_0) c s = y
  pointwise [ht]

/-- A latent row of the key. -/
theorem lat3_at (x : FVec Ideal S8x4352x32 .f32) (b : Fin 8) (t : Fin 4352) (ht : ¬ t.val < 256) (d : Fin 32) :
    extractStridedSlice S8x4096x32 ![0, 256, 0] x slices_S8x4352x32_S8x4096x32_0_256_0 (ix3 b ⟨t.val - 256, by omega⟩ d) = x (ix3 b t d) := by
  pointwise
  exact congrArg (fun i => x (ix3 b i d)) (Fin.ext (by dsimp only; omega))

/-- The turned key at an index. -/
theorem rk_at (I : Ins) (x : FVec Ideal S8x4352x32 .f32) (b : Fin 8) (t : Fin 4352) (d : Fin 32) :
    RK x I.cos I.sin (ix3 b t d) = rope I t (fun k => x (ix3 b t k)) d := by
  unfold rope
  by_cases ht : t.val < 256
  · rw [if_pos ht, rk_ctx _ _ _ _ _ ht]
  · rw [if_neg ht, rk_lat _ _ _ _ _ ht]
    unfold R3
    rw [w3_at, sub_at, add_at]
    simp only [e3_at, o3_at, a3_at, lat3_at x b t ht]
    by_cases hd : d.val % 2 = 0
    · rw [if_pos hd, dif_pos hd]
      have e1 : (⟨2 * (d.val / 2), by omega⟩ : Fin 32) = d := Fin.ext (by dsimp only; omega)
      have e2 : (⟨1 + 2 * (d.val / 2), by omega⟩ : Fin 32) = ⟨d.val + 1, by omega⟩ := Fin.ext (by dsimp only; omega)
      rw [e1, e2]
    · rw [if_neg hd, dif_neg hd]
      have e1 : (⟨2 * (d.val / 2), by omega⟩ : Fin 32) = ⟨d.val - 1, by omega⟩ := Fin.ext (by dsimp only; omega)
      have e2 : (⟨1 + 2 * (d.val / 2), by omega⟩ : Fin 32) = d := Fin.ext (by dsimp only; omega)
      rw [e1, e2]

/-- The key of a head. -/
theorem hk_at (x : FVec Ideal S8x4352x32 .f32) (b : Fin 8) (t : Fin 4352) (h : Fin 8) (d : Fin 32) : HK x (ix4 b t h d) = x (ix3 b t d) := by
  pointwise [HK]

/-- The lanes side by side at an index. -/
theorem c96_at (x : FVec Ideal S8x4352x8x64 .f32) (y : FVec Ideal S8x4352x8x32 .f32) (b : Fin 8) (t : Fin 4352) (h : Fin 8) (d : Fin 96) :
    C96 x y (ix4 b t h d) = if hd : d.val < 64 then x (ix4 b t h ⟨d.val, hd⟩) else y (ix4 b t h ⟨d.val - 64, by omega⟩) := by
  by_cases hd : d.val < 64
  · rw [dif_pos hd]
    pointwise [C96, hd]
  · rw [dif_neg hd]
    pointwise [C96, hd]

/-- The scaled queries at an index. -/
theorem sc_at (x : FVec Ideal S8x4352x8x96 .f32) (b : Fin 8) (t : Fin 4352) (h : Fin 8) (d : Fin 96) : SC x (ix4 b t h d) = x (ix4 b t h d) * Ideal.ofBits .f32 0x3DD105EC#32 := by
  pointwise [SC]

/-- The spread lanes at an index. -/
theorem p96_at (x : FVec Ideal S8x4352x8x96 .f32) (b : Fin 8) (t : Fin 4352) (j : Fin 1024) :
    (P96 x (ix3 b t j) : EReal) = if hl : (ln j).val < 96 then x (ix4 b t (hd j) ⟨(ln j).val, hl⟩) else 0 := by
  unfold ln hd
  pointwise [P96]
  rw [zero_word]
  try split_ifs <;> first | rfl | omega

/-- The spread lanes at an index. -/
theorem p64_at (x : FVec Ideal S8x4352x8x64 .f32) (b : Fin 8) (t : Fin 4352) (j : Fin 1024) :
    (P64 x (ix3 b t j) : EReal) = if hl : (ln j).val < 64 then x (ix4 b t (hd j) ⟨(ln j).val, hl⟩) else 0 := by
  unfold ln hd
  pointwise [P64]
  rw [zero_word]
  try split_ifs <;> first | rfl | omega

/-- The queries over the arrays. -/
theorem pq_ins (I : Ins) (b : Fin 8) (t : Fin 4352) (h : Fin 8) (d : Fin 96) : PQ (NQ I.q I.qg) I.wq (ix4 b t h d) = qp I b t (qc h d) := by
  rw [pq_at]
  simp only [nq_at]
  rfl

/-- The keys and values over the arrays. -/
theorem pk_ins (I : Ins) (b : Fin 8) (t : Fin 4352) (h : Fin 8) (d : Fin 128) : PK (NK I.kv I.kg) I.wkv (ix4 b t h d) = kp I b t (kc h d) := by
  rw [pk_at]
  simp only [nk_at]
  rfl

/-- The queries' array. -/
def REFQ (I : Ins) : FVec Ideal S8x4352x1024 .bf16 := P96 (SC (C96 (QN (PQ (NQ I.q I.qg) I.wq)) (RQ (QR (PQ (NQ I.q I.qg) I.wq)) I.cos I.sin)))

/-- The keys' array. -/
def REFK (I : Ins) : FVec Ideal S8x4352x1024 .bf16 := P96 (C96 (KN (PK (NK I.kv I.kg) I.wkv)) (HK (RK (KR I.kr) I.cos I.sin)))

/-- The values' array. -/
def REFV (I : Ins) : FVec Ideal S8x4352x1024 .bf16 := P64 (VN (PK (NK I.kv I.kg) I.wkv))

/-- The queries' array is the specified one. -/
theorem refQ (I : Ins) : REFQ I = outQ I := by
  funext i
  obtain ⟨b, t, j, rfl⟩ : ∃ (b : Fin 8) (t : Fin 4352) (j : Fin 1024), i = (ix3 b t j : S8x4352x1024.Idx) := ⟨i 0, i 1, i 2, by idx_ext⟩
  show _ = qh I b t (hd j) (ln j) * Ideal.ofBits .f32 0x3DD105EC#32
  unfold REFQ qh
  rw [p96_at]
  by_cases h2 : (ln j).val < 96
  · rw [dif_pos h2, sc_at, c96_at]
    refine congrArg (· * Ideal.ofBits .f32 0x3DD105EC#32) ?_
    by_cases h1 : (ln j).val < 64
    · rw [dif_pos h1, dif_pos h1, qn_at, pq_ins]
    · rw [dif_neg h1, dif_neg h1, dif_pos h2, rq_at]
      simp only [qr_at, pq_ins]
  · rw [dif_neg h2, dif_neg (by omega), dif_neg h2, zero_mul]

/-- The keys' array is the specified one. -/
theorem refK (I : Ins) : REFK I = outK I := by
  funext i
  obtain ⟨b, t, j, rfl⟩ : ∃ (b : Fin 8) (t : Fin 4352) (j : Fin 1024), i = (ix3 b t j : S8x4352x1024.Idx) := ⟨i 0, i 1, i 2, by idx_ext⟩
  show _ = kh I b t (hd j) (ln j)
  unfold REFK kh
  rw [p96_at]
  by_cases h2 : (ln j).val < 96
  · rw [dif_pos h2, c96_at]
    by_cases h1 : (ln j).val < 64
    · rw [dif_pos h1, dif_pos h1, kn_at, pk_ins]
    · rw [dif_neg h1, dif_neg h1, dif_pos h2, hk_at, rk_at]
      simp only [kr_at]
      rfl
  · rw [dif_neg h2, dif_neg (by omega), dif_neg h2]

/-- The values' array is the specified one. -/
theorem refV (I : Ins) : REFV I = outV I := by
  funext i
  obtain ⟨b, t, j, rfl⟩ : ∃ (b : Fin 8) (t : Fin 4352) (j : Fin 1024), i = (ix3 b t j : S8x4352x1024.Idx) := ⟨i 0, i 1, i 2, by idx_ext⟩
  show _ = vh I b t (hd j) (ln j)
  unfold REFV vh
  rw [p64_at]
  by_cases h1 : (ln j).val < 64
  · rw [dif_pos h1, dif_pos h1, vn_at, pk_ins]
  · rw [dif_neg h1, dif_neg h1]

/-- The arguments in a memory. -/
def ins (m : (ℓ : Loc nD τ sig) → Buf (Elt Ideal) ℓ) (c : Dev nD) : Ins where
  q := m ((c.tc : Thread nD τ).loc main_arg0)
  kv := m ((c.tc : Thread nD τ).loc main_arg1)
  kr := m ((c.tc : Thread nD τ).loc main_arg2)
  qg := m ((c.tc : Thread nD τ).loc main_arg3)
  wq := m ((c.tc : Thread nD τ).loc main_arg4)
  kg := m ((c.tc : Thread nD τ).loc main_arg5)
  wkv := m ((c.tc : Thread nD τ).loc main_arg6)
  cos := m ((c.tc : Thread nD τ).loc main_arg7)
  sin := m ((c.tc : Thread nD τ).loc main_arg8)

/-- The reference's run: the three result arrays are the specified ones of the arguments, which are unchanged. -/
theorem run (m : (ℓ : Loc nD τ sig) → Buf (Elt Ideal) ℓ) (g : Dev nD → PrngReg) :
    θ_run defs (onTc (τ := τ) (main (F := Ideal))) ⟨m, fun _ => 0, g⟩ fun r => ∀ c : Dev nD,
      r.2.mem ((c.tc : Thread nD τ).loc main_v91) = outQ (ins m c)
      ∧ r.2.mem ((c.tc : Thread nD τ).loc main_v94) = outK (ins m c)
      ∧ r.2.mem ((c.tc : Thread nD τ).loc main_v97) = outV (ins m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run _ _ _).mono (fun _ h c => ⟨
    (h c).1.trans (Eq.trans (b := REFQ (ins m c)) (by unfold Value.res_main_v91; rfl) (refQ (ins m c))),
    (h c).2.1.trans (Eq.trans (b := REFK (ins m c)) (by unfold Value.res_main_v94; rfl) (refK (ins m c))),
    (h c).2.2.1.trans (Eq.trans (b := REFV (ins m c)) rfl (refV (ins m c))),
    (h c).2.2.2⟩) (Value.run m g)

end Cert.MlaRefPoint

end
-- ==== Proof.MlaPrepClaims.lean ====
module

public import proofs.«01_k».proof.Proof.MlaPrepFrames
public import proofs.«01_k».proof.Proof.MlaBlock
public import proofs.«01_k».proof.Proof.MlaRefPoint
public import Idealize.ShloMosaic.Lib.ReduceAll
public import Idealize.ShloMosaic.Lib.Pointwise

/-! The value claim of the preparation of queries, keys and values: with a finite queries' gain and rotary columns, and a
rotary key beside its quarter turn, the kernel's three arrays and the reference's are equal. -/

@[expose] public section

set_option maxRecDepth 16384

noncomputable section

namespace Cert.MlaPrepClaims

open Idealize.ShloMosaic Idealize.ShloMosaic.TcCoe Idealize.SL.Sem Cert.Heads
open Cert.Softmax (Fin' finite_of_test)
open Cert.Projection (pair lanes turned)
open Cert.Pre_turned_key Cert.Pre_turned_key.Gen

/-- Two numbers found equal by the comparison are equal. -/
theorem eq_of_test (x y : Ideal .f32) (h : (FloatOps.cmpf .oeq x y : BitVec 1) = 1#1) : x = y := by
  have h2 : BitVec.ofBool (decide ((x : EReal) = y)) = 1#1 := h
  by_contra hc
  rw [decide_eq_false hc] at h2
  exact absurd h2 (by decide)

/-- The integer zero converted is zero. -/
theorem zero_word : (FloatOps.sitofp FTy.f32 0#32 : Ideal FTy.f32) = 0 := by
  show (((0#32 : BitVec 32).toInt : ℝ) : EReal) = 0
  simp

/-- The rotary key's lanes. -/
def KEY (a : FVec Ideal S8x4352x256 .f32) : FVec Ideal S8x4352x32 .f32 :=
  extractStridedSlice S8x4352x32 ![0, 0, 64] a slices_S8x4352x256_S8x4352x32_0_0_64

/-- The quarter turn in each pair of lanes. -/
def TURN (a : FVec Ideal S8x4352x32 .f32) : FVec Ideal S8x4352x32 .f32 :=
  shapeCast S8x4352x32 (concatenate S8x4352x16x2 3 [⟨S8x4352x16x1, (broadcastInDim S8x4352x16x1 ![0, 1, 2] bcast_S8x4352x16_S8x4352x16x1_0_1_2 (Host.negf (Host.slice S8x4352x16 ![0, 0, 1] ![1, 1, 2] a slicesBy_S8x4352x32_S8x4352x16_0s1_0s1_1s2)))⟩, ⟨S8x4352x16x1, (broadcastInDim S8x4352x16x1 ![0, 1, 2] bcast_S8x4352x16_S8x4352x16x1_0_1_2 (Host.slice S8x4352x16 ![0, 0, 0] ![1, 1, 2] a slicesBy_S8x4352x32_S8x4352x16_0s1_0s1_0s2))⟩] concatenates_S8x4352x16x1_S8x4352x16x1_S8x4352x16x2_d3) shapeCasts_S8x4352x16x2_S8x4352x32

/-- Lanes 64 to 95 of 128, the rest zero. -/
def PAD (a : FVec Ideal S8x4352x32 .f32) : FVec Ideal S8x4352x128 .f32 :=
  pad S8x4352x128 ![0, 0, 64] ![0, 0, 32] ![0, 0, 0] a (sitofp .f32 (constantI S_ 32 0#32)) pads_S8x4352x32_S8x4352x128_000_000_64320 h_S_

/-- Two arrays side by side. -/
def SIDE (a c : FVec Ideal S8x4352x128 .f32) : FVec Ideal S8x4352x256 .f32 :=
  concatenate S8x4352x256 2 [⟨S8x4352x128, a⟩, ⟨S8x4352x128, c⟩] concatenates_S8x4352x128_S8x4352x128_S8x4352x256_d2

/-- The rotary key at an index. -/
theorem key_at (a : FVec Ideal S8x4352x256 .f32) (b : Fin 8) (t : Fin 4352) (d : Fin 32) : KEY a (ix3 b t d) = a (ix3 b t ⟨64 + d.val, by omega⟩) := by
  pointwise [KEY]

/-- The quarter turn at an index. -/
theorem turn_at (a : FVec Ideal S8x4352x32 .f32) (b : Fin 8) (t : Fin 4352) (d : Fin 32) :
    TURN a (ix3 b t d) = turned (fun k => a (ix3 b t k)) d := by
  unfold turned
  by_cases hd : d.val % 2 = 0
  · rw [dif_pos hd]
    pointwise [TURN, hd]
    exact congrArg (fun k => -a (ix3 b t k)) (Fin.ext (by show 1 + 2 * (d.val / 2) = d.val + 1; omega))
  · rw [dif_neg hd]
    pointwise [TURN, hd]
    rw [dif_neg (by omega)]
    exact congrArg (fun k => a (ix3 b t k)) (Fin.ext (by show 2 * (d.val / 2) = d.val - 1; omega))

/-- The padded lanes at an index. -/
theorem pad_at (a : FVec Ideal S8x4352x32 .f32) (b : Fin 8) (t : Fin 4352) (j : Fin 128) :
    PAD a (ix3 b t j) = lanes (fun k => a (ix3 b t k)) j := by
  unfold lanes
  pointwise [PAD]
  rw [zero_word]
  split_ifs <;> first | rfl | omega

/-- The two arrays side by side at an index. -/
theorem side_at (a c : FVec Ideal S8x4352x128 .f32) (b : Fin 8) (t : Fin 4352) (j : Fin 256) :
    SIDE a c (ix3 b t j) = if h : j.val < 128 then a (ix3 b t ⟨j.val, h⟩) else c (ix3 b t ⟨j.val - 128, by omega⟩) := by
  by_cases h : j.val < 128
  · rw [dif_pos h]
    pointwise [SIDE, h]
  · rw [dif_neg h]
    pointwise [SIDE, h]

/-- The rotary columns of the queries' weight. -/
def COLS (w : FVec Ideal S384x768 .f32) : FVec Ideal S384x8x32 .f32 :=
  extractStridedSlice S384x8x32 ![0, 0, 64] (shapeCast S384x8x96 w shapeCasts_S384x768_S384x8x96) slices_S384x8x96_S384x8x32_0_0_64

/-- The rotary columns at an index. -/
theorem cols_at (w : FVec Ideal S384x768 .f32) (e : Fin 384) (h : Fin 8) (d : Fin 32) : COLS w (ix3 e h d) = w (ix2 e (qc h ⟨64 + d.val, by omega⟩)) := by
  unfold qc
  pointwise [COLS]

/-- The tested array at an index: the rotary key beside its quarter turn. -/
theorem pair_at (a : FVec Ideal S8x4352x256 .f32) (b : Fin 8) (t : Fin 4352) (j : Fin 256) :
    SIDE (PAD (KEY a)) (PAD (TURN (KEY a))) (ix3 b t j) = pair (fun d => a (ix3 b t ⟨64 + d.val, by omega⟩)) j := by
  rw [side_at]
  simp only [pad_at, turn_at, key_at]
  rfl

/-- What the precondition says: the gain of the queries' norm and the rotary columns are real, and the rotary key lies
beside its quarter turn. -/
theorem of_pre (x0 : FVec Ideal S8x4352x384 .f32) (x1 x2 : FVec Ideal S8x4352x256 .f32) (x3 : FVec Ideal S384 .f32) (x4 : FVec Ideal S384x768 .f32)
    (x5 : FVec Ideal S256 .f32) (x6 : FVec Ideal S256x1024 .f32) (x7 x8 : FVec Ideal S4096x16 .f32)
    (h : fn (F := Ideal) x0 x1 x2 x3 x4 x5 x6 x7 x8 = fun _ => 1#1) :
    (∀ i, Fin' (x3 i)) ∧ (∀ (e : Fin 384) (h : Fin 8) (d : Fin 32), Fin' (x4 (ix2 e (qc h ⟨64 + d.val, by omega⟩))))
      ∧ ∀ b t j, x2 (ix3 b t j) = pair (fun d => x2 (ix3 b t ⟨64 + d.val, by omega⟩)) j := by
  have e := congrFun h (fun a => a.elim0)
  unfold fn fn_part1 at e
  obtain ⟨e1, ek⟩ := IntOp.andi_eq_one.1 e
  obtain ⟨eg, ew⟩ := IntOp.andi_eq_one.1 e1
  haveI : Subsingleton S_.Idx := ⟨fun a b => funext fun x => x.elim0⟩
  refine ⟨fun i => finite_of_test _ (Host.reduce_andi_all _ _ _ _ _ eg i), fun i h d => ?_, fun b t j => ?_⟩
  · have hd := finite_of_test _ (Host.reduce_andi_all _ _ _ _ _ ew (ix3 i h d))
    exact cols_at x4 i h d ▸ hd
  · have hj := eq_of_test _ _ (Host.reduce_andi_all _ _ _ _ _ ek (ix3 b t j))
    exact hj.trans (pair_at x2 b t j)

/-- The kernel and the reference leave the same three arrays, given the precondition. -/
theorem value : algebraic_MlaPrepIdeal_MlaPrepRefIdeal_pre_turned_key (hMlaPrepIdeal := Cert.MlaPrepIdeal.Gen.facts)
    (hMlaPrepRefIdeal := Cert.MlaPrepRefIdeal.Gen.facts) (hPre_turned_key := Cert.Pre_turned_key.Gen.facts) := by
  intro m g m' g' hpre hag
  refine ⟨fun c => outQ (Cert.MlaBlock.ins m c), fun c => outK (Cert.MlaBlock.ins m c), fun c => outV (Cert.MlaBlock.ins m c), ?_, ?_⟩
  · have hf := fun c => of_pre _ _ _ _ _ _ _ _ _ (hpre c)
    exact Cert.MlaBlock.run m g (fun c => (hf c).1) (fun c => (hf c).2.1) (fun c => (hf c).2.2)
  · have he : ∀ c, Cert.MlaRefPoint.ins m' c = Cert.MlaBlock.ins m c := fun c => by
      obtain ⟨h0, h1, h2, h3, h4, h5, h6, h7, h8⟩ := hag c
      unfold Cert.MlaRefPoint.ins Cert.MlaBlock.ins
      rw [h0, h1, h2, h3, h4, h5, h6, h7, h8]
    exact (θ_run _ _ _).mono (fun _ h c => ⟨(h c).1.trans (congrArg outQ (he c)), (h c).2.1.trans (congrArg outK (he c)), (h c).2.2.1.trans (congrArg outV (he c)),
      (h c).2.2.2⟩) (Cert.MlaRefPoint.run m' g')

end Cert.MlaPrepClaims

end
-- ==== Proof.lean ====
module

public import proofs.«01_k».proof.Defs
public import proofs.«01_k».proof.Proof.AttnFrames
public import proofs.«01_k».proof.Proof.FfnFrames
public import proofs.«01_k».proof.Proof.InProjFrames
public import proofs.«01_k».proof.Proof.MixerOutFrames
public import proofs.«01_k».proof.Proof.MlaPrepFrames
public import proofs.«01_k».proof.Proof.AttnClaims
public import proofs.«01_k».proof.Proof.FfnClaims
public import proofs.«01_k».proof.Proof.InProjClaims
public import proofs.«01_k».proof.Proof.MixerOutClaims
public import proofs.«01_k».proof.Proof.MlaPrepClaims

/-! The certificate's claim: every program's frame, and for each call the kernel against its reference. -/

@[expose] public section

noncomputable section

namespace Cert.Proof

open Idealize.ShloMosaic Idealize.SL.Sem

/-- Everything the certificate states: the frames, and the value claims of the calls. -/
theorem claim : Cert.Claim :=
  ⟨Cert.Attn.Gen.facts, Cert.AttnIdeal.Gen.facts, Cert.AttnRefIdeal.Gen.facts, Cert.Ffn.Gen.facts, Cert.FfnIdeal.Gen.facts, Cert.FfnRefIdeal.Gen.facts, Cert.InProj.Gen.facts, Cert.InProjIdeal.Gen.facts, Cert.InProjRefIdeal.Gen.facts, Cert.MixerOut.Gen.facts, Cert.MixerOutIdeal.Gen.facts, Cert.MixerOutRefIdeal.Gen.facts, Cert.MlaPrep.Gen.facts, Cert.MlaPrepIdeal.Gen.facts, Cert.MlaPrepRefIdeal.Gen.facts, Cert.Pre_finite_scores.Gen.facts, Cert.Pre_finite_projection.Gen.facts, Cert.Pre_finite_scan.Gen.facts, Cert.Pre_turned_key.Gen.facts,
    Cert.AttnFrames.frame_kernel,
    Cert.AttnFrames.frame_ideal,
    Cert.AttnFrames.frame_ideal_pre,
    Cert.AttnFrames.frame_ref,
    Cert.AttnFrames.frame_ref_pre,
    Cert.FfnFrames.frame_kernel,
    Cert.FfnFrames.frame_ideal,
    Cert.FfnFrames.frame_ref,
    Cert.InProjFrames.frame_kernel,
    Cert.InProjFrames.frame_ideal,
    Cert.InProjFrames.frame_ideal_pre,
    Cert.InProjFrames.frame_ref,
    Cert.InProjFrames.frame_ref_pre,
    Cert.MixerOutFrames.frame_kernel,
    Cert.MixerOutFrames.frame_ideal,
    Cert.MixerOutFrames.frame_ideal_pre,
    Cert.MixerOutFrames.frame_ref,
    Cert.MixerOutFrames.frame_ref_pre,
    Cert.MlaPrepFrames.frame_kernel,
    Cert.MlaPrepFrames.frame_ideal,
    Cert.MlaPrepFrames.frame_ideal_pre,
    Cert.MlaPrepFrames.frame_ref,
    Cert.MlaPrepFrames.frame_ref_pre,
    trivial,
    Cert.AttnClaims.value,
    trivial,
    Cert.FfnClaims.value,
    trivial,
    Cert.InProjClaims.value,
    trivial,
    Cert.MixerOutClaims.value,
    trivial,
    Cert.MlaPrepClaims.value⟩

end Cert.Proof

end
